-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_finite [hPre_router_finite : Cert.Pre_router_finite.Facts] (m : (ℓ : Loc Cert.RouterIdeal.nD Cert.RouterIdeal.τ Cert.RouterIdeal.sig) → Buf (Elt Ideal) ℓ) : Prop :=
  ∀ c : Dev Cert.RouterIdeal.nD,
    (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_router_finite [hPre_router_finite : Cert.Pre_router_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_router_finite [hRouterIdeal : Cert.RouterIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_RouterRefIdeal_pre_router_finite [hRouterRefIdeal : Cert.RouterRefIdeal.Facts] [hPre_router_finite : Cert.Pre_router_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_router_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v6) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v8)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v8) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v8) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v28_0)) (v1 : (c : Dev Cert.ProjIdeal.nD) → Buf (Elt Ideal) ((c.tc : Thread Cert.ProjIdeal.nD Cert.ProjIdeal.τ).loc Cert.ProjIdeal.main_v28_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v28_0) = v0 c
          ∧ r.2.mem ((c.tc : Thread Cert.ProjIdeal.nD Cert.ProjIdeal.τ).loc Cert.ProjIdeal.main_v28_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v72) = v0 c
          ∧ r.2.mem ((c.tc : Thread Cert.ProjRefIdeal.nD Cert.ProjRefIdeal.τ).loc Cert.ProjRefIdeal.main_v73) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Router_RouterIdeal : Prop :=
  IdealRules.named_const.Statement Cert.RouterIdeal.κ "mask" .f32 0xF149F2CA#32 ⊥

def algebraic_RouterIdeal_RouterRefIdeal_pre_router_finite [hRouterIdeal : Cert.RouterIdeal.Facts] [hRouterRefIdeal : Cert.RouterRefIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_router_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v9)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v9) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v28) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hCombine : Cert.Combine.Facts) (hCombineIdeal : Cert.CombineIdeal.Facts) (hCombineRefIdeal : Cert.CombineRefIdeal.Facts) (hProj : Cert.Proj.Facts) (hProjIdeal : Cert.ProjIdeal.Facts) (hProjRefIdeal : Cert.ProjRefIdeal.Facts) (hRouter : Cert.Router.Facts) (hRouterIdeal : Cert.RouterIdeal.Facts) (hRouterRefIdeal : Cert.RouterRefIdeal.Facts) (hPre_inputs_finite : Cert.Pre_inputs_finite.Facts) (hPre_router_finite : Cert.Pre_router_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Combine (hCombine := hCombine)
    ∧ quiescent_CombineIdeal (hCombineIdeal := hCombineIdeal)
    ∧ quiescent_CombineRefIdeal (hCombineRefIdeal := hCombineRefIdeal)
    ∧ quiescent_Proj (hProj := hProj)
    ∧ quiescent_ProjIdeal (hProjIdeal := hProjIdeal)
    ∧ quiescent_ProjRefIdeal (hProjRefIdeal := hProjRefIdeal)
    ∧ quiescent_Router (hRouter := hRouter)
    ∧ quiescent_RouterIdeal (hRouterIdeal := hRouterIdeal)
    ∧ quiescent_RouterIdeal_pre_router_finite (hRouterIdeal := hRouterIdeal) (hPre_router_finite := hPre_router_finite)
    ∧ quiescent_RouterRefIdeal (hRouterRefIdeal := hRouterRefIdeal)
    ∧ quiescent_RouterRefIdeal_pre_router_finite (hRouterRefIdeal := hRouterRefIdeal) (hPre_router_finite := hPre_router_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Combine_CombineIdeal
    ∧ algebraic_CombineIdeal_CombineRefIdeal (hCombineIdeal := hCombineIdeal) (hCombineRefIdeal := hCombineRefIdeal)
    ∧ preserves_Proj_ProjIdeal
    ∧ algebraic_ProjIdeal_ProjRefIdeal (hProjIdeal := hProjIdeal) (hProjRefIdeal := hProjRefIdeal)
    ∧ preserves_Router_RouterIdeal
    ∧ algebraic_RouterIdeal_RouterRefIdeal_pre_router_finite (hRouterIdeal := hRouterIdeal) (hRouterRefIdeal := hRouterRefIdeal) (hPre_router_finite := hPre_router_finite)
-- ==== Pre_inputs_finite.lean ====
abbrev S4x4096x1024 : Shape := ⟨3, ![4, 4096, 1024]⟩
abbrev S4x4096x8 : Shape := ⟨3, ![4, 4096, 8]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x8 : S_.BroadcastsInDim S4x4096x8 (![] : Fin 0 → Fin S4x4096x8.rank)
  reducesTo_S4x4096x8_S_d0_1_2 : S4x4096x8.ReducesTo [0, 1, 2] S_

variable [Facts]

def fn {F : FTy → Type} [FloatOps F] (main_arg0 : FVec F S4x4096x1024 .f32) (main_arg1 : FVec F S4x4096x1024 .f32) (main_arg2 : FVec F S4x4096x1024 .f32) (main_arg3 : FVec F S4x4096x8 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x8 .f32 := Host.absf main_arg3
  let main_cst_2 : FVec F S_ .f32 := constant S_ .f32 0x7F800000#32
  let main_v10 : FVec F S4x4096x8 .f32 := broadcastInDim S4x4096x8 ![] bcast_S_S4x4096x8 main_cst_2
  let main_v11 : IVec S4x4096x8 1 := cmpf .olt main_v9 main_v10
  let main_c_3 : IVec S_ 1 := constantI S_ 1 1#1
  let main_v12 : IVec S_ 1 := (fun x v => Host.reduce IntOp.andi x v reducesTo_S4x4096x8_S_d0_1_2 h_S_) main_v11 main_c_3
  let main_v13 : IVec S_ 1 := andi main_v8 main_v12
  main_v13
-- ==== Pre_router_finite.lean ====
abbrev S4x4096x2048 : Shape := ⟨3, ![4, 4096, 2048]⟩
abbrev S2048 : Shape := ⟨1, ![2048]⟩
abbrev S2048x8 : Shape := ⟨2, ![2048, 8]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x8 : S_.BroadcastsInDim S2048x8 (![] : Fin 0 → Fin S2048x8.rank)
  reducesTo_S2048x8_S_d0_1 : S2048x8.ReducesTo [0, 1] S_

variable [Facts]

def fn {F : FTy → Type} [FloatOps F] (main_arg0 : FVec F S4x4096x2048 .f32) (main_arg1 : FVec F S2048 .f32) (main_arg2 : FVec F S2048x8 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x8 .f32 := Host.absf main_arg2
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_c_1 : IVec S_ 1 := constantI S_ 1 1#1
  let main_v7 : IVec S_ 1 := (fun x v => Host.reduce IntOp.andi x v reducesTo_S2048x8_S_d0_1 h_S_) main_v6 main_c_1
  let main_v8 : IVec S_ 1 := andi main_v3 main_v7
  main_v8
-- ==== Kernel.lean ====
abbrev S4x4096x1024 : Shape := ⟨3, ![4, 4096, 1024]⟩
abbrev S4x4096x8 : Shape := ⟨3, ![4, 4096, 8]⟩
abbrev S_ : Shape := ⟨0, ![]⟩
abbrev S16384x1024 : Shape := ⟨2, ![16384, 1024]⟩
abbrev S16384x7168 : Shape := ⟨2, ![16384, 7168]⟩
abbrev S16384x10240 : Shape := ⟨2, ![16384, 10240]⟩
abbrev S16384x8 : Shape := ⟨2, ![16384, 8]⟩
abbrev S16384x8x1 : Shape := ⟨3, ![16384, 8, 1]⟩
abbrev S16384x8x128 : Shape := ⟨3, ![16384, 8, 128]⟩
abbrev S512x256 : Shape := ⟨2, ![512, 256]⟩
abbrev S4096x256 : Shape := ⟨2, ![4096, 256]⟩
abbrev S4096x512 : Shape := ⟨2, ![4096, 512]⟩
abbrev S2x512x512 : Shape := ⟨3, ![2, 512, 512]⟩
abbrev S2x512x128 : Shape := ⟨3, ![2, 512, 128]⟩
abbrev S2x512x256 : Shape := ⟨3, ![2, 512, 256]⟩
abbrev S4096x128 : Shape := ⟨2, ![4096, 128]⟩
abbrev S512x128 : Shape := ⟨2, ![512, 128]⟩
abbrev S512x512 : Shape := ⟨2, ![512, 512]⟩
abbrev S1x512x512 : Shape := ⟨3, ![1, 512, 512]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩

abbrev nBuf : Space → Nat
  | .hbm => 80
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x8, .f32⟩
  | .hbm, ⟨4, _⟩ => ⟨S_, .f32⟩
  | .hbm, ⟨5, _⟩ => ⟨S4x4096x1024, .f32⟩
  | .hbm, ⟨6, _⟩ => ⟨S4x4096x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x7168, .f32⟩
  | .hbm, ⟨12, _⟩ => ⟨S16384x10240, .f32⟩
  | .hbm, ⟨13, _⟩ => ⟨S16384x10240, .bf16⟩
  | .hbm, ⟨14, _⟩ => ⟨S_, .f32⟩
  | .hbm, ⟨15, _⟩ => ⟨S_, .f32⟩
  | .hbm, ⟨16, _⟩ => ⟨S4x4096x8, .f32⟩
  | .hbm, ⟨17, _⟩ => ⟨S16384x8, .f32⟩
  | .hbm, ⟨18, _⟩ => ⟨S16384x8x1, .f32⟩
  | .hbm, ⟨19, _⟩ => ⟨S16384x8x128, .f32⟩
  | .hbm, ⟨20, _⟩ => ⟨S16384x8x128, .i32⟩
  | .hbm, ⟨21, _⟩ => ⟨S16384x8x128, .bf16⟩
  | .hbm, ⟨22, _⟩ => ⟨S16384x8x128, .f32⟩
  | .hbm, ⟨23, _⟩ => ⟨S16384x8x128, .f32⟩
  | .hbm, ⟨24, _⟩ => ⟨S16384x8x128, .bf16⟩
  | .hbm, ⟨25, _⟩ => ⟨S16384x8x128, .f32⟩
  | .hbm, ⟨26, _⟩ => ⟨S16384x8x128, .f32⟩
  | .hbm, ⟨27, _⟩ => ⟨S16384x8x128, .bf16⟩
  | .hbm, ⟨28, _⟩ => ⟨S16384x8x128, .f32⟩
  | .hbm, ⟨29, _⟩ => ⟨S_, .i32⟩
  | .hbm, ⟨30, _⟩ => ⟨S16384x8x128, .i32⟩
  | .hbm, ⟨31, _⟩ => ⟨S16384x8x128, .i1⟩
  | .hbm, ⟨32, _⟩ => ⟨S_, .i32⟩
  | .hbm, ⟨33, _⟩ => ⟨S16384x8x128, .i32⟩
  | .hbm, ⟨34, _⟩ => ⟨S16384x8x128, .i1⟩
  | .hbm, ⟨35, _⟩ => ⟨S_, .i32⟩
  | .hbm, ⟨36, _⟩ => ⟨S16384x8x128, .i32⟩
  | .hbm, ⟨37, _⟩ => ⟨S16384x8x128, .i1⟩
  | .hbm, ⟨38, _⟩ => ⟨S_, .i32⟩
  | .hbm, ⟨39, _⟩ => ⟨S16384x8x128, .i32⟩
  | .hbm, ⟨40, _⟩ => ⟨S16384x8x128, .i1⟩
  | .hbm, ⟨41, _⟩ => ⟨S_, .f32⟩
  | .hbm, ⟨42, _⟩ => ⟨S_, .f32⟩
  | .hbm, ⟨43, _⟩ => ⟨S16384x8x128, .f32⟩
  | .hbm, ⟨44, _⟩ => ⟨S16384x8x128, .f32⟩
  | .hbm, ⟨45, _⟩ => ⟨S16384x8x128, .f32⟩
  | .hbm, ⟨46, _⟩ => ⟨S16384x8x128, .f32⟩
  | .hbm, ⟨47, _⟩ => ⟨S16384x8x128, .f32⟩
  | .hbm, ⟨48, _⟩ => ⟨S16384x8x128, .f32⟩
  | .hbm, ⟨49, _⟩ => ⟨S16384x8x128, .f32⟩
  | .hbm, ⟨50, _⟩ => ⟨S_, .i32⟩
  | .hbm, ⟨51, _⟩ => ⟨S16384x8x128, .i32⟩
  | .hbm, ⟨52, _⟩ => ⟨S16384x8x128, .i1⟩
  | .hbm, ⟨53, _⟩ => ⟨S_, .i32⟩
  | .hbm, ⟨54, _⟩ => ⟨S16384x8x128, .i32⟩
  | .hbm, ⟨55, _⟩ => ⟨S16384x8x128, .i1⟩
  | .hbm, ⟨56, _⟩ => ⟨S16384x8x128, .f32⟩
  | .hbm, ⟨57, _⟩ => ⟨S_, .i32⟩
  | .hbm, ⟨58, _⟩ => ⟨S16384x8x128, .i32⟩
  | .hbm, ⟨59, _⟩ => ⟨S16384x8x128, .i1⟩
  | .hbm, ⟨60, _⟩ => ⟨S16384x8x128, .f32⟩
  | .hbm, ⟨61, _⟩ => ⟨S_, .i32⟩
  | .hbm, ⟨62, _⟩ => ⟨S16384x8x128, .i32⟩
  | .hbm, ⟨63, _⟩ => ⟨S16384x8x128, .i1⟩
  | .hbm, ⟨64, _⟩ => ⟨S16384x8x128, .f32⟩
  | .hbm, ⟨65, _⟩ => ⟨S_, .f32⟩
  | .hbm, ⟨66, _⟩ => ⟨S_, .f32⟩
  | .hbm, ⟨67, _⟩ => ⟨S16384x8x128, .f32⟩
  | .hbm, ⟨68, _⟩ => ⟨S16384x8x128, .f32⟩
  | .hbm, ⟨69, _⟩ => ⟨S16384x8x128, .f32⟩
  | .hbm, ⟨70, _⟩ => ⟨S16384x8x128, .f32⟩
  | .hbm, ⟨71, _⟩ => ⟨S_, .f32⟩
  | .hbm, ⟨72, _⟩ => ⟨S_, .f32⟩
  | .hbm, ⟨73, _⟩ => ⟨S16384x8x128, .f32⟩
  | .hbm, ⟨74, _⟩ => ⟨S16384x8x128, .f32⟩
  | .hbm, ⟨75, _⟩ => ⟨S16384x8x128, .bf16⟩
  | .hbm, ⟨76, _⟩ => ⟨S16384x1024, .bf16⟩
  | .hbm, ⟨77, _⟩ => ⟨S16384x8x128, .bf16⟩
  | .hbm, ⟨78, _⟩ => ⟨S16384x1024, .bf16⟩
  | .hbm, ⟨79, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S512x256, .bf16⟩
  | .local _ .vmem, ⟨11, _⟩ => ⟨S512x256, .bf16⟩
  | .local _ .vmem, ⟨12, _⟩ => ⟨S4096x512, .bf16⟩
  | .local _ .vmem, ⟨13, _⟩ => ⟨S4096x512, .bf16⟩
  | .local _ .vmem, ⟨14, _⟩ => ⟨S2x512x512, .f32⟩
  | .local _ .vmem, ⟨15, _⟩ => ⟨S2x512x128, .f32⟩
  | .local _ .vmem, ⟨16, _⟩ => ⟨S2x512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_call0_cst : Ref sig .tc := ⟨.hbm, 14, rfl⟩
abbrev main_call0_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v29 : Ref sig .tc := ⟨.hbm, 45, rfl⟩
abbrev main_call2_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_call5_v0 : Ref sig .tc := ⟨.hbm, 66, rfl⟩
abbrev main_call5_v1 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_call8_v0 : Ref sig .tc := ⟨.hbm, 72, rfl⟩
abbrev main_call8_v1 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c512_i32 : BitVec 32 := 512#32
  let v23 : BitVec 32 := Scalar.muli arg2 c512_i32
  v23
def k0_off1 (i : grid0.Coords) : Fin 2 → Nat :=
  let arg2 : BitVec 32 := BitVec.ofNat 32 (i 2).val
  let c512_i32 : BitVec 32 := 512#32
  let v23 : BitVec 32 := Scalar.muli arg2 c512_i32
  let v24 : BitVec 32 := v23
  let v25 : Index := Scalar.indexCast v24
  let c0_14 : Index := 0#32
  ![v25.toNat, 0]
def k0_off2 (i : grid0.Coords) : Fin 2 → Nat :=
  let arg2 : BitVec 32 := BitVec.ofNat 32 (i 2).val
  let c512_i32 : BitVec 32 := 512#32
  let v23 : BitVec 32 := Scalar.muli arg2 c512_i32
  let v24 : BitVec 32 := v23
  let v30 : Index := Scalar.indexCast v24
  let c256 : Index := 256#32
  ![v30.toNat, 256]
@[reducible] def k0_t1_loop (i : grid0.Coords) : Scf.Loop 32 :=
  let c0_i32_27 : BitVec 32 := 0#32
  let arg2 : BitVec 32 := BitVec.ofNat 32 (i 2).val
  let v47 : BitVec 32 := Scalar.subi arg2 c0_i32_27
  let c1_i32 : BitVec 32 := 1#32
  let v49 : BitVec 32 := Scalar.divsi v47 c1_i32
  let v50 : BitVec 32 := Scalar.muli v49 c1_i32
  let v51 : BitVec 32 := Scalar.addi c0_i32_27 v50
  let c1_i32_28 : BitVec 32 := 1#32
  ⟨c0_i32_27, v51, c1_i32_28⟩
def k0_mult2 (i : grid0.Coords) (k0_t1 : Fin (k0_t1_loop i).trips) : BitVec 32 :=
  let arg2 : BitVec 32 := BitVec.ofNat 32 (i 2).val
  let c1_i32_77 : BitVec 32 := 1#32
  let v123 : BitVec 32 := Scalar.subi arg2 c1_i32_77
  let c0_i32_27 : BitVec 32 := 0#32
  let c1_i32_28 : BitVec 32 := 1#32
  let arg14 : BitVec 32 := Scf.iv c0_i32_27 c1_i32_28 k0_t1
  let v124 : BitVec 32 := Scalar.subi v123 arg14
  let c512_i32_78 : BitVec 32 := 512#32
  let v125 : BitVec 32 := Scalar.muli v124 c512_i32_78
  v125
def k0_off3 (i : grid0.Coords) (k0_t1 : Fin (k0_t1_loop i).trips) : Fin 2 → Nat :=
  let arg2 : BitVec 32 := BitVec.ofNat 32 (i 2).val
  let c1_i32_77 : BitVec 32 := 1#32
  let v123 : BitVec 32 := Scalar.subi arg2 c1_i32_77
  let c0_i32_27 : BitVec 32 := 0#32
  let c1_i32_28 : BitVec 32 := 1#32
  let arg14 : BitVec 32 := Scf.iv c0_i32_27 c1_i32_28 k0_t1
  let v124 : BitVec 32 := Scalar.subi v123 arg14
  let c512_i32_78 : BitVec 32 := 512#32
  let v125 : BitVec 32 := Scalar.muli v124 c512_i32_78
  let v126 : BitVec 32 := v125
  let v127 : Index := Scalar.indexCast v126
  let c0_79 : Index := 0#32
  ![v127.toNat, 0]
def k0_off4 (i : grid0.Coords) (k0_t1 : Fin (k0_t1_loop i).trips) : Fin 2 → Nat :=
  let arg2 : BitVec 32 := BitVec.ofNat 32 (i 2).val
  let c1_i32_77 : BitVec 32 := 1#32
  let v123 : BitVec 32 := Scalar.subi arg2 c1_i32_77
  let c0_i32_27 : BitVec 32 := 0#32
  let c1_i32_28 : BitVec 32 := 1#32
  let arg14 : BitVec 32 := Scf.iv c0_i32_27 c1_i32_28 k0_t1
  let v124 : BitVec 32 := Scalar.subi v123 arg14
  let c512_i32_78 : BitVec 32 := 512#32
  let v125 : BitVec 32 := Scalar.muli v124 c512_i32_78
  let v126 : BitVec 32 := v125
  let v132 : Index := Scalar.indexCast v126
  let c256_82 : Index := 256#32
  ![v132.toNat, 256]
def k0_mult3 (i : grid0.Coords) (k0_t1 : Fin (k0_t1_loop i).trips) : BitVec 32 :=
  let arg2 : BitVec 32 := BitVec.ofNat 32 (i 2).val
  let c0_i32_27 : BitVec 32 := 0#32
  let c1_i32_28 : BitVec 32 := 1#32
  let arg14 : BitVec 32 := Scf.iv c0_i32_27 c1_i32_28 k0_t1
  let v137 : BitVec 32 := Scalar.subi arg2 arg14
  let c512_i32_85 : BitVec 32 := 512#32
  let v138 : BitVec 32 := Scalar.muli v137 c512_i32_85
  v138
def k0_off5 (i : grid0.Coords) (k0_t1 : Fin (k0_t1_loop i).trips) : Fin 2 → Nat :=
  let arg2 : BitVec 32 := BitVec.ofNat 32 (i 2).val
  let c0_i32_27 : BitVec 32 := 0#32
  let c1_i32_28 : BitVec 32 := 1#32
  let arg14 : BitVec 32 := Scf.iv c0_i32_27 c1_i32_28 k0_t1
  let v137 : BitVec 32 := Scalar.subi arg2 arg14
  let c512_i32_85 : BitVec 32 := 512#32
  let v138 : BitVec 32 := Scalar.muli v137 c512_i32_85
  let v139 : BitVec 32 := v138
  let v154 : Index := Scalar.indexCast v139
  let c0_93 : Index := 0#32
  ![v154.toNat, 0]
def k0_off6 (i : grid0.Coords) (k0_t1 : Fin (k0_t1_loop i).trips) : Fin 2 → Nat :=
  let arg2 : BitVec 32 := BitVec.ofNat 32 (i 2).val
  let c0_i32_27 : BitVec 32 := 0#32
  let c1_i32_28 : BitVec 32 := 1#32
  let arg14 : BitVec 32 := Scf.iv c0_i32_27 c1_i32_28 k0_t1
  let v137 : BitVec 32 := Scalar.subi arg2 arg14
  let c512_i32_85 : BitVec 32 := 512#32
  let v138 : BitVec 32 := Scalar.muli v137 c512_i32_85
  let v139 : BitVec 32 := v138
  let v182 : Index := Scalar.indexCast v139
  let c256_111 : Index := 256#32
  ![v182.toNat, 256]
@[reducible] def k0_t2_loop (i : grid0.Coords) : Scf.Loop 32 :=
  let c0_i32_27 : BitVec 32 := 0#32
  let arg2 : BitVec 32 := BitVec.ofNat 32 (i 2).val
  let v47 : BitVec 32 := Scalar.subi arg2 c0_i32_27
  let c1_i32 : BitVec 32 := 1#32
  let v49 : BitVec 32 := Scalar.divsi v47 c1_i32
  let v50 : BitVec 32 := Scalar.muli v49 c1_i32
  let v51 : BitVec 32 := Scalar.addi c0_i32_27 v50
  let v48 : BitVec 32 := Scalar.addi c0_i32_27 v47
  let c1_i32_29 : BitVec 32 := 1#32
  ⟨v51, v48, c1_i32_29⟩
def k0_mult4 (i : grid0.Coords) (k0_t2 : Fin (k0_t2_loop i).trips) : BitVec 32 :=
  let arg2 : BitVec 32 := BitVec.ofNat 32 (i 2).val
  let c1_i32_77 : BitVec 32 := 1#32
  let v123 : BitVec 32 := Scalar.subi arg2 c1_i32_77
  let c0_i32_27 : BitVec 32 := 0#32
  let v47 : BitVec 32 := Scalar.subi arg2 c0_i32_27
  let c1_i32 : BitVec 32 := 1#32
  let v49 : BitVec 32 := Scalar.divsi v47 c1_i32
  let v50 : BitVec 32 := Scalar.muli v49 c1_i32
  let v51 : BitVec 32 := Scalar.addi c0_i32_27 v50
  let c1_i32_29 : BitVec 32 := 1#32
  let arg14 : BitVec 32 := Scf.iv v51 c1_i32_29 k0_t2
  let v124 : BitVec 32 := Scalar.subi v123 arg14
  let c512_i32_78 : BitVec 32 := 512#32
  let v125 : BitVec 32 := Scalar.muli v124 c512_i32_78
  v125
def k0_off7 (i : grid0.Coords) (k0_t2 : Fin (k0_t2_loop i).trips) : Fin 2 → Nat :=
  let arg2 : BitVec 32 := BitVec.ofNat 32 (i 2).val
  let c1_i32_77 : BitVec 32 := 1#32
  let v123 : BitVec 32 := Scalar.subi arg2 c1_i32_77
  let c0_i32_27 : BitVec 32 := 0#32
  let v47 : BitVec 32 := Scalar.subi arg2 c0_i32_27
  let c1_i32 : BitVec 32 := 1#32
  let v49 : BitVec 32 := Scalar.divsi v47 c1_i32
  let v50 : BitVec 32 := Scalar.muli v49 c1_i32
  let v51 : BitVec 32 := Scalar.addi c0_i32_27 v50
  let c1_i32_29 : BitVec 32 := 1#32
  let arg14 : BitVec 32 := Scf.iv v51 c1_i32_29 k0_t2
  let v124 : BitVec 32 := Scalar.subi v123 arg14
  let c512_i32_78 : BitVec 32 := 512#32
  let v125 : BitVec 32 := Scalar.muli v124 c512_i32_78
  let v126 : BitVec 32 := v125
  let v127 : Index := Scalar.indexCast v126
  let c0_79 : Index := 0#32
  ![v127.toNat, 0]
def k0_off8 (i : grid0.Coords) (k0_t2 : Fin (k0_t2_loop i).trips) : Fin 2 → Nat :=
  let arg2 : BitVec 32 := BitVec.ofNat 32 (i 2).val
  let c1_i32_77 : BitVec 32 := 1#32
  let v123 : BitVec 32 := Scalar.subi arg2 c1_i32_77
  let c0_i32_27 : BitVec 32 := 0#32
  let v47 : BitVec 32 := Scalar.subi arg2 c0_i32_27
  let c1_i32 : BitVec 32 := 1#32
  let v49 : BitVec 32 := Scalar.divsi v47 c1_i32
  let v50 : BitVec 32 := Scalar.muli v49 c1_i32
  let v51 : BitVec 32 := Scalar.addi c0_i32_27 v50
  let c1_i32_29 : BitVec 32 := 1#32
  let arg14 : BitVec 32 := Scf.iv v51 c1_i32_29 k0_t2
  let v124 : BitVec 32 := Scalar.subi v123 arg14
  let c512_i32_78 : BitVec 32 := 512#32
  let v125 : BitVec 32 := Scalar.muli v124 c512_i32_78
  let v126 : BitVec 32 := v125
  let v132 : Index := Scalar.indexCast v126
  let c256_82 : Index := 256#32
  ![v132.toNat, 256]
def k0_mult5 (i : grid0.Coords) (k0_t2 : Fin (k0_t2_loop i).trips) : BitVec 32 :=
  let arg2 : BitVec 32 := BitVec.ofNat 32 (i 2).val
  let c0_i32_27 : BitVec 32 := 0#32
  let v47 : BitVec 32 := Scalar.subi arg2 c0_i32_27
  let c1_i32 : BitVec 32 := 1#32
  let v49 : BitVec 32 := Scalar.divsi v47 c1_i32
  let v50 : BitVec 32 := Scalar.muli v49 c1_i32
  let v51 : BitVec 32 := Scalar.addi c0_i32_27 v50
  let c1_i32_29 : BitVec 32 := 1#32
  let arg14 : BitVec 32 := Scf.iv v51 c1_i32_29 k0_t2
  let v137 : BitVec 32 := Scalar.subi arg2 arg14
  let c512_i32_85 : BitVec 32 := 512#32
  let v138 : BitVec 32 := Scalar.muli v137 c512_i32_85
  v138
def k0_off9 (i : grid0.Coords) (k0_t2 : Fin (k0_t2_loop i).trips) : Fin 2 → Nat :=
  let arg2 : BitVec 32 := BitVec.ofNat 32 (i 2).val
  let c0_i32_27 : BitVec 32 := 0#32
  let v47 : BitVec 32 := Scalar.subi arg2 c0_i32_27
  let c1_i32 : BitVec 32 := 1#32
  let v49 : BitVec 32 := Scalar.divsi v47 c1_i32
  let v50 : BitVec 32 := Scalar.muli v49 c1_i32
  let v51 : BitVec 32 := Scalar.addi c0_i32_27 v50
  let c1_i32_29 : BitVec 32 := 1#32
  let arg14 : BitVec 32 := Scf.iv v51 c1_i32_29 k0_t2
  let v137 : BitVec 32 := Scalar.subi arg2 arg14
  let c512_i32_85 : BitVec 32 := 512#32
  let v138 : BitVec 32 := Scalar.muli v137 c512_i32_85
  let v139 : BitVec 32 := v138
  let v154 : Index := Scalar.indexCast v139
  let c0_93 : Index := 0#32
  ![v154.toNat, 0]
def k0_off10 (i : grid0.Coords) (k0_t2 : Fin (k0_t2_loop i).trips) : Fin 2 → Nat :=
  let arg2 : BitVec 32 := BitVec.ofNat 32 (i 2).val
  let c0_i32_27 : BitVec 32 := 0#32
  let v47 : BitVec 32 := Scalar.subi arg2 c0_i32_27
  let c1_i32 : BitVec 32 := 1#32
  let v49 : BitVec 32 := Scalar.divsi v47 c1_i32
  let v50 : BitVec 32 := Scalar.muli v49 c1_i32
  let v51 : BitVec 32 := Scalar.addi c0_i32_27 v50
  let c1_i32_29 : BitVec 32 := 1#32
  let arg14 : BitVec 32 := Scf.iv v51 c1_i32_29 k0_t2
  let v137 : BitVec 32 := Scalar.subi arg2 arg14
  let c512_i32_85 : BitVec 32 := 512#32
  let v138 : BitVec 32 := Scalar.muli v137 c512_i32_85
  let v139 : BitVec 32 := v138
  let v182 : Index := Scalar.indexCast v139
  let c256_111 : Index := 256#32
  ![v182.toNat, 256]
def k0_mult6 : BitVec 32 :=
  let c0_i32_30 : BitVec 32 := 0#32
  c0_i32_30
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x4096x1024 : Shape := ⟨3, ![4, 4096, 1024]⟩
abbrev S4x4096x8 : Shape := ⟨3, ![4, 4096, 8]⟩
abbrev S4x4096x8x128 : Shape := ⟨4, ![4, 4096, 8, 128]⟩
abbrev S4x8x4096x128 : Shape := ⟨4, ![4, 8, 4096, 128]⟩
abbrev S4x8x4096 : Shape := ⟨3, ![4, 8, 4096]⟩
abbrev S_ : Shape := ⟨0, ![]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x8, .f32⟩
  | .hbm, ⟨4, _⟩ => ⟨S4x4096x8x128, .f32⟩
  | .hbm, ⟨5, _⟩ => ⟨S4x8x4096x128, .f32⟩
  | .hbm, ⟨6, _⟩ => ⟨S4x4096x8x128, .f32⟩
  | .hbm, ⟨7, _⟩ => ⟨S4x8x4096x128, .f32⟩
  | .hbm, ⟨8, _⟩ => ⟨S4x4096x8x128, .f32⟩
  | .hbm, ⟨9, _⟩ => ⟨S4x8x4096x128, .f32⟩
  | .hbm, ⟨10, _⟩ => ⟨S4x8x4096, .f32⟩
  | .hbm, ⟨11, _⟩ => ⟨S_, .f32⟩
  | .hbm, ⟨12, _⟩ => ⟨S_, .f32⟩
  | .hbm, ⟨13, _⟩ => ⟨S4x8x4096, .f32⟩
  | .hbm, ⟨14, _⟩ => ⟨S4x8x4096x4096, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S4x8x4096x1, .f32⟩
  | .hbm, ⟨19, _⟩ => ⟨S4x8x4096x4096, .f32⟩
  | .hbm, ⟨20, _⟩ => ⟨S4x8x4096x4096, .f32⟩
  | .hbm, ⟨21, _⟩ => ⟨S4x8x1x4096, .f32⟩
  | .hbm, ⟨22, _⟩ => ⟨S4x8x4096x4096, .f32⟩
  | .hbm, ⟨23, _⟩ => ⟨S4x8x4096x4096, .f32⟩
  | .hbm, ⟨24, _⟩ => ⟨S4096, .i32⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S4x8x4096x4096, .i1⟩
  | .hbm, ⟨33, _⟩ => ⟨S4x8x4096x4096, .f32⟩
  | .hbm, ⟨34, _⟩ => ⟨S4x8x4096x4096, .f32⟩
  | .hbm, ⟨35, _⟩ => ⟨S_, .f32⟩
  | .hbm, ⟨36, _⟩ => ⟨S4x8x4096, .f32⟩
  | .hbm, ⟨37, _⟩ => ⟨S_, .f32⟩
  | .hbm, ⟨38, _⟩ => ⟨S4x8x4096, .f32⟩
  | .hbm, ⟨39, _⟩ => ⟨S4x8x4096, .f32⟩
  | .hbm, ⟨40, _⟩ => ⟨S4x8x4096x1, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S4x8x4096, .f32⟩
  | .hbm, ⟨46, _⟩ => ⟨S4x8x4096x1, .f32⟩
  | .hbm, ⟨47, _⟩ => ⟨S4x8x4096x4096, .f32⟩
  | .hbm, ⟨48, _⟩ => ⟨S4x8x4096x4096, .f32⟩
  | .hbm, ⟨49, _⟩ => ⟨S4x8x4096x128, .f32⟩
  | .hbm, ⟨50, _⟩ => ⟨S4x4096x8x128, .f32⟩
  | .hbm, ⟨51, _⟩ => ⟨S16384x1024, .f32⟩
  | .hbm, ⟨52, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Ffn.lean ====
abbrev S4x4096x2048 : Shape := ⟨3, ![4, 4096, 2048]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S1x2048 : Shape := ⟨2, ![1, 2048]⟩
abbrev S512x2048 : Shape := ⟨2, ![512, 2048]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩
abbrev S512x512 : Shape := ⟨2, ![512, 512]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S4x4096x2048 : Shape := ⟨3, ![4, 4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩
abbrev S16384x2048 : Shape := ⟨2, ![16384, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x5632, .f32⟩
  | .hbm, ⟨22, _⟩ => ⟨S4x4096x5632, .f32⟩
  | .hbm, ⟨23, _⟩ => ⟨S4x4096x5632, .f32⟩
  | .hbm, ⟨24, _⟩ => ⟨S_, .f32⟩
  | .hbm, ⟨25, _⟩ => ⟨S4x4096x5632, .f32⟩
  | .hbm, ⟨26, _⟩ => ⟨S4x4096x5632, .f32⟩
  | .hbm, ⟨27, _⟩ => ⟨S_, .f32⟩
  | .hbm, ⟨28, _⟩ => ⟨S4x4096x5632, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S4x4096x5632, .f32⟩
  | .hbm, ⟨33, _⟩ => ⟨S4x4096x2048, .f32⟩
  | .hbm, ⟨34, _⟩ => ⟨S4x4096x2048, .f32⟩
  | .hbm, ⟨35, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Merge.lean ====
abbrev S4x4096x1024 : Shape := ⟨3, ![4, 4096, 1024]⟩
abbrev S1024x2048 : Shape := ⟨2, ![1024, 2048]⟩
abbrev S4x4096x2048 : Shape := ⟨3, ![4, 4096, 2048]⟩
abbrev S_ : Shape := ⟨0, ![]⟩
abbrev S16384x6144 : Shape := ⟨2, ![16384, 6144]⟩
abbrev S16384x2048 : Shape := ⟨2, ![16384, 2048]⟩
abbrev S16384x10240 : Shape := ⟨2, ![16384, 10240]⟩
abbrev S16384x1024 : Shape := ⟨2, ![16384, 1024]⟩
abbrev S1024x1024 : Shape := ⟨2, ![1024, 1024]⟩

abbrev nBuf : Space → Nat
  | .hbm => 19
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x2048, .f32⟩
  | .hbm, ⟨3, _⟩ => ⟨S1024x2048, .f32⟩
  | .hbm, ⟨4, _⟩ => ⟨S4x4096x2048, .f32⟩
  | .hbm, ⟨5, _⟩ => ⟨S4x4096x2048, .f32⟩
  | .hbm, ⟨6, _⟩ => ⟨S_, .f32⟩
  | .hbm, ⟨7, _⟩ => ⟨S16384x6144, .f32⟩
  | .hbm, ⟨8, _⟩ => ⟨S16384x2048, .f32⟩
  | .hbm, ⟨9, _⟩ => ⟨S16384x2048, .f32⟩
  | .hbm, ⟨10, _⟩ => ⟨S16384x10240, .f32⟩
  | .hbm, ⟨11, _⟩ => ⟨S16384x10240, .bf16⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S16384x1024, .bf16⟩
  | .hbm, ⟨16, _⟩ => ⟨S1024x2048, .bf16⟩
  | .hbm, ⟨17, _⟩ => ⟨S1024x2048, .bf16⟩
  | .hbm, ⟨18, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S4x4096x1024 : Shape := ⟨3, ![4, 4096, 1024]⟩
abbrev S1024x2048 : Shape := ⟨2, ![1024, 2048]⟩
abbrev S4x4096x2048 : Shape := ⟨3, ![4, 4096, 2048]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x2048, .f32⟩
  | .hbm, ⟨3, _⟩ => ⟨S1024x2048, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S16384x2048, .f32⟩
  | .hbm, ⟨12, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== OutProj.lean ====
abbrev S4x4096x2048 : Shape := ⟨3, ![4, 4096, 2048]⟩
abbrev S2048x2048 : Shape := ⟨2, ![2048, 2048]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S16384x2048, .f32⟩
  | .hbm, ⟨4, _⟩ => ⟨S16384x2048, .bf16⟩
  | .hbm, ⟨5, _⟩ => ⟨S2048x2048, .bf16⟩
  | .hbm, ⟨6, _⟩ => ⟨S16384x2048, .f32⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S4x4096x2048 : Shape := ⟨3, ![4, 4096, 2048]⟩
abbrev S2048x2048 : Shape := ⟨2, ![2048, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S4x4096x2048, .f32⟩
  | .hbm, ⟨4, _⟩ => ⟨S4x4096x2048, .f32⟩
  | .hbm, ⟨5, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Combine.lean ====
abbrev S4x4096x2048 : Shape := ⟨3, ![4, 4096, 2048]⟩
abbrev S4x4096x2 : Shape := ⟨3, ![4, 4096, 2]⟩
abbrev S_ : Shape := ⟨0, ![]⟩
abbrev S16384x2 : Shape := ⟨2, ![16384, 2]⟩
abbrev S16384x124 : Shape := ⟨2, ![16384, 124]⟩
abbrev S16384x128 : Shape := ⟨2, ![16384, 128]⟩
abbrev S16384x2048 : Shape := ⟨2, ![16384, 2048]⟩
abbrev S32768x2048 : Shape := ⟨2, ![32768, 2048]⟩
abbrev S512x2048 : Shape := ⟨2, ![512, 2048]⟩
abbrev S512x128 : Shape := ⟨2, ![512, 128]⟩
abbrev S512x1 : Shape := ⟨2, ![512, 1]⟩

abbrev nBuf : Space → Nat
  | .hbm => 15
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x2, .f32⟩
  | .hbm, ⟨4, _⟩ => ⟨S_, .f32⟩
  | .hbm, ⟨5, _⟩ => ⟨S16384x2, .f32⟩
  | .hbm, ⟨6, _⟩ => ⟨S16384x2, .f32⟩
  | .hbm, ⟨7, _⟩ => ⟨S_, .f32⟩
  | .hbm, ⟨8, _⟩ => ⟨S16384x124, .f32⟩
  | .hbm, ⟨9, _⟩ => ⟨S16384x128, .f32⟩
  | .hbm, ⟨10, _⟩ => ⟨S16384x2048, .f32⟩
  | .hbm, ⟨11, _⟩ => ⟨S16384x2048, .f32⟩
  | .hbm, ⟨12, _⟩ => ⟨S32768x2048, .f32⟩
  | .hbm, ⟨13, _⟩ => ⟨S16384x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineRefIdeal.lean ====
abbrev S4x4096x2048 : Shape := ⟨3, ![4, 4096, 2048]⟩
abbrev S4x4096x2 : Shape := ⟨3, ![4, 4096, 2]⟩
abbrev S4x4096x1 : Shape := ⟨3, ![4, 4096, 1]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x2, .f32⟩
  | .hbm, ⟨4, _⟩ => ⟨S4x4096x1, .f32⟩
  | .hbm, ⟨5, _⟩ => ⟨S4x4096x2048, .f32⟩
  | .hbm, ⟨6, _⟩ => ⟨S4x4096x2048, .f32⟩
  | .hbm, ⟨7, _⟩ => ⟨S4x4096x1, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proj.lean ====
abbrev S4x4096x2048 : Shape := ⟨3, ![4, 4096, 2048]⟩
abbrev S2048 : Shape := ⟨1, ![2048]⟩
abbrev S2048x6152 : Shape := ⟨2, ![2048, 6152]⟩
abbrev S8x128 : Shape := ⟨2, ![8, 128]⟩
abbrev S8 : Shape := ⟨1, ![8]⟩
abbrev S2048x4096 : Shape := ⟨2, ![2048, 4096]⟩
abbrev S4096 : Shape := ⟨1, ![4096]⟩
abbrev S2048x3072 : Shape := ⟨2, ![2048, 3072]⟩
abbrev S2048x10240 : Shape := ⟨2, ![2048, 10240]⟩
abbrev S1x2048x10240 : Shape := ⟨3, ![1, 2048, 10240]⟩
abbrev S2048x8 : Shape := ⟨2, ![2048, 8]⟩
abbrev S_ : Shape := ⟨0, ![]⟩
abbrev S2048x120 : Shape := ⟨2, ![2048, 120]⟩
abbrev S2048x128 : Shape := ⟨2, ![2048, 128]⟩
abbrev S1x2048x128 : Shape := ⟨3, ![1, 2048, 128]⟩
abbrev S120 : Shape := ⟨1, ![120]⟩
abbrev S128 : Shape := ⟨1, ![128]⟩
abbrev S1x128 : Shape := ⟨2, ![1, 128]⟩
abbrev S1024 : Shape := ⟨1, ![1024]⟩
abbrev S10240 : Shape := ⟨1, ![10240]⟩
abbrev S1x10240 : Shape := ⟨2, ![1, 10240]⟩
abbrev S6144 : Shape := ⟨1, ![6144]⟩
abbrev S16384x2048 : Shape := ⟨2, ![16384, 2048]⟩
abbrev S1x2048 : Shape := ⟨2, ![1, 2048]⟩
abbrev S16384x10240 : Shape := ⟨2, ![16384, 10240]⟩
abbrev S16384x128 : Shape := ⟨2, ![16384, 128]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S1024x1 : Shape := ⟨2, ![1024, 1]⟩

abbrev nBuf : Space → Nat
  | .hbm => 46
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x6152, .f32⟩
  | .hbm, ⟨3, _⟩ => ⟨S8x128, .f32⟩
  | .hbm, ⟨4, _⟩ => ⟨S8x128, .f32⟩
  | .hbm, ⟨5, _⟩ => ⟨S8, .f32⟩
  | .hbm, ⟨6, _⟩ => ⟨S2048x4096, .f32⟩
  | .hbm, ⟨7, _⟩ => ⟨S4096, .f32⟩
  | .hbm, ⟨8, _⟩ => ⟨S2048x3072, .f32⟩
  | .hbm, ⟨9, _⟩ => ⟨S2048x3072, .f32⟩
  | .hbm, ⟨10, _⟩ => ⟨S2048x10240, .f32⟩
  | .hbm, ⟨11, _⟩ => ⟨S2048x10240, .bf16⟩
  | .hbm, ⟨12, _⟩ => ⟨S1x2048x10240, .bf16⟩
  | .hbm, ⟨13, _⟩ => ⟨S2048x8, .f32⟩
  | .hbm, ⟨14, _⟩ => ⟨S_, .f32⟩
  | .hbm, ⟨15, _⟩ => ⟨S2048x120, .f32⟩
  | .hbm, ⟨16, _⟩ => ⟨S2048x128, .f32⟩
  | .hbm, ⟨17, _⟩ => ⟨S2048x128, .bf16⟩
  | .hbm, ⟨18, _⟩ => ⟨S1x2048x128, .bf16⟩
  | .hbm, ⟨19, _⟩ => ⟨S_, .f32⟩
  | .hbm, ⟨20, _⟩ => ⟨S120, .f32⟩
  | .hbm, ⟨21, _⟩ => ⟨S128, .f32⟩
  | .hbm, ⟨22, _⟩ => ⟨S1x128, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S4096, .f32⟩
  | .hbm, ⟨36, _⟩ => ⟨S10240, .f32⟩
  | .hbm, ⟨37, _⟩ => ⟨S1x10240, .f32⟩
  | .hbm, ⟨38, _⟩ => ⟨S_, .f32⟩
  | .hbm, ⟨39, _⟩ => ⟨S6144, .f32⟩
  | .hbm, ⟨40, _⟩ => ⟨S10240, .f32⟩
  | .hbm, ⟨41, _⟩ => ⟨S1x10240, .f32⟩
  | .hbm, ⟨42, _⟩ => ⟨S16384x2048, .f32⟩
  | .hbm, ⟨43, _⟩ => ⟨S1x2048, .f32⟩
  | .hbm, ⟨44, _⟩ => ⟨S16384x10240, .bf16⟩
  | .hbm, ⟨45, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x128, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x128, .f32⟩
  | .local _ .vmem, ⟨14, _⟩ => ⟨S1024x128, .f32⟩
  | .local _ .vmem, ⟨15, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c2_i32_6 : BitVec 32 := 2#32
  let v10 : BitVec 1 := Scalar.cmpi .sge arg1 c2_i32_6
  let c6_i32 : BitVec 32 := 6#32
  let v11 : BitVec 1 := Scalar.cmpi .slt arg1 c6_i32
  let v12 : BitVec 1 := Scalar.andi v10 v11
  let v13 : BitVec 32 := Scalar.extui v12
  let c0_i32_7 : BitVec 32 := 0#32
  let v14 : BitVec 1 := Scalar.cmpi .ne v13 c0_i32_7
  v14

def k0_cond4 (i : grid0.Coords) : BitVec 1 :=
  let arg1 : BitVec 32 := BitVec.ofNat 32 (i 1).val
  let c6_i32_8 : BitVec 32 := 6#32
  let v15 : BitVec 1 := Scalar.cmpi .sge arg1 c6_i32_8
  let v16 : BitVec 32 := Scalar.extui v15
  let c0_i32_9 : BitVec 32 := 0#32
  let v17 : BitVec 1 := Scalar.cmpi .ne v16 c0_i32_9
  v17

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjRefIdeal.lean ====
abbrev S4x4096x2048 : Shape := ⟨3, ![4, 4096, 2048]⟩
abbrev S2048 : Shape := ⟨1, ![2048]⟩
abbrev S2048x6152 : Shape := ⟨2, ![2048, 6152]⟩
abbrev S8x128 : Shape := ⟨2, ![8, 128]⟩
abbrev S8 : Shape := ⟨1, ![8]⟩
abbrev S2048x4096 : Shape := ⟨2, ![2048, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x6152 : Shape := ⟨3, ![4, 4096, 6152]⟩
abbrev S4x4096x1024 : Shape := ⟨3, ![4, 4096, 1024]⟩
abbrev S4x4096x8 : Shape := ⟨3, ![4, 4096, 8]⟩
abbrev S4x4096x4096 : Shape := ⟨3, ![4, 4096, 4096]⟩
abbrev S1x1x4096 : Shape := ⟨3, ![1, 1, 4096]⟩
abbrev S4x4096x8x128 : Shape := ⟨4, ![4, 4096, 8, 128]⟩
abbrev S4x4096x8x1 : Shape := ⟨4, ![4, 4096, 8, 1]⟩
abbrev S1x1x8x128 : Shape := ⟨4, ![1, 1, 8, 128]⟩
abbrev S4x4096x10240 : Shape := ⟨3, ![4, 4096, 10240]⟩
abbrev S1x1x8 : Shape := ⟨3, ![1, 1, 8]⟩
abbrev S4x4096x128 : Shape := ⟨3, ![4, 4096, 128]⟩
abbrev S16384x10240 : Shape := ⟨2, ![16384, 10240]⟩
abbrev S16384x128 : Shape := ⟨2, ![16384, 128]⟩

abbrev nBuf : Space → Nat
  | .hbm => 112
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x6152, .f32⟩
  | .hbm, ⟨3, _⟩ => ⟨S8x128, .f32⟩
  | .hbm, ⟨4, _⟩ => ⟨S8x128, .f32⟩
  | .hbm, ⟨5, _⟩ => ⟨S8, .f32⟩
  | .hbm, ⟨6, _⟩ => ⟨S2048x4096, .f32⟩
  | .hbm, ⟨7, _⟩ => ⟨S4096, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x6152, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x8, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x4096, .f32⟩
  | .hbm, ⟨33, _⟩ => ⟨S1x1x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x8x128, .f32⟩
  | .hbm, ⟨45, _⟩ => ⟨S4x4096x8x128, .f32⟩
  | .hbm, ⟨46, _⟩ => ⟨S_, .f32⟩
  | .hbm, ⟨47, _⟩ => ⟨S4x4096x8, .f32⟩
  | .hbm, ⟨48, _⟩ => ⟨S4x4096x8x1, .f32⟩
  | .hbm, ⟨49, _⟩ => ⟨S_, .f32⟩
  | .hbm, ⟨50, _⟩ => ⟨S4x4096x8x1, .f32⟩
  | .hbm, ⟨51, _⟩ => ⟨S4x4096x8x1, .f32⟩
  | .hbm, ⟨52, _⟩ => ⟨S_, .f32⟩
  | .hbm, ⟨53, _⟩ => ⟨S4x4096x8x1, .f32⟩
  | .hbm, ⟨54, _⟩ => ⟨S4x4096x8x1, .f32⟩
  | .hbm, ⟨55, _⟩ => ⟨S4x4096x8x1, .f32⟩
  | .hbm, ⟨56, _⟩ => ⟨S4x4096x8x128, .f32⟩
  | .hbm, ⟨57, _⟩ => ⟨S4x4096x8x128, .f32⟩
  | .hbm, ⟨58, _⟩ => ⟨S1x1x8x128, .f32⟩
  | .hbm, ⟨59, _⟩ => ⟨S4x4096x8x128, .f32⟩
  | .hbm, ⟨60, _⟩ => ⟨S4x4096x8x128, .f32⟩
  | .hbm, ⟨61, _⟩ => ⟨S4x4096x1024, .f32⟩
  | .hbm, ⟨62, _⟩ => ⟨S_, .f32⟩
  | .hbm, ⟨63, _⟩ => ⟨S4x4096x1024, .f32⟩
  | .hbm, ⟨64, _⟩ => ⟨S4x4096x1024, .f32⟩
  | .hbm, ⟨65, _⟩ => ⟨S4x4096x8x128, .f32⟩
  | .hbm, ⟨66, _⟩ => ⟨S4x4096x8x128, .f32⟩
  | .hbm, ⟨67, _⟩ => ⟨S_, .f32⟩
  | .hbm, ⟨68, _⟩ => ⟨S4x4096x8, .f32⟩
  | .hbm, ⟨69, _⟩ => ⟨S4x4096x8x1, .f32⟩
  | .hbm, ⟨70, _⟩ => ⟨S_, .f32⟩
  | .hbm, ⟨71, _⟩ => ⟨S4x4096x8x1, .f32⟩
  | .hbm, ⟨72, _⟩ => ⟨S4x4096x8x1, .f32⟩
  | .hbm, ⟨73, _⟩ => ⟨S_, .f32⟩
  | .hbm, ⟨74, _⟩ => ⟨S4x4096x8x1, .f32⟩
  | .hbm, ⟨75, _⟩ => ⟨S4x4096x8x1, .f32⟩
  | .hbm, ⟨76, _⟩ => ⟨S4x4096x8x1, .f32⟩
  | .hbm, ⟨77, _⟩ => ⟨S4x4096x8x128, .f32⟩
  | .hbm, ⟨78, _⟩ => ⟨S4x4096x8x128, .f32⟩
  | .hbm, ⟨79, _⟩ => ⟨S1x1x8x128, .f32⟩
  | .hbm, ⟨80, _⟩ => ⟨S4x4096x8x128, .f32⟩
  | .hbm, ⟨81, _⟩ => ⟨S4x4096x8x128, .f32⟩
  | .hbm, ⟨82, _⟩ => ⟨S4x4096x1024, .f32⟩
  | .hbm, ⟨83, _⟩ => ⟨S_, .f32⟩
  | .hbm, ⟨84, _⟩ => ⟨S4x4096x1024, .f32⟩
  | .hbm, ⟨85, _⟩ => ⟨S4x4096x1024, .f32⟩
  | .hbm, ⟨86, _⟩ => ⟨S4x4096x10240, .f32⟩
  | .hbm, ⟨87, _⟩ => ⟨S1x1x8, .f32⟩
  | .hbm, ⟨88, _⟩ => ⟨S4x4096x8, .f32⟩
  | .hbm, ⟨89, _⟩ => ⟨S4x4096x8, .f32⟩
  | .hbm, ⟨90, _⟩ => ⟨S_, .i32⟩
  | .hbm, ⟨91, _⟩ => ⟨S_, .f32⟩
  | .hbm, ⟨92, _⟩ => ⟨S4x4096x128, .f32⟩
  | .hbm, ⟨93, _⟩ => ⟨S4x4096x128, .f32⟩
  | .hbm, ⟨94, _⟩ => ⟨S_, .f32⟩
  | .hbm, ⟨95, _⟩ => ⟨S4x4096x128, .f32⟩
  | .hbm, ⟨96, _⟩ => ⟨S4x4096x128, .f32⟩
  | .hbm, ⟨97, _⟩ => ⟨S4x4096x128, .f32⟩
  | .hbm, ⟨98, _⟩ => ⟨S4x4096x128, .f32⟩
  | .hbm, ⟨99, _⟩ => ⟨S4x4096x128, .i1⟩
  | .hbm, ⟨100, _⟩ => ⟨S4x4096x128, .f32⟩
  | .hbm, ⟨101, _⟩ => ⟨S4x4096x128, .f32⟩
  | .hbm, ⟨102, _⟩ => ⟨S4x4096x128, .f32⟩
  | .hbm, ⟨103, _⟩ => ⟨S4x4096x128, .f32⟩
  | .hbm, ⟨104, _⟩ => ⟨S4x4096x128, .f32⟩
  | .hbm, ⟨105, _⟩ => ⟨S4x4096x128, .f32⟩
  | .hbm, ⟨106, _⟩ => ⟨S4x4096x128, .f32⟩
  | .hbm, ⟨107, _⟩ => ⟨S4x4096x128, .f32⟩
  | .hbm, ⟨108, _⟩ => ⟨S4x4096x128, .f32⟩
  | .hbm, ⟨109, _⟩ => ⟨S16384x10240, .f32⟩
  | .hbm, ⟨110, _⟩ => ⟨S16384x10240, .bf16⟩
  | .hbm, ⟨111, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c : Ref sig .tc := ⟨.hbm, 90, rfl⟩
abbrev main_call0_v0 : Ref sig .tc := ⟨.hbm, 91, rfl⟩
abbrev main_v69 : Ref sig .tc := ⟨.hbm, 92, rfl⟩
abbrev main_call1_v0 : Ref sig .tc := ⟨.hbm, 93, rfl⟩
abbrev main_call1_call0_cst : Ref sig .tc := ⟨.hbm, 94, rfl⟩
abbrev main_call1_call0_v0 : Ref sig .tc := ⟨.hbm, 95, rfl⟩
abbrev main_call1_call0_v1 : Ref sig .tc := ⟨.hbm, 96, rfl⟩
abbrev main_call1_call0_v2 : Ref sig .tc := ⟨.hbm, 97, rfl⟩
abbrev main_call1_call0_v3 : Ref sig .tc := ⟨.hbm, 98, rfl⟩
abbrev main_call1_call0_v4 : Ref sig .tc := ⟨.hbm, 99, rfl⟩
abbrev main_call1_call0_v5 : Ref sig .tc := ⟨.hbm, 100, rfl⟩
abbrev main_call1_call0_v6 : Ref sig .tc := ⟨.hbm, 101, rfl⟩
abbrev main_call1_call0_v7 : Ref sig .tc := ⟨.hbm, 102, rfl⟩
abbrev main_call1_call0_v8 : Ref sig .tc := ⟨.hbm, 103, rfl⟩
abbrev main_call1_call0_v9 : Ref sig .tc := ⟨.hbm, 104, rfl⟩
abbrev main_call1_call0_v10 : Ref sig .tc := ⟨.hbm, 105, rfl⟩
abbrev main_call1_call0_v11 : Ref sig .tc := ⟨.hbm, 106, rfl⟩
abbrev main_call1_v1 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩

abbrev nD : Nat := 1
abbrev τ : Topo := Topo.v7x

variable {F : FTy → Type} [FloatOps F]
-- ==== Router.lean ====
abbrev S4x4096x2048 : Shape := ⟨3, ![4, 4096, 2048]⟩
abbrev S2048 : Shape := ⟨1, ![2048]⟩
abbrev S2048x8 : Shape := ⟨2, ![2048, 8]⟩
abbrev S_ : Shape := ⟨0, ![]⟩
abbrev S2048x128 : Shape := ⟨2, ![2048, 128]⟩
abbrev S1 : Shape := ⟨1, ![1]⟩
abbrev S16384x2048 : Shape := ⟨2, ![16384, 2048]⟩
abbrev S1x2048 : Shape := ⟨2, ![1, 2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x8, .f32⟩
  | .hbm, ⟨3, _⟩ => ⟨S_, .f32⟩
  | .hbm, ⟨4, _⟩ => ⟨S2048x128, .f32⟩
  | .hbm, ⟨5, _⟩ => ⟨S_, .i32⟩
  | .hbm, ⟨6, _⟩ => ⟨S1, .i32⟩
  | .hbm, ⟨7, _⟩ => ⟨S2048x128, .f32⟩
  | .hbm, ⟨8, _⟩ => ⟨S2048x128, .bf16⟩
  | .hbm, ⟨9, _⟩ => ⟨S2048x128, .f32⟩
  | .hbm, ⟨10, _⟩ => ⟨S2048x128, .f32⟩
  | .hbm, ⟨11, _⟩ => ⟨S2048x128, .bf16⟩
  | .hbm, ⟨12, _⟩ => ⟨S16384x2048, .f32⟩
  | .hbm, ⟨13, _⟩ => ⟨S1x2048, .f32⟩
  | .hbm, ⟨14, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S2048x128, .bf16⟩
  | .local _ .vmem, ⟨5, _⟩ => ⟨S512x128, .f32⟩
  | .local _ .vmem, ⟨6, _⟩ => ⟨S512x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterIdeal.lean ====
variable {F : FTy → Type} [FloatOps F] [Named F]
def κ : String → Option EReal := fun
  | "mask" => some ⊥
  | _ => none
-- ==== RouterRefIdeal.lean ====
abbrev S4x4096x2048 : Shape := ⟨3, ![4, 4096, 2048]⟩
abbrev S2048 : Shape := ⟨1, ![2048]⟩
abbrev S2048x8 : Shape := ⟨2, ![2048, 8]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩
abbrev S16384x8 : Shape := ⟨2, ![16384, 8]⟩
abbrev S16384x2 : Shape := ⟨2, ![16384, 2]⟩
abbrev S16384 : Shape := ⟨1, ![16384]⟩
abbrev S16384x1 : Shape := ⟨2, ![16384, 1]⟩
abbrev S16384x124 : Shape := ⟨2, ![16384, 124]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x8, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S16384x2048, .f32⟩
  | .hbm, ⟨20, _⟩ => ⟨S16384x8, .f32⟩
  | .hbm, ⟨21, _⟩ => ⟨S16384x2, .f32⟩
  | .hbm, ⟨22, _⟩ => ⟨S16384x2, .i32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384x1, .f32⟩
  | .hbm, ⟨29, _⟩ => ⟨S16384x2, .f32⟩
  | .hbm, ⟨30, _⟩ => ⟨S16384x2, .f32⟩
  | .hbm, ⟨31, _⟩ => ⟨S16384x2, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x2, .f32⟩
  | .hbm, ⟨36, _⟩ => ⟨S16384x2, .f32⟩
  | .hbm, ⟨37, _⟩ => ⟨S16384x2, .f32⟩
  | .hbm, ⟨38, _⟩ => ⟨S_, .f32⟩
  | .hbm, ⟨39, _⟩ => ⟨S16384x124, .f32⟩
  | .hbm, ⟨40, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Fox.Cum.lean ====
/- Running sums along one axis, as the windowed sums the programs state. -/
module

public import Idealize.ShloMosaic.PureOps.Ideal
public import Idealize.ShloMosaic.Lib.Pointwise

@[expose] public section

set_option maxRecDepth 16384
set_option maxHeartbeats 1000000

noncomputable section

namespace Cert.Fox

open Idealize.ShloMosaic

theorem foldl_add_list {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

theorem foldl_add_fin {N : ℕ} (f : Fin N → EReal) (v : EReal) : (List.finRange N).foldl (fun r n => r + f n) v = v + ∑ n, f n := by
  rw [foldl_add_list, Fin.sum_univ_def]

/-- A windowed sum is the initial value plus the sum over the window's positions. -/
theorem window_sum {s t : Shape} (window strides lo hi : Fin s.rank → Nat) (h : s.ReduceWindows window strides lo hi t) (x : s.Idx → EReal) (v : EReal) (j : t.Idx) :
    Ideal.hostReduceWindowAdd window strides lo hi h x v j
      = v + ∑ w : (⟨s.rank, window⟩ : Shape).Idx, (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else v) := by
  unfold Ideal.hostReduceWindowAdd Host.reduceWindow
  dsimp only
  refine (foldl_add_fin _ v).trans (congrArg (v + ·) ?_)
  rw [← Equiv.sum_comp (⟨s.rank, window⟩ : Shape).rowMajor.symm]
  refine Finset.sum_congr rfl fun n _ => ?_
  split <;> rfl

/-- The sum of the terms up to `s`, as the windowed sum lists them. -/
def pre (X : Fin 4096 → EReal) (s : Fin 4096) : EReal :=
  0 + ∑ i : Fin 4096, if h : 4095 ≤ s.val + i.val then X ⟨s.val + i.val - 4095, by omega⟩ else 0

theorem pre_real (X : Fin 4096 → EReal) (hX : ∀ i, ∃ r : ℝ, X i = r) (s : Fin 4096) : ∃ r : ℝ, pre X s = r := by
  choose R hR using hX
  refine ⟨∑ i : Fin 4096, if h : 4095 ≤ s.val + i.val then R ⟨s.val + i.val - 4095, by omega⟩ else 0, ?_⟩
  rw [pre, zero_add]
  have : ∀ i : Fin 4096, (if h : 4095 ≤ s.val + i.val then X ⟨s.val + i.val - 4095, by omega⟩ else 0)
      = (((if h : 4095 ≤ s.val + i.val then R ⟨s.val + i.val - 4095, by omega⟩ else 0 : ℝ)) : EReal) := by
    intro i; split
    · exact hR _
    · rfl
  rw [Finset.sum_congr rfl fun i _ => this i]
  induction (Finset.univ : Finset (Fin 4096)) using Finset.cons_induction with
  | empty => simp
  | cons a S ha ih => rw [Finset.sum_cons, Finset.sum_cons, ih, EReal.coe_add]

/-- Along the middle axis. -/
theorem window_mid (h : (⟨3, ![4, 4096, 8]⟩ : Shape).ReduceWindows ![1, 4096, 1] ![1, 1, 1] ![0, 4095, 0] ![0, 0, 0] ⟨3, ![4, 4096, 8]⟩)
    (x : (⟨3, ![4, 4096, 8]⟩ : Shape).Idx → EReal) (b : Fin 4) (s : Fin 4096) (g : Fin 8) :
    Ideal.hostReduceWindowAdd ![1, 4096, 1] ![1, 1, 1] ![0, 4095, 0] ![0, 0, 0] h x 0 (ix3 b s g) = pre (fun t => x (ix3 b t g)) s := by
  rw [window_sum, pre]
  refine congrArg (0 + ·) (Eq.symm (Fintype.sum_bijective (fun i : Fin 4096 => (ix3 0 i 0 : (⟨3, ![1, 4096, 1]⟩ : Shape).Idx)) ⟨?_, ?_⟩ _ _ ?_))
  · intro i i' he
    exact congrFun he 1
  · intro w
    refine ⟨w 1, funext fun a => ?_⟩
    fin_cases a
    · exact Subsingleton.elim (α := Fin 1) _ _
    · rfl
    · exact Subsingleton.elim (α := Fin 1) _ _
  · intro i
    by_cases hi : 4095 ≤ s.val + i.val
    · rw [dif_pos hi, dif_pos (by
        intro a
        fin_cases a
        · show 0 ≤ _ ∧ b.val * 1 + 0 - 0 < 4
          omega
        · show 4095 ≤ s.val * 1 + i.val ∧ s.val * 1 + i.val - 4095 < 4096
          omega
        · show 0 ≤ _ ∧ g.val * 1 + 0 - 0 < 8
          omega)]
      refine congrArg x (funext fun a => Fin.ext ?_)
      fin_cases a
      · show b.val = b.val * 1 + 0 - 0; omega
      · show s.val + i.val - 4095 = s.val * 1 + i.val - 4095; omega
      · show g.val = g.val * 1 + 0 - 0; omega
    · rw [dif_neg hi, dif_neg (by
        intro hin
        have : 4095 ≤ s.val * 1 + i.val := (hin 1).1
        omega)]

/-- Along the last axis. -/
theorem window_last (h : (⟨3, ![4, 8, 4096]⟩ : Shape).ReduceWindows ![1, 1, 4096] ![1, 1, 1] ![0, 0, 4095] ![0, 0, 0] ⟨3, ![4, 8, 4096]⟩)
    (x : (⟨3, ![4, 8, 4096]⟩ : Shape).Idx → EReal) (b : Fin 4) (g : Fin 8) (s : Fin 4096) :
    Ideal.hostReduceWindowAdd ![1, 1, 4096] ![1, 1, 1] ![0, 0, 4095] ![0, 0, 0] h x 0 (ix3 b g s) = pre (fun t => x (ix3 b g t)) s := by
  rw [window_sum, pre]
  refine congrArg (0 + ·) (Eq.symm (Fintype.sum_bijective (fun i : Fin 4096 => (ix3 0 0 i : (⟨3, ![1, 1, 4096]⟩ : Shape).Idx)) ⟨?_, ?_⟩ _ _ ?_))
  · intro i i' he
    exact congrFun he 2
  · intro w
    refine ⟨w 2, funext fun a => ?_⟩
    fin_cases a
    · exact Subsingleton.elim (α := Fin 1) _ _
    · exact Subsingleton.elim (α := Fin 1) _ _
    · rfl
  · intro i
    by_cases hi : 4095 ≤ s.val + i.val
    · rw [dif_pos hi, dif_pos (by
        intro a
        fin_cases a
        · show 0 ≤ _ ∧ b.val * 1 + 0 - 0 < 4
          omega
        · show 0 ≤ _ ∧ g.val * 1 + 0 - 0 < 8
          omega
        · show 4095 ≤ s.val * 1 + i.val ∧ s.val * 1 + i.val - 4095 < 4096
          omega)]
      refine congrArg x (funext fun a => Fin.ext ?_)
      fin_cases a
      · show b.val = b.val * 1 + 0 - 0; omega
      · show g.val = g.val * 1 + 0 - 0; omega
      · show s.val + i.val - 4095 = s.val * 1 + i.val - 4095; omega
    · rw [dif_neg hi, dif_neg (by
        intro hin
        have : 4095 ≤ s.val * 1 + i.val := (hin 2).1
        omega)]

/-- The host's windowed sum is the ideal one, from its initial element. -/
theorem host_window {s t u : Shape} (window strides lo hi : Fin s.rank → Nat) (h : s.ReduceWindows window strides lo hi t) (hu : 0 < u.numel)
    (x : FVec Ideal s .f32) (init : FVec Ideal u .f32) (z : EReal) (hz : init (Shape.Idx.first hu) = z) (j : t.Idx) :
    Host.reduceWindowAdd (F := Ideal) window strides lo hi x init h hu j = Ideal.hostReduceWindowAdd window strides lo hi h x z j := by
  rw [← hz]; rfl

end Cert.Fox

end
-- ==== Proof.Fox.Alg.lean ====
/- Extended-real arithmetic of a row of attention taken block by block: no program is named here. -/
module

public import Idealize.ShloMosaic.PureOps.Ideal
public import Mathlib.Data.EReal.Operations
public import Mathlib.Data.EReal.Inv
public import Mathlib.Analysis.SpecialFunctions.Pow.Real

@[expose] public section

noncomputable section

namespace Cert.Fox

open Idealize.ShloMosaic

/-- Two to a real power, as an extended real. -/
theorem exp2_coe (r : ℝ) : Ideal.exp2 (r : EReal) = (((2 : ℝ) ^ r : ℝ) : EReal) := rfl

/-- Two to the power minus infinity is zero. -/
theorem exp2_bot : Ideal.exp2 ⊥ = 0 := rfl

/-- The exponential of a real, as an extended real. -/
theorem exp_coe (r : ℝ) : Ideal.exp (r : EReal) = ((Real.exp r : ℝ) : EReal) := rfl

/-- The exponential of minus infinity is zero. -/
theorem exp_bot : Ideal.exp ⊥ = 0 := rfl

/-- Below a bound under plus infinity, two to the power of the difference is nonnegative and finite. -/
theorem exp2_sub_fin {a b : EReal} (h : a ≤ b) (hb : b ≠ ⊤) : 0 ≤ Ideal.exp2 (a - b) ∧ Ideal.exp2 (a - b) ≠ ⊤ := by
  induction a with
  | bot => rw [EReal.bot_sub, exp2_bot]; exact ⟨le_rfl, EReal.zero_ne_top⟩
  | top => exact absurd (top_le_iff.mp h) hb
  | coe a =>
    induction b with
    | bot => exact absurd h (by simp)
    | top => exact absurd rfl hb
    | coe b =>
      rw [← EReal.coe_sub, exp2_coe]
      exact ⟨by exact_mod_cast (Real.rpow_pos_of_pos two_pos _).le, EReal.coe_ne_top _⟩

/-- Passing a weight from one bound to a larger one multiplies it by the power of the two bounds' difference. -/
theorem exp2_chain {x a b : EReal} (hx : x ≤ a) (h : a ≤ b) (hb : b ≠ ⊤) :
    Ideal.exp2 (x - a) * Ideal.exp2 (a - b) = Ideal.exp2 (x - b) := by
  induction x with
  | bot => simp only [EReal.bot_sub, exp2_bot, zero_mul]
  | top => exact absurd (top_le_iff.mp (le_trans hx h)) hb
  | coe x =>
    induction a with
    | bot => exact absurd hx (by simp)
    | top => exact absurd (top_le_iff.mp h) hb
    | coe a =>
      induction b with
      | bot => exact absurd h (by simp)
      | top => exact absurd rfl hb
      | coe b =>
        rw [← EReal.coe_sub, ← EReal.coe_sub, ← EReal.coe_sub, exp2_coe, exp2_coe, exp2_coe, ← EReal.coe_mul,
          ← Real.rpow_add two_pos]
        congr 2; ring

/-- A finite nonnegative factor goes into a sum of extended reals. -/
theorem sum_mul_fin {ι : Type*} (S : Finset ι) (f : ι → EReal) {c : EReal} (h0 : 0 ≤ c) (ht : c ≠ ⊤) :
    (∑ j ∈ S, f j) * c = ∑ j ∈ S, f j * c := by
  classical
  induction S using Finset.induction_on with
  | empty => simp
  | insert a S ha ih => rw [Finset.sum_insert ha, Finset.sum_insert ha, EReal.right_distrib_of_nonneg_of_ne_top h0 ht, ih]

/-- The weighted sum over `S` of the values `V`, by logits `L` in base two against the bound `b`. -/
def wsum {ι : Type*} (S : Finset ι) (L V : ι → EReal) (b : EReal) : EReal := ∑ j ∈ S, Ideal.exp2 (L j - b) * V j

/-- A weighted sum against one bound, rescaled, is the weighted sum against a larger one. -/
theorem wsum_rescale {ι : Type*} (S : Finset ι) (L V : ι → EReal) {a b : EReal} (hL : ∀ j ∈ S, L j ≤ a) (h : a ≤ b)
    (hb : b ≠ ⊤) : wsum S L V a * Ideal.exp2 (a - b) = wsum S L V b := by
  obtain ⟨h0, ht⟩ := exp2_sub_fin h hb
  rw [wsum, wsum, sum_mul_fin S _ h0 ht]
  refine Finset.sum_congr rfl fun j hj => ?_
  rw [mul_right_comm, exp2_chain (hL j hj) h hb]

/-- One block's update: the new bound is the bound of the union, and the rescaled old sum plus the block's own is the
    union's sum. -/
theorem wsum_step {ι : Type*} [DecidableEq ι] (S T : Finset ι) (hd : Disjoint S T) (L V : ι → EReal) (hL : ∀ j, L j ≠ ⊤) :
    wsum S L V (S.sup L) * Ideal.exp2 (S.sup L - max (S.sup L) (T.sup L)) + wsum T L V (max (S.sup L) (T.sup L))
      = wsum (S ∪ T) L V ((S ∪ T).sup L) := by
  have hsup : ∀ U : Finset ι, U.sup L ≠ ⊤ := fun U => by
    rw [← lt_top_iff_ne_top, Finset.sup_lt_iff (by exact bot_lt_top)]
    exact fun j _ => lt_top_iff_ne_top.mpr (hL j)
  have hu : (S ∪ T).sup L = max (S.sup L) (T.sup L) := Finset.sup_union
  rw [← hu, wsum_rescale S L V (fun j hj => Finset.le_sup hj) (by rw [hu]; exact le_max_left _ _) (hsup _)]
  exact (Finset.sum_union hd).symm

/-- The real sum, as an extended real. -/
theorem coe_sum {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A quotient by a positive real is a product with its inverse. -/
theorem div_pos_coe (x : EReal) {l : ℝ} (hl : 0 < l) : Ideal.div x (l : EReal) = x * ((l⁻¹ : ℝ) : EReal) := by
  rw [Ideal.div, if_neg (by exact_mod_cast hl.ne'), EReal.coe_inv]

/-- A row of softmax attention: logits that are real or minus infinity, at least one of them real within `S`, none of
    them real outside it. The kernel's quotient of weighted sums in base two over `S` is the sum over every position of
    the softmax weight times the value. -/
theorem softmax_row {ι : Type*} [Fintype ι] [DecidableEq ι] (S : Finset ι) (X V : ι → EReal) (c : ℝ) (hc : 0 < c)
    (hc2 : c = (Real.log 2)⁻¹)
    (hX : ∀ j, X j ≠ ⊤) (j₀ : ι) (hj₀ : j₀ ∈ S) (hne : X j₀ ≠ ⊥) (hS : ∀ j, j ∉ S → X j = ⊥) :
    Ideal.div (wsum S (fun j => X j * (c : EReal)) V (S.sup fun j => X j * (c : EReal)))
        (wsum S (fun j => X j * (c : EReal)) (fun _ => 1) (S.sup fun j => X j * (c : EReal)))
      = ∑ j, Ideal.div (Ideal.exp (X j - Finset.univ.sup X)) (∑ i, Ideal.exp (X i - Finset.univ.sup X)) * V j := by
  -- the two bounds, real
  have hsupS : Finset.univ.sup X = S.sup X := by
    apply le_antisymm
    · refine Finset.sup_le fun j _ => ?_
      by_cases hj : j ∈ S
      · exact Finset.le_sup hj
      · rw [hS j hj]; exact bot_le
    · exact Finset.sup_mono (Finset.subset_univ S)
  have hMt : S.sup X ≠ ⊤ := by
    rw [← lt_top_iff_ne_top, Finset.sup_lt_iff (by exact bot_lt_top)]
    exact fun j _ => lt_top_iff_ne_top.mpr (hX j)
  have hMb : S.sup X ≠ ⊥ := fun h => hne (le_bot_iff.mp (h ▸ Finset.le_sup hj₀))
  obtain ⟨M, hM⟩ : ∃ M : ℝ, S.sup X = (M : EReal) := ⟨_, (EReal.coe_toReal hMt hMb).symm⟩
  have hcE : (0 : EReal) ≤ (c : EReal) := by exact_mod_cast hc.le
  have hMc : (S.sup fun j => X j * (c : EReal)) = ((M * c : ℝ) : EReal) := by
    apply le_antisymm
    · refine Finset.sup_le fun j hj => ?_
      rw [EReal.coe_mul, ← hM]
      exact mul_le_mul_of_nonneg_right (Finset.le_sup hj) hcE
    · obtain ⟨j, hj, hjM⟩ := Finset.exists_mem_eq_sup S ⟨j₀, hj₀⟩ X
      rw [EReal.coe_mul, ← hM, hjM]
      exact Finset.le_sup (f := fun j => X j * (c : EReal)) hj
  -- one weight in the two bases
  have hw : ∀ j, Ideal.exp2 (X j * (c : EReal) - ((M * c : ℝ) : EReal)) = Ideal.exp (X j - (M : EReal)) := by
    intro j
    rcases hx : X j with _ | _ | x
    · have hb : (⊥ : EReal) * (c : EReal) = ⊥ := EReal.bot_mul_coe_of_pos hc
      change Ideal.exp2 ((⊥ : EReal) * (c : EReal) - _) = Ideal.exp ((⊥ : EReal) - _)
      rw [hb, EReal.bot_sub, EReal.bot_sub, exp2_bot, exp_bot]
    · exact absurd hx (hX j)
    · change Ideal.exp2 ((x : EReal) * (c : EReal) - _) = Ideal.exp ((x : EReal) - _)
      rw [← EReal.coe_mul, ← EReal.coe_sub, ← EReal.coe_sub, exp2_coe, exp_coe]
      congr 1
      rw [Real.rpow_def_of_pos two_pos, hc2]
      congr 1
      have hl : Real.log 2 ≠ 0 := (Real.log_pos one_lt_two).ne'
      field_simp
  rw [hMc, hsupS, hM]
  have hsum : ∀ W : ι → EReal, wsum S (fun j => X j * (c : EReal)) W ((M * c : ℝ) : EReal)
      = ∑ j, Ideal.exp (X j - (M : EReal)) * W j := by
    intro W
    rw [wsum, Finset.sum_congr rfl fun j _ => by rw [hw j]]
    refine Finset.sum_subset (Finset.subset_univ S) fun j _ hj => ?_
    rw [hS j hj, EReal.bot_sub, exp_bot, zero_mul]
  rw [hsum, hsum]
  simp only [mul_one]
  -- the weights are reals, their sum a positive one
  have hr : ∀ j, ∃ e : ℝ, 0 ≤ e ∧ Ideal.exp (X j - (M : EReal)) = (e : EReal) := by
    intro j
    rcases hx : X j with _ | _ | x
    · exact ⟨0, le_rfl, rfl⟩
    · exact absurd hx (hX j)
    · exact ⟨Real.exp (x - M), (Real.exp_pos _).le, rfl⟩
  choose e he hE using hr
  have hl : 0 < ∑ j, e j := by
    refine Finset.sum_pos' (fun j _ => he j) ⟨j₀, Finset.mem_univ _, ?_⟩
    rcases (he j₀).lt_or_eq with h | h
    · exact h
    · exfalso
      have h2 := hE j₀
      rw [← h] at h2
      obtain ⟨x, hx⟩ : ∃ x : ℝ, X j₀ = (x : EReal) := ⟨_, (EReal.coe_toReal (hX j₀) hne).symm⟩
      rw [hx, ← EReal.coe_sub, exp_coe] at h2
      exact (Real.exp_pos (x - M)).ne' (by exact_mod_cast h2)
  have hL : (∑ i, Ideal.exp (X i - (M : EReal))) = ((∑ j, e j : ℝ) : EReal) := by
    rw [coe_sum]; exact Finset.sum_congr rfl fun j _ => hE j
  rw [hL, div_pos_coe _ hl, sum_mul_fin _ _ (by exact_mod_cast (inv_pos.mpr hl).le) (EReal.coe_ne_top _)]
  refine Finset.sum_congr rfl fun j _ => ?_
  rw [div_pos_coe _ hl, mul_right_comm]

/-- A fold of the larger-of-two from minus infinity is the supremum. -/
theorem fold_max_eq_sup {ι : Type*} (S : Finset ι) (f : ι → EReal) : Finset.fold max ⊥ f S = S.sup f := rfl

end Cert.Fox

end
-- ==== Proof.Fox.Spec.lean ====
/- The attention both programs compute, row by row. -/
module

public import proofs.«01_k».proof.Proof.Fox.Cum
public import proofs.«01_k».proof.Proof.Fox.Alg

@[expose] public section

set_option maxRecDepth 16384

noncomputable section

namespace Cert.Fox

open Idealize.ShloMosaic

/-- Column `d` of head `h`. -/
def hd (h : Fin 8) (d : Fin 128) : Fin 1024 := ⟨h.val * 128 + d.val, by omega⟩

abbrev SX : Shape := ⟨3, ![4, 4096, 1024]⟩
abbrev SF : Shape := ⟨3, ![4, 4096, 8]⟩

/-- The scale of the logits, as the constant's pattern gives it. -/
def scl : EReal := Ideal.ofBits .f32 0x3DB504F3#32

theorem scl_real : ∃ r : ℝ, scl = r := by
  unfold scl Ideal.ofBits Ideal.ieee
  dsimp only
  rw [if_neg (by decide), if_neg (by decide)]
  exact ⟨_, rfl⟩

/-- The logit of query `s` against key `j`. -/
def lgt (q k : SX.Idx → EReal) (lf : SF.Idx → EReal) (b : Fin 4) (h : Fin 8) (s j : Fin 4096) : EReal :=
  (∑ d : Fin 128, q (ix3 b s (hd h d)) * k (ix3 b j (hd h d))) * scl + pre (fun t => lf (ix3 b t h)) s - pre (fun t => lf (ix3 b t h)) j

/-- The logit where the key does not come after the query, and minus infinity elsewhere. -/
def mlgt (q k : SX.Idx → EReal) (lf : SF.Idx → EReal) (b : Fin 4) (h : Fin 8) (s j : Fin 4096) : EReal :=
  if j.val ≤ s.val then lgt q k lf b h s j else ⊥

/-- The attention's result. -/
def att (q k v : SX.Idx → EReal) (lf : SF.Idx → EReal) (b : Fin 4) (h : Fin 8) (s : Fin 4096) (d : Fin 128) : EReal :=
  ∑ j, Ideal.div (Ideal.exp (mlgt q k lf b h s j - Finset.univ.sup (mlgt q k lf b h s)))
    (∑ i, Ideal.exp (mlgt q k lf b h s i - Finset.univ.sup (mlgt q k lf b h s))) * v (ix3 b j (hd h d))

/-- Every element is a real number. -/
def Real' {s : Shape} (x : s.Idx → EReal) : Prop := ∀ i, ∃ r : ℝ, x i = r

theorem lgt_real (q k : SX.Idx → EReal) (lf : SF.Idx → EReal) (hq : Real' q) (hk : Real' k) (hl : Real' lf) (b : Fin 4) (h : Fin 8) (s j : Fin 4096) :
    ∃ r : ℝ, lgt q k lf b h s j = r := by
  obtain ⟨cc, hc⟩ := scl_real
  obtain ⟨ds, hds⟩ := pre_real (fun t => lf (ix3 b t h)) (fun t => hl _) s
  obtain ⟨dj, hdj⟩ := pre_real (fun t => lf (ix3 b t h)) (fun t => hl _) j
  choose Q hQ using hq
  choose K hK using hk
  refine ⟨(∑ d : Fin 128, Q (ix3 b s (hd h d)) * K (ix3 b j (hd h d))) * cc + ds - dj, ?_⟩
  unfold lgt
  rw [hc, hds, hdj, EReal.coe_sub, EReal.coe_add, EReal.coe_mul, coe_sum]
  simp only [hQ, hK, EReal.coe_mul]

end Cert.Fox

end
-- ==== Proof.Fox.Pre.lean ====
/- The precondition, read: the queries, the keys and the gates' logarithms are real numbers. -/
module

public import proofs.«01_k».proof.Proof.Gen.Pre_inputs_finite
public import proofs.«01_k».proof.Proof.Fox.Spec
public import Idealize.ShloMosaic.Lib.Pointwise

@[expose] public section

set_option maxRecDepth 16384

noncomputable section

namespace Cert.Fox.Pre

open Idealize.ShloMosaic Cert.Pre_inputs_finite

theorem top_bits : Ideal.ofBits .f32 0x7F800000#32 = (⊤ : EReal) := by
  unfold Ideal.ofBits Ideal.ieee
  dsimp only
  rw [if_pos (by decide), if_pos (by decide), if_neg (by decide)]

theorem andi_one (a b : BitVec 1) : IntOp.andi a b = 1#1 ↔ a = 1#1 ∧ b = 1#1 := by revert a b; decide

instance : Std.Commutative (IntOp.andi (w := 1)) := ⟨by decide⟩
instance : Std.Associative (IntOp.andi (w := 1)) := ⟨by decide⟩

/-- A conjunction over a finite set that is one has every term one. -/
theorem fold_one {ι : Type} [DecidableEq ι] (s : Finset ι) (f : ι → BitVec 1) (b : BitVec 1) :
    s.fold IntOp.andi b f = 1#1 → ∀ i ∈ s, f i = 1#1 := by
  induction s using Finset.induction_on with
  | empty => intro _ i hi; exact absurd hi (Finset.notMem_empty i)
  | insert a s ha ih =>
    intro h i hi
    rw [Finset.fold_insert ha, andi_one] at h
    rcases Finset.mem_insert.mp hi with rfl | hi
    · exact h.1
    · exact ih h.2 i hi

/-- A host reduction by conjunction to one element that is one has every term one. -/
theorem reduce_one {s u : Shape} {axes : List (Fin s.rank)} (x : s.Idx → BitVec 1) (init : u.Idx → BitVec 1) (h : s.ReducesTo axes S_) (hu : 0 < u.numel) (j : S_.Idx)
    (e : Host.reduce IntOp.andi x init h hu j = 1#1) (i : s.Idx) : x i = 1#1 := by
  classical
  rw [Host.reduce_eq_fold] at e
  exact fold_one _ _ _ e i (Finset.mem_filter.mpr ⟨Finset.mem_univ _, funext fun a => a.elim0⟩)

theorem real_of_cmp (x : EReal) (h : Ideal.cmp .olt (max x (-x)) ⊤ = 1#1) : ∃ r : ℝ, x = r := by
  induction x using EReal.rec with
  | bot => exact absurd h (by simp [Ideal.cmp])
  | top => exact absurd h (by simp [Ideal.cmp])
  | coe r => exact ⟨r, rfl⟩

theorem reals (q k v : FVec Ideal Cert.Pre_inputs_finite.S4x4096x1024 .f32) (lf : FVec Ideal Cert.Pre_inputs_finite.S4x4096x8 .f32) [Cert.Pre_inputs_finite.Facts]
    (h : Cert.Pre_inputs_finite.fn (F := Ideal) q k v lf = fun _ => 1#1) : Real' q ∧ Real' k ∧ Real' lf := by
  have h1 := congrFun h (fun a => a.elim0)
  unfold Cert.Pre_inputs_finite.fn at h1
  obtain ⟨h2, h5⟩ := (andi_one _ _).mp h1
  obtain ⟨h3, h4⟩ := (andi_one _ _).mp h2
  refine ⟨fun i => real_of_cmp _ ?_, fun i => real_of_cmp _ ?_, fun i => real_of_cmp _ ?_⟩
  · rw [← top_bits]; exact reduce_one (cmpf (F := Ideal) .olt (Host.absf q) (broadcastInDim S4x4096x1024 ![] Facts.bcast_S_S4x4096x1024 (constant S_ .f32 0x7F800000#32))) (constantI S_ 1 1#1) Facts.reducesTo_S4x4096x1024_S_d0_1_2 Facts.h_S_ (fun a => a.elim0) h3 i
  · rw [← top_bits]; exact reduce_one (cmpf (F := Ideal) .olt (Host.absf k) (broadcastInDim S4x4096x1024 ![] Facts.bcast_S_S4x4096x1024 (constant S_ .f32 0x7F800000#32))) (constantI S_ 1 1#1) Facts.reducesTo_S4x4096x1024_S_d0_1_2 Facts.h_S_ (fun a => a.elim0) h4 i
  · rw [← top_bits]; exact reduce_one (cmpf (F := Ideal) .olt (Host.absf lf) (broadcastInDim S4x4096x8 ![] Facts.bcast_S_S4x4096x8 (constant S_ .f32 0x7F800000#32))) (constantI S_ 1 1#1) Facts.reducesTo_S4x4096x8_S_d0_1_2 Facts.h_S_ (fun a => a.elim0) h5 i

end Cert.Fox.Pre

end
-- ==== Proof.Router.Alg.lean ====
/- The two experts a row of logits chooses: the greatest logit, then the greatest of the rest, each at the least index. -/
module

public import Idealize.ShloMosaic.Lib.Pointwise
public import Idealize.ShloMosaic.Lib.IdealHost

@[expose] public section

set_option maxRecDepth 16384

noncomputable section

namespace Cert.Rtr

open Idealize.ShloMosaic

/-- Expert `a` has the greatest logit, `b` the greatest of the others, each the first of those that share it. -/
structure Top (L : Fin 8 → EReal) (a b : Fin 8) : Prop where
  ne : b ≠ a
  le1 : ∀ e, L e ≤ L a
  fst1 : ∀ e, L e = L a → a ≤ e
  le2 : ∀ e, e ≠ a → L e ≤ L b
  fst2 : ∀ e, e ≠ a → L e = L b → b ≤ e

/-- The first of the greatest over a nonempty set. -/
theorem exists_first (L : Fin 8 → EReal) (s : Finset (Fin 8)) (hs : s.Nonempty) :
    ∃ a ∈ s, (∀ e ∈ s, L e ≤ L a) ∧ ∀ e ∈ s, L e = L a → a ≤ e := by
  obtain ⟨m, hm, hmax⟩ := s.exists_max_image L hs
  have hne : (s.filter fun e => L e = L m).Nonempty := ⟨m, Finset.mem_filter.2 ⟨hm, rfl⟩⟩
  obtain ⟨a, ha, hmin⟩ := (s.filter fun e => L e = L m).exists_min_image id hne
  have ha' := Finset.mem_filter.1 ha
  exact ⟨a, ha'.1, fun e he => ha'.2 ▸ hmax e he, fun e he h => hmin e (Finset.mem_filter.2 ⟨he, h.trans ha'.2⟩)⟩

theorem exists_top (L : Fin 8 → EReal) : ∃ a b, Top L a b := by
  obtain ⟨a, -, ha, ha'⟩ := exists_first L Finset.univ ⟨0, Finset.mem_univ _⟩
  have hne : (Finset.univ.erase a).Nonempty := by
    rw [← Finset.card_pos, Finset.card_erase_of_mem (Finset.mem_univ _)]; decide
  obtain ⟨b, hb, hb1, hb2⟩ := exists_first L (Finset.univ.erase a) hne
  exact ⟨a, b, (Finset.mem_erase.1 hb).1, fun e => ha e (Finset.mem_univ _), fun e => ha' e (Finset.mem_univ _),
    fun e he => hb1 e (Finset.mem_erase.2 ⟨he, Finset.mem_univ _⟩), fun e he => hb2 e (Finset.mem_erase.2 ⟨he, Finset.mem_univ _⟩)⟩

/-- A fold's value: one member that absorbs the start and every other member. -/
theorem fold_pick {α ι : Type} [Fintype ι] [DecidableEq ι] (op : α → α → α) [Std.Commutative op] [Std.Associative op] (b v : α) (g : ι → α) (j : ι)
    (hj : g j = v) (hb : op v b = v) (hk : ∀ k, op v (g k) = v) : Finset.univ.fold op b g = v := by
  have key : ∀ s : Finset ι, op v (s.fold op b g) = v := by
    intro s
    induction s using Finset.induction_on with
    | empty => simpa using hb
    | insert x s hx ih => rw [Finset.fold_insert hx, ← Std.Associative.assoc (op := op), hk, ih]
  rw [← Finset.insert_erase (Finset.mem_univ j), Finset.fold_insert (Finset.notMem_erase _ _), hj]
  exact key _

/-- The 128 lanes of a row: the logits, then minus infinity. -/
def lanes (L : Fin 8 → EReal) (k : Fin 128) : EReal := if h : k.val < 8 then L ⟨k.val, h⟩ else ⊥

abbrev up (e : Fin 8) : Fin 128 := ⟨e.val, by omega⟩

theorem up_inj {x : Fin 8} {k : Fin 128} (h : x.val = k.val) : k = up x := Fin.ext h.symm

theorem lanes_up (L : Fin 8 → EReal) (e : Fin 8) : lanes L (up e) = L e := dif_pos e.isLt

theorem lanes_le {L : Fin 8 → EReal} {a b : Fin 8} (h : Top L a b) (k : Fin 128) : lanes L k ≤ L a := by
  unfold lanes; split
  · exact h.le1 _
  · exact bot_le

theorem lanes_first {L : Fin 8 → EReal} {a b : Fin 8} (h : Top L a b) (hL : ∀ e, L e ≠ ⊥) (k : Fin 128) (hk : lanes L k = L a) : a.val ≤ k.val := by
  unfold lanes at hk; split at hk
  · exact h.fst1 _ hk
  · exact absurd hk.symm (hL a)

/-- The lanes without the first choice. -/
def rest (L : Fin 8 → EReal) (a : Fin 8) (k : Fin 128) : EReal := if k = up a then ⊥ else lanes L k

theorem rest_second {L : Fin 8 → EReal} {a b : Fin 8} (h : Top L a b) : rest L a (up b) = L b := by
  unfold rest
  have hn : up b ≠ up a := fun hh => h.ne (Fin.ext (Fin.mk.inj hh))
  rw [if_neg hn, lanes_up]

theorem rest_le {L : Fin 8 → EReal} {a b : Fin 8} (h : Top L a b) (k : Fin 128) : rest L a k ≤ L b := by
  unfold rest lanes
  split
  · exact bot_le
  · rename_i hne
    split
    · rename_i hk
      exact h.le2 ⟨k.val, hk⟩ (fun hh => hne (up_inj (congrArg Fin.val hh).symm))
    · exact bot_le

theorem rest_first {L : Fin 8 → EReal} {a b : Fin 8} (h : Top L a b) (hL : ∀ e, L e ≠ ⊥) (k : Fin 128) (hk : rest L a k = L b) : b.val ≤ k.val := by
  unfold rest lanes at hk
  split at hk
  · exact absurd hk.symm (hL b)
  · rename_i hne
    split at hk
    · rename_i hk'
      exact h.fst2 ⟨k.val, hk'⟩ (fun hh => hne (up_inj (congrArg Fin.val hh).symm)) hk
    · exact absurd hk.symm (hL b)

end Cert.Rtr

end
-- ==== Proof.Router.Norm.lean ====
/- A row divided by the root of its mean square is real wherever the gain is, whatever the row holds. -/
module

public import proofs.«01_k».proof.Proof.Router.Alg

@[expose] public section

set_option maxRecDepth 16384

noncomputable section

namespace Cert.Rtr

open Idealize.ShloMosaic

/-- A row divided by the root of its mean square, times the gain. -/
def nx (a g : Fin 2048 → EReal) (k : Fin 2048) : EReal :=
  a k * Ideal.rsqrt (Ideal.div (∑ j : Fin 2048, a j * a j) (Ideal.ofBits .f32 0x45000000#32) + Ideal.ofBits .f32 0x358637BD#32) * g k

theorem coe_sum' {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem len_bits : Ideal.ofBits .f32 0x45000000#32 = ((2048 : ℝ) : EReal) := by
  simp [Ideal.ofBits, Ideal.ieee]
  rw [← EReal.coe_mul]
  norm_num

theorem eps_bits : ∃ e : ℝ, 0 < e ∧ Ideal.ofBits .f32 0x358637BD#32 = (e : EReal) := by
  unfold Ideal.ofBits Ideal.ieee
  dsimp only
  rw [if_neg (by decide), if_neg (by decide)]
  refine ⟨_, ?_, rfl⟩
  rw [if_neg (by decide)]
  positivity

theorem sq_nonneg' (x : EReal) : 0 ≤ x * x := by
  induction x using EReal.rec with
  | bot => simp
  | top => simp
  | coe r => rw [← EReal.coe_mul]; exact_mod_cast mul_self_nonneg r

theorem real_or (x : EReal) : (∃ r : ℝ, x = r) ∨ x * x = ⊤ := by
  induction x using EReal.rec with
  | bot => right; simp
  | top => right; simp
  | coe r => exact .inl ⟨r, rfl⟩

theorem nx_real (a g : Fin 2048 → EReal) (hg : ∀ k, ∃ r : ℝ, g k = r) (k : Fin 2048) : ∃ r : ℝ, nx a g k = r := by
  obtain ⟨e, he, hee⟩ := eps_bits
  obtain ⟨gk, hgk⟩ := hg k
  unfold nx
  rw [hee, len_bits, hgk]
  have hdiv : ∀ x : EReal, Ideal.div x ((2048 : ℝ) : EReal) = x * (((2048 : ℝ)⁻¹ : ℝ) : EReal) := fun x => by
    unfold Ideal.div
    rw [if_neg (by norm_num), EReal.coe_inv]
  rw [hdiv]
  by_cases hall : ∀ j, ∃ r : ℝ, a j = r
  · choose r hr using hall
    have hs : (∑ j : Fin 2048, a j * a j) = ((∑ j : Fin 2048, r j * r j : ℝ) : EReal) := by
      rw [coe_sum']
      exact Finset.sum_congr rfl fun j _ => by rw [hr, EReal.coe_mul]
    have h0 : 0 ≤ ∑ j : Fin 2048, r j * r j := Finset.sum_nonneg fun j _ => mul_self_nonneg _
    have hp : 0 < (∑ j : Fin 2048, r j * r j) * (2048 : ℝ)⁻¹ + e := by positivity
    rw [hs, ← EReal.coe_mul, ← EReal.coe_add, hr]
    generalize (∑ j : Fin 2048, r j * r j) * (2048 : ℝ)⁻¹ + e = y at hp
    refine ⟨r k * (Real.sqrt y)⁻¹ * gk, ?_⟩
    show (r k : EReal) * (if y < 0 then ⊥ else if y = 0 then ⊤ else (((Real.sqrt y)⁻¹ : ℝ) : EReal)) * gk = _
    rw [if_neg (not_lt.2 hp.le), if_neg hp.ne', EReal.coe_mul, EReal.coe_mul]
  · push Not at hall
    obtain ⟨j, hj⟩ := hall
    have hj' : a j * a j = ⊤ := (real_or (a j)).resolve_left fun ⟨r, hr⟩ => hj r hr
    have hs : (∑ j : Fin 2048, a j * a j) = ⊤ := by
      refine top_le_iff.1 ?_
      rw [← hj']
      exact Finset.single_le_sum (f := fun j => a j * a j) (fun i _ => sq_nonneg' _) (Finset.mem_univ j)
    rw [hs, EReal.top_mul_coe_of_pos (by norm_num), EReal.top_add_coe]
    refine ⟨0, ?_⟩
    show a k * 0 * gk = _
    simp

/-- A sum of products of reals is real. -/
theorem dot_real (h w : Fin 2048 → EReal) (hh : ∀ k, ∃ r : ℝ, h k = r) (hw : ∀ k, ∃ r : ℝ, w k = r) : ∃ r : ℝ, ∑ k : Fin 2048, h k * w k = r := by
  choose a ha using hh
  choose b hb using hw
  refine ⟨∑ k, a k * b k, ?_⟩
  rw [coe_sum']
  exact Finset.sum_congr rfl fun j _ => by rw [ha, hb, EReal.coe_mul]

/-- The three products of the split words add up to the product itself. -/
theorem split_dot (h w w' : Fin 2048 → EReal) (hh : ∀ k, ∃ r : ℝ, h k = r) (hw : ∀ k, w' k = 0) :
    ((∑ k : Fin 2048, h k * w k) + ∑ k : Fin 2048, h k * w' k) + ∑ k : Fin 2048, (h k - h k) * w k = ∑ k : Fin 2048, h k * w k := by
  have e1 : (∑ k : Fin 2048, h k * w' k) = 0 := Finset.sum_eq_zero fun k _ => by rw [hw]; simp
  have e2 : (∑ k : Fin 2048, (h k - h k) * w k) = 0 := Finset.sum_eq_zero fun k _ => by
    obtain ⟨r, hr⟩ := hh k
    rw [hr, ← EReal.coe_sub, sub_self]; simp
  rw [e1, e2, add_zero, add_zero]

end Cert.Rtr

end
-- ==== Proof.Router.Pay.lean ====
/- The router: the body's words, read at an element. -/
module

public import proofs.«01_k».proof.Proof.Router.Norm
public import proofs.«01_k».proof.Proof.Gen.RouterIdeal.Frame
public import proofs.«01_k».proof.Proof.Gen.RouterIdeal.Skeleton

@[expose] public section

set_option maxRecDepth 16384

noncomputable section

namespace Cert.Rtr

open Idealize.ShloMosaic Idealize.ShloMosaic.TcCoe Cert.RouterIdeal Cert.RouterIdeal.Gen

/-- The lanes' numbers. -/
def io : IVec S512x128 32 := iota .tc S512x128 32 [1] iota_S512x128_d1_w32

/-- Every row's maximum. -/
def mx (z : FVec Ideal S512x128 .f32) : FVec Ideal S512x1 .f32 :=
  shapeCast S512x1 (multiReduction (F := Ideal) .maximumf [1] S512 z 0xFF800000#32 reduces_S512x128_S512 (.inl rfl) rfl) shapeCasts_S512_S512x1

/-- Every row's first lane that equals the given word. -/
def fl (z : FVec Ideal S512x128 .f32) (m : FVec Ideal S512x1 .f32) : IVec S512x1 32 :=
  shapeCast S512x1 (multiReductionI .minsi [1] S512 (select (cmpf (F := Ideal) .oeq z (broadcastTo S512x128 m broadcasts_S512x1_S512x128)) io (broadcast S512x128 128#32))
    2147483647#32 reduces_S512x128_S512 rfl) shapeCasts_S512_S512x1

/-- The lanes with one overwritten. -/
def ko (z : FVec Ideal S512x128 .f32) (i : IVec S512x1 32) : FVec Ideal S512x128 .f32 :=
  select (cmpi .eq io (broadcastTo S512x128 i broadcasts_S512x1_S512x128)) (broadcast S512x128 (Named.named (F := Ideal) κ "mask" 0xF149F2CA#32 : Ideal .f32)) z

/-- The exponential of the second maximum less the first, and the first weight. -/
def ex (m1 m2 : FVec Ideal S512x1 .f32) : FVec Ideal S512x1 .f32 := exp (subf m2 m1)
def wt (m1 m2 : FVec Ideal S512x1 .f32) : FVec Ideal S512x1 .f32 :=
  divf (broadcast S512x1 (Scalar.ofBits .f32 0x3F800000#32 : Ideal .f32)) (addf (broadcast S512x1 (Scalar.ofBits .f32 0x3F800000#32 : Ideal .f32)) (ex m1 m2))

/-- A word broadcast over the lanes, put where the lane's number is the given one. -/
def put (n : BitVec 32) (v : FVec Ideal S512x1 .f32) (o : FVec Ideal S512x128 .f32) : FVec Ideal S512x128 .f32 :=
  select (cmpi .eq io (broadcast S512x128 n)) (broadcastTo S512x128 (shapeCast S512x1 v shapeCasts_S512x1_S512x1) broadcasts_S512x1_S512x128) o

/-- The table's row from the two indices and maxima. -/
def tab (i1 i2 : IVec S512x1 32) (m1 m2 : FVec Ideal S512x1 .f32) : FVec Ideal S512x128 .f32 :=
  put 0#32 (sitofp .f32 i1) (put 1#32 (sitofp .f32 i2) (put 2#32 (wt m1 m2) (put 3#32 (mulf (ex m1 m2) (wt m1 m2))
    (broadcast S512x128 (Scalar.ofBits .f32 0x00000000#32 : Ideal .f32)))))

theorem pay4_eq (z : FVec Ideal S512x128 .f32) :
    k0_pay4 (F := Ideal) io z (mx z) (cmpf (F := Ideal) .oeq z (broadcastTo S512x128 (mx z) broadcasts_S512x1_S512x128))
      = tab (fl z (mx z)) (fl (ko z (fl z (mx z))) (mx (ko z (fl z (mx z))))) (mx z) (mx (ko z (fl z (mx z)))) := rfl

theorem bot_bits : Ideal.ofBits .f32 0xFF800000#32 = (⊥ : EReal) := by
  unfold Ideal.ofBits Ideal.ieee
  dsimp only
  rw [if_pos (by decide), if_pos (by decide), if_pos (by decide)]

theorem named_bot : (Named.named (F := Ideal) κ "mask" 0xF149F2CA#32 : Ideal .f32) = (⊥ : EReal) := rfl

theorem sel_eq {α : Type} (x y : BitVec 32) (a b : α) : Scalar.select (IntOp.cmpi .eq x y) a b = if x = y then a else b := by
  unfold Scalar.select IntOp.cmpi
  by_cases h : x = y
  · subst h; simp
  · rw [if_neg h]
    have hb : (x == y) = false := by simpa using h
    simp [hb]

theorem io_at (r : Fin 512) (k : Fin 128) : io (ix2 r k) = BitVec.ofNat 32 k.val := by
  unfold io
  pointwise

theorem mx_at (z : FVec Ideal S512x128 .f32) (r : Fin 512) : mx z (ix2 r 0) = Finset.univ.fold max ⊥ (fun k : Fin 128 => z (ix2 r k)) := by
  unfold mx
  pointwise
  rw [bot_bits]

theorem fl_at (z : FVec Ideal S512x128 .f32) (m : FVec Ideal S512x1 .f32) (r : Fin 512) :
    fl z m (ix2 r 0) = Finset.univ.fold IntOp.minsi 2147483647#32 (fun k : Fin 128 => if z (ix2 r k) = m (ix2 r 0) then BitVec.ofNat 32 k.val else 128#32) := by
  unfold fl io
  pointwise

theorem ko_at (z : FVec Ideal S512x128 .f32) (i : IVec S512x1 32) (r : Fin 512) (k : Fin 128) :
    ko z i (ix2 r k) = if BitVec.ofNat 32 k.val = i (ix2 r 0) then ⊥ else z (ix2 r k) := by
  unfold ko io
  pointwise
  rw [sel_eq]
  exact congrArg (fun t => ite _ t _) named_bot

theorem ex_at (m1 m2 : FVec Ideal S512x1 .f32) (r : Fin 512) : ex m1 m2 (ix2 r 0) = Ideal.exp (m2 (ix2 r 0) - m1 (ix2 r 0)) := by
  unfold ex
  pointwise

theorem wt_at (m1 m2 : FVec Ideal S512x1 .f32) (r : Fin 512) : wt m1 m2 (ix2 r 0) = Ideal.div 1 (1 + ex m1 m2 (ix2 r 0)) := by
  unfold wt
  generalize ex m1 m2 = e
  pointwise

theorem put_at (n : BitVec 32) (v : FVec Ideal S512x1 .f32) (o : FVec Ideal S512x128 .f32) (r : Fin 512) (k : Fin 128) :
    put n v o (ix2 r k) = if BitVec.ofNat 32 k.val = n then v (ix2 r 0) else o (ix2 r k) := by
  unfold put io
  pointwise
  rw [sel_eq]

theorem min_le : ∀ a : Fin 8, ∀ k : Fin 129, a.val ≤ k.val → IntOp.minsi (BitVec.ofNat 32 a.val) (BitVec.ofNat 32 k.val) = BitVec.ofNat 32 a.val := by
  decide +kernel

theorem min_top : ∀ a : Fin 8, IntOp.minsi (BitVec.ofNat 32 a.val) 2147483647#32 = BitVec.ofNat 32 a.val := by
  decide +kernel

/-- The maximum over the lanes, at the lane that has it. -/
theorem mx_pick (z : FVec Ideal S512x128 .f32) (r : Fin 512) (j : Fin 128) (h : ∀ k, z (ix2 r k) ≤ z (ix2 r j)) :
    mx z (ix2 r 0) = z (ix2 r j) := by
  rw [mx_at]
  exact fold_pick max ⊥ _ _ j rfl (max_eq_left bot_le) fun k => max_eq_left (h k)

/-- The first lane that has the maximum. -/
theorem fl_pick (z : FVec Ideal S512x128 .f32) (m : FVec Ideal S512x1 .f32) (r : Fin 512) (a : Fin 8) (ha : z (ix2 r (up a)) = m (ix2 r 0))
    (h : ∀ k : Fin 128, z (ix2 r k) = m (ix2 r 0) → a.val ≤ k.val) : fl z m (ix2 r 0) = BitVec.ofNat 32 a.val := by
  rw [fl_at]
  refine fold_pick IntOp.minsi _ _ _ (up a) (if_pos ha) (min_top a) fun k => ?_
  by_cases hk : z (ix2 r k) = m (ix2 r 0)
  · rw [if_pos hk]; exact min_le a ⟨k.val, by omega⟩ (h k hk)
  · rw [if_neg hk]; exact min_le a ⟨128, by omega⟩ (by show a.val ≤ 128; omega)

theorem ofNat_eq (k : Fin 128) (n : ℕ) (hn : n < 128) : (BitVec.ofNat 32 k.val = BitVec.ofNat 32 n) ↔ k.val = n := by
  constructor
  · intro h
    have := congrArg BitVec.toNat h
    simp only [BitVec.toNat_ofNat] at this
    omega
  · intro h; rw [h]

/-- The weight of the second choice, before it is normalised. -/
def ez (L : Fin 8 → EReal) (a b : Fin 8) : EReal := Ideal.exp (L b - L a)

/-- A row of the table: the two choices, their weights, then zeros. -/
def row (L : Fin 8 → EReal) (a b : Fin 8) (k : Fin 128) : EReal :=
  if k.val = 0 then ((FloatOps.sitofp .f32 (BitVec.ofNat 32 a.val) : Ideal .f32) : EReal) else
  if k.val = 1 then ((FloatOps.sitofp .f32 (BitVec.ofNat 32 b.val) : Ideal .f32) : EReal) else
  if k.val = 2 then Ideal.div 1 (1 + ez L a b) else
  if k.val = 3 then ez L a b * Ideal.div 1 (1 + ez L a b) else 0

theorem ko_at' {L : Fin 8 → EReal} {a : Fin 8} (z : FVec Ideal S512x128 .f32) (i : IVec S512x1 32) (r : Fin 512)
    (hz : ∀ k, z (ix2 r k) = lanes L k) (hi : i (ix2 r 0) = BitVec.ofNat 32 a.val) (k : Fin 128) : ko z i (ix2 r k) = rest L a k := by
  rw [ko_at, hi, hz]
  unfold rest
  by_cases h : k = up a
  · rw [if_pos h, if_pos (by rw [h])]
  · rw [if_neg h, if_neg (fun hh => h (Fin.ext ((ofNat_eq k a.val (by omega)).1 hh)))]

theorem tab_at (i1 i2 : IVec S512x1 32) (m1 m2 : FVec Ideal S512x1 .f32) (r : Fin 512) (L : Fin 8 → EReal) (a b : Fin 8)
    (h1 : i1 (ix2 r 0) = BitVec.ofNat 32 a.val) (h2 : i2 (ix2 r 0) = BitVec.ofNat 32 b.val) (h3 : m1 (ix2 r 0) = L a) (h4 : m2 (ix2 r 0) = L b) (k : Fin 128) :
    tab i1 i2 m1 m2 (ix2 r k) = row L a b k := by
  have e1 : sitofp (F := Ideal) .f32 i1 (ix2 r 0) = (FloatOps.sitofp .f32 (BitVec.ofNat 32 a.val) : Ideal .f32) := by rw [← h1]; rfl
  have e2 : sitofp (F := Ideal) .f32 i2 (ix2 r 0) = (FloatOps.sitofp .f32 (BitVec.ofNat 32 b.val) : Ideal .f32) := by rw [← h2]; rfl
  have e4 : mulf (ex m1 m2) (wt m1 m2) (ix2 r 0) = ex m1 m2 (ix2 r 0) * wt m1 m2 (ix2 r 0) := rfl
  have e5 : (broadcast S512x128 (Scalar.ofBits .f32 0x00000000#32 : Ideal .f32)) (ix2 r k) = (0 : EReal) := by pointwise
  unfold tab row ez
  simp only [put_at]
  rw [e1, e2, e4, e5, wt_at, ex_at, h3, h4]
  simp only [ofNat_eq k _ (by omega : (0 : ℕ) < 128), ofNat_eq k _ (by omega : (1 : ℕ) < 128), ofNat_eq k _ (by omega : (2 : ℕ) < 128), ofNat_eq k _ (by omega : (3 : ℕ) < 128)]

/-- The table's row, from a row of logits. -/
theorem pay4_at (z : FVec Ideal S512x128 .f32) (r : Fin 512) (L : Fin 8 → EReal) (a b : Fin 8) (hT : Top L a b) (hL : ∀ e, L e ≠ ⊥)
    (hz : ∀ k, z (ix2 r k) = lanes L k) (k : Fin 128) :
    k0_pay4 (F := Ideal) io z (mx z) (cmpf (F := Ideal) .oeq z (broadcastTo S512x128 (mx z) broadcasts_S512x1_S512x128)) (ix2 r k) = row L a b k := by
  rw [pay4_eq]
  have hm1 : mx z (ix2 r 0) = L a := by
    rw [mx_pick z r (up a) (fun k => by rw [hz, hz, lanes_up]; exact lanes_le hT k), hz, lanes_up]
  have hi1 : fl z (mx z) (ix2 r 0) = BitVec.ofNat 32 a.val :=
    fl_pick z _ r a (by rw [hm1, hz, lanes_up]) fun k hk => lanes_first hT hL k (by rw [← hz, hk, hm1])
  have hk := ko_at' z _ r hz hi1
  have hm2 : mx (ko z (fl z (mx z))) (ix2 r 0) = L b := by
    rw [mx_pick _ r (up b) (fun k => by rw [hk, hk, rest_second hT]; exact rest_le hT k), hk, rest_second hT]
  have hi2 : fl (ko z (fl z (mx z))) (mx (ko z (fl z (mx z)))) (ix2 r 0) = BitVec.ofNat 32 b.val :=
    fl_pick _ _ r b (by rw [hm2, hk, rest_second hT]) fun k hk' => rest_first hT hL k (by rw [← hk, hk', hm2])
  exact tab_at _ _ _ _ r L a b hi1 hi2 hm1 hm2 k

theorem lt_eight : ∀ k : Fin 128, IntOp.cmpi .slt (BitVec.ofNat 32 k.val) 8#32 = if k.val < 8 then 1#1 else 0#1 := by
  decide +kernel

/-- The masked logits. -/
theorem pay1_at (x : FVec Ideal S512x2048 .f32) (g : FVec Ideal S1x2048 .f32) (w w' w'' : FVec Ideal S2048x128 .bf16) (r : Fin 512) (k : Fin 128) :
    k0_pay1 (F := Ideal) x g w w' w'' (ix2 r k) = if k.val < 8 then
      (((∑ j : Fin 2048, nx (fun j => x (ix2 r j)) (fun j => g (ix2 0 j)) j * w (ix2 j k))
        + ∑ j : Fin 2048, nx (fun j => x (ix2 r j)) (fun j => g (ix2 0 j)) j * w' (ix2 j k))
        + ∑ j : Fin 2048, (nx (fun j => x (ix2 r j)) (fun j => g (ix2 0 j)) j - nx (fun j => x (ix2 r j)) (fun j => g (ix2 0 j)) j) * w'' (ix2 j k) : EReal) else ⊥ := by
  unfold nx
  pointwise [k0_pay1]
  rw [lt_eight]
  by_cases h : k.val < 8
  · rw [if_pos h, if_pos h]; rfl
  · rw [if_neg h, if_neg h]; exact named_bot

end Cert.Rtr

end
-- ==== Proof.Router.Top.lean ====
/- The two greatest of a row, as a stable sort leaves them. -/
module

public import proofs.«01_k».proof.Proof.Router.Alg
public import Idealize.ShloMosaic.Lib.SortPrefix

@[expose] public section

namespace Cert.Rtr

open Idealize.ShloMosaic

/-- Over a row in rising order, a stable sort puts equal entries in that order. -/
theorem sort_tie {n : Nat} (B R : Fin n → Fin n → Bool) (h : ∀ a b, a < b → B b a = R b a) (l : List (Fin n)) (hl : l.Pairwise (· < ·)) :
    stableSort B l = stableSort R l := by
  induction l with
  | nil => rfl
  | cons a l ih =>
    rw [List.pairwise_cons] at hl
    unfold stableSort
    rw [ih hl.2]
    exact insertBefore_congr B R a _ fun b hb => h a b (hl.1 b ((perm_stableSort R l).mem_iff.mp hb))

theorem from_tie {n : Nat} (B R : Fin n → Fin n → Bool) (h : ∀ a b, a < b → B b a = R b a) : sortedFrom B = sortedFrom R := by
  funext k
  have e : sortPositions n B = sortPositions n R := sort_tie B R h _ (List.pairwise_lt_finRange n)
  unfold sortedFrom
  rw [List.get_of_eq e]
  rfl

/-- Greater logit first, then the lower index. -/
noncomputable def firstly (L : Fin 8 → EReal) (k k' : Fin 8) : Bool := by
  classical exact decide (L k' < L k) || (decide (L k = L k') && decide (k < k'))

theorem firstly_total (L : Fin 8 → EReal) : StrictTotalBefore (firstly L) := by
  classical
  refine StrictTotalBefore.of_key_then_position (fun x y : EReal => decide (y < x)) L ?_ ?_ ?_
  · intro x; simp
  · intro x y z h1 h2
    simp only [decide_eq_true_eq] at *
    exact h2.trans h1
  · intro x y
    simp only [decide_eq_true_eq]
    rcases lt_trichotomy x y with h | h | h
    · exact .inr (.inr h)
    · exact .inr (.inl h)
    · exact .inl h

theorem not_firstly {L : Fin 8 → EReal} {p a : Fin 8} (h : L p ≤ L a) (h' : L p = L a → a ≤ p) : firstly L p a = false := by
  classical
  unfold firstly
  rw [decide_eq_false (not_lt.2 h), Bool.false_or]
  by_cases e : L p = L a
  · rw [decide_eq_false (not_lt.2 (h' e)), Bool.and_false]
  · rw [decide_eq_false e, Bool.false_and]

/-- The sort by the greater logit has the row's two choices at its head. -/
theorem sorted_top {L : Fin 8 → EReal} {a b : Fin 8} (h : Top L a b) (B : Fin 8 → Fin 8 → Bool) (hB : ∀ k k', B k k' = true ↔ L k' < L k) :
    sortedFrom B 0 = a ∧ sortedFrom B 1 = b := by
  classical
  have e : sortedFrom B = sortedFrom (firstly L) := from_tie _ _ fun x y hxy => by
    rw [Bool.eq_iff_iff, hB]
    unfold firstly
    simp [not_lt.2 hxy.le]
  have hp := (firstly_total L).sortedFrom_eq_of_prefix (k := 2) (by decide) ![a, b] ?_ ?_ ?_
  · rw [e]; exact ⟨hp 0, hp 1⟩
  · intro i j hij
    fin_cases i <;> fin_cases j
    · rfl
    · exact absurd hij.symm h.ne
    · exact absurd hij h.ne
    · rfl
  · intro i j hij
    fin_cases i <;> fin_cases j
    · exact absurd hij (by decide)
    · exact not_firstly (h.le1 b) (h.fst1 b)
    · exact absurd hij (by decide)
    · exact absurd hij (by decide)
  · intro i p hp
    have ha : p ≠ a := fun q => hp 0 q.symm
    fin_cases i
    · exact not_firstly (h.le1 p) (h.fst1 p)
    · exact not_firstly (h.le2 p ha) (h.fst2 p ha)

end Cert.Rtr
-- ==== Proof.Router.Ref.lean ====
/- The router: what the reference computes, at an index. -/
module

public import proofs.«01_k».proof.Proof.Router.Pay
public import proofs.«01_k».proof.Proof.Router.Top
public import proofs.«01_k».proof.Proof.Gen.RouterRefIdeal.Run
public import proofs.«01_k».proof.Proof.Gen.RouterRefIdeal.Read

@[expose] public section

set_option maxRecDepth 16384

noncomputable section

namespace Cert.Rtr

open Idealize.ShloMosaic Idealize.ShloMosaic.TcCoe Cert.RouterRefIdeal Cert.RouterRefIdeal.Gen Cert.RouterRefIdeal.Read

/-- A flat row splits into its batch entry and its position. -/
abbrev bat (R : Fin 16384) : Fin 4 := ⟨R.val / 4096, by omega⟩
abbrev pos (R : Fin 16384) : Fin 4096 := ⟨R.val % 4096, by omega⟩

/-- The normalised row of a batch entry and a position. -/
abbrev nrw (X : FVec Ideal S4x4096x2048 .f32) (g : FVec Ideal S2048 .f32) (b : Fin 4) (s : Fin 4096) : Fin 2048 → EReal :=
  nx (fun j => X (ix3 b s j)) (fun j => g (ix1 j))

/-- The logit of an expert at a flat row. -/
def logit (X : FVec Ideal S4x4096x2048 .f32) (g : FVec Ideal S2048 .f32) (W : FVec Ideal S2048x8 .f32) (R : Fin 16384) (e : Fin 8) : EReal :=
  ∑ k : Fin 2048, nrw X g (bat R) (pos R) k * W (ix2 k e)

variable (X : FVec Ideal S4x4096x2048 .f32) (g : FVec Ideal S2048 .f32) (W : FVec Ideal S2048x8 .f32)

theorem ref_n (b : Fin 4) (s : Fin 4096) (k : Fin 2048) :
    val_main_v12 (F := Ideal) X g (ix3 b s k) = nrw X g b s k := by
  have hg : val_main_v11 (F := Ideal) g (ix3 b s k) = g (ix1 k) := by
    rw [val_main_v11_apply, val_main_v10_apply]
    exact congrArg g (funext fun a => by fin_cases a; rfl)
  have hs : (∑ j : Fin 2048, val_main_v0 (F := Ideal) X (idx_main_v1 (idx_main_v2 (idx_main_v8 (ix3 b s k))) j)) = ∑ j : Fin 2048, (X (ix3 b s j) * X (ix3 b s j) : EReal) := by
    refine Finset.sum_congr rfl fun j _ => ?_
    have e : idx_main_v1 (idx_main_v2 (idx_main_v8 (ix3 b s k))) j = ix3 b s j := funext fun a => by fin_cases a <;> rfl
    rw [e]; rfl
  rw [val_main_v12_apply, val_main_v9_apply, val_main_v8_apply, val_main_v7_apply, val_main_v6_apply, val_main_v5_apply, val_main_cst_1_apply, val_main_v4_apply, val_main_v3_apply, val_main_cst_0_apply, val_main_v2_apply, val_main_v1_apply, val_main_cst_apply, hg, hs]
  pointwise
  rfl

theorem ref_14 (R : Fin 16384) (e : Fin 8) : val_main_v14 (F := Ideal) X g W (ix2 R e) = logit X g W R e := by
  rw [val_main_v14_apply]
  refine Finset.sum_congr rfl fun k _ => congrArg₂ (· * ·) ?_ ?_
  · rw [val_main_v13_apply, ← ref_n]
    refine congrArg _ (funext fun a => ?_)
    fin_cases a <;> apply Fin.ext
    · show (R.val * 2048 + k.val) / 8388608 = R.val / 4096; omega
    · show (R.val * 2048 + k.val) / 2048 % 4096 = R.val % 4096; omega
    · show (R.val * 2048 + k.val) % 2048 = k.val; omega
  · exact congrArg W (funext fun a => by fin_cases a <;> rfl)

theorem zero_bits : (FloatOps.ofBits .f32 0x00000000#32 : Ideal .f32) = (0 : EReal) := by
  show Ideal.ofBits .f32 0x00000000#32 = 0
  simp [Ideal.ofBits, Ideal.ieee]

/-- An expert's number as a word. -/
abbrev num (e : Fin 8) : EReal := ((FloatOps.sitofp .f32 (BitVec.ofNat 32 e.val) : Ideal .f32) : EReal)

variable {X g W}

theorem along_row (R : Fin 16384) (j k : Fin 8) : Shape.Idx.along (s := S16384x8) (ix2 R j) 1 k = ix2 R k := by
  funext a
  fin_cases a <;> rfl

theorem gt_iff (x y : Ideal .f32) : (FloatOps.cmpfTotal .gt x y == 1#1) = true ↔ (y : EReal) < x := by
  rw [Ideal.cmpfTotal_def, beq_iff_eq]
  show BitVec.ofBool (decide ((y : EReal) < x)) = 1#1 ↔ _
  by_cases h : (y : EReal) < x <;> simp [h]

theorem slice_at {α : Type} (y : S16384x8.Idx → α) (R : Fin 16384) (j : Fin 2) :
    extractStridedSlice S16384x2 (fun _ => 0) y sliceFits_S16384x8_S16384x2 (ix2 R j) = y (ix2 R (j.castLE (by decide))) := by
  unfold extractStridedSlice
  exact congrArg y (funext fun a => by fin_cases a <;> exact Fin.ext (Nat.zero_add _))

/-- The positions along a row. -/
abbrev num8 : IVec S16384x8 32 := fun i => if hd : 1 < S16384x8.rank then iotaInDim S16384x8 32 ⟨1, hd⟩ i else 0#32

theorem num8_at (R : Fin 16384) (e : Fin 8) : num8 (ix2 R e) = BitVec.ofNat 32 e.val := by
  have hd : (1 : Nat) < S16384x8.rank := by decide
  show (if hd : 1 < S16384x8.rank then iotaInDim S16384x8 32 ⟨1, hd⟩ (ix2 R e) else 0#32) = _
  rw [dif_pos hd]
  rfl

/-- The two greatest of a row and their positions. -/
theorem topK_at (x : FVec Ideal S16384x8 .f32) (R : Fin 16384) (L : Fin 8 → EReal) (hx : ∀ e, x (ix2 R e) = L e) {a b : Fin 8} (h : Top L a b) :
    ((Host.topK S16384x2 1 (FloatOps.cmpfTotal .gt) x sliceFits_S16384x8_S16384x2).1 (ix2 R 0) = L a ∧ (Host.topK S16384x2 1 (FloatOps.cmpfTotal .gt) x sliceFits_S16384x8_S16384x2).1 (ix2 R 1) = L b)
      ∧ (Host.topK S16384x2 1 (FloatOps.cmpfTotal .gt) x sliceFits_S16384x8_S16384x2).2 (ix2 R 0) = BitVec.ofNat 32 a.val
      ∧ (Host.topK S16384x2 1 (FloatOps.cmpfTotal .gt) x sliceFits_S16384x8_S16384x2).2 (ix2 R 1) = BitVec.ofNat 32 b.val := by
  have hd : (1 : Nat) < S16384x8.rank := by decide
  have hs : ∀ j : Fin 8, sortedFrom (fun k k' : Fin 8 => FloatOps.cmpfTotal (F := Ideal) (φ := .f32) .gt (x (Shape.Idx.along (s := S16384x8) (ix2 R j) 1 k)) (x (Shape.Idx.along (s := S16384x8) (ix2 R j) 1 k')) == 1#1) 0 = a
      ∧ sortedFrom (fun k k' : Fin 8 => FloatOps.cmpfTotal (F := Ideal) (φ := .f32) .gt (x (Shape.Idx.along (s := S16384x8) (ix2 R j) 1 k)) (x (Shape.Idx.along (s := S16384x8) (ix2 R j) 1 k')) == 1#1) 1 = b := fun j =>
    sorted_top h _ fun k k' => by rw [along_row, along_row, hx, hx]; exact gt_iff _ _
  have hv : ∀ j : Fin 8, (Host.sort2 S16384x8 1 (fun l r : Ideal .f32 × BitVec 32 => FloatOps.cmpfTotal .gt l.1 r.1) x (num8)).1 (ix2 R j)
      = x (ix2 R (sortedFrom (fun k k' : Fin 8 => FloatOps.cmpfTotal (F := Ideal) (φ := .f32) .gt (x (Shape.Idx.along (s := S16384x8) (ix2 R j) 1 k)) (x (Shape.Idx.along (s := S16384x8) (ix2 R j) 1 k')) == 1#1) j)) := fun j => by
    unfold Host.sort2
    rw [dif_pos hd]
    exact congrArg x (along_row R j _)
  have hi : ∀ j : Fin 8, (Host.sort2 S16384x8 1 (fun l r : Ideal .f32 × BitVec 32 => FloatOps.cmpfTotal .gt l.1 r.1) x (num8)).2 (ix2 R j)
      = BitVec.ofNat 32 (sortedFrom (fun k k' : Fin 8 => FloatOps.cmpfTotal (F := Ideal) (φ := .f32) .gt (x (Shape.Idx.along (s := S16384x8) (ix2 R j) 1 k)) (x (Shape.Idx.along (s := S16384x8) (ix2 R j) 1 k')) == 1#1) j).val := fun j => by
    unfold Host.sort2
    rw [dif_pos hd]
    exact (congrArg num8 (along_row R j _)).trans (num8_at R _)
  refine ⟨⟨?_, ?_⟩, ?_, ?_⟩
  · exact (slice_at _ R 0).trans ((hv 0).trans (by rw [(hs 0).1]; exact hx a))
  · exact (slice_at _ R 1).trans ((hv 1).trans (by rw [(hs 1).2]; exact hx b))
  · exact (slice_at _ R 0).trans ((hi 0).trans (by rw [(hs 0).1]))
  · exact (slice_at _ R 1).trans ((hi 1).trans (by rw [(hs 1).2]))

theorem val_0 {R : Fin 16384} {a b : Fin 8} (h : Top (logit X g W R) a b) : val_main_values (F := Ideal) X g W (ix2 R 0) = logit X g W R a :=
  (topK_at _ R _ (ref_14 X g W R) h).1.1
theorem val_1 {R : Fin 16384} {a b : Fin 8} (h : Top (logit X g W R) a b) : val_main_values (F := Ideal) X g W (ix2 R 1) = logit X g W R b :=
  (topK_at _ R _ (ref_14 X g W R) h).1.2
theorem ind_0 {R : Fin 16384} {a b : Fin 8} (h : Top (logit X g W R) a b) : val_main_v26 (F := Ideal) X g W (ix2 R 0) = num a := by
  rw [val_main_v26_apply]
  exact congrArg _ (topK_at _ R _ (ref_14 X g W R) h).2.1
theorem ind_1 {R : Fin 16384} {a b : Fin 8} (h : Top (logit X g W R) a b) : val_main_v26 (F := Ideal) X g W (ix2 R 1) = num b := by
  rw [val_main_v26_apply]
  exact congrArg _ (topK_at _ R _ (ref_14 X g W R) h).2.2

theorem max2 (y : FVec Ideal S16384x2 .f32) (R : Fin 16384) (h : (y (ix2 R 1) : EReal) ≤ y (ix2 R 0)) :
    Host.reduce FloatOps.maximumf y (val_main_cst_2 (F := Ideal)) reducesTo_S16384x2_S16384_d1 h_S_ (ix1 R) = y (ix2 R 0) := by
  unfold val_main_cst_2
  pointwise
  rw [bot_bits]
  refine fold_pick max ⊥ _ _ 0 rfl (max_eq_left bot_le) fun k => max_eq_left ?_
  fin_cases k
  · exact le_refl _
  · exact h

theorem table_at (A B : FVec Ideal S16384x2 .f32) (C : FVec Ideal S16384x124 .f32) (hC : ∀ i, C i = (0 : EReal)) (R : Fin 16384) (k : Fin 128) :
    concatenate S16384x128 1 [⟨S16384x2, A⟩, ⟨S16384x2, B⟩, ⟨S16384x124, C⟩] concatenates_S16384x2_S16384x2_S16384x124_S16384x128_d1 (ix2 R k)
      = if k.val = 0 then A (ix2 R 0) else if k.val = 1 then A (ix2 R 1) else if k.val = 2 then B (ix2 R 0) else if k.val = 3 then B (ix2 R 1) else (0 : EReal) := by
  pointwise
  by_cases h0 : k.val = 0
  · rw [if_pos h0, dif_pos (by omega)]; exact congrArg A (congrArg (ix2 R) (Fin.ext h0))
  rw [if_neg h0]
  by_cases h1 : k.val = 1
  · rw [if_pos h1, dif_pos (by omega)]; exact congrArg A (congrArg (ix2 R) (Fin.ext h1))
  rw [if_neg h1, dif_neg (by omega)]
  by_cases h2 : k.val = 2
  · rw [if_pos h2, dif_pos (by omega)]; exact congrArg B (congrArg (ix2 R) (Fin.ext (by show k.val - 2 = 0; omega)))
  rw [if_neg h2]
  by_cases h3 : k.val = 3
  · rw [if_pos h3, dif_pos (by omega)]; exact congrArg B (congrArg (ix2 R) (Fin.ext (by show k.val - 2 = 1; omega)))
  rw [if_neg h3, dif_neg (by omega)]
  exact hC _

theorem one_add_exp_ne (r : ℝ) : (1 : EReal) + Ideal.exp (r : EReal) ≠ 0 := by
  show (1 : EReal) + ((Real.exp r : ℝ) : EReal) ≠ 0
  rw [← EReal.coe_one, ← EReal.coe_add]
  have : (1 : ℝ) + Real.exp r ≠ 0 := by positivity
  exact_mod_cast this

theorem exp_zero' : Ideal.exp (0 : EReal) = 1 := by
  show ((Real.exp 0 : ℝ) : EReal) = 1
  simp

/-- The reference's row of the table. -/
theorem ref_28 {R : Fin 16384} {a b : Fin 8} (h : Top (logit X g W R) a b) (hL : ∀ e, ∃ r : ℝ, logit X g W R e = r) (k : Fin 128) :
    val_main_v28 (F := Ideal) X g W (ix2 R k) = row (logit X g W R) a b k := by
  obtain ⟨ra, hra⟩ := hL a
  obtain ⟨rb, hrb⟩ := hL b
  have h0 := val_0 h
  have h1 := val_1 h
  have h55 : val_main_v15 (F := Ideal) X g W (ix1 R) = logit X g W R a := by
    unfold val_main_v15
    rw [max2 _ R (by rw [h0, h1]; exact h.le1 b), h0]
  have h57 : val_main_v17 (F := Ideal) X g W (ix1 R) = logit X g W R a := by
    rw [val_main_v17_apply, h55, val_main_v16_apply, val_main_cst_3_apply]
    show max (Ideal.ofBits .f32 0xFF800000#32) _ = _
    rw [bot_bits]
    exact max_eq_right bot_le
  have h59 : ∀ j : Fin 2, val_main_v19 (F := Ideal) X g W (ix2 R j) = logit X g W R a := fun j => by
    rw [val_main_v19_apply, val_main_v18_apply, ← h57]
    exact congrArg _ (funext fun a => by fin_cases a; rfl)
  have h61 : val_main_v21 (F := Ideal) X g W (ix2 R 0) = (1 : EReal) := by
    rw [val_main_v21_apply, val_main_v20_apply, h0, h59]
    show Ideal.exp (logit X g W R a - logit X g W R a) = 1
    rw [hra, ← EReal.coe_sub, sub_self]
    exact exp_zero'
  have h61' : val_main_v21 (F := Ideal) X g W (ix2 R 1) = ez (logit X g W R) a b := by
    rw [val_main_v21_apply, val_main_v20_apply, h1, h59]
    rfl
  have h62 : val_main_v22 (F := Ideal) X g W (ix1 R) = 1 + ez (logit X g W R) a b := by
    rw [val_main_v22_apply, val_main_cst_4_apply, zero_bits, zero_add, Fin.sum_univ_two, ← h61, ← h61']
    exact congrArg₂ (· + ·) (congrArg _ (funext fun a => by fin_cases a <;> rfl)) (congrArg _ (funext fun a => by fin_cases a <;> rfl))
  have h64 : ∀ j : Fin 2, val_main_v24 (F := Ideal) X g W (ix2 R j) = 1 + ez (logit X g W R) a b := fun j => by
    rw [val_main_v24_apply, val_main_v23_apply, ← h62]
    exact congrArg _ (funext fun a => by fin_cases a; rfl)
  have hne : (1 : EReal) + ez (logit X g W R) a b ≠ 0 := by
    unfold ez
    rw [hra, hrb, ← EReal.coe_sub]
    exact one_add_exp_ne _
  have h65 : val_main_v25 (F := Ideal) X g W (ix2 R 0) = Ideal.div 1 (1 + ez (logit X g W R) a b) := by
    rw [val_main_v25_apply, h61, h64]; rfl
  have h65' : val_main_v25 (F := Ideal) X g W (ix2 R 1) = ez (logit X g W R) a b * Ideal.div 1 (1 + ez (logit X g W R) a b) := by
    rw [val_main_v25_apply, h61', h64]
    show Ideal.div (ez (logit X g W R) a b) (1 + ez (logit X g W R) a b) = _
    unfold Ideal.div
    rw [if_neg hne, if_neg hne, one_mul]
  unfold val_main_v28
  refine (table_at _ _ _ (fun i => ?_) R k).trans ?_
  · rw [val_main_v27_apply, val_main_cst_5_apply, zero_bits]
  · rw [ind_0 h, ind_1 h, h65, h65']
    rfl

/-- The logits are real where the gains and the weights are. -/
theorem logit_real (hg : ∀ i, ∃ r : ℝ, g i = r) (hW : ∀ i, ∃ r : ℝ, W i = r) (R : Fin 16384) (e : Fin 8) : ∃ r : ℝ, logit X g W R e = r :=
  dot_real _ _ (nx_real _ _ fun k => hg (ix1 k)) fun k => hW (ix2 k e)

end Cert.Rtr

end
-- ==== Proof.Router.Pad.lean ====
/- Setting the leading columns of a matrix: what the matrix then holds there. -/
module

public import Idealize.ShloMosaic.Lib.Routing.OpsSet
public import Idealize.ShloMosaic.Lib.Routing.OpsOne

@[expose] public section

namespace Cert.Rtr

open Idealize.ShloMosaic Idealize.ShloMosaic.ValueIdx Idealize.ShloMosaic.Routing

theorem at_fst {α : Type} (a b : α) {l : List α} (hl : l = [a, b]) (n : Nat) (hn : n = 0) (h : n < l.length) : l[n] = a := by
  subst hl; subst hn; rfl

theorem at_snd {α : Type} (a b : α) {l : List α} (hl : l = [a, b]) (n : Nat) (hn : n = 1) (h : n < l.length) : l[n] = b := by
  subst hl; subst hn; rfl

/-- The update at `k`, written from column zero on, lands on the entry with `k`'s coordinates and on no other. -/
theorem lands_lead {R C U : Nat} (d : ScatterDims (shape2 R C) (shape1 1) (shape2 R U)) (huw : d.updateWindowDims = [0, 1]) (hiw : d.insertedWindowDims = [])
    (idx : IVec (shape1 1) 32) (hidx : ∀ j, (idx j).toInt = 0) (k : (shape2 R U).Idx) (r : Fin R) (c : Fin C) :
    d.resultIdx? k idx = some (ix2 r c) ↔ (k 0).val = r.val ∧ (k 1).val = c.val := by
  have hkept : d.sKept = [0, 1] := by
    show (shape2 R C).kept d.insertedWindowDims = _
    rw [hiw]; rfl
  have hst : ∀ a, d.start k idx a = 0 := fun a => by
    unfold ScatterDims.start
    split
    · exact hidx _
    · rfl
  have hw0 : d.window k 0 = (k 0).val := by
    unfold ScatterDims.window
    rw [dif_pos (by rw [hkept]; exact List.mem_cons_self)]
    exact congrArg (fun X => (k X).val) (at_fst _ _ huw _ (by rw [hkept]; rfl) _)
  have hw1 : d.window k 1 = (k 1).val := by
    unfold ScatterDims.window
    rw [dif_pos (by rw [hkept]; exact List.mem_cons_of_mem _ List.mem_cons_self)]
    exact congrArg (fun X => (k X).val) (at_snd _ _ huw _ (by rw [hkept]; rfl) _)
  rw [resultIdx?_ix2, hst, hst, hw0, hw1]
  omega

/-- A leading column holds what was written there. -/
theorem set_lead {α : Type} {R C U : Nat} (d : ScatterDims (shape2 R C) (shape1 1) (shape2 R U)) (huw : d.updateWindowDims = [0, 1]) (hiw : d.insertedWindowDims = [])
    (x : (shape2 R C).Idx → α) (idx : IVec (shape1 1) 32) (hidx : ∀ j, (idx j).toInt = 0) (u : (shape2 R U).Idx → α) (r : Fin R) (c : Fin C) (e : Fin U) (he : e.val = c.val) :
    Host.scatter d (fun _ b => b) x idx u (ix2 r c) = u (ix2 r e) := by
  refine scatter_set_hit d x idx u _ _ (fun k hk => congrArg u ?_) (ix2 r e) ((lands_lead d huw hiw idx hidx _ r c).2 ⟨rfl, he⟩)
  obtain ⟨h0, h1⟩ := (lands_lead d huw hiw idx hidx k r c).1 hk
  funext a
  match a with
  | ⟨0, _⟩ => exact Fin.ext h0
  | ⟨1, _⟩ => exact Fin.ext (h1.trans he.symm)

end Cert.Rtr
-- ==== Proof.Router.Final.lean ====
/- The router: the kernel's table is the reference's. -/
module

public import proofs.«01_k».proof.Proof.Gen.RouterIdeal.Value
public import proofs.«01_k».proof.Proof.Gen.Pre_router_finite
public import proofs.«01_k».proof.Proof.Fox.Pre
public import proofs.«01_k».proof.Proof.Router.Ref
public import proofs.«01_k».proof.Proof.Router.Pad
public import Idealize.ShloMosaic.Lib.Pointwise
public import Idealize.ShloMosaic.Lib.Pipeline.ValueKit
public import Idealize.ShloMosaic.Lib.Pipeline.ReadBack
public import Idealize.ShloMosaic.Lib.Writes
public import Idealize.ShloMosaic.Lib.WritesUnit

@[expose] public section

set_option maxRecDepth 16384

noncomputable section

namespace Cert.Rtr

/-- The precondition, read: the gains and the weights are real numbers. -/
theorem reals (x : Idealize.ShloMosaic.FVec Idealize.ShloMosaic.Ideal Cert.Pre_router_finite.S4x4096x2048 .f32) (g : Idealize.ShloMosaic.FVec Idealize.ShloMosaic.Ideal Cert.Pre_router_finite.S2048 .f32)
    (W : Idealize.ShloMosaic.FVec Idealize.ShloMosaic.Ideal Cert.Pre_router_finite.S2048x8 .f32) [Cert.Pre_router_finite.Facts]
    (h : Cert.Pre_router_finite.fn (F := Idealize.ShloMosaic.Ideal) x g W = fun _ => 1#1) : (∀ i, ∃ r : ℝ, (g i : EReal) = r) ∧ ∀ i, ∃ r : ℝ, (W i : EReal) = r := by
  have h1 := congrFun h (fun a => a.elim0)
  unfold Cert.Pre_router_finite.fn at h1
  obtain ⟨h2, h3⟩ := (Cert.Fox.Pre.andi_one _ _).mp h1
  refine ⟨fun i => Cert.Fox.Pre.real_of_cmp _ ?_, fun i => Cert.Fox.Pre.real_of_cmp _ ?_⟩
  · rw [← Cert.Fox.Pre.top_bits]; exact Cert.Fox.Pre.reduce_one _ _ _ _ _ h2 i
  · rw [← Cert.Fox.Pre.top_bits]; exact Cert.Fox.Pre.reduce_one _ _ _ _ _ h3 i

open Idealize.ShloMosaic Idealize.ShloMosaic.TcCoe Cert.RouterIdeal Cert.RouterIdeal.Gen

theorem flat_at (X : FVec Ideal S4x4096x2048 .f32) (R : Fin 16384) (x : Fin 2048) :
    shapeCast S16384x2048 X shapeCasts_S4x4096x2048_S16384x2048 (ix2 R x) = X (ix3 (bat R) (pos R) x) := by
  refine shapeCast_apply X _ (ix2 R x) (ix3 (bat R) (pos R) x) ?_
  rewrite [Shape.rowMajor_val_three, Shape.rowMajor_val_two]
  show (R.val / 4096 * 4096 + R.val % 4096) * 2048 + x.val = R.val * 2048 + x.val
  omega

/-- The weights, set into the leading columns of a table of zeros. -/
def padW (W : FVec Ideal S2048x8 .f32) : FVec Ideal S2048x128 .f32 :=
  Host.scatter scatter_S2048x128_S1_S2048x8_01_n_1_0 (fun _ b => b) (broadcastInDim S2048x128 ![] bcast_S_S2048x128 (constant (F := Ideal) S_ .f32 0x00000000#32))
    (broadcastInDim S1 ![] bcast_S_S1 (constantI S_ 32 0#32)) W

/-- The high words and the low words. -/
def hiW (W : FVec Ideal S2048x8 .f32) : FVec Ideal S2048x128 .bf16 := truncf (F := Ideal) .bf16 (padW W) bitsLt_bf16_f32
def loW (W : FVec Ideal S2048x8 .f32) : FVec Ideal S2048x128 .bf16 := truncf (F := Ideal) .bf16 (subf (padW W) (extf .f32 (hiW W) bitsLt_bf16_f32)) bitsLt_bf16_f32

theorem padW_at (W : FVec Ideal S2048x8 .f32) (k : Fin 2048) (e : Fin 8) : padW W (ix2 k (up e)) = W (ix2 k e) := by
  unfold padW
  exact set_lead scatter_S2048x128_S1_S2048x8_01_n_1_0 rfl rfl _ _ (fun _ => rfl) W k (up e) e rfl

theorem hi_at (P : FVec Ideal S2048x128 .f32) (i : S2048x128.Idx) : truncf (F := Ideal) .bf16 P bitsLt_bf16_f32 i = P i := rfl

theorem lo_at (P : FVec Ideal S2048x128 .f32) (i : S2048x128.Idx) :
    truncf (F := Ideal) .bf16 (subf P (extf .f32 (truncf (F := Ideal) .bf16 P bitsLt_bf16_f32) bitsLt_bf16_f32)) bitsLt_bf16_f32 i = (P i - P i : EReal) := rfl

theorem hiW_at (W : FVec Ideal S2048x8 .f32) (k : Fin 2048) (e : Fin 8) : hiW W (ix2 k (up e)) = W (ix2 k e) := (hi_at _ _).trans (padW_at W k e)

theorem loW_at (W : FVec Ideal S2048x8 .f32) (hW : ∀ i, ∃ r : ℝ, (W i : EReal) = r) (k : Fin 2048) (e : Fin 8) : loW W (ix2 k (up e)) = (0 : EReal) := by
  refine (lo_at _ _).trans ?_
  rw [padW_at]
  obtain ⟨r, hr⟩ := hW (ix2 k e)
  rw [hr, ← EReal.coe_sub, sub_self]; rfl

variable (m : (ℓ : Loc nD τ sig) → Buf (Elt Ideal) ℓ) (c : Dev nD)

abbrev argX : FVec Ideal S4x4096x2048 .f32 := m ((c : Thread nD τ).loc main_arg0)
abbrev argG : FVec Ideal S2048 .f32 := m ((c : Thread nD τ).loc main_arg1)
abbrev argW : FVec Ideal S2048x8 .f32 := m ((c : Thread nD τ).loc main_arg2)

theorem V_x : V m c main_v7 = shapeCast S16384x2048 (argX m c) shapeCasts_S4x4096x2048_S16384x2048 := by
  unfold V
  simp only [hostOps0, List.flatten_cons, List.flatten_nil, List.cons_append, List.nil_append, List.append_nil]
  after_results
  rfl

theorem V_g : V m c main_v8 = shapeCast S1x2048 (argG m c) shapeCasts_S2048_S1x2048 := by
  unfold V
  simp only [hostOps0, List.flatten_cons, List.flatten_nil, List.cons_append, List.nil_append, List.append_nil]
  after_results
  rfl

theorem V_h : V m c main_v3 = hiW (argW m c) := by
  unfold V
  simp only [hostOps0, List.flatten_cons, List.flatten_nil, List.cons_append, List.nil_append, List.append_nil]
  after_results
  rfl

theorem V_l : V m c main_v6 = loW (argW m c) := by
  unfold V
  simp only [hostOps0, List.flatten_cons, List.flatten_nil, List.cons_append, List.nil_append, List.append_nil]
  after_results
  rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel

/-- The flat row of an element of a point's block. -/
abbrev rw' (t : Fin grid0.N) (r : Fin 512) : Fin 16384 := ⟨t.val * 512 + r.val, by have h : t.val < 32 := t.isLt; omega⟩

theorem emb0 (t : Fin grid0.N) (r : Fin 512) (x : Fin 2048) : (win0_0.blk t).view.emb (ix2 r x) = ix2 (rw' t r) x := by
  have h := idx0 t
  funext a; apply Fin.ext
  fin_cases a
  · refine (ValueKit.view_emb_slice_whole_unit_val _ _ _ _ _ _).trans ?_
    show win0_0.index t 0 * 512 + r.val = _
    rw [h]; rfl
  · refine (ValueKit.view_emb_slice_whole_unit_val _ _ _ _ _ _).trans ?_
    show win0_0.index t 1 * 2048 + x.val = _
    rw [h]; show 0 * 2048 + x.val = x.val; omega

theorem emb1 (t : Fin grid0.N) (r : Fin 1) (x : Fin 2048) : (win0_1.blk t).view.emb (ix2 r x) = ix2 r x := by
  have h := idx1 t
  funext a; apply Fin.ext
  fin_cases a
  · refine (ValueKit.view_emb_slice_whole_unit_val _ _ _ _ _ _).trans ?_
    show win0_1.index t 0 * 1 + r.val = _
    rw [h]; show 0 * 1 + r.val = r.val; omega
  · refine (ValueKit.view_emb_slice_whole_unit_val _ _ _ _ _ _).trans ?_
    show win0_1.index t 1 * 2048 + x.val = _
    rw [h]; show 0 * 2048 + x.val = x.val; omega

theorem emb2 (t : Fin grid0.N) (r : Fin 2048) (x : Fin 128) : (win0_2.blk t).view.emb (ix2 r x) = ix2 r x := by
  have h := idx2 t
  funext a; apply Fin.ext
  fin_cases a
  · refine (ValueKit.view_emb_slice_whole_unit_val _ _ _ _ _ _).trans ?_
    show win0_2.index t 0 * 2048 + r.val = _
    rw [h]; show 0 * 2048 + r.val = r.val; omega
  · refine (ValueKit.view_emb_slice_whole_unit_val _ _ _ _ _ _).trans ?_
    show win0_2.index t 1 * 128 + x.val = _
    rw [h]; show 0 * 128 + x.val = x.val; omega

theorem emb3 (t : Fin grid0.N) (r : Fin 2048) (x : Fin 128) : (win0_3.blk t).view.emb (ix2 r x) = ix2 r x := by
  have h := idx3 t
  funext a; apply Fin.ext
  fin_cases a
  · refine (ValueKit.view_emb_slice_whole_unit_val _ _ _ _ _ _).trans ?_
    show win0_3.index t 0 * 2048 + r.val = _
    rw [h]; show 0 * 2048 + r.val = r.val; omega
  · refine (ValueKit.view_emb_slice_whole_unit_val _ _ _ _ _ _).trans ?_
    show win0_3.index t 1 * 128 + x.val = _
    rw [h]; show 0 * 128 + x.val = x.val; omega

theorem emb4 (t : Fin grid0.N) (r : Fin 512) (x : Fin 128) : (win0_4.blk t).view.emb (ix2 r x) = ix2 (rw' t r) x := by
  have h := idx4 t
  funext a; apply Fin.ext
  fin_cases a
  · refine (ValueKit.view_emb_slice_whole_unit_val _ _ _ _ _ _).trans ?_
    show win0_4.index t 0 * 512 + r.val = _
    rw [h]; rfl
  · refine (ValueKit.view_emb_slice_whole_unit_val _ _ _ _ _ _).trans ?_
    show win0_4.index t 1 * 128 + x.val = _
    rw [h]; show 0 * 128 + x.val = x.val; omega

theorem iblk0_at (t : Fin cfg0.N) (r : Fin 512) (x : Fin 2048) : iblk m c 0 t (ix2 r x) = argX m c (ix3 (bat (rw' t r)) (pos (rw' t r)) x) := by
  show V m c main_v7 ((win0_0.blk t).view.emb (ix2 r x)) = _
  rw [emb0, V_x]
  exact flat_at (argX m c) (rw' t r) x

theorem iblk1_at (t : Fin cfg0.N) (r : Fin 1) (x : Fin 2048) : iblk m c 1 t (ix2 r x) = argG m c (ix1 x) := by
  show V m c main_v8 ((win0_1.blk t).view.emb (ix2 r x)) = _
  rw [emb1, V_g]
  pointwise

theorem iblk2_at (t : Fin cfg0.N) (k : Fin 2048) (l : Fin 128) : iblk m c 2 t (ix2 k l) = hiW (argW m c) (ix2 k l) := by
  show V m c main_v3 ((win0_2.blk t).view.emb (ix2 k l)) = _
  rw [emb2, V_h]

theorem iblk3_at (t : Fin cfg0.N) (k : Fin 2048) (l : Fin 128) : iblk m c 3 t (ix2 k l) = loW (argW m c) (ix2 k l) := by
  show V m c main_v6 ((win0_3.blk t).view.emb (ix2 k l)) = _
  rw [emb3, V_l]

variable (hg : ∀ i, ∃ r : ℝ, (argG m c i : EReal) = r) (hW : ∀ i, ∃ r : ℝ, (argW m c i : EReal) = r)
include hg hW

/-- The masked logits of a point's row. -/
theorem log_at (t : Fin cfg0.N) (r : Fin 512) (k : Fin 128) :
    k0_pay1 (F := Ideal) (iblk m c 0 t) (iblk m c 1 t) (iblk m c 2 t) (iblk m c 3 t) (iblk m c 2 t) (ix2 r k)
      = lanes (logit (argX m c) (argG m c) (argW m c) (rw' t r)) k := by
  refine (pay1_at _ _ _ _ _ r k).trans ?_
  unfold lanes
  by_cases hk : k.val < 8
  · rw [if_pos hk, dif_pos hk]
    have hn : nx (fun j => iblk m c 0 t (ix2 r j)) (fun j => iblk m c 1 t (ix2 0 j)) = nrw (argX m c) (argG m c) (bat (rw' t r)) (pos (rw' t r)) :=
      congrArg₂ nx (funext fun j => iblk0_at m c t r j) (funext fun j => iblk1_at m c t 0 j)
    rw [hn]
    have e : k = up ⟨k.val, hk⟩ := rfl
    refine (split_dot (nrw (argX m c) (argG m c) (bat (rw' t r)) (pos (rw' t r))) (fun j => iblk m c 2 t (ix2 j k)) (fun j => iblk m c 3 t (ix2 j k))
      (nx_real _ _ fun k => hg (ix1 k)) fun j => ?_).trans ?_
    · exact (iblk3_at m c t j k).trans (loW_at (argW m c) hW j ⟨k.val, hk⟩)
    · exact Finset.sum_congr rfl fun j _ => congrArg₂ (· * ·) rfl ((iblk2_at m c t j k).trans (hiW_at (argW m c) j ⟨k.val, hk⟩))
  · rw [if_neg hk, dif_neg hk]

/-- What a grid point leaves in the output block. -/
theorem out_at (t : Fin cfg0.N) (r : Fin 512) (x : Fin 128) :
    out0_4 (iblk m c 0 t) (iblk m c 1 t) (iblk m c 2 t) (iblk m c 3 t) (ix2 r x)
      = Cert.RouterRefIdeal.Read.val_main_v28 (F := Ideal) (argX m c) (argG m c) (argW m c) (ix2 (rw' t r) x) := by
  have hz : (![0, 0] : Fin 2 → ℕ) = fun _ => 0 := funext fun a => by fin_cases a <;> rfl
  obtain ⟨a, b, hT⟩ := exists_top (logit (argX m c) (argG m c) (argW m c) (rw' t r))
  have hL := logit_real (X := argX m c) hg hW (rw' t r)
  rw [ref_28 hT hL x]
  unfold out0_4
  rw [View.canon_unit_zero hz]
  simp only [View.ld_unit_zero (S := S512x2048) hz, View.ld_unit_zero (S := S1x2048) hz, View.ld_unit_zero (S := S2048x128) hz]
  exact pay4_at _ r _ a b hT (fun e => by obtain ⟨q, hq⟩ := hL e; rw [hq]; exact EReal.coe_ne_bot q) (fun k => log_at m c hg hW t r k) x

/-- The kernel's table holds the reference's. -/
theorem final : (dats (F := Ideal) m 0 c).arrAt 4 cfg0.N
    = Cert.RouterRefIdeal.Read.val_main_v28 (F := Ideal) (argX m c) (argG m c) (argW m c) := by
  refine (dats (F := Ideal) m 0 c).arrAt_eq_of_covers 4 _ (by decide +kernel) fun t hf y => ?_
  blk_simp
  rw [Gen.after0_4]
  have hy : ∃ (r : Fin 512) (x : Fin 128), y = ix2 r x := ⟨y 0, y 1, funext fun a => by fin_cases a <;> rfl⟩
  obtain ⟨r, x, rfl⟩ := hy
  rw [emb4]
  exact out_at m c hg hW t r x

end Cert.Rtr

end
-- ==== Proof.Fox.HostIn.lean ====
/- The arrays the host prepares, at an index. -/
module

public import proofs.«01_k».proof.Proof.Gen.KernelIdeal.Frame
public import Idealize.ShloMosaic.Lib.Pointwise
public import proofs.«01_k».proof.Proof.Fox.Cum
public import Idealize.ShloMosaic.Lib.Claim
public import Idealize.ShloMosaic.Lib.Pipeline.ValueKit

@[expose] public section

set_option maxRecDepth 65536
set_option maxHeartbeats 4000000

noncomputable section

namespace Cert.Fox

open Idealize.ShloMosaic Idealize.ShloMosaic.TcCoe Cert.KernelIdeal Cert.KernelIdeal.Gen Cert.KernelIdeal.Facts

/-- The running sums of the gates' logarithms along the sequence. -/
def cumK (lf : FVec Ideal S4x4096x8 .f32) : FVec Ideal S4x4096x8 .f32 :=
  Host.reduceWindowAdd ![1, 4096, 1] ![1, 1, 1] ![0, 4095, 0] ![0, 0, 0] lf (broadcastInDim S_ ![] bcast_S_S_ (constant S_ .f32 0x00000000#32))
    reduceWindows_S4x4096x8_S4x4096x8_w1s1p0_0_w4096s1p4095_0_w1s1p0_0 h_S_

/-- A sum laid over its head's lanes. -/
def colK (D : FVec Ideal S4x4096x8 .f32) : FVec Ideal S16384x8x128 .f32 :=
  broadcastInDim S16384x8x128 ![0, 1, 2] bcast_S16384x8x1_S16384x8x128_0_1_2
    (broadcastInDim S16384x8x1 ![0, 1] bcast_S16384x8_S16384x8x1_0_1 (shapeCast S16384x8 D shapeCasts_S4x4096x8_S16384x8))

/-- Its high part, -/
def hiK (x : FVec Ideal S16384x8x128 .f32) : FVec Ideal S16384x8x128 .f32 := extf .f32 (truncf .bf16 x bitsLt_bf16_f32) bitsLt_bf16_f32

/-- the lane numbers, -/
abbrev laneK : IVec S16384x8x128 32 := iotaInDim S16384x8x128 32 2

/-- a lane number everywhere, -/
abbrev nK (n : BitVec 32) : IVec S16384x8x128 32 := broadcastInDim S16384x8x128 ![] bcast_S_S16384x8x128 (constantI S_ 32 n)

/-- a number everywhere. -/
abbrev cK (n : BitVec 32) : FVec Ideal S16384x8x128 .f32 := broadcastInDim S16384x8x128 ![] bcast_S_S16384x8x128 (constant S_ .f32 n)

/-- The lanes that stand beside the queries. -/
def aqK (x : FVec Ideal S16384x8x128 .f32) : FVec Ideal S16384x8x128 .f32 :=
  select (cmpi .eq laneK (nK 0#32)) (hiK x)
    (select (cmpi .eq laneK (nK 1#32)) (hiK (subf x (hiK x)))
      (select (cmpi .eq laneK (nK 2#32)) (hiK (subf (subf x (hiK x)) (hiK (subf x (hiK x)))))
        (select (cmpi .slt laneK (nK 6#32)) (cK 0x3F800000#32) (cK 0x00000000#32))))

/-- The lanes that stand beside the keys. -/
def akK (x : FVec Ideal S16384x8x128 .f32) : FVec Ideal S16384x8x128 .f32 :=
  select (cmpi .slt laneK (nK 3#32)) (cK 0x3F800000#32)
    (select (cmpi .eq laneK (nK 3#32)) (Host.negf (hiK x))
      (select (cmpi .eq laneK (nK 4#32)) (Host.negf (hiK (subf x (hiK x))))
        (select (cmpi .eq laneK (nK 5#32)) (Host.negf (hiK (subf (subf x (hiK x)) (hiK (subf x (hiK x))))))
          (cK 0x00000000#32))))

/-- Queries, keys and values side by side. -/
def yK (q k v : FVec Ideal S4x4096x1024 .f32) : FVec Ideal S16384x10240 .f32 :=
  concatenate S16384x10240 1 [⟨S16384x1024, shapeCast S16384x1024 (mulf q (broadcastInDim S4x4096x1024 ![] bcast_S_S4x4096x1024 (constant S_ .f32 0x3DB504F3#32))) shapeCasts_S4x4096x1024_S16384x1024⟩,
    ⟨S16384x1024, shapeCast S16384x1024 k shapeCasts_S4x4096x1024_S16384x1024⟩,
    ⟨S16384x1024, shapeCast S16384x1024 v shapeCasts_S4x4096x1024_S16384x1024⟩,
    ⟨S16384x7168, broadcastInDim S16384x7168 ![] bcast_S_S16384x7168 (constant S_ .f32 0x00000000#32)⟩]
    concatenates_S16384x1024_S16384x1024_S16384x1024_S16384x7168_S16384x10240_d1

variable (m : (ℓ : Loc nD τ sig) → Buf (Elt Ideal) ℓ) (c : Dev nD)

theorem V_y : V m c main_v7 = truncf (F := Ideal) .bf16 (yK (m ((c : Thread nD τ).loc main_arg0)) (m ((c : Thread nD τ).loc main_arg1)) (m ((c : Thread nD τ).loc main_arg2))) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  after_results
  rfl

theorem V_aq : V m c main_v49 = shapeCast S16384x1024 (truncf (F := Ideal) .bf16 (aqK (colK (cumK (m ((c : Thread nD τ).loc main_arg3))))) bitsLt_bf16_f32) shapeCasts_S16384x8x128_S16384x1024 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  after_results
  rfl

theorem V_ak : V m c main_v51 = shapeCast S16384x1024 (truncf (F := Ideal) .bf16 (akK (colK (cumK (m ((c : Thread nD τ).loc main_arg3))))) bitsLt_bf16_f32) shapeCasts_S16384x8x128_S16384x1024 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.cons_append, List.nil_append, List.append_nil]
  after_results
  rfl

theorem colK_at (D : FVec Ideal S4x4096x8 .f32) (b : Fin 4) (s : Fin 4096) (h : Fin 8) (y : Fin 128) :
    colK D (ix3 ⟨b.val * 4096 + s.val, by omega⟩ h y) = D (ix3 b s h) := by
  pointwise [colK]

theorem aq_cast_at (x : FVec Ideal S16384x8x128 .f32) (r : Fin 16384) (h : Fin 8) (y : Fin 128) :
    shapeCast S16384x1024 (truncf (F := Ideal) .bf16 x bitsLt_bf16_f32) shapeCasts_S16384x8x128_S16384x1024 (ix2 r ⟨h.val * 128 + y.val, by omega⟩) = x (ix3 r h y) := by
  pointwise

theorem y_q_at (q k v : FVec Ideal S4x4096x1024 .f32) (b : Fin 4) (s : Fin 4096) (j : Fin 1024) :
    truncf (F := Ideal) .bf16 (yK q k v) bitsLt_bf16_f32 (ix2 ⟨b.val * 4096 + s.val, by omega⟩ ⟨j.val, by omega⟩) = (q (ix3 b s j) * Ideal.ofBits .f32 0x3DB504F3#32 : EReal) := by
  pointwise [yK]

theorem y_k_at (q k v : FVec Ideal S4x4096x1024 .f32) (b : Fin 4) (s : Fin 4096) (j : Fin 1024) :
    truncf (F := Ideal) .bf16 (yK q k v) bitsLt_bf16_f32 (ix2 ⟨b.val * 4096 + s.val, by omega⟩ ⟨1024 + j.val, by omega⟩) = (k (ix3 b s j) : EReal) := by
  pointwise [yK]

theorem y_v_at (q k v : FVec Ideal S4x4096x1024 .f32) (b : Fin 4) (s : Fin 4096) (j : Fin 1024) :
    truncf (F := Ideal) .bf16 (yK q k v) bitsLt_bf16_f32 (ix2 ⟨b.val * 4096 + s.val, by omega⟩ ⟨2048 + j.val, by omega⟩) = (v (ix3 b s j) : EReal) := by
  pointwise [yK]
  have := j.isLt
  rw [dif_neg (by omega), dif_neg (by omega), dif_pos (by omega)]
  exact congrArg v (congrArg _ (Fin.ext (by show 2048 + j.val - 1024 - 1024 = j.val; omega)))

theorem sel_eq (y n : ℕ) (hy : y < 128) (hn : n < 128) (a b : EReal) :
    Scalar.select (IntOp.cmpi .eq (BitVec.ofNat 32 y) (BitVec.ofNat 32 n)) a b = if y = n then a else b := by
  by_cases h : y = n
  · subst h
    rw [if_pos rfl]
    have : IntOp.cmpi .eq (BitVec.ofNat 32 y) (BitVec.ofNat 32 y) = 1#1 := by simp [IntOp.cmpi]
    rw [this]; rfl
  · rw [if_neg h]
    have hne : BitVec.ofNat 32 y ≠ BitVec.ofNat 32 n := by
      intro he
      have := congrArg BitVec.toNat he
      rw [BitVec.toNat_ofNat, BitVec.toNat_ofNat, Nat.mod_eq_of_lt (by omega), Nat.mod_eq_of_lt (by omega)] at this
      exact h this
    have : IntOp.cmpi .eq (BitVec.ofNat 32 y) (BitVec.ofNat 32 n) = 0#1 := by
      show BitVec.ofBool (BitVec.ofNat 32 y == BitVec.ofNat 32 n) = 0#1
      rw [beq_eq_false_iff_ne.mpr hne]; rfl
    rw [this]; rfl

theorem toInt_small (y : ℕ) (hy : y < 128) : (BitVec.ofNat 32 y).toInt = y := by
  rw [BitVec.toInt_eq_toNat_of_lt] <;> rw [BitVec.toNat_ofNat, Nat.mod_eq_of_lt (by omega)] <;> omega

theorem sel_lt (y n : ℕ) (hy : y < 128) (hn : n < 128) (a b : EReal) :
    Scalar.select (IntOp.cmpi .slt (BitVec.ofNat 32 y) (BitVec.ofNat 32 n)) a b = if y < n then a else b := by
  by_cases h : y < n
  · rw [if_pos h]
    have : IntOp.cmpi .slt (BitVec.ofNat 32 y) (BitVec.ofNat 32 n) = 1#1 := by
      simp only [IntOp.cmpi, BitVec.slt, toInt_small y hy, toInt_small n hn]; simp [h]
    rw [this]; rfl
  · rw [if_neg h]
    have : IntOp.cmpi .slt (BitVec.ofNat 32 y) (BitVec.ofNat 32 n) = 0#1 := by
      simp only [IntOp.cmpi, BitVec.slt, toInt_small y hy, toInt_small n hn]; simp [h]
    rw [this]; rfl

/-- Beside the queries: the sum in lane 0, ones in lanes 3 to 5. -/
theorem aqK_at (x : FVec Ideal S16384x8x128 .f32) (r : Fin 16384) (h : Fin 8) (y : Fin 128) (d : ℝ) (hd : x (ix3 r h y) = ((d : ℝ) : EReal)) :
    aqK x (ix3 r h y) = (((if y.val = 0 then d else if y.val < 3 then 0 else if y.val < 6 then 1 else 0 : ℝ)) : EReal) := by
  have hy := y.isLt
  pointwise [aqK, hiK, cK, nK, laneK]
  rw [sel_eq _ 0 hy (by decide), sel_eq _ 1 hy (by decide), sel_eq _ 2 hy (by decide), sel_lt _ 6 hy (by decide), hd]
  have e : ((d : ℝ) : EReal) - ((d : ℝ) : EReal) = 0 := by rw [← EReal.coe_sub, sub_self]; rfl
  rw [e, sub_zero]
  by_cases h0 : y.val = 0
  · rw [if_pos h0, if_pos h0]
  by_cases h1 : y.val = 1
  · rw [if_neg h0, if_pos h1, if_neg h0, if_pos (by omega)]; rfl
  by_cases h2 : y.val = 2
  · rw [if_neg h0, if_neg h1, if_pos h2, if_neg h0, if_pos (by omega)]; rfl
  rw [if_neg h0, if_neg h1, if_neg h2, if_neg h0, if_neg (by omega : ¬ y.val < 3)]
  split <;> rfl

/-- Beside the keys: ones in lanes 0 to 2, the sum negated in lane 3. -/
theorem akK_at (x : FVec Ideal S16384x8x128 .f32) (r : Fin 16384) (h : Fin 8) (y : Fin 128) (d : ℝ) (hd : x (ix3 r h y) = ((d : ℝ) : EReal)) :
    akK x (ix3 r h y) = (((if y.val < 3 then 1 else if y.val = 3 then -d else 0 : ℝ)) : EReal) := by
  have hy := y.isLt
  pointwise [akK, hiK, cK, nK, laneK]
  rw [sel_lt _ 3 hy (by decide), sel_eq _ 3 hy (by decide), sel_eq _ 4 hy (by decide), sel_eq _ 5 hy (by decide), hd]
  have e : ((d : ℝ) : EReal) - ((d : ℝ) : EReal) = 0 := by rw [← EReal.coe_sub, sub_self]; rfl
  rw [e, sub_zero, neg_zero]
  by_cases h0 : y.val < 3
  · rw [if_pos h0, if_pos h0]; rfl
  by_cases h1 : y.val = 3
  · rw [if_neg h0, if_pos h1, if_neg h0, if_pos h1]; rfl
  rw [if_neg h0, if_neg h1, if_neg h0, if_neg h1]
  split
  · rfl
  · split <;> rfl

/-- The running sums, as sums. -/
theorem cumK_at (lf : FVec Ideal S4x4096x8 .f32) (b : Fin 4) (s : Fin 4096) (h : Fin 8) : cumK lf (ix3 b s h) = pre (fun t => lf (ix3 b t h)) s := by
  have hz : (broadcastInDim S_ ![] bcast_S_S_ (constant (F := Ideal) S_ .f32 0x00000000#32)) (Shape.Idx.first h_S_) = (0 : EReal) := by
    pointwise
  rw [cumK, host_window _ _ _ _ _ _ _ _ 0 hz, window_mid]

end Cert.Fox

end
-- ==== Proof.Fox.Pay.lean ====
/- What each value that the attention's body stores is at one position, over the extended reals. -/
module

public import proofs.«01_k».proof.Proof.Gen.KernelIdeal.Skeleton
public import proofs.«01_k».proof.Proof.Fox.Alg
public import Idealize.ShloMosaic.Lib.Pointwise

@[expose] public section

set_option maxRecDepth 16384

noncomputable section

namespace Cert.Fox

open Idealize.ShloMosaic Cert.KernelIdeal Cert.KernelIdeal.Gen Cert.KernelIdeal.Facts

/-- The word of minus infinity is minus infinity. -/
theorem ninf_bits : (Ideal.ofBits FTy.f32 4286578688#32 : EReal) = ⊥ := by
  simp only [Ideal.ofBits]; rfl

/-- The masking constant is minus infinity. -/
theorem mask_val : (Named.named (F := Ideal) κ "mask" 0xF149F2CA#32 : Ideal .f32) = (⊥ : EReal) := rfl

/-- The base-two logarithm of e, as named. -/
theorem log2e_val : (Named.named (F := Ideal) κ "log2e" 0x3FB8AA3B#32 : Ideal .f32) = (((Real.log 2)⁻¹ : ℝ) : EReal) := rfl

/-- The base-two exponential at the ideal instance. -/
theorem exp2_def (x : EReal) : (FloatOps.exp2 (F := Ideal) (φ := .f32) x : EReal) = Ideal.exp2 x := rfl

/-- The new bound: the larger of the old one and the row's largest logit. -/
theorem pay22_at (S : FVec Ideal S1x512x512 .f32) (M : FVec Ideal S1x512x128 .f32) (r : Fin 512) (l : Fin 128) :
    k0_pay22 (F := Ideal) S M (ix2 r l) = (max (M (ix3 0 r l)) (Finset.univ.sup fun x : Fin 512 => S (ix3 0 r x)) : EReal) := by
  have h : k0_pay22 (F := Ideal) S M (ix2 r l)
      = (max (M (ix3 0 r l)) (Finset.fold max (Ideal.ofBits .f32 4286578688#32) (fun x : Fin 512 => S (ix3 0 r x)) Finset.univ) : EReal) := by
    pointwise [k0_pay22, k0_pay21, k0_pay20]
  rw [h, ninf_bits, fold_max_eq_sup]

/-- The new bound as stored. -/
theorem mstep_at (S : FVec Ideal S1x512x512 .f32) (M : FVec Ideal S1x512x128 .f32) (r : Fin 512) (l : Fin 128) :
    k0_pay46 (F := Ideal) (k0_pay22 S M) (ix3 0 r l) = (max (M (ix3 0 r l)) (Finset.univ.sup fun x : Fin 512 => S (ix3 0 r x)) : EReal) := by
  have h : k0_pay46 (F := Ideal) (k0_pay22 S M) (ix3 0 r l) = k0_pay22 (F := Ideal) S M (ix2 r l) := by
    pointwise [k0_pay46]
  rw [h, pay22_at]

/-- The new weighted sums, where the old bound is one value along each row. -/
theorem astep_at (S : FVec Ideal S1x512x512 .f32) (M : FVec Ideal S1x512x128 .f32) (W : FVec Ideal S512x256 .bf16)
    (A : FVec Ideal S1x512x256 .f32) (r : Fin 512) (l : Fin 256) (μ : EReal) (hM : ∀ l, M (ix3 0 r l) = μ) :
    k0_pay23 (F := Ideal) S M W A (ix3 0 r l)
      = (A (ix3 0 r l) * Ideal.exp2 (μ - max μ (Finset.univ.sup fun x : Fin 512 => S (ix3 0 r x)))
          + ∑ x : Fin 512, Ideal.exp2 (S (ix3 0 r x) - max μ (Finset.univ.sup fun x : Fin 512 => S (ix3 0 r x))) * W (ix2 x l) : EReal) := by
  have hp : ∀ l, k0_pay22 (F := Ideal) S M (ix2 r l) = (max μ (Finset.univ.sup fun x : Fin 512 => S (ix3 0 r x)) : EReal) := fun l => by
    rw [pay22_at, hM]
  generalize (max μ (Finset.univ.sup fun x : Fin 512 => S (ix3 0 r x)) : EReal) = μ' at *
  pointwise [k0_pay23, k0_pay21, k0_pay20]
  simp only [hp, hM, exp2_def, dite_eq_ite, ite_self]

/-- A block of logits: query rows against key rows, times the logarithm. -/
theorem pay11_at (Q : FVec Ideal S512x256 .bf16) (K : FVec Ideal S512x256 .bf16) (r x : Fin 512) :
    k0_pay11 (F := Ideal) Q K (ix2 r x) = ((∑ y : Fin 256, Q (ix2 r y) * K (ix2 x y)) * (((Real.log 2)⁻¹ : ℝ) : EReal) : EReal) := by
  rw [← log2e_val]
  pointwise [k0_pay11]

/-- A block of logits as stored. -/
theorem lstep_at (Q : FVec Ideal S512x256 .bf16) (K : FVec Ideal S512x256 .bf16) (r x : Fin 512) :
    k0_pay47 (F := Ideal) (k0_pay11 Q K) (ix3 0 r x) = ((∑ y : Fin 256, Q (ix2 r y) * K (ix2 x y)) * (((Real.log 2)⁻¹ : ℝ) : EReal) : EReal) := by
  have h : k0_pay47 (F := Ideal) (k0_pay11 Q K) (ix3 0 r x) = k0_pay11 (F := Ideal) Q K (ix2 r x) := by
    pointwise [k0_pay47]
  rw [h, pay11_at]

/-- The block on the diagonal: a position later than the row's own is minus infinity. -/
theorem dstep_at (Q : FVec Ideal S512x256 .bf16) (K : FVec Ideal S512x256 .bf16) (r x : Fin 512) :
    k0_pay45 (F := Ideal) Q (iota .tc S512x512 32 [0] iota_S512x512_d0_w32) (iota .tc S512x512 32 [1] iota_S512x512_d1_w32) K (ix3 0 r x)
      = (if x.val ≤ r.val then (∑ y : Fin 256, Q (ix2 r y) * K (ix2 x y)) * (((Real.log 2)⁻¹ : ℝ) : EReal) else ⊥ : EReal) := by
  rw [← log2e_val, ← mask_val]
  pointwise [k0_pay45]
  have hx : (BitVec.ofNat 32 x.val).toInt = x.val := by
    have := x.isLt; rw [BitVec.toInt_eq_toNat_of_lt] <;> rw [BitVec.toNat_ofNat, Nat.mod_eq_of_lt (by omega)] <;> omega
  have hr : (BitVec.ofNat 32 r.val).toInt = r.val := by
    have := r.isLt; rw [BitVec.toInt_eq_toNat_of_lt] <;> rw [BitVec.toNat_ofNat, Nat.mod_eq_of_lt (by omega)] <;> omega
  by_cases h : x.val ≤ r.val
  · rw [if_pos h]
    have : IntOp.cmpi .sle (BitVec.ofNat 32 x.val) (BitVec.ofNat 32 r.val) = 1#1 := by
      simp only [IntOp.cmpi, BitVec.sle, hx, hr]; simp [h]
    rw [this]; rfl
  · rw [if_neg h]
    have : IntOp.cmpi .sle (BitVec.ofNat 32 x.val) (BitVec.ofNat 32 r.val) = 0#1 := by
      simp only [IntOp.cmpi, BitVec.sle, hx, hr]; simp [h]
    rw [this]; rfl

/-- The queries beside their gate lanes. -/
theorem pay39_at (S T : FVec Ideal S512x128 .bf16) (r : Fin 512) (y : Fin 256) :
    k0_pay39 (F := Ideal) S T (ix2 r y) = if h : y.val < 128 then S (ix2 r ⟨y.val, h⟩) else T (ix2 r ⟨y.val - 128, by omega⟩) := by
  pointwise [k0_pay39]

/-- What is written out: each weighted sum divided by its row's sum of weights. -/
theorem pay3_at (A : FVec Ideal S1x512x256 .f32) (r : Fin 512) (l : Fin 128) :
    k0_pay3 (F := Ideal) A (ix2 r l) = Ideal.div (A (ix3 0 r ⟨l.val, by omega⟩)) (A (ix3 0 r ⟨128 + l.val, by omega⟩)) := by
  pointwise [k0_pay3]

theorem pay41_at (g : Fin 2) (r : Fin 512) (l : Fin 128) : k0_pay41 (F := Ideal) (ix3 g r l) = (⊥ : EReal) := by
  rw [← mask_val]; pointwise [k0_pay41]

theorem pay42_at (g : Fin 2) (r : Fin 512) (l : Fin 256) : k0_pay42 (F := Ideal) (ix3 g r l) = (0 : EReal) := by
  pointwise [k0_pay42]

end Cert.Fox

end
-- ==== Proof.Fox.Row.lean ====
/- One row of the attention, block of keys by block of keys: what the running bound and the running sums are. -/
module

public import proofs.«01_k».proof.Proof.Fox.Alg
public import proofs.«01_k».proof.KernelIdeal
public import Idealize.ShloMosaic.Lib.Pointwise

@[expose] public section

set_option maxRecDepth 16384

noncomputable section

namespace Cert.Fox

open Idealize.ShloMosaic Cert.KernelIdeal

/-- The key positions from `lo` up to `hi`. -/
def cols (lo hi : ℕ) : Finset (Fin 4096) := Finset.univ.filter fun j => lo ≤ j.val ∧ j.val < hi

theorem mem_cols {lo hi : ℕ} {j : Fin 4096} : j ∈ cols lo hi ↔ lo ≤ j.val ∧ j.val < hi := by
  simp [cols]

/-- Head `g`'s logit in base two of query row `r` against key `j`, the mask aside: the product of the row of queries
    and the row of keys, times the logarithm. -/
def logit (Q : FVec Ideal S512x256 .bf16) (KA : FVec Ideal S4096x512 .bf16) (g : Fin 2) (r : Fin 512) (j : Fin 4096) : EReal :=
  (∑ y : Fin 256, Q (ix2 r y) * KA (ix2 j ⟨g.val * 256 + y.val, by omega⟩)) * (((Real.log 2)⁻¹ : ℝ) : EReal)

/-- The same with the keys after the query's own position at minus infinity; the query block is block `qi`. -/
def mlogit (qi : ℕ) (Q : FVec Ideal S512x256 .bf16) (KA : FVec Ideal S4096x512 .bf16) (g : Fin 2) (r : Fin 512) (j : Fin 4096) : EReal :=
  if j.val ≤ qi * 512 + r.val then logit Q KA g r j else ⊥

/-- Head `g`'s value column `l` at key `j`. -/
def val (VA : FVec Ideal S4096x512 .bf16) (g : Fin 2) (l : Fin 256) (j : Fin 4096) : EReal :=
  VA (ix2 j ⟨g.val * 256 + l.val, by omega⟩)

/-- The bounds and sums of the block rows after the keys of `S`. -/
structure Acc (Q : Fin 2 → FVec Ideal S512x256 .bf16) (KA VA : FVec Ideal S4096x512 .bf16) (qi : ℕ) (S : Finset (Fin 4096))
    (mm : FVec Ideal S2x512x128 .f32) (aa : FVec Ideal S2x512x256 .f32) : Prop where
  hm : ∀ (g : Fin 2) (r : Fin 512) (l : Fin 128), mm (ix3 g r l) = S.sup (mlogit qi (Q g) KA g r)
  ha : ∀ (g : Fin 2) (r : Fin 512) (l : Fin 256), aa (ix3 g r l)
    = wsum S (mlogit qi (Q g) KA g r) (val VA g l) (S.sup (mlogit qi (Q g) KA g r))

/-- Block `b` of the keys. -/
def blkEmb (b : ℕ) (hb : b < 8) : Fin 512 ↪ Fin 4096 :=
  ⟨fun x => ⟨b * 512 + x.val, by omega⟩, fun x y h => by
    have := congrArg Fin.val h
    simp only at this
    exact Fin.ext (by omega)⟩

theorem map_blkEmb (b : ℕ) (hb : b < 8) : Finset.univ.map (blkEmb b hb) = cols (b * 512) ((b + 1) * 512) := by
  ext j
  rw [Finset.mem_map, mem_cols]
  constructor
  · rintro ⟨x, -, rfl⟩
    show b * 512 ≤ b * 512 + x.val ∧ b * 512 + x.val < (b + 1) * 512
    omega
  · rintro ⟨h1, h2⟩
    exact ⟨⟨j.val - b * 512, by omega⟩, Finset.mem_univ _, Fin.ext (show b * 512 + (j.val - b * 512) = j.val by omega)⟩

/-- One update of head `g`'s row `r`: with the bound and sums of the keys after block `b`, and that block's logits `s`,
    the new bound and sums are those of the keys from block `b` on. -/
theorem row_step (L : Fin 4096 → EReal) (hL : ∀ j, L j ≠ ⊤) (V : Fin 4096 → EReal) (b e : ℕ) (hb : b < 8) (hbe : b + 1 ≤ e) (μ α : EReal)
    (hμ : μ = (cols ((b + 1) * 512) (e * 512)).sup L) (hα : α = wsum (cols ((b + 1) * 512) (e * 512)) L V μ)
    (s w : Fin 512 → EReal) (hs : ∀ x, s x = L (blkEmb b hb x)) (hw : ∀ x, w x = V (blkEmb b hb x)) :
    max μ (Finset.univ.sup s) = (cols (b * 512) (e * 512)).sup L
      ∧ α * Ideal.exp2 (μ - max μ (Finset.univ.sup s)) + ∑ x, Ideal.exp2 (s x - max μ (Finset.univ.sup s)) * w x
        = wsum (cols (b * 512) (e * 512)) L V ((cols (b * 512) (e * 512)).sup L) := by
  have hu : cols ((b + 1) * 512) (e * 512) ∪ cols (b * 512) ((b + 1) * 512) = cols (b * 512) (e * 512) := by
    ext j; simp only [Finset.mem_union, mem_cols]; omega
  have hd : Disjoint (cols ((b + 1) * 512) (e * 512)) (cols (b * 512) ((b + 1) * 512)) := by
    rw [Finset.disjoint_left]; intro j; simp only [mem_cols]; omega
  have hsup : Finset.univ.sup s = (cols (b * 512) ((b + 1) * 512)).sup L := by
    rw [← map_blkEmb b hb, Finset.sup_map]; exact Finset.sup_congr rfl fun x _ => hs x
  have hsum : ∀ c, ∑ x, Ideal.exp2 (s x - c) * w x = wsum (cols (b * 512) ((b + 1) * 512)) L V c := by
    intro c
    rw [wsum, ← map_blkEmb b hb, Finset.sum_map]; exact Finset.sum_congr rfl fun x _ => by rw [hs, hw]
  rw [hsum, hα, hsup, hμ, ← hu]
  exact ⟨Finset.sup_union.symm, wsum_step _ _ hd L V hL⟩

end Cert.Fox

end
-- ==== Proof.Fox.Off.lean ====
/- Where the body's loads of keys and values stand, and how often its loops run, over the whole grid. -/
module

public import proofs.«01_k».proof.Proof.Gen.KernelIdeal

@[expose] public section

set_option maxRecDepth 16384

noncomputable section

namespace Cert.Fox

open Idealize.ShloMosaic Cert.KernelIdeal

theorem off1_eq : ∀ i : grid0.Coords, k0_off1 i = ![(i 2).val * 512, 0] := by decide +kernel
theorem off2_eq : ∀ i : grid0.Coords, k0_off2 i = ![(i 2).val * 512, 256] := by decide +kernel
theorem off3_eq : ∀ (i : grid0.Coords) (k : Fin (k0_t1_loop i).trips), k0_off3 i k = ![((i 2).val - (k.val + 1)) * 512, 0] := by decide +kernel
theorem off4_eq : ∀ (i : grid0.Coords) (k : Fin (k0_t1_loop i).trips), k0_off4 i k = ![((i 2).val - (k.val + 1)) * 512, 256] := by decide +kernel
theorem off5_eq : ∀ (i : grid0.Coords) (k : Fin (k0_t1_loop i).trips), k0_off5 i k = ![((i 2).val - k.val) * 512, 0] := by decide +kernel
theorem off6_eq : ∀ (i : grid0.Coords) (k : Fin (k0_t1_loop i).trips), k0_off6 i k = ![((i 2).val - k.val) * 512, 256] := by decide +kernel

/-- The loop over the earlier blocks runs once per earlier block. -/
theorem trips1 : ∀ i : grid0.Coords, (k0_t1_loop i).trips = (i 2).val := by decide +kernel

/-- The loop after it never runs. -/
theorem trips2 : ∀ i : grid0.Coords, (k0_t2_loop i).trips = 0 := by decide +kernel

end Cert.Fox

end
-- ==== Proof.Fox.Views.lean ====
/- Reading the two-slab scratch arrays and the blocks of the key and value arrays. -/
module

public import Idealize.ShloMosaic.Lib.Writes
public import Idealize.ShloMosaic.Lib.WritesUnit
public import Idealize.ShloMosaic.Lib.Pipeline.ReadBack
public import Idealize.ShloMosaic.Lib.Pointwise

@[expose] public section

noncomputable section

namespace Cert.Fox

open Idealize.ShloMosaic

variable {sig : RefSig} {κ : Kind} {sp : Space} {e : EltTy} {Val : EltTy → Type} {n m : ℕ}

/-- After a store of slab 1 the slab's elements are the stored ones. -/
theorem slab_hit1 (v : View sig κ sp ⟨3, ![2, n, m]⟩ e) (f : v.ty.Contents Val) (inb : ∀ a, ![1, 0, 0] a + ![1, n, m] a ≤ ![2, n, m] a)
    (w : (Rect.unit (s := ⟨3, ![2, n, m]⟩) ![1, 0, 0] ![1, n, m] inb).shape.Idx → Val e) (L : List (View.Piece Val ⟨3, ![2, n, m]⟩ e)) (r : Fin n) (x : Fin m) :
    v.read Val (v.writes Val f ((⟨Rect.unit ![1, 0, 0] ![1, n, m] inb, w⟩ : View.Piece Val _ e) :: L)) (ix3 1 r x) = w (ix3 0 r x) :=
  View.read_writes_cons_unit_of_mem v f inb w L _ (ix3 0 r x) rfl (by
    intro a; fin_cases a <;> simp [ix3])

/-- After a store of slab 1 slab 0 is as it was. -/
theorem slab_miss1 (v : View sig κ sp ⟨3, ![2, n, m]⟩ e) (f : v.ty.Contents Val) (inb : ∀ a, ![1, 0, 0] a + ![1, n, m] a ≤ ![2, n, m] a)
    (w : (Rect.unit (s := ⟨3, ![2, n, m]⟩) ![1, 0, 0] ![1, n, m] inb).shape.Idx → Val e) (L : List (View.Piece Val ⟨3, ![2, n, m]⟩ e)) (r : Fin n) (x : Fin m) :
    v.read Val (v.writes Val f ((⟨Rect.unit ![1, 0, 0] ![1, n, m] inb, w⟩ : View.Piece Val _ e) :: L)) (ix3 0 r x)
      = v.read Val (v.writes Val f L) (ix3 0 r x) :=
  View.read_writes_cons_unit_of_not_mem v f inb w L _ rfl 0 (Or.inl (show 0 < 1 by decide))

/-- After a store of slab 0 the slab's elements are the stored ones. -/
theorem slab_hit0 (v : View sig κ sp ⟨3, ![2, n, m]⟩ e) (f : v.ty.Contents Val) (inb : ∀ a, ![0, 0, 0] a + ![1, n, m] a ≤ ![2, n, m] a)
    (w : (Rect.unit (s := ⟨3, ![2, n, m]⟩) ![0, 0, 0] ![1, n, m] inb).shape.Idx → Val e) (L : List (View.Piece Val ⟨3, ![2, n, m]⟩ e)) (r : Fin n) (x : Fin m) :
    v.read Val (v.writes Val f ((⟨Rect.unit ![0, 0, 0] ![1, n, m] inb, w⟩ : View.Piece Val _ e) :: L)) (ix3 0 r x) = w (ix3 0 r x) :=
  View.read_writes_cons_unit_of_mem v f inb w L _ (ix3 0 r x) rfl (by
    intro a; fin_cases a <;> simp [ix3])

/-- After a store of slab 0 slab 1 is as it was. -/
theorem slab_miss0 (v : View sig κ sp ⟨3, ![2, n, m]⟩ e) (f : v.ty.Contents Val) (inb : ∀ a, ![0, 0, 0] a + ![1, n, m] a ≤ ![2, n, m] a)
    (w : (Rect.unit (s := ⟨3, ![2, n, m]⟩) ![0, 0, 0] ![1, n, m] inb).shape.Idx → Val e) (L : List (View.Piece Val ⟨3, ![2, n, m]⟩ e)) (r : Fin n) (x : Fin m) :
    v.read Val (v.writes Val f ((⟨Rect.unit ![0, 0, 0] ![1, n, m] inb, w⟩ : View.Piece Val _ e) :: L)) (ix3 1 r x)
      = v.read Val (v.writes Val f L) (ix3 1 r x) :=
  View.read_writes_cons_unit_of_not_mem v f inb w L _ rfl 0 (Or.inr (show 0 + 1 ≤ 1 by decide))

/-- A load of slab `g` reads the slab's elements. -/
theorem slab_load (v : View sig κ sp ⟨3, ![2, n, m]⟩ e) (f : v.ty.Contents Val) (g : Fin 2) (off : Fin 3 → ℕ) (hoff : off = ![g.val, 0, 0])
    (inb : ∀ a, off a + ![1, n, m] a ≤ ![2, n, m] a) (r : Fin n) (x : Fin m) :
    v.readAt Val (Rect.unit (s := ⟨3, ![2, n, m]⟩) off ![1, n, m] inb).toLoadRect f (ix3 0 r x) = v.read Val f (ix3 g r x) := by
  subst hoff
  rw [View.readAt_eq_ld]
  refine congrArg (v.read Val f) (funext fun a => Fin.ext ?_)
  fin_cases a
  · show g.val + 1 * 0 = g.val; omega
  · show 0 + 1 * r.val = r.val; omega
  · show 0 + 1 * x.val = x.val; omega

/-- A load of a block reads the elements at its offsets. -/
theorem blk_load {N M : ℕ} (v : View sig κ sp ⟨2, ![N, M]⟩ e) (f : v.ty.Contents Val) (off : Fin 2 → ℕ) (o p : ℕ) (hoff : off = ![o, p])
    (inb : ∀ a, off a + ![n, m] a ≤ ![N, M] a) (r : Fin n) (x : Fin m) (h0 : o + r.val < N) (h1 : p + x.val < M) :
    v.readAt Val (Rect.unit (s := ⟨2, ![N, M]⟩) off ![n, m] inb).toLoadRect f (ix2 r x) = v.read Val f (ix2 ⟨o + r.val, h0⟩ ⟨p + x.val, h1⟩) := by
  subst hoff
  rw [View.readAt_eq_ld]
  refine congrArg (v.read Val f) (funext fun a => Fin.ext ?_)
  fin_cases a
  · show o + 1 * r.val = o + r.val; omega
  · show p + 1 * x.val = p + x.val; omega

end Cert.Fox

end
-- ==== Proof.Fox.Trip.lean ====
/- One trip of the loop over the earlier blocks, and the loop. -/
module

public import proofs.«01_k».proof.Proof.Fox.Pay
public import proofs.«01_k».proof.Proof.Fox.Row
public import proofs.«01_k».proof.Proof.Fox.Off
public import proofs.«01_k».proof.Proof.Fox.Views
public import proofs.«01_k».proof.Proof.Gen.KernelIdeal.Loops

@[expose] public section

set_option maxRecDepth 16384
set_option maxHeartbeats 2000000

noncomputable section

namespace Cert.Fox

open Idealize.ShloMosaic Cert.KernelIdeal Cert.KernelIdeal.Gen

/-- The block of keys or values a load reads. -/
abbrev ldk (a : Memref sig .tc .vmem S4096x512 .bf16) (f : BufTy.Contents (Elt Ideal) a.view.ty) (off : Fin 2 → ℕ)
    (inb : ∀ x, off x + S512x256.size x ≤ S4096x512.size x) : FVec Ideal S512x256 .bf16 :=
  a.view.readAt (Elt Ideal) (Rect.unit (s := S4096x512) off S512x256.size inb).toLoadRect f

/-- A slab of logits. -/
abbrev lds (a : Memref sig .tc .vmem S2x512x512 .f32) (f : BufTy.Contents (Elt Ideal) a.view.ty) (off : Fin 3 → ℕ)
    (inb : ∀ x, off x + S1x512x512.size x ≤ S2x512x512.size x) : FVec Ideal S1x512x512 .f32 :=
  a.view.readAt (Elt Ideal) (Rect.unit (s := S2x512x512) off S1x512x512.size inb).toLoadRect f

/-- A slab of bounds. -/
abbrev ldm (a : Memref sig .tc .vmem S2x512x128 .f32) (f : BufTy.Contents (Elt Ideal) a.view.ty) (off : Fin 3 → ℕ)
    (inb : ∀ x, off x + S1x512x128.size x ≤ S2x512x128.size x) : FVec Ideal S1x512x128 .f32 :=
  a.view.readAt (Elt Ideal) (Rect.unit (s := S2x512x128) off S1x512x128.size inb).toLoadRect f

/-- A slab of sums. -/
abbrev lda (a : Memref sig .tc .vmem S2x512x256 .f32) (f : BufTy.Contents (Elt Ideal) a.view.ty) (off : Fin 3 → ℕ)
    (inb : ∀ x, off x + S1x512x256.size x ≤ S2x512x256.size x) : FVec Ideal S1x512x256 .f32 :=
  a.view.readAt (Elt Ideal) (Rect.unit (s := S2x512x256) off S1x512x256.size inb).toLoadRect f

theorem pay19_eq (S : FVec Ideal S1x512x512 .f32) (M : FVec Ideal S1x512x128 .f32) :
    k0_pay19 (k0_pay15 S M) = k0_pay46 (F := Ideal) (k0_pay22 S M) := rfl

theorem pay18_eq (S : FVec Ideal S1x512x512 .f32) (M : FVec Ideal S1x512x128 .f32) (A : FVec Ideal S1x512x256 .f32) (W : FVec Ideal S512x256 .bf16) :
    k0_pay18 (k0_pay16 S M W) (k0_pay17 S M A) = k0_pay23 (F := Ideal) S M W A := rfl

/-- What the three scratch arrays hold before trip `k` of the loop over the blocks before block `qi`: the logits of the
    block `k` before it, and the bounds and sums of the blocks after that one. -/
structure Inv (Q : Fin 2 → FVec Ideal S512x256 .bf16) (KA VA : FVec Ideal S4096x512 .bf16) (qi k : ℕ)
    (ss : FVec Ideal S2x512x512 .f32) (mm : FVec Ideal S2x512x128 .f32) (aa : FVec Ideal S2x512x256 .f32) : Prop where
  hs : ∀ (g : Fin 2) (r x : Fin 512) (h : (qi - k) * 512 + x.val < 4096),
    ss (ix3 g r x) = mlogit qi (Q g) KA g r ⟨(qi - k) * 512 + x.val, h⟩
  hacc : Acc Q KA VA qi (cols ((qi - k + 1) * 512) ((qi + 1) * 512)) mm aa

/-- The bounds and sums after the update by the block of logits `ss` and the block of values. -/
theorem acc_step (Q : Fin 2 → FVec Ideal S512x256 .bf16) (KA VA : FVec Ideal S4096x512 .bf16) (qi k : ℕ) (hq : qi < 8) (hk : k ≤ qi)
    (hfin : ∀ g r j, mlogit qi (Q g) KA g r j ≠ ⊤)
    (ss : FVec Ideal S2x512x512 .f32) (mm : FVec Ideal S2x512x128 .f32) (aa : FVec Ideal S2x512x256 .f32) (h : Inv Q KA VA qi k ss mm aa)
    (g : Fin 2) (S : FVec Ideal S1x512x512 .f32) (M : FVec Ideal S1x512x128 .f32) (A : FVec Ideal S1x512x256 .f32) (W : FVec Ideal S512x256 .bf16)
    (hS : ∀ r x, S (ix3 0 r x) = ss (ix3 g r x)) (hM : ∀ r x, M (ix3 0 r x) = mm (ix3 g r x)) (hA : ∀ r x, A (ix3 0 r x) = aa (ix3 g r x))
    (hW : ∀ (x : Fin 512) (l : Fin 256) (h : (qi - k) * 512 + x.val < 4096), W (ix2 x l) = VA (ix2 ⟨(qi - k) * 512 + x.val, h⟩ ⟨g.val * 256 + l.val, by omega⟩)) :
    (∀ r l, k0_pay46 (F := Ideal) (k0_pay22 S M) (ix3 0 r l)
        = (cols ((qi - k) * 512) ((qi + 1) * 512)).sup (mlogit qi (Q g) KA g r))
    ∧ (∀ r l, k0_pay23 (F := Ideal) S M W A (ix3 0 r l)
        = wsum (cols ((qi - k) * 512) ((qi + 1) * 512)) (mlogit qi (Q g) KA g r) (val VA g l)
            ((cols ((qi - k) * 512) ((qi + 1) * 512)).sup (mlogit qi (Q g) KA g r))) := by
  have key := fun (r : Fin 512) (l : Fin 256) => row_step (mlogit qi (Q g) KA g r) (hfin g r) (val VA g l) (qi - k) (qi + 1) (by omega) (by omega)
    _ _ rfl rfl (fun x => S (ix3 0 r x)) (fun x => W (ix2 x l)) (fun x => (hS r x).trans (h.hs g r x _)) (fun x => hW x l _)
  refine ⟨fun r l => ?_, fun r l => ?_⟩
  · rw [mstep_at, hM, h.hacc.hm]
    exact (key r 0).1
  · rw [astep_at S M W A r l _ (fun l => (hM r l).trans (h.hacc.hm g r l)), hA, h.hacc.ha]
    exact (key r l).2

section
variable (𝒱 : Variants) (c : Dev nD) (bd : Option 𝒱.V) (i : grid0.Coords) (arg3 : Memref sig .tc .vmem S512x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S512x256 .bf16) (harg8 : arg8.IsWhole) (arg9 : Memref sig .tc .vmem S4096x512 .bf16) (harg9 : arg9.IsWhole) (arg10 : Memref sig .tc .vmem S4096x512 .bf16) (harg10 : arg10.IsWhole) (arg11 : Memref sig .tc .vmem S2x512x512 .f32) (harg11 : arg11.IsWhole) (arg12 : Memref sig .tc .vmem S2x512x128 .f32) (harg12 : arg12.IsWhole) (arg13 : Memref sig .tc .vmem S2x512x256 .f32) (harg13 : arg13.IsWhole) (arg2 : BitVec 32) (v7 : FVec Ideal S512x256 .bf16) (v12 : FVec Ideal S512x256 .bf16) (v21 : IVec S512x512 32) (v22 : IVec S512x512 32) (v29 : FVec Ideal S512x512 .f32) (X_arg9 : BufTy.Contents (Elt Ideal) arg9.view.ty) (X_arg10 : BufTy.Contents (Elt Ideal) arg10.view.ty)

/-- One trip carries the scratch arrays from one trip's start to the next's. -/
theorem trip_inv (KA VA : FVec Ideal S4096x512 .bf16) (hKA : arg9.view.read (Elt Ideal) X_arg9 = KA) (hVA : arg10.view.read (Elt Ideal) X_arg10 = VA)
    (Q : Fin 2 → FVec Ideal S512x256 .bf16) (hQ0 : Q 0 = v7) (hQ1 : Q 1 = v12)
    (hfin : ∀ g r j, mlogit (i 2).val (Q g) KA g r j ≠ ⊤) (k : Fin (k0_t1_loop i).trips)
    (G_arg11 : BufTy.Contents (Elt Ideal) arg11.view.ty) (G_arg12 : BufTy.Contents (Elt Ideal) arg12.view.ty) (G_arg13 : BufTy.Contents (Elt Ideal) arg13.view.ty)
    (h : Inv Q KA VA (i 2).val k.val (arg11.view.read (Elt Ideal) G_arg11) (arg12.view.read (Elt Ideal) G_arg12) (arg13.view.read (Elt Ideal) G_arg13)) :
    Inv Q KA VA (i 2).val (k.val + 1)
      (arg11.view.read (Elt Ideal) (arg11.view.writes (Elt Ideal) G_arg11 (tripL_k0_t1 𝒱 c bd i arg3 harg3 arg4 harg4 arg5 harg5 arg6 harg6 arg7 harg7 arg8 harg8 arg9 harg9 arg10 harg10 arg11 harg11 arg12 harg12 arg13 harg13 arg2 v7 v12 v21 v22 v29 X_arg9 X_arg10 k G_arg11 G_arg12 G_arg13).1))
      (arg12.view.read (Elt Ideal) (arg12.view.writes (Elt Ideal) G_arg12 (tripL_k0_t1 𝒱 c bd i arg3 harg3 arg4 harg4 arg5 harg5 arg6 harg6 arg7 harg7 arg8 harg8 arg9 harg9 arg10 harg10 arg11 harg11 arg12 harg12 arg13 harg13 arg2 v7 v12 v21 v22 v29 X_arg9 X_arg10 k G_arg11 G_arg12 G_arg13).2.1))
      (arg13.view.read (Elt Ideal) (arg13.view.writes (Elt Ideal) G_arg13 (tripL_k0_t1 𝒱 c bd i arg3 harg3 arg4 harg4 arg5 harg5 arg6 harg6 arg7 harg7 arg8 harg8 arg9 harg9 arg10 harg10 arg11 harg11 arg12 harg12 arg13 harg13 arg2 v7 v12 v21 v22 v29 X_arg9 X_arg10 k G_arg11 G_arg12 G_arg13).2.2)) := by
  have hk : k.val < (i 2).val := lt_of_lt_of_eq k.isLt (trips1 i)
  have hq : (i 2).val < 8 := (i 2).isLt
  have st := fun g => acc_step Q KA VA (i 2).val k.val hq hk.le hfin _ _ _ h g
  have st0 := st 0 (lds arg11 G_arg11 ![0, 0, 0] (by decide)) (ldm arg12 G_arg12 ![0, 0, 0] (by decide)) (lda arg13 G_arg13 ![0, 0, 0] (by decide)) (ldk arg10 X_arg10 (k0_off5 i k) (k0_off5_inb i k))
    (slab_load arg11.view G_arg11 0 ![0, 0, 0] rfl (by decide)) (slab_load arg12.view G_arg12 0 ![0, 0, 0] rfl (by decide))
    (slab_load arg13.view G_arg13 0 ![0, 0, 0] rfl (by decide))
    (fun x l hx => by
      rw [← hVA]
      refine (blk_load arg10.view X_arg10 _ _ _ (off5_eq i k) _ x l hx (by omega)).trans ?_
      exact congrArg _ (congrArg _ (Fin.ext (by show 0 + l.val = 0 * 256 + l.val; omega))))
  have st1 := st 1 (lds arg11 G_arg11 ![1, 0, 0] (by decide)) (ldm arg12 G_arg12 ![1, 0, 0] (by decide)) (lda arg13 G_arg13 ![1, 0, 0] (by decide)) (ldk arg10 X_arg10 (k0_off6 i k) (k0_off6_inb i k))
    (slab_load arg11.view G_arg11 1 ![1, 0, 0] rfl (by decide)) (slab_load arg12.view G_arg12 1 ![1, 0, 0] rfl (by decide))
    (slab_load arg13.view G_arg13 1 ![1, 0, 0] rfl (by decide))
    (fun x l hx => by
      rw [← hVA]
      refine (blk_load arg10.view X_arg10 _ _ _ (off6_eq i k) _ x l hx (by omega)).trans ?_
      exact congrArg _ (congrArg _ (Fin.ext (by show 256 + l.val = 1 * 256 + l.val; omega))))
  have e1 : (i 2).val - (k.val + 1) + 1 = (i 2).val - k.val := by omega
  clear st
  unfold tripL_k0_t1 trip_k0_t1
  dsimp only
  refine ⟨fun g r x hx => ?_, ⟨fun g r l => ?_, fun g r l => ?_⟩⟩
  · rw [mlogit, if_pos (by show ((i 2).val - (k.val + 1)) * 512 + x.val ≤ _; have : (i 2).val - (k.val + 1) ≤ (i 2).val - 1 := by omega
                           have := x.isLt; omega), logit, ← hKA]
    fin_cases g
    · refine (slab_miss1 ..).trans ((slab_hit0 ..).trans ((lstep_at v7 (ldk arg9 X_arg9 (k0_off3 i k) (k0_off3_inb i k)) r x).trans ?_))
      refine congrArg₂ _ (Finset.sum_congr rfl fun y _ => ?_) rfl
      refine congrArg₂ _ (congrFun hQ0.symm _) ((blk_load arg9.view X_arg9 _ _ _ (off3_eq i k) _ x y hx (by omega)).trans ?_)
      exact congrArg _ (congrArg _ (Fin.ext (by show 0 + y.val = 0 * 256 + y.val; omega)))
    · refine (slab_hit1 ..).trans ((lstep_at v12 (ldk arg9 X_arg9 (k0_off4 i k) (k0_off4_inb i k)) r x).trans ?_)
      refine congrArg₂ _ (Finset.sum_congr rfl fun y _ => ?_) rfl
      refine congrArg₂ _ (congrFun hQ1.symm _) ((blk_load arg9.view X_arg9 _ _ _ (off4_eq i k) _ x y hx (by omega)).trans ?_)
      exact congrArg _ (congrArg _ (Fin.ext (by show 256 + y.val = 1 * 256 + y.val; omega)))
  · rw [e1]
    fin_cases g
    · exact (slab_miss1 ..).trans ((slab_hit0 ..).trans (st0.1 r l))
    · exact (slab_hit1 ..).trans (st1.1 r l)
  · rw [e1]
    fin_cases g
    · exact (slab_miss1 ..).trans ((slab_hit0 ..).trans (st0.2 r l))
    · exact (slab_hit1 ..).trans (st1.2 r l)

/-- Before trip `k` of the loop. -/
theorem loop_inv (KA VA : FVec Ideal S4096x512 .bf16) (hKA : arg9.view.read (Elt Ideal) X_arg9 = KA) (hVA : arg10.view.read (Elt Ideal) X_arg10 = VA)
    (Q : Fin 2 → FVec Ideal S512x256 .bf16) (hQ0 : Q 0 = v7) (hQ1 : Q 1 = v12)
    (hfin : ∀ g r j, mlogit (i 2).val (Q g) KA g r j ≠ ⊤)
    (G_arg11 : BufTy.Contents (Elt Ideal) arg11.view.ty) (G_arg12 : BufTy.Contents (Elt Ideal) arg12.view.ty) (G_arg13 : BufTy.Contents (Elt Ideal) arg13.view.ty)
    (h : Inv Q KA VA (i 2).val 0 (arg11.view.read (Elt Ideal) G_arg11) (arg12.view.read (Elt Ideal) G_arg12) (arg13.view.read (Elt Ideal) G_arg13)) :
    ∀ k : ℕ, k ≤ (k0_t1_loop i).trips → Inv Q KA VA (i 2).val k
      (arg11.view.read (Elt Ideal) (arg11.view.writes (Elt Ideal) G_arg11 (pb_k0_t1 𝒱 c bd i arg3 harg3 arg4 harg4 arg5 harg5 arg6 harg6 arg7 harg7 arg8 harg8 arg9 harg9 arg10 harg10 arg11 harg11 arg12 harg12 arg13 harg13 arg2 v7 v12 v21 v22 v29 X_arg9 X_arg10 G_arg11 G_arg12 G_arg13 k).1))
      (arg12.view.read (Elt Ideal) (arg12.view.writes (Elt Ideal) G_arg12 (pb_k0_t1 𝒱 c bd i arg3 harg3 arg4 harg4 arg5 harg5 arg6 harg6 arg7 harg7 arg8 harg8 arg9 harg9 arg10 harg10 arg11 harg11 arg12 harg12 arg13 harg13 arg2 v7 v12 v21 v22 v29 X_arg9 X_arg10 G_arg11 G_arg12 G_arg13 k).2.1))
      (arg13.view.read (Elt Ideal) (arg13.view.writes (Elt Ideal) G_arg13 (pb_k0_t1 𝒱 c bd i arg3 harg3 arg4 harg4 arg5 harg5 arg6 harg6 arg7 harg7 arg8 harg8 arg9 harg9 arg10 harg10 arg11 harg11 arg12 harg12 arg13 harg13 arg2 v7 v12 v21 v22 v29 X_arg9 X_arg10 G_arg11 G_arg12 G_arg13 k).2.2))
  | 0, _ => by
    rw [pb_k0_t1.eq_1]
    exact h
  | k + 1, hk => by
    have ih := loop_inv KA VA hKA hVA Q hQ0 hQ1 hfin G_arg11 G_arg12 G_arg13 h k (by omega)
    rw [pb_k0_t1_succ 𝒱 c bd i arg3 harg3 arg4 harg4 arg5 harg5 arg6 harg6 arg7 harg7 arg8 harg8 arg9 harg9 arg10 harg10 arg11 harg11 arg12 harg12 arg13 harg13 arg2 v7 v12 v21 v22 v29 X_arg9 X_arg10 G_arg11 G_arg12 G_arg13 ⟨k, hk⟩]
    dsimp only
    rw [View.writes_append, View.writes_append, View.writes_append]
    exact trip_inv 𝒱 c bd i arg3 harg3 arg4 harg4 arg5 harg5 arg6 harg6 arg7 harg7 arg8 harg8 arg9 harg9 arg10 harg10 arg11 harg11 arg12 harg12 arg13 harg13 arg2 v7 v12 v21 v22 v29 X_arg9 X_arg10 KA VA hKA hVA Q hQ0 hQ1 hfin ⟨k, hk⟩ _ _ _ ih

end

end Cert.Fox

end
-- ==== Proof.Fox.Point.lean ====
/- One grid point: from the queries, keys and values it is given to the block it writes out. -/
module

public import proofs.«01_k».proof.Proof.Fox.Trip
public import proofs.«01_k».proof.Proof.Gen.KernelIdeal.Frame

@[expose] public section

set_option maxRecDepth 16384
set_option maxHeartbeats 2000000

noncomputable section

namespace Cert.Fox

open Idealize.ShloMosaic Idealize.ShloMosaic.TcCoe Cert.KernelIdeal Cert.KernelIdeal.Gen Cert.KernelIdeal.Facts Idealize.ShloMosaic.Tactic

/-- The row numbers within a block. -/
abbrev io0 : IVec S512x512 32 := iota .tc S512x512 32 [0] iota_S512x512_d0_w32

/-- The column numbers within a block. -/
abbrev io1 : IVec S512x512 32 := iota .tc S512x512 32 [1] iota_S512x512_d1_w32

section
variable (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S512x256 .bf16) (harg8 : arg8.IsWhole) (arg9 : Memref sig .tc .vmem S4096x512 .bf16) (harg9 : arg9.IsWhole) (arg10 : Memref sig .tc .vmem S4096x512 .bf16) (harg10 : arg10.IsWhole) (arg11 : Memref sig .tc .vmem S2x512x512 .f32) (harg11 : arg11.IsWhole) (arg12 : Memref sig .tc .vmem S2x512x128 .f32) (harg12 : arg12.IsWhole) (arg13 : Memref sig .tc .vmem S2x512x256 .f32) (harg13 : arg13.IsWhole) (q0 q1 : FVec Ideal S512x256 .bf16) (v29 : FVec Ideal S512x512 .f32) (X9 : BufTy.Contents (Elt Ideal) arg9.view.ty) (X10 : BufTy.Contents (Elt Ideal) arg10.view.ty)

/-- The logits scratch after the block on the diagonal. -/
def F11 : BufTy.Contents (Elt Ideal) arg11.view.ty := arg11.view.writes (Elt Ideal) arg11.view.junk
  [⟨Rect.unit ![1, 0, 0] S1x512x512.size inb_S2x512x512_S1x512x512_1_0_0, k0_pay45 q1 io0 io1 (ldk arg9 X9 (k0_off2 i) (k0_off2_inb i))⟩,
   ⟨Rect.unit ![0, 0, 0] S1x512x512.size inb_S2x512x512_S1x512x512_0_0_0, k0_pay45 q0 io0 io1 (ldk arg9 X9 (k0_off1 i) (k0_off1_inb i))⟩]

/-- The bounds scratch at the start. -/
def F12 : BufTy.Contents (Elt Ideal) arg12.view.ty := arg12.view.writes (Elt Ideal) arg12.view.junk
  [⟨Rect.unit ![0, 0, 0] S2x512x128.size inb_S2x512x128_S2x512x128_0_0_0, k0_pay41 (F := Ideal)⟩]

/-- The sums scratch at the start. -/
def F13 : BufTy.Contents (Elt Ideal) arg13.view.ty := arg13.view.writes (Elt Ideal) arg13.view.junk
  [⟨Rect.unit ![0, 0, 0] S2x512x256.size inb_S2x512x256_S2x512x256_0_0_0, k0_pay42 (F := Ideal)⟩]

/-- The logits scratch after the loop. -/
def G11 : BufTy.Contents (Elt Ideal) arg11.view.ty := arg11.view.writes (Elt Ideal) (F11 i arg9 arg11 q0 q1 X9) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 io0 io1 v29 X9 X10 (F11 i arg9 arg11 q0 q1 X9) (F12 arg12) (F13 arg13) (k0_t1_loop i).trips).1

/-- The bounds scratch after the loop. -/
def G12 : BufTy.Contents (Elt Ideal) arg12.view.ty := arg12.view.writes (Elt Ideal) (F12 arg12) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 io0 io1 v29 X9 X10 (F11 i arg9 arg11 q0 q1 X9) (F12 arg12) (F13 arg13) (k0_t1_loop i).trips).2.1

/-- The sums scratch after the loop. -/
def G13 : BufTy.Contents (Elt Ideal) arg13.view.ty := arg13.view.writes (Elt Ideal) (F13 arg13) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 io0 io1 v29 X9 X10 (F11 i arg9 arg11 q0 q1 X9) (F12 arg12) (F13 arg13) (k0_t1_loop i).trips).2.2

/-- Before the loop. -/
theorem inv_init (KA VA : FVec Ideal S4096x512 .bf16) (hKA : arg9.view.read (Elt Ideal) X9 = KA)
    (Q : Fin 2 → FVec Ideal S512x256 .bf16) (hQ0 : Q 0 = q0) (hQ1 : Q 1 = q1) :
    Inv Q KA VA (i 2).val 0 (arg11.view.read (Elt Ideal) (F11 i arg9 arg11 q0 q1 X9)) (arg12.view.read (Elt Ideal) (F12 arg12)) (arg13.view.read (Elt Ideal) (F13 arg13)) := by
  have hq : (i 2).val < 8 := (i 2).isLt
  have he : cols (((i 2).val - 0 + 1) * 512) (((i 2).val + 1) * 512) = ∅ := by
    ext j; rw [mem_cols]; simp only [Finset.notMem_empty, iff_false]; omega
  unfold F11 F12 F13
  refine ⟨fun g r x hx => ?_, ⟨fun g r l => ?_, fun g r l => ?_⟩⟩
  · have hle : ((i 2).val - 0) * 512 + x.val ≤ (i 2).val * 512 + r.val ↔ x.val ≤ r.val := by omega
    rw [mlogit]
    simp only [hle]
    rw [logit, ← hKA]
    fin_cases g
    · refine (slab_miss1 ..).trans ((slab_hit0 ..).trans ((dstep_at q0 (ldk arg9 X9 (k0_off1 i) (k0_off1_inb i)) r x).trans ?_))
      refine if_congr Iff.rfl (congrArg₂ _ (Finset.sum_congr rfl fun y _ => ?_) rfl) rfl
      refine congrArg₂ _ (congrFun hQ0.symm _) ((blk_load arg9.view X9 _ _ _ (off1_eq i) _ x y (by omega) (by omega)).trans ?_)
      exact congrArg _ (congrArg _ (Fin.ext (by show 0 + y.val = 0 * 256 + y.val; omega)))
    · refine (slab_hit1 ..).trans ((dstep_at q1 (ldk arg9 X9 (k0_off2 i) (k0_off2_inb i)) r x).trans ?_)
      refine if_congr Iff.rfl (congrArg₂ _ (Finset.sum_congr rfl fun y _ => ?_) rfl) rfl
      refine congrArg₂ _ (congrFun hQ1.symm _) ((blk_load arg9.view X9 _ _ _ (off2_eq i) _ x y (by omega) (by omega)).trans ?_)
      exact congrArg _ (congrArg _ (Fin.ext (by show 256 + y.val = 1 * 256 + y.val; omega)))
  · rw [he, Finset.sup_empty]
    refine (View.read_writes_cons_unit_of_mem arg12.view _ _ _ _ _ (ix3 g r l) rfl ?_).trans (pay41_at g r l)
    intro a; fin_cases a <;> exact (Nat.zero_add _).symm
  · rw [he, Finset.sup_empty, wsum, Finset.sum_empty]
    refine (View.read_writes_cons_unit_of_mem arg13.view _ _ _ _ _ (ix3 g r l) rfl ?_).trans (pay42_at g r l)
    intro a; fin_cases a <;> exact (Nat.zero_add _).symm

/-- After the loop. -/
theorem inv_last (KA VA : FVec Ideal S4096x512 .bf16) (hKA : arg9.view.read (Elt Ideal) X9 = KA) (hVA : arg10.view.read (Elt Ideal) X10 = VA)
    (Q : Fin 2 → FVec Ideal S512x256 .bf16) (hQ0 : Q 0 = q0) (hQ1 : Q 1 = q1)
    (hfin : ∀ g r j, mlogit (i 2).val (Q g) KA g r j ≠ ⊤) :
    Inv Q KA VA (i 2).val (i 2).val (arg11.view.read (Elt Ideal) (G11 c i arg3 harg3 arg4 harg4 arg5 harg5 arg6 harg6 arg7 harg7 arg8 harg8 arg9 harg9 arg10 harg10 arg11 harg11 arg12 harg12 arg13 harg13 q0 q1 v29 X9 X10)) (arg12.view.read (Elt Ideal) (G12 c i arg3 harg3 arg4 harg4 arg5 harg5 arg6 harg6 arg7 harg7 arg8 harg8 arg9 harg9 arg10 harg10 arg11 harg11 arg12 harg12 arg13 harg13 q0 q1 v29 X9 X10)) (arg13.view.read (Elt Ideal) (G13 c i arg3 harg3 arg4 harg4 arg5 harg5 arg6 harg6 arg7 harg7 arg8 harg8 arg9 harg9 arg10 harg10 arg11 harg11 arg12 harg12 arg13 harg13 q0 q1 v29 X9 X10)) := by
  have h := loop_inv Variants.none c none i arg3 harg3 arg4 harg4 arg5 harg5 arg6 harg6 arg7 harg7 arg8 harg8 arg9 harg9 arg10 harg10 arg11 harg11 arg12 harg12 arg13 harg13 (BitVec.ofNat 32 (i 2).val) q0 q1 io0 io1 v29 X9 X10 KA VA hKA hVA Q hQ0 hQ1 hfin
    (F11 i arg9 arg11 q0 q1 X9) (F12 arg12) (F13 arg13) (inv_init i arg9 arg11 arg12 arg13 q0 q1 X9 KA VA hKA Q hQ0 hQ1) (k0_t1_loop i).trips le_rfl
  rw [trips1 i] at h
  unfold G11 G12 G13
  rw [trips1 i]
  exact h

/-- Head 0's new sums. -/
def N0 : FVec Ideal S1x512x256 .f32 :=
  k0_pay23 (lds arg11 (G11 c i arg3 harg3 arg4 harg4 arg5 harg5 arg6 harg6 arg7 harg7 arg8 harg8 arg9 harg9 arg10 harg10 arg11 harg11 arg12 harg12 arg13 harg13 q0 q1 v29 X9 X10) ![0, 0, 0] inb_S2x512x512_S1x512x512_0_0_0) (ldm arg12 (G12 c i arg3 harg3 arg4 harg4 arg5 harg5 arg6 harg6 arg7 harg7 arg8 harg8 arg9 harg9 arg10 harg10 arg11 harg11 arg12 harg12 arg13 harg13 q0 q1 v29 X9 X10) ![0, 0, 0] inb_S2x512x128_S1x512x128_0_0_0)
    (ldk arg10 X10 ![0, 0] inb_S4096x512_S512x256_0_0) (lda arg13 (G13 c i arg3 harg3 arg4 harg4 arg5 harg5 arg6 harg6 arg7 harg7 arg8 harg8 arg9 harg9 arg10 harg10 arg11 harg11 arg12 harg12 arg13 harg13 q0 q1 v29 X9 X10) ![0, 0, 0] inb_S2x512x256_S1x512x256_0_0_0)

/-- The bounds after head 0's last update. -/
def H12 : BufTy.Contents (Elt Ideal) arg12.view.ty := arg12.view.writes (Elt Ideal) (G12 c i arg3 harg3 arg4 harg4 arg5 harg5 arg6 harg6 arg7 harg7 arg8 harg8 arg9 harg9 arg10 harg10 arg11 harg11 arg12 harg12 arg13 harg13 q0 q1 v29 X9 X10)
  [⟨Rect.unit ![0, 0, 0] S1x512x128.size inb_S2x512x128_S1x512x128_0_0_0, k0_pay46 (F := Ideal) (k0_pay22 (lds arg11 (G11 c i arg3 harg3 arg4 harg4 arg5 harg5 arg6 harg6 arg7 harg7 arg8 harg8 arg9 harg9 arg10 harg10 arg11 harg11 arg12 harg12 arg13 harg13 q0 q1 v29 X9 X10) ![0, 0, 0] inb_S2x512x512_S1x512x512_0_0_0) (ldm arg12 (G12 c i arg3 harg3 arg4 harg4 arg5 harg5 arg6 harg6 arg7 harg7 arg8 harg8 arg9 harg9 arg10 harg10 arg11 harg11 arg12 harg12 arg13 harg13 q0 q1 v29 X9 X10) ![0, 0, 0] inb_S2x512x128_S1x512x128_0_0_0))⟩]

/-- The sums after head 0's last update. -/
def H13 : BufTy.Contents (Elt Ideal) arg13.view.ty := arg13.view.writes (Elt Ideal) (G13 c i arg3 harg3 arg4 harg4 arg5 harg5 arg6 harg6 arg7 harg7 arg8 harg8 arg9 harg9 arg10 harg10 arg11 harg11 arg12 harg12 arg13 harg13 q0 q1 v29 X9 X10)
  [⟨Rect.unit ![0, 0, 0] S1x512x256.size inb_S2x512x256_S1x512x256_0_0_0, N0 c i arg3 harg3 arg4 harg4 arg5 harg5 arg6 harg6 arg7 harg7 arg8 harg8 arg9 harg9 arg10 harg10 arg11 harg11 arg12 harg12 arg13 harg13 q0 q1 v29 X9 X10⟩]

/-- Head 1's new sums. -/
def N1 : FVec Ideal S1x512x256 .f32 :=
  k0_pay23 (lds arg11 (G11 c i arg3 harg3 arg4 harg4 arg5 harg5 arg6 harg6 arg7 harg7 arg8 harg8 arg9 harg9 arg10 harg10 arg11 harg11 arg12 harg12 arg13 harg13 q0 q1 v29 X9 X10) ![1, 0, 0] inb_S2x512x512_S1x512x512_1_0_0) (ldm arg12 (H12 c i arg3 harg3 arg4 harg4 arg5 harg5 arg6 harg6 arg7 harg7 arg8 harg8 arg9 harg9 arg10 harg10 arg11 harg11 arg12 harg12 arg13 harg13 q0 q1 v29 X9 X10) ![1, 0, 0] inb_S2x512x128_S1x512x128_1_0_0)
    (ldk arg10 X10 ![0, 256] inb_S4096x512_S512x256_0_256) (lda arg13 (H13 c i arg3 harg3 arg4 harg4 arg5 harg5 arg6 harg6 arg7 harg7 arg8 harg8 arg9 harg9 arg10 harg10 arg11 harg11 arg12 harg12 arg13 harg13 q0 q1 v29 X9 X10) ![1, 0, 0] inb_S2x512x256_S1x512x256_1_0_0)

/-- The sums at the end. -/
def E13 : BufTy.Contents (Elt Ideal) arg13.view.ty := arg13.view.writes (Elt Ideal) (G13 c i arg3 harg3 arg4 harg4 arg5 harg5 arg6 harg6 arg7 harg7 arg8 harg8 arg9 harg9 arg10 harg10 arg11 harg11 arg12 harg12 arg13 harg13 q0 q1 v29 X9 X10)
  [⟨Rect.unit ![1, 0, 0] S1x512x256.size inb_S2x512x256_S1x512x256_1_0_0, N1 c i arg3 harg3 arg4 harg4 arg5 harg5 arg6 harg6 arg7 harg7 arg8 harg8 arg9 harg9 arg10 harg10 arg11 harg11 arg12 harg12 arg13 harg13 q0 q1 v29 X9 X10⟩,
   ⟨Rect.unit ![0, 0, 0] S1x512x256.size inb_S2x512x256_S1x512x256_0_0_0, N0 c i arg3 harg3 arg4 harg4 arg5 harg5 arg6 harg6 arg7 harg7 arg8 harg8 arg9 harg9 arg10 harg10 arg11 harg11 arg12 harg12 arg13 harg13 q0 q1 v29 X9 X10⟩]

/-- The sums at the end, head by head: over all keys up to the block's last. -/
theorem end_at (KA VA : FVec Ideal S4096x512 .bf16) (hKA : arg9.view.read (Elt Ideal) X9 = KA) (hVA : arg10.view.read (Elt Ideal) X10 = VA)
    (Q : Fin 2 → FVec Ideal S512x256 .bf16) (hQ0 : Q 0 = q0) (hQ1 : Q 1 = q1)
    (hfin : ∀ g r j, mlogit (i 2).val (Q g) KA g r j ≠ ⊤) (g : Fin 2) (r : Fin 512) (l : Fin 256) :
    arg13.view.read (Elt Ideal) (E13 c i arg3 harg3 arg4 harg4 arg5 harg5 arg6 harg6 arg7 harg7 arg8 harg8 arg9 harg9 arg10 harg10 arg11 harg11 arg12 harg12 arg13 harg13 q0 q1 v29 X9 X10) (ix3 g r l)
      = wsum (cols 0 (((i 2).val + 1) * 512)) (mlogit (i 2).val (Q g) KA g r) (val VA g l) ((cols 0 (((i 2).val + 1) * 512)).sup (mlogit (i 2).val (Q g) KA g r)) := by
  have hq : (i 2).val < 8 := (i 2).isLt
  have hi := inv_last c i arg3 harg3 arg4 harg4 arg5 harg5 arg6 harg6 arg7 harg7 arg8 harg8 arg9 harg9 arg10 harg10 arg11 harg11 arg12 harg12 arg13 harg13 q0 q1 v29 X9 X10 KA VA hKA hVA Q hQ0 hQ1 hfin
  have e0 : ((i 2).val - (i 2).val) * 512 = 0 := by omega
  have st := fun g => acc_step Q KA VA (i 2).val (i 2).val hq le_rfl hfin _ _ _ hi g
  have st0 := (st 0 (lds arg11 (G11 c i arg3 harg3 arg4 harg4 arg5 harg5 arg6 harg6 arg7 harg7 arg8 harg8 arg9 harg9 arg10 harg10 arg11 harg11 arg12 harg12 arg13 harg13 q0 q1 v29 X9 X10) ![0, 0, 0] inb_S2x512x512_S1x512x512_0_0_0) (ldm arg12 (G12 c i arg3 harg3 arg4 harg4 arg5 harg5 arg6 harg6 arg7 harg7 arg8 harg8 arg9 harg9 arg10 harg10 arg11 harg11 arg12 harg12 arg13 harg13 q0 q1 v29 X9 X10) ![0, 0, 0] inb_S2x512x128_S1x512x128_0_0_0)
    (lda arg13 (G13 c i arg3 harg3 arg4 harg4 arg5 harg5 arg6 harg6 arg7 harg7 arg8 harg8 arg9 harg9 arg10 harg10 arg11 harg11 arg12 harg12 arg13 harg13 q0 q1 v29 X9 X10) ![0, 0, 0] inb_S2x512x256_S1x512x256_0_0_0) (ldk arg10 X10 ![0, 0] inb_S4096x512_S512x256_0_0)
    (slab_load arg11.view _ 0 ![0, 0, 0] rfl _) (slab_load arg12.view _ 0 ![0, 0, 0] rfl _) (slab_load arg13.view _ 0 ![0, 0, 0] rfl _)
    (fun x l hx => by
      rw [← hVA]
      refine (blk_load arg10.view X10 _ 0 0 rfl _ x l (by omega) (by omega)).trans ?_
      exact congrArg _ (congrArg₂ _ (Fin.ext (by show 0 + x.val = ((i 2).val - (i 2).val) * 512 + x.val; omega)) (Fin.ext (by show 0 + l.val = 0 * 256 + l.val; omega))))).2
  have st1 := (st 1 (lds arg11 (G11 c i arg3 harg3 arg4 harg4 arg5 harg5 arg6 harg6 arg7 harg7 arg8 harg8 arg9 harg9 arg10 harg10 arg11 harg11 arg12 harg12 arg13 harg13 q0 q1 v29 X9 X10) ![1, 0, 0] inb_S2x512x512_S1x512x512_1_0_0) (ldm arg12 (H12 c i arg3 harg3 arg4 harg4 arg5 harg5 arg6 harg6 arg7 harg7 arg8 harg8 arg9 harg9 arg10 harg10 arg11 harg11 arg12 harg12 arg13 harg13 q0 q1 v29 X9 X10) ![1, 0, 0] inb_S2x512x128_S1x512x128_1_0_0)
    (lda arg13 (H13 c i arg3 harg3 arg4 harg4 arg5 harg5 arg6 harg6 arg7 harg7 arg8 harg8 arg9 harg9 arg10 harg10 arg11 harg11 arg12 harg12 arg13 harg13 q0 q1 v29 X9 X10) ![1, 0, 0] inb_S2x512x256_S1x512x256_1_0_0) (ldk arg10 X10 ![0, 256] inb_S4096x512_S512x256_0_256)
    (slab_load arg11.view _ 1 ![1, 0, 0] rfl _)
    (fun r x => (slab_load arg12.view _ 1 ![1, 0, 0] rfl _ r x).trans (slab_miss0 ..))
    (fun r x => (slab_load arg13.view _ 1 ![1, 0, 0] rfl _ r x).trans (slab_miss0 ..))
    (fun x l hx => by
      rw [← hVA]
      refine (blk_load arg10.view X10 _ 0 256 rfl _ x l (by omega) (by omega)).trans ?_
      exact congrArg _ (congrArg₂ _ (Fin.ext (by show 0 + x.val = ((i 2).val - (i 2).val) * 512 + x.val; omega)) (Fin.ext (by show 256 + l.val = 1 * 256 + l.val; omega))))).2
  rw [e0] at st0 st1
  unfold E13
  fin_cases g
  · exact (slab_miss1 ..).trans ((slab_hit0 ..).trans (st0 r l))
  · exact (slab_hit1 ..).trans (st1 r l)

/-- The block written out. -/
def outBlk : FVec Ideal S512x256 .bf16 := VO0_5.read (Elt Ideal) (VO0_5.writes (Elt Ideal) VO0_5.junk
  [⟨Rect.unit ![0, 128] ![512, 128] (by decide), k0_pay3 (F := Ideal) (lda arg13 (E13 c i arg3 harg3 arg4 harg4 arg5 harg5 arg6 harg6 arg7 harg7 arg8 harg8 arg9 harg9 arg10 harg10 arg11 harg11 arg12 harg12 arg13 harg13 q0 q1 v29 X9 X10) ![1, 0, 0] inb_S2x512x256_S1x512x256_1_0_0)⟩,
   ⟨Rect.unit ![0, 0] ![512, 128] (by decide), k0_pay3 (F := Ideal) (lda arg13 (E13 c i arg3 harg3 arg4 harg4 arg5 harg5 arg6 harg6 arg7 harg7 arg8 harg8 arg9 harg9 arg10 harg10 arg11 harg11 arg12 harg12 arg13 harg13 q0 q1 v29 X9 X10) ![0, 0, 0] inb_S2x512x256_S1x512x256_0_0_0)⟩])

/-- Its elements: head by head, the weighted sum of values divided by the sum of the weights. -/
theorem outBlk_at (KA VA : FVec Ideal S4096x512 .bf16) (hKA : arg9.view.read (Elt Ideal) X9 = KA) (hVA : arg10.view.read (Elt Ideal) X10 = VA)
    (Q : Fin 2 → FVec Ideal S512x256 .bf16) (hQ0 : Q 0 = q0) (hQ1 : Q 1 = q1)
    (hfin : ∀ g r j, mlogit (i 2).val (Q g) KA g r j ≠ ⊤) (g : Fin 2) (r : Fin 512) (l : Fin 128) :
    outBlk c i arg3 harg3 arg4 harg4 arg5 harg5 arg6 harg6 arg7 harg7 arg8 harg8 arg9 harg9 arg10 harg10 arg11 harg11 arg12 harg12 arg13 harg13 q0 q1 v29 X9 X10 (ix2 r ⟨g.val * 128 + l.val, by omega⟩)
      = Ideal.div (wsum (cols 0 (((i 2).val + 1) * 512)) (mlogit (i 2).val (Q g) KA g r) (val VA g ⟨l.val, by omega⟩) ((cols 0 (((i 2).val + 1) * 512)).sup (mlogit (i 2).val (Q g) KA g r)))
          (wsum (cols 0 (((i 2).val + 1) * 512)) (mlogit (i 2).val (Q g) KA g r) (val VA g ⟨128 + l.val, by omega⟩) ((cols 0 (((i 2).val + 1) * 512)).sup (mlogit (i 2).val (Q g) KA g r))) := by
  have h := end_at c i arg3 harg3 arg4 harg4 arg5 harg5 arg6 harg6 arg7 harg7 arg8 harg8 arg9 harg9 arg10 harg10 arg11 harg11 arg12 harg12 arg13 harg13 q0 q1 v29 X9 X10 KA VA hKA hVA Q hQ0 hQ1 hfin
  rw [← h g r, ← h g r]
  unfold outBlk
  fin_cases g
  · refine (View.read_writes_cons_unit_of_not_mem VO0_5 _ _ _ _ _ rfl 1 (Or.inl (show 0 * 128 + l.val < 128 by omega))).trans ?_
    refine (View.read_writes_cons_unit_of_mem VO0_5 _ _ _ _ _ (ix2 r l) rfl ?_).trans ((pay3_at _ r l).trans ?_)
    · intro a; fin_cases a
      · exact (Nat.zero_add _).symm
      · show 0 * 128 + l.val = 0 + l.val; omega
    · exact congrArg₂ _ (slab_load arg13.view _ 0 ![0, 0, 0] rfl _ r _) (slab_load arg13.view _ 0 ![0, 0, 0] rfl _ r _)
  · refine (View.read_writes_cons_unit_of_mem VO0_5 _ _ _ _ _ (ix2 r l) rfl ?_).trans ((pay3_at _ r l).trans ?_)
    · intro a; fin_cases a
      · exact (Nat.zero_add _).symm
      · show 1 * 128 + l.val = 128 + l.val; omega
    · exact congrArg₂ _ (slab_load arg13.view _ 1 ![1, 0, 0] rfl _ r _) (slab_load arg13.view _ 1 ![1, 0, 0] rfl _ r _)

end

end Cert.Fox

end
-- ==== Proof.Fox.Words.lean ====
/- The block a grid point writes out, in the two cases of the body. -/
module

public import proofs.«01_k».proof.Proof.Fox.Point

@[expose] public section

set_option maxRecDepth 16384
set_option maxHeartbeats 2000000

noncomputable section

namespace Cert.Fox

open Idealize.ShloMosaic Idealize.ShloMosaic.TcCoe Cert.KernelIdeal Cert.KernelIdeal.Gen Cert.KernelIdeal.Facts Idealize.ShloMosaic.Tactic

theorem trips2' (i : grid0.Coords) : Scf.trips (k0_t2_loop i).lb (k0_t2_loop i).ub (k0_t2_loop i).st = 0 := trips2 i

section
variable (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S512x256 .bf16) (harg8 : arg8.IsWhole) (arg9 : Memref sig .tc .vmem S4096x512 .bf16) (harg9 : arg9.IsWhole) (arg10 : Memref sig .tc .vmem S4096x512 .bf16) (harg10 : arg10.IsWhole) (arg11 : Memref sig .tc .vmem S2x512x512 .f32) (harg11 : arg11.IsWhole) (arg12 : Memref sig .tc .vmem S2x512x128 .f32) (harg12 : arg12.IsWhole) (arg13 : Memref sig .tc .vmem S2x512x256 .f32) (harg13 : arg13.IsWhole) (hc0 : ¬cond0_0 i)
    (x0 : Vec Ideal S512x256 .bf16) (x1 : Vec Ideal S512x256 .bf16) (x2 : Vec Ideal S4096x256 .bf16) (x3 : Vec Ideal S4096x256 .bf16) (x4 : Vec Ideal S4096x256 .bf16) (xs0 : Vec Ideal S4096x512 .bf16) (xs1 : Vec Ideal S4096x512 .bf16)

theorem B_v53 : kernelRun0_B.sl.v53 (F := Ideal) c i arg3 harg3 arg4 harg4 arg5 harg5 arg6 harg6 arg7 harg7 arg8 harg8 arg9 harg9 arg10 harg10 arg11 harg11 arg12 harg12 arg13 harg13 x0 x1 xs0 xs1 = lds arg11 (G11 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1)) ![0, 0, 0] inb_S2x512x512_S1x512x512_0_0_0 := by
  unfold kernelRun0_B.sl.v53
  rw [trips2', pb_k0_t2.eq_1]
  dsimp only
  rw [List.nil_append]
  unfold View.readCov
  rw [View.writes_append]
  rfl

theorem B_v55 : kernelRun0_B.sl.v55 (F := Ideal) c i arg3 harg3 arg4 harg4 arg5 harg5 arg6 harg6 arg7 harg7 arg8 harg8 arg9 harg9 arg10 harg10 arg11 harg11 arg12 harg12 arg13 harg13 x0 x1 xs0 xs1 = ldm arg12 (G12 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1)) ![0, 0, 0] inb_S2x512x128_S1x512x128_0_0_0 := by
  unfold kernelRun0_B.sl.v55
  rw [trips2', pb_k0_t2.eq_1]
  dsimp only
  rw [List.nil_append]
  unfold View.readCov
  rw [View.writes_append]
  rfl

theorem B_v70 : kernelRun0_B.sl.v70 (F := Ideal) c i arg3 harg3 arg4 harg4 arg5 harg5 arg6 harg6 arg7 harg7 arg8 harg8 arg9 harg9 arg10 harg10 arg11 harg11 arg12 harg12 arg13 harg13 x0 x1 xs0 xs1 = lda arg13 (G13 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1)) ![0, 0, 0] inb_S2x512x256_S1x512x256_0_0_0 := by
  unfold kernelRun0_B.sl.v70
  rw [trips2', pb_k0_t2.eq_1]
  dsimp only
  rw [List.nil_append]
  unfold View.readCov
  rw [View.writes_append]
  rfl

theorem B_v81 : kernelRun0_B.sl.v81 (F := Ideal) c i arg3 harg3 arg4 harg4 arg5 harg5 arg6 harg6 arg7 harg7 arg8 harg8 arg9 harg9 arg10 harg10 arg11 harg11 arg12 harg12 arg13 harg13 x0 x1 xs0 xs1 = lds arg11 (G11 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1)) ![1, 0, 0] inb_S2x512x512_S1x512x512_1_0_0 := by
  unfold kernelRun0_B.sl.v81
  rw [trips2', pb_k0_t2.eq_1]
  dsimp only
  rw [List.nil_append]
  unfold View.readCov
  rw [View.writes_append]
  rfl

theorem B_H12 : arg12.view.writes (Elt Ideal) arg12.view.junk (kernelRun0_B.sl.HS3_1_1 (F := Ideal) c i arg3 harg3 arg4 harg4 arg5 harg5 arg6 harg6 arg7 harg7 arg8 harg8 arg9 harg9 arg10 harg10 arg11 harg11 arg12 harg12 arg13 harg13 x0 x1 xs0 xs1) = H12 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1) := by
  unfold kernelRun0_B.sl.HS3_1_1 kernelRun0_B.sl.r_4
  rw [trips2', pb_k0_t2.eq_1, B_v53, B_v55]
  dsimp only
  rw [List.nil_append, View.writes_cons, View.writes_append]
  rfl

theorem B_v83 : kernelRun0_B.sl.v83 (F := Ideal) c i arg3 harg3 arg4 harg4 arg5 harg5 arg6 harg6 arg7 harg7 arg8 harg8 arg9 harg9 arg10 harg10 arg11 harg11 arg12 harg12 arg13 harg13 x0 x1 xs0 xs1 = ldm arg12 (H12 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1)) ![1, 0, 0] inb_S2x512x128_S1x512x128_1_0_0 := by
  unfold kernelRun0_B.sl.v83 View.readCov
  rw [B_H12]

theorem B_H13 : arg13.view.writes (Elt Ideal) arg13.view.junk (kernelRun0_B.sl.HS4_1_1 (F := Ideal) c i arg3 harg3 arg4 harg4 arg5 harg5 arg6 harg6 arg7 harg7 arg8 harg8 arg9 harg9 arg10 harg10 arg11 harg11 arg12 harg12 arg13 harg13 x0 x1 xs0 xs1) = H13 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1) := by
  unfold kernelRun0_B.sl.HS4_1_1 kernelRun0_B.sl.r_3 kernelRun0_B.sl.r_5 kernelRun0_B.sl.r_6
  rw [trips2', pb_k0_t2.eq_1, B_v53, B_v55, B_v70]
  dsimp only
  rw [List.nil_append, View.writes_cons, View.writes_append]
  rfl

theorem B_v98 : kernelRun0_B.sl.v98 (F := Ideal) c i arg3 harg3 arg4 harg4 arg5 harg5 arg6 harg6 arg7 harg7 arg8 harg8 arg9 harg9 arg10 harg10 arg11 harg11 arg12 harg12 arg13 harg13 x0 x1 xs0 xs1 = lda arg13 (H13 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1)) ![1, 0, 0] inb_S2x512x256_S1x512x256_1_0_0 := by
  unfold kernelRun0_B.sl.v98 View.readCov
  rw [B_H13]

theorem B_E13 : arg13.view.writes (Elt Ideal) arg13.view.junk (kernelRun0_B.sl.HS4_2 (F := Ideal) c i arg3 harg3 arg4 harg4 arg5 harg5 arg6 harg6 arg7 harg7 arg8 harg8 arg9 harg9 arg10 harg10 arg11 harg11 arg12 harg12 arg13 harg13 x0 x1 xs0 xs1) = E13 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1) := by
  unfold kernelRun0_B.sl.HS4_2 kernelRun0_B.sl.r_8 kernelRun0_B.sl.r_9
  rw [View.writes_cons, B_H13, B_v98, B_v81, B_v83]
  rfl

theorem B_v109 : kernelRun0_B.sl.v109 (F := Ideal) c i arg3 harg3 arg4 harg4 arg5 harg5 arg6 harg6 arg7 harg7 arg8 harg8 arg9 harg9 arg10 harg10 arg11 harg11 arg12 harg12 arg13 harg13 x0 x1 xs0 xs1 = lda arg13 (E13 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1)) ![0, 0, 0] inb_S2x512x256_S1x512x256_0_0_0 := by
  unfold kernelRun0_B.sl.v109 View.readCov
  rw [B_E13]

theorem B_v116 : kernelRun0_B.sl.v116 (F := Ideal) c i arg3 harg3 arg4 harg4 arg5 harg5 arg6 harg6 arg7 harg7 arg8 harg8 arg9 harg9 arg10 harg10 arg11 harg11 arg12 harg12 arg13 harg13 x0 x1 xs0 xs1 = lda arg13 (E13 c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1)) ![1, 0, 0] inb_S2x512x256_S1x512x256_1_0_0 := by
  unfold kernelRun0_B.sl.v116 View.readCov
  rw [B_E13]

/-- The block written out in case B. -/
theorem B_out : out0_B_5 (F := Ideal) c i arg3 harg3 arg4 harg4 arg5 harg5 arg6 harg6 arg7 harg7 arg8 harg8 arg9 harg9 arg10 harg10 arg11 harg11 arg12 harg12 arg13 harg13 hc0 x0 x1 x2 x3 x4 xs0 xs1 = outBlk c i arg3 harg3 arg4 harg4 arg5 harg5 arg6 harg6 arg7 harg7 arg8 harg8 arg9 harg9 arg10 harg10 arg11 harg11 arg12 harg12 arg13 harg13 (kernelRun0_B.sl.r c arg3 harg3 arg4 harg4 x0 x1) (kernelRun0_B.sl.r_1 c arg3 harg3 arg4 harg4 x0 x1) (kernelRun0_B.sl.r_2 c i arg3 harg3 arg4 harg4 arg9 harg9 x0 x1 xs0) (harg9.unread xs0) (harg10.unread xs1) := by
  unfold out0_B_5 kernelRun0_B
  dsimp only
  rw [B_v109, B_v116]
  rfl

end

section
variable (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S512x256 .bf16) (harg8 : arg8.IsWhole) (arg9 : Memref sig .tc .vmem S4096x512 .bf16) (harg9 : arg9.IsWhole) (arg10 : Memref sig .tc .vmem S4096x512 .bf16) (harg10 : arg10.IsWhole) (arg11 : Memref sig .tc .vmem S2x512x512 .f32) (harg11 : arg11.IsWhole) (arg12 : Memref sig .tc .vmem S2x512x128 .f32) (harg12 : arg12.IsWhole) (arg13 : Memref sig .tc .vmem S2x512x256 .f32) (harg13 : arg13.IsWhole) (hc0 : cond0_0 i)
    (x0 : Vec Ideal S512x256 .bf16) (x1 : Vec Ideal S512x256 .bf16) (x2 : Vec Ideal S4096x256 .bf16) (x3 : Vec Ideal S4096x256 .bf16) (x4 : Vec Ideal S4096x256 .bf16)

theorem A_v53 : kernelRun0_A.sl.v53 (F := Ideal) c i arg3 harg3 arg4 harg4 arg5 harg5 arg6 harg6 arg7 harg7 arg8 harg8 arg9 harg9 arg10 harg10 arg11 harg11 arg12 harg12 arg13 harg13 x0 x1 x2 x3 x4 = lds arg11 (G11 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4))) ![0, 0, 0] inb_S2x512x512_S1x512x512_0_0_0 := by
  unfold kernelRun0_A.sl.v53
  rw [trips2', pb_k0_t2.eq_1]
  dsimp only
  rw [List.nil_append]
  unfold View.readCov
  rw [View.writes_append]
  rfl

theorem A_v55 : kernelRun0_A.sl.v55 (F := Ideal) c i arg3 harg3 arg4 harg4 arg5 harg5 arg6 harg6 arg7 harg7 arg8 harg8 arg9 harg9 arg10 harg10 arg11 harg11 arg12 harg12 arg13 harg13 x0 x1 x2 x3 x4 = ldm arg12 (G12 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4))) ![0, 0, 0] inb_S2x512x128_S1x512x128_0_0_0 := by
  unfold kernelRun0_A.sl.v55
  rw [trips2', pb_k0_t2.eq_1]
  dsimp only
  rw [List.nil_append]
  unfold View.readCov
  rw [View.writes_append]
  rfl

theorem A_v70 : kernelRun0_A.sl.v70 (F := Ideal) c i arg3 harg3 arg4 harg4 arg5 harg5 arg6 harg6 arg7 harg7 arg8 harg8 arg9 harg9 arg10 harg10 arg11 harg11 arg12 harg12 arg13 harg13 x0 x1 x2 x3 x4 = lda arg13 (G13 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4))) ![0, 0, 0] inb_S2x512x256_S1x512x256_0_0_0 := by
  unfold kernelRun0_A.sl.v70
  rw [trips2', pb_k0_t2.eq_1]
  dsimp only
  rw [List.nil_append]
  unfold View.readCov
  rw [View.writes_append]
  rfl

theorem A_v81 : kernelRun0_A.sl.v81 (F := Ideal) c i arg3 harg3 arg4 harg4 arg5 harg5 arg6 harg6 arg7 harg7 arg8 harg8 arg9 harg9 arg10 harg10 arg11 harg11 arg12 harg12 arg13 harg13 x0 x1 x2 x3 x4 = lds arg11 (G11 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4))) ![1, 0, 0] inb_S2x512x512_S1x512x512_1_0_0 := by
  unfold kernelRun0_A.sl.v81
  rw [trips2', pb_k0_t2.eq_1]
  dsimp only
  rw [List.nil_append]
  unfold View.readCov
  rw [View.writes_append]
  rfl

theorem A_H12 : arg12.view.writes (Elt Ideal) arg12.view.junk (kernelRun0_A.sl.HS3_1_1 (F := Ideal) c i arg3 harg3 arg4 harg4 arg5 harg5 arg6 harg6 arg7 harg7 arg8 harg8 arg9 harg9 arg10 harg10 arg11 harg11 arg12 harg12 arg13 harg13 x0 x1 x2 x3 x4) = H12 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4)) := by
  unfold kernelRun0_A.sl.HS3_1_1 kernelRun0_A.sl.r_4
  rw [trips2', pb_k0_t2.eq_1, A_v53, A_v55]
  dsimp only
  rw [List.nil_append, View.writes_cons, View.writes_append]
  rfl

theorem A_v83 : kernelRun0_A.sl.v83 (F := Ideal) c i arg3 harg3 arg4 harg4 arg5 harg5 arg6 harg6 arg7 harg7 arg8 harg8 arg9 harg9 arg10 harg10 arg11 harg11 arg12 harg12 arg13 harg13 x0 x1 x2 x3 x4 = ldm arg12 (H12 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4))) ![1, 0, 0] inb_S2x512x128_S1x512x128_1_0_0 := by
  unfold kernelRun0_A.sl.v83 View.readCov
  rw [A_H12]

theorem A_H13 : arg13.view.writes (Elt Ideal) arg13.view.junk (kernelRun0_A.sl.HS4_1_1 (F := Ideal) c i arg3 harg3 arg4 harg4 arg5 harg5 arg6 harg6 arg7 harg7 arg8 harg8 arg9 harg9 arg10 harg10 arg11 harg11 arg12 harg12 arg13 harg13 x0 x1 x2 x3 x4) = H13 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4)) := by
  unfold kernelRun0_A.sl.HS4_1_1 kernelRun0_A.sl.r_3 kernelRun0_A.sl.r_5 kernelRun0_A.sl.r_6
  rw [trips2', pb_k0_t2.eq_1, A_v53, A_v55, A_v70]
  dsimp only
  rw [List.nil_append, View.writes_cons, View.writes_append]
  rfl

theorem A_v98 : kernelRun0_A.sl.v98 (F := Ideal) c i arg3 harg3 arg4 harg4 arg5 harg5 arg6 harg6 arg7 harg7 arg8 harg8 arg9 harg9 arg10 harg10 arg11 harg11 arg12 harg12 arg13 harg13 x0 x1 x2 x3 x4 = lda arg13 (H13 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4))) ![1, 0, 0] inb_S2x512x256_S1x512x256_1_0_0 := by
  unfold kernelRun0_A.sl.v98 View.readCov
  rw [A_H13]

theorem A_E13 : arg13.view.writes (Elt Ideal) arg13.view.junk (kernelRun0_A.sl.HS4_2 (F := Ideal) c i arg3 harg3 arg4 harg4 arg5 harg5 arg6 harg6 arg7 harg7 arg8 harg8 arg9 harg9 arg10 harg10 arg11 harg11 arg12 harg12 arg13 harg13 x0 x1 x2 x3 x4) = E13 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4)) := by
  unfold kernelRun0_A.sl.HS4_2 kernelRun0_A.sl.r_8 kernelRun0_A.sl.r_9
  rw [View.writes_cons, A_H13, A_v98, A_v81, A_v83]
  rfl

theorem A_v109 : kernelRun0_A.sl.v109 (F := Ideal) c i arg3 harg3 arg4 harg4 arg5 harg5 arg6 harg6 arg7 harg7 arg8 harg8 arg9 harg9 arg10 harg10 arg11 harg11 arg12 harg12 arg13 harg13 x0 x1 x2 x3 x4 = lda arg13 (E13 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4))) ![0, 0, 0] inb_S2x512x256_S1x512x256_0_0_0 := by
  unfold kernelRun0_A.sl.v109 View.readCov
  rw [A_E13]

theorem A_v116 : kernelRun0_A.sl.v116 (F := Ideal) c i arg3 harg3 arg4 harg4 arg5 harg5 arg6 harg6 arg7 harg7 arg8 harg8 arg9 harg9 arg10 harg10 arg11 harg11 arg12 harg12 arg13 harg13 x0 x1 x2 x3 x4 = lda arg13 (E13 c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4))) ![1, 0, 0] inb_S2x512x256_S1x512x256_1_0_0 := by
  unfold kernelRun0_A.sl.v116 View.readCov
  rw [A_E13]

/-- The block written out in case A. -/
theorem A_out : out0_A_5 (F := Ideal) c i arg3 harg3 arg4 harg4 arg5 harg5 arg6 harg6 arg7 harg7 arg8 harg8 arg9 harg9 arg10 harg10 arg11 harg11 arg12 harg12 arg13 harg13 hc0 x0 x1 x2 x3 x4 = outBlk c i arg3 harg3 arg4 harg4 arg5 harg5 arg6 harg6 arg7 harg7 arg8 harg8 arg9 harg9 arg10 harg10 arg11 harg11 arg12 harg12 arg13 harg13 (kernelRun0_A.sl.r c arg3 harg3 arg4 harg4 x0 x1) (kernelRun0_A.sl.r_1 c arg3 harg3 arg4 harg4 x0 x1) (kernelRun0_A.sl.r_2 c i arg3 harg3 arg4 harg4 arg5 harg5 arg6 harg6 arg9 x0 x1 x2 x3) (arg9.view.writes (Elt Ideal) arg9.view.junk (kernelRun0_A.sl.HS0_4 c arg5 harg5 arg6 harg6 x2 x3)) (arg10.view.writes (Elt Ideal) arg10.view.junk (kernelRun0_A.sl.HS1_4 c arg7 harg7 x4)) := by
  unfold out0_A_5 kernelRun0_A
  dsimp only
  rw [A_v109, A_v116]
  rfl

end

end Cert.Fox

end
-- ==== Proof.Fox.Aug.lean ====
/- The key and value arrays a batch's first point builds. -/
module

public import proofs.«01_k».proof.Proof.Fox.Words

@[expose] public section

set_option maxRecDepth 16384
set_option maxHeartbeats 2000000

noncomputable section

namespace Cert.Fox

open Idealize.ShloMosaic Idealize.ShloMosaic.TcCoe Cert.KernelIdeal Cert.KernelIdeal.Gen Cert.KernelIdeal.Facts Idealize.ShloMosaic.Tactic

/-- Two heads' keys, each followed by its own lanes. -/
def kAug (x2 x3 : Vec Ideal S4096x256 .bf16) : Vec Ideal S4096x512 .bf16 := fun i =>
  if h : (i 1).val % 256 < 128 then x2 (ix2 (i 0) ⟨(i 1).val / 256 * 128 + (i 1).val % 256, by have : (i 1).val < 512 := (i 1).isLt; omega⟩)
  else x3 (ix2 (i 0) ⟨(i 1).val / 256 * 128 + ((i 1).val % 256 - 128), by have : (i 1).val < 512 := (i 1).isLt; omega⟩)

/-- Two heads' values, each followed by ones. -/
def vAug (x4 : Vec Ideal S4096x256 .bf16) : Vec Ideal S4096x512 .bf16 := fun i =>
  if h : (i 1).val % 256 < 128 then x4 (ix2 (i 0) ⟨(i 1).val / 256 * 128 + (i 1).val % 256, by have : (i 1).val < 512 := (i 1).isLt; omega⟩)
  else (1 : EReal)

theorem kAug_lo (x2 x3 : Vec Ideal S4096x256 .bf16) (j : Fin 4096) (g : Fin 2) (y : Fin 128) :
    kAug x2 x3 (ix2 j ⟨g.val * 256 + y.val, by omega⟩) = x2 (ix2 j ⟨g.val * 128 + y.val, by omega⟩) := by
  have hy := y.isLt
  have e : (g.val * 256 + y.val) % 256 < 128 := by omega
  refine (dif_pos e).trans (congrArg x2 (congrArg (ix2 j) (Fin.ext ?_)))
  show (g.val * 256 + y.val) / 256 * 128 + (g.val * 256 + y.val) % 256 = g.val * 128 + y.val
  omega

theorem kAug_hi (x2 x3 : Vec Ideal S4096x256 .bf16) (j : Fin 4096) (g : Fin 2) (y : Fin 128) :
    kAug x2 x3 (ix2 j ⟨g.val * 256 + (128 + y.val), by omega⟩) = x3 (ix2 j ⟨g.val * 128 + y.val, by omega⟩) := by
  have hy := y.isLt
  have e : ¬ (g.val * 256 + (128 + y.val)) % 256 < 128 := by omega
  refine (dif_neg e).trans (congrArg x3 (congrArg (ix2 j) (Fin.ext ?_)))
  show (g.val * 256 + (128 + y.val)) / 256 * 128 + ((g.val * 256 + (128 + y.val)) % 256 - 128) = g.val * 128 + y.val
  omega

theorem vAug_lo (x4 : Vec Ideal S4096x256 .bf16) (j : Fin 4096) (g : Fin 2) (y : Fin 128) :
    vAug x4 (ix2 j ⟨g.val * 256 + y.val, by omega⟩) = x4 (ix2 j ⟨g.val * 128 + y.val, by omega⟩) := by
  have hy := y.isLt
  have e : (g.val * 256 + y.val) % 256 < 128 := by omega
  refine (dif_pos e).trans (congrArg x4 (congrArg (ix2 j) (Fin.ext ?_)))
  show (g.val * 256 + y.val) / 256 * 128 + (g.val * 256 + y.val) % 256 = g.val * 128 + y.val
  omega

theorem vAug_hi (x4 : Vec Ideal S4096x256 .bf16) (j : Fin 4096) (g : Fin 2) (y : Fin 128) :
    vAug x4 (ix2 j ⟨g.val * 256 + (128 + y.val), by omega⟩) = (1 : EReal) := by
  have hy := y.isLt
  exact dif_neg (show ¬ (g.val * 256 + (128 + y.val)) % 256 < 128 by omega)

/-- An array is known from its four blocks of 128 columns. -/
theorem ext4 (A B : Vec Ideal S4096x512 .bf16)
    (h : ∀ (j : Fin 4096) (g : Fin 2) (y : Fin 128), A (ix2 j ⟨g.val * 256 + y.val, by omega⟩) = B (ix2 j ⟨g.val * 256 + y.val, by omega⟩)
      ∧ A (ix2 j ⟨g.val * 256 + (128 + y.val), by omega⟩) = B (ix2 j ⟨g.val * 256 + (128 + y.val), by omega⟩)) : A = B := by
  funext i
  obtain ⟨j, n, rfl⟩ : ∃ (j : Fin 4096) (n : Fin 512), i = ix2 j n := ⟨i 0, i 1, by funext a; fin_cases a <;> rfl⟩
  have hn := n.isLt
  by_cases e : n.val % 256 < 128
  · have := (h j ⟨n.val / 256, by omega⟩ ⟨n.val % 256, e⟩).1
    have q : (⟨n.val / 256 * 256 + n.val % 256, by omega⟩ : Fin 512) = n := Fin.ext (by show n.val / 256 * 256 + n.val % 256 = n.val; omega)
    simpa only [q] using this
  · have := (h j ⟨n.val / 256, by omega⟩ ⟨n.val % 256 - 128, by omega⟩).2
    have q : (⟨n.val / 256 * 256 + (128 + (n.val % 256 - 128)), by omega⟩ : Fin 512) = n := Fin.ext (by show n.val / 256 * 256 + (128 + (n.val % 256 - 128)) = n.val; omega)
    simpa only [q] using this

section
variable {sig : RefSig} {κ : Kind} {sp : Space} {e : EltTy} {Val : EltTy → Type}

theorem col_hit (v : View sig κ sp S4096x512 e) (f : v.ty.Contents Val) (o : ℕ) (inb : ∀ a, ![0, o] a + ![4096, 128] a ≤ ![4096, 512] a)
    (w : (Rect.unit (s := S4096x512) ![0, o] ![4096, 128] inb).shape.Idx → Val e) (L : List (View.Piece Val S4096x512 e)) (j : Fin 4096) (y : Fin 128) (n : Fin 512) (hn : n.val = o + y.val) :
    v.read Val (v.writes Val f ((⟨Rect.unit ![0, o] ![4096, 128] inb, w⟩ : View.Piece Val _ e) :: L)) (ix2 j n) = w (ix2 j y) :=
  View.read_writes_cons_unit_of_mem v f inb w L _ (ix2 j y) rfl (by
    intro a; fin_cases a
    · show j.val = 0 + j.val; omega
    · show n.val = o + y.val; omega)

theorem col_miss (v : View sig κ sp S4096x512 e) (f : v.ty.Contents Val) (o : ℕ) (inb : ∀ a, ![0, o] a + ![4096, 128] a ≤ ![4096, 512] a)
    (w : (Rect.unit (s := S4096x512) ![0, o] ![4096, 128] inb).shape.Idx → Val e) (L : List (View.Piece Val S4096x512 e)) (j : Fin 4096) (n : Fin 512) (hn : n.val < o ∨ o + 128 ≤ n.val) :
    v.read Val (v.writes Val f ((⟨Rect.unit ![0, o] ![4096, 128] inb, w⟩ : View.Piece Val _ e) :: L)) (ix2 j n) = v.read Val (v.writes Val f L) (ix2 j n) :=
  View.read_writes_cons_unit_of_not_mem v f inb w L _ rfl 1 hn

end

section
variable (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S512x256 .bf16) (harg8 : arg8.IsWhole) (arg9 : Memref sig .tc .vmem S4096x512 .bf16) (harg9 : arg9.IsWhole) (arg10 : Memref sig .tc .vmem S4096x512 .bf16) (harg10 : arg10.IsWhole) (arg11 : Memref sig .tc .vmem S2x512x512 .f32) (harg11 : arg11.IsWhole) (arg12 : Memref sig .tc .vmem S2x512x128 .f32) (harg12 : arg12.IsWhole) (arg13 : Memref sig .tc .vmem S2x512x256 .f32) (harg13 : arg13.IsWhole) (hc0 : ¬cond0_0 i)
    (x0 : Vec Ideal S512x256 .bf16) (x1 : Vec Ideal S512x256 .bf16) (x2 : Vec Ideal S4096x256 .bf16) (x3 : Vec Ideal S4096x256 .bf16) (x4 : Vec Ideal S4096x256 .bf16) (xs0 : Vec Ideal S4096x512 .bf16) (xs1 : Vec Ideal S4096x512 .bf16)

theorem ka_eq : arg9.view.read (Elt Ideal) (arg9.view.writes (Elt Ideal) arg9.view.junk (kernelRun0_A.sl.HS0_4 (F := Ideal) c arg5 harg5 arg6 harg6 x2 x3)) = kAug x2 x3 := by
  unfold kernelRun0_A.sl.HS0_4
  refine ext4 _ _ fun j g y => ⟨?_, ?_⟩
  · rw [kAug_lo]
    have hy := y.isLt
    fin_cases g
    · refine (col_miss _ _ 384 _ _ _ j _ (by show 0 * 256 + y.val < 384 ∨ 384 + 128 ≤ 0 * 256 + y.val; omega)).trans ?_
      refine (col_miss _ _ 256 _ _ _ j _ (by show 0 * 256 + y.val < 256 ∨ 256 + 128 ≤ 0 * 256 + y.val; omega)).trans ?_
      refine (col_miss _ _ 128 _ _ _ j _ (by show 0 * 256 + y.val < 128 ∨ 128 + 128 ≤ 0 * 256 + y.val; omega)).trans ?_
      refine (col_hit _ _ 0 _ _ _ j y _ (by show 0 * 256 + y.val = 0 + y.val; omega)).trans ?_
      unfold kernelRun0_A.sl.v127 kernelRun0_A.sl.v124
      rw [shapeCast_self, shapeCast_self]
      refine (blk_load arg5.view (harg5.unread x2) ![0, 0] 0 0 rfl _ j y (by omega) (by omega)).trans ?_
      rw [harg5.read_unread]
      refine congrArg x2 (congrArg₂ ix2 (Fin.ext ?_) (Fin.ext ?_))
      · show 0 + j.val = j.val; omega
      · show 0 + y.val = 0 * 128 + y.val; omega

    · refine (col_miss _ _ 384 _ _ _ j _ (by show 1 * 256 + y.val < 384 ∨ 384 + 128 ≤ 1 * 256 + y.val; omega)).trans ?_
      refine (col_hit _ _ 256 _ _ _ j y _ (by show 1 * 256 + y.val = 256 + y.val; omega)).trans ?_
      unfold kernelRun0_A.sl.v146 kernelRun0_A.sl.v143
      rw [shapeCast_self, shapeCast_self]
      refine (blk_load arg5.view (harg5.unread x2) ![0, 128] 0 128 rfl _ j y (by omega) (by omega)).trans ?_
      rw [harg5.read_unread]
      refine congrArg x2 (congrArg₂ ix2 (Fin.ext ?_) (Fin.ext ?_))
      · show 0 + j.val = j.val; omega
      · show 128 + y.val = 1 * 128 + y.val; omega

  · rw [kAug_hi]
    have hy := y.isLt
    fin_cases g
    · refine (col_miss _ _ 384 _ _ _ j _ (by show 0 * 256 + (128 + y.val) < 384 ∨ 384 + 128 ≤ 0 * 256 + (128 + y.val); omega)).trans ?_
      refine (col_miss _ _ 256 _ _ _ j _ (by show 0 * 256 + (128 + y.val) < 256 ∨ 256 + 128 ≤ 0 * 256 + (128 + y.val); omega)).trans ?_
      refine (col_hit _ _ 128 _ _ _ j y _ (by show 0 * 256 + (128 + y.val) = 128 + y.val; omega)).trans ?_
      unfold kernelRun0_A.sl.v132 kernelRun0_A.sl.v129
      rw [shapeCast_self, shapeCast_self]
      refine (blk_load arg6.view (harg6.unread x3) ![0, 0] 0 0 rfl _ j y (by omega) (by omega)).trans ?_
      rw [harg6.read_unread]
      refine congrArg x3 (congrArg₂ ix2 (Fin.ext ?_) (Fin.ext ?_))
      · show 0 + j.val = j.val; omega
      · show 0 + y.val = 0 * 128 + y.val; omega

    · refine (col_hit _ _ 384 _ _ _ j y _ (by show 1 * 256 + (128 + y.val) = 384 + y.val; omega)).trans ?_
      unfold kernelRun0_A.sl.v151 kernelRun0_A.sl.v148
      rw [shapeCast_self, shapeCast_self]
      refine (blk_load arg6.view (harg6.unread x3) ![0, 128] 0 128 rfl _ j y (by omega) (by omega)).trans ?_
      rw [harg6.read_unread]
      refine congrArg x3 (congrArg₂ ix2 (Fin.ext ?_) (Fin.ext ?_))
      · show 0 + j.val = j.val; omega
      · show 128 + y.val = 1 * 128 + y.val; omega

theorem va_eq : arg10.view.read (Elt Ideal) (arg10.view.writes (Elt Ideal) arg10.view.junk (kernelRun0_A.sl.HS1_4 (F := Ideal) c arg7 harg7 x4)) = vAug x4 := by
  unfold kernelRun0_A.sl.HS1_4
  refine ext4 _ _ fun j g y => ⟨?_, ?_⟩
  · rw [vAug_lo]
    have hy := y.isLt
    fin_cases g
    · refine (col_miss _ _ 384 _ _ _ j _ (by show 0 * 256 + y.val < 384 ∨ 384 + 128 ≤ 0 * 256 + y.val; omega)).trans ?_
      refine (col_miss _ _ 256 _ _ _ j _ (by show 0 * 256 + y.val < 256 ∨ 256 + 128 ≤ 0 * 256 + y.val; omega)).trans ?_
      refine (col_miss _ _ 128 _ _ _ j _ (by show 0 * 256 + y.val < 128 ∨ 128 + 128 ≤ 0 * 256 + y.val; omega)).trans ?_
      refine (col_hit _ _ 0 _ _ _ j y _ (by show 0 * 256 + y.val = 0 + y.val; omega)).trans ?_
      unfold kernelRun0_A.sl.v137 kernelRun0_A.sl.v134
      rw [shapeCast_self, shapeCast_self]
      refine (blk_load arg7.view (harg7.unread x4) ![0, 0] 0 0 rfl _ j y (by omega) (by omega)).trans ?_
      rw [harg7.read_unread]
      refine congrArg x4 (congrArg₂ ix2 (Fin.ext ?_) (Fin.ext ?_))
      · show 0 + j.val = j.val; omega
      · show 0 + y.val = 0 * 128 + y.val; omega

    · refine (col_miss _ _ 384 _ _ _ j _ (by show 1 * 256 + y.val < 384 ∨ 384 + 128 ≤ 1 * 256 + y.val; omega)).trans ?_
      refine (col_hit _ _ 256 _ _ _ j y _ (by show 1 * 256 + y.val = 256 + y.val; omega)).trans ?_
      unfold k0_pay37
      rw [shapeCast_self, shapeCast_self]
      refine (blk_load arg7.view (harg7.unread x4) ![0, 128] 0 128 rfl _ j y (by omega) (by omega)).trans ?_
      rw [harg7.read_unread]
      refine congrArg x4 (congrArg₂ ix2 (Fin.ext ?_) (Fin.ext ?_))
      · show 0 + j.val = j.val; omega
      · show 128 + y.val = 1 * 128 + y.val; omega

  · rw [vAug_hi]
    have hy := y.isLt
    fin_cases g
    · refine (col_miss _ _ 384 _ _ _ j _ (by show 0 * 256 + (128 + y.val) < 384 ∨ 384 + 128 ≤ 0 * 256 + (128 + y.val); omega)).trans ?_
      refine (col_miss _ _ 256 _ _ _ j _ (by show 0 * 256 + (128 + y.val) < 256 ∨ 256 + 128 ≤ 0 * 256 + (128 + y.val); omega)).trans ?_
      refine (col_hit _ _ 128 _ _ _ j y _ (by show 0 * 256 + (128 + y.val) = 128 + y.val; omega)).trans ?_
      pointwise [kernelRun0_A.sl.v141, kernelRun0_A.sl.v138, kernelRun0_A.sl.cst_89]
    · refine (col_hit _ _ 384 _ _ _ j y _ (by show 1 * 256 + (128 + y.val) = 384 + y.val; omega)).trans ?_
      pointwise [k0_pay38]

end

end Cert.Fox

end
-- ==== Proof.Fox.Blocks.lean ====
/- The blocks a grid point reads, at coordinates of the arguments. -/
module

public import proofs.«01_k».proof.Proof.Fox.HostIn
public import proofs.«01_k».proof.Proof.Fox.Aug
public import Idealize.ShloMosaic.Lib.Pipeline.ValueKit

@[expose] public section

set_option maxRecDepth 16384
set_option maxHeartbeats 2000000

noncomputable section

namespace Cert.Fox

open Idealize.ShloMosaic Idealize.ShloMosaic.TcCoe Cert.KernelIdeal Cert.KernelIdeal.Gen Cert.KernelIdeal.Facts

theorem idx0 : ∀ t : Fin grid0.N, win0_0.index t = ![(grid0.coords t 0).val * 8 + (grid0.coords t 2).val, (grid0.coords t 1).val] := by decide +kernel
theorem idx1 : ∀ t : Fin grid0.N, win0_1.index t = ![(grid0.coords t 0).val * 8 + (grid0.coords t 2).val, (grid0.coords t 1).val] := by decide +kernel
theorem idx2 : ∀ t : Fin grid0.N, win0_2.index t = ![(grid0.coords t 0).val, 4 + (grid0.coords t 1).val] := by decide +kernel
theorem idx3 : ∀ t : Fin grid0.N, win0_3.index t = ![(grid0.coords t 0).val, (grid0.coords t 1).val] := by decide +kernel
theorem idx4 : ∀ t : Fin grid0.N, win0_4.index t = ![(grid0.coords t 0).val, 8 + (grid0.coords t 1).val] := by decide +kernel
theorem idx5 : ∀ t : Fin grid0.N, win0_5.index t = ![(grid0.coords t 0).val * 8 + (grid0.coords t 2).val, (grid0.coords t 1).val] := by decide +kernel

variable (m : (ℓ : Loc nD τ sig) → Buf (Elt Ideal) ℓ) (c : Dev nD) (t : Fin cfg0.N)

/-- The batch, the pair of heads and the query block of a grid point. -/
def bOf : Fin 4 := grid0.coords t 0
def hpOf : Fin 4 := grid0.coords t 1
def qiOf : Fin 8 := grid0.coords t 2

theorem iblk0_at (r : Fin 512) (x : Fin 256) : iblk m c 0 t (ix2 r x)
    = V m c main_v7 (ix2 ⟨(bOf t).val * 4096 + ((qiOf t).val * 512 + r.val), by have := (bOf t).isLt; have := (qiOf t).isLt; omega⟩ ⟨(hpOf t).val * 256 + x.val, by have := (hpOf t).isLt; omega⟩) := by
  blk_ext [iblk, idx0 t, bOf, hpOf, qiOf]

theorem iblk1_at (r : Fin 512) (x : Fin 256) : iblk m c 1 t (ix2 r x)
    = V m c main_v49 (ix2 ⟨(bOf t).val * 4096 + ((qiOf t).val * 512 + r.val), by have := (bOf t).isLt; have := (qiOf t).isLt; omega⟩ ⟨(hpOf t).val * 256 + x.val, by have := (hpOf t).isLt; omega⟩) := by
  blk_ext [iblk, idx1 t, bOf, hpOf, qiOf]

theorem iblk2_at (j : Fin 4096) (x : Fin 256) : iblk m c 2 t (ix2 j x)
    = V m c main_v7 (ix2 ⟨(bOf t).val * 4096 + j.val, by have := (bOf t).isLt; omega⟩ ⟨1024 + ((hpOf t).val * 256 + x.val), by have := (hpOf t).isLt; omega⟩) := by
  blk_ext [iblk, idx2 t, bOf, hpOf, qiOf]

theorem iblk3_at (j : Fin 4096) (x : Fin 256) : iblk m c 3 t (ix2 j x)
    = V m c main_v51 (ix2 ⟨(bOf t).val * 4096 + j.val, by have := (bOf t).isLt; omega⟩ ⟨(hpOf t).val * 256 + x.val, by have := (hpOf t).isLt; omega⟩) := by
  blk_ext [iblk, idx3 t, bOf, hpOf, qiOf]

theorem iblk4_at (j : Fin 4096) (x : Fin 256) : iblk m c 4 t (ix2 j x)
    = V m c main_v7 (ix2 ⟨(bOf t).val * 4096 + j.val, by have := (bOf t).isLt; omega⟩ ⟨2048 + ((hpOf t).val * 256 + x.val), by have := (hpOf t).isLt; omega⟩) := by
  blk_ext [iblk, idx4 t, bOf, hpOf, qiOf]

end Cert.Fox

end
-- ==== Proof.Fox.Carry.lean ====
/- What a point leaves in the carried arrays, and the block it writes out. -/
module

public import proofs.«01_k».proof.Proof.Fox.Blocks

@[expose] public section

set_option maxRecDepth 16384
set_option maxHeartbeats 2000000

noncomputable section

namespace Cert.Fox

open Idealize.ShloMosaic Idealize.ShloMosaic.TcCoe Cert.KernelIdeal Cert.KernelIdeal.Gen Cert.KernelIdeal.Facts Idealize.ShloMosaic.Tactic

/-- Head `g`'s queries followed by their lanes. -/
def qAug (x0 x1 : Vec Ideal S512x256 .bf16) (g : Fin 2) : Vec Ideal S512x256 .bf16 := fun i =>
  if h : (i 1).val < 128 then x0 (ix2 (i 0) ⟨g.val * 128 + (i 1).val, by omega⟩)
  else x1 (ix2 (i 0) ⟨g.val * 128 + ((i 1).val - 128), by have : (i 1).val < 256 := (i 1).isLt; omega⟩)

theorem qAug_lo (x0 x1 : Vec Ideal S512x256 .bf16) (g : Fin 2) (r : Fin 512) (y : Fin 128) :
    qAug x0 x1 g (ix2 r ⟨y.val, by omega⟩) = x0 (ix2 r ⟨g.val * 128 + y.val, by omega⟩) := dif_pos y.isLt

theorem qAug_hi (x0 x1 : Vec Ideal S512x256 .bf16) (g : Fin 2) (r : Fin 512) (y : Fin 128) :
    qAug x0 x1 g (ix2 r ⟨128 + y.val, by omega⟩) = x1 (ix2 r ⟨g.val * 128 + y.val, by omega⟩) := by
  refine (dif_neg (show ¬ 128 + y.val < 128 by omega)).trans (congrArg x1 (congrArg (ix2 r) (Fin.ext ?_)))
  show g.val * 128 + (128 + y.val - 128) = g.val * 128 + y.val
  omega

theorem pay39_eq (S T : FVec Ideal S512x128 .bf16) (x0 x1 : Vec Ideal S512x256 .bf16) (g : Fin 2)
    (hS : ∀ (r : Fin 512) (y : Fin 128), S (ix2 r y) = x0 (ix2 r ⟨g.val * 128 + y.val, by omega⟩))
    (hT : ∀ (r : Fin 512) (y : Fin 128), T (ix2 r y) = x1 (ix2 r ⟨g.val * 128 + y.val, by omega⟩)) : k0_pay39 (F := Ideal) S T = qAug x0 x1 g := by
  funext i
  obtain ⟨r, n, rfl⟩ : ∃ (r : Fin 512) (n : Fin 256), i = ix2 r n := ⟨i 0, i 1, by funext a; fin_cases a <;> rfl⟩
  rw [pay39_at]
  by_cases h : n.val < 128
  · rw [dif_pos h, hS]; exact (show qAug x0 x1 g (ix2 r n) = _ from dif_pos h).symm
  · rw [dif_neg h, hT]; exact (show qAug x0 x1 g (ix2 r n) = _ from dif_neg h).symm

section
variable (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S512x256 .bf16) (harg8 : arg8.IsWhole) (arg9 : Memref sig .tc .vmem S4096x512 .bf16) (harg9 : arg9.IsWhole) (arg10 : Memref sig .tc .vmem S4096x512 .bf16) (harg10 : arg10.IsWhole) (arg11 : Memref sig .tc .vmem S2x512x512 .f32) (harg11 : arg11.IsWhole) (arg12 : Memref sig .tc .vmem S2x512x128 .f32) (harg12 : arg12.IsWhole) (arg13 : Memref sig .tc .vmem S2x512x256 .f32) (harg13 : arg13.IsWhole) (hc0 : ¬cond0_0 i)
    (x0 : Vec Ideal S512x256 .bf16) (x1 : Vec Ideal S512x256 .bf16) (x2 : Vec Ideal S4096x256 .bf16) (x3 : Vec Ideal S4096x256 .bf16) (x4 : Vec Ideal S4096x256 .bf16) (xs0 : Vec Ideal S4096x512 .bf16) (xs1 : Vec Ideal S4096x512 .bf16)

theorem rA0 : kernelRun0_A.sl.r (F := Ideal) c arg3 harg3 arg4 harg4 x0 x1 = qAug x0 x1 0 := by
  unfold kernelRun0_A.sl.r
  refine pay39_eq _ _ x0 x1 0 (fun r y => ?_) (fun r y => ?_)
  · refine (blk_load arg3.view (harg3.unread x0) ![0, 0] 0 0 rfl _ r y (by omega) (by omega)).trans ?_
    rw [harg3.read_unread]
    refine congrArg x0 (congrArg₂ ix2 (Fin.ext ?_) (Fin.ext ?_))
    · show 0 + r.val = r.val; omega
    · show 0 + y.val = 0 * 128 + y.val; omega
  · refine (blk_load arg4.view (harg4.unread x1) ![0, 0] 0 0 rfl _ r y (by omega) (by omega)).trans ?_
    rw [harg4.read_unread]
    refine congrArg x1 (congrArg₂ ix2 (Fin.ext ?_) (Fin.ext ?_))
    · show 0 + r.val = r.val; omega
    · show 0 + y.val = 0 * 128 + y.val; omega

theorem rA1 : kernelRun0_A.sl.r_1 (F := Ideal) c arg3 harg3 arg4 harg4 x0 x1 = qAug x0 x1 1 := by
  unfold kernelRun0_A.sl.r_1
  refine pay39_eq _ _ x0 x1 1 (fun r y => ?_) (fun r y => ?_)
  · refine (blk_load arg3.view (harg3.unread x0) ![0, 128] 0 128 rfl _ r y (by omega) (by omega)).trans ?_
    rw [harg3.read_unread]
    refine congrArg x0 (congrArg₂ ix2 (Fin.ext ?_) (Fin.ext ?_))
    · show 0 + r.val = r.val; omega
    · show 128 + y.val = 1 * 128 + y.val; omega
  · refine (blk_load arg4.view (harg4.unread x1) ![0, 128] 0 128 rfl _ r y (by omega) (by omega)).trans ?_
    rw [harg4.read_unread]
    refine congrArg x1 (congrArg₂ ix2 (Fin.ext ?_) (Fin.ext ?_))
    · show 0 + r.val = r.val; omega
    · show 128 + y.val = 1 * 128 + y.val; omega

theorem rB0 : kernelRun0_B.sl.r (F := Ideal) c arg3 harg3 arg4 harg4 x0 x1 = qAug x0 x1 0 := by
  unfold kernelRun0_B.sl.r
  refine pay39_eq _ _ x0 x1 0 (fun r y => ?_) (fun r y => ?_)
  · refine (blk_load arg3.view (harg3.unread x0) ![0, 0] 0 0 rfl _ r y (by omega) (by omega)).trans ?_
    rw [harg3.read_unread]
    refine congrArg x0 (congrArg₂ ix2 (Fin.ext ?_) (Fin.ext ?_))
    · show 0 + r.val = r.val; omega
    · show 0 + y.val = 0 * 128 + y.val; omega
  · refine (blk_load arg4.view (harg4.unread x1) ![0, 0] 0 0 rfl _ r y (by omega) (by omega)).trans ?_
    rw [harg4.read_unread]
    refine congrArg x1 (congrArg₂ ix2 (Fin.ext ?_) (Fin.ext ?_))
    · show 0 + r.val = r.val; omega
    · show 0 + y.val = 0 * 128 + y.val; omega

theorem rB1 : kernelRun0_B.sl.r_1 (F := Ideal) c arg3 harg3 arg4 harg4 x0 x1 = qAug x0 x1 1 := by
  unfold kernelRun0_B.sl.r_1
  refine pay39_eq _ _ x0 x1 1 (fun r y => ?_) (fun r y => ?_)
  · refine (blk_load arg3.view (harg3.unread x0) ![0, 128] 0 128 rfl _ r y (by omega) (by omega)).trans ?_
    rw [harg3.read_unread]
    refine congrArg x0 (congrArg₂ ix2 (Fin.ext ?_) (Fin.ext ?_))
    · show 0 + r.val = r.val; omega
    · show 128 + y.val = 1 * 128 + y.val; omega
  · refine (blk_load arg4.view (harg4.unread x1) ![0, 128] 0 128 rfl _ r y (by omega) (by omega)).trans ?_
    rw [harg4.read_unread]
    refine congrArg x1 (congrArg₂ ix2 (Fin.ext ?_) (Fin.ext ?_))
    · show 0 + r.val = r.val; omega
    · show 128 + y.val = 1 * 128 + y.val; omega

/-- Head `g`'s row `r` of the block, column `l`, from its queries, keys and values. -/
def rowOut (qi : ℕ) (Q : Vec Ideal S512x256 .bf16) (KA VA : Vec Ideal S4096x512 .bf16) (g : Fin 2) (r : Fin 512) (l : Fin 128) : EReal :=
  Ideal.div (wsum (cols 0 ((qi + 1) * 512)) (mlogit qi Q KA g r) (val VA g ⟨l.val, by omega⟩) ((cols 0 ((qi + 1) * 512)).sup (mlogit qi Q KA g r)))
    (wsum (cols 0 ((qi + 1) * 512)) (mlogit qi Q KA g r) (val VA g ⟨128 + l.val, by omega⟩) ((cols 0 ((qi + 1) * 512)).sup (mlogit qi Q KA g r)))

theorem A_at (hc0 : cond0_0 i)
    (hfin : ∀ g r j, mlogit (i 2).val (qAug x0 x1 g) (kAug x2 x3) g r j ≠ ⊤) (g : Fin 2) (r : Fin 512) (l : Fin 128) :
    out0_A_5 (F := Ideal) c i arg3 harg3 arg4 harg4 arg5 harg5 arg6 harg6 arg7 harg7 arg8 harg8 arg9 harg9 arg10 harg10 arg11 harg11 arg12 harg12 arg13 harg13 hc0 x0 x1 x2 x3 x4 (ix2 r ⟨g.val * 128 + l.val, by omega⟩) = rowOut (i 2).val (qAug x0 x1 g) (kAug x2 x3) (vAug x4) g r l := by
  rw [A_out, rA0, rA1]
  exact outBlk_at c i arg3 harg3 arg4 harg4 arg5 harg5 arg6 harg6 arg7 harg7 arg8 harg8 arg9 harg9 arg10 harg10 arg11 harg11 arg12 harg12 arg13 harg13 _ _ _ _ _ (kAug x2 x3) (vAug x4) (ka_eq _ _ _ _ _ _ _ _) (va_eq _ _ _ _ _) (qAug x0 x1) rfl rfl hfin g r l

theorem B_at (hc0 : ¬cond0_0 i)
    (hfin : ∀ g r j, mlogit (i 2).val (qAug x0 x1 g) xs0 g r j ≠ ⊤) (g : Fin 2) (r : Fin 512) (l : Fin 128) :
    out0_B_5 (F := Ideal) c i arg3 harg3 arg4 harg4 arg5 harg5 arg6 harg6 arg7 harg7 arg8 harg8 arg9 harg9 arg10 harg10 arg11 harg11 arg12 harg12 arg13 harg13 hc0 x0 x1 x2 x3 x4 xs0 xs1 (ix2 r ⟨g.val * 128 + l.val, by omega⟩) = rowOut (i 2).val (qAug x0 x1 g) xs0 xs1 g r l := by
  rw [B_out, rB0, rB1]
  exact outBlk_at c i arg3 harg3 arg4 harg4 arg5 harg5 arg6 harg6 arg7 harg7 arg8 harg8 arg9 harg9 arg10 harg10 arg11 harg11 arg12 harg12 arg13 harg13 _ _ _ _ _ xs0 xs1 (harg9.read_unread _) (harg10.read_unread _) (qAug x0 x1) rfl rfl hfin g r l

end

section
variable (m : (ℓ : Loc nD τ sig) → Buf (Elt Ideal) ℓ) (c : Dev nD)

theorem coords_pred : ∀ t t' : Fin grid0.N, ¬ t.val % 8 = 0 → t'.val + 1 = t.val → grid0.coords t 0 = grid0.coords t' 0 ∧ grid0.coords t 1 = grid0.coords t' 1 := by decide +kernel

/-- Every point of a pair of heads finds the pair's keys and values in the carried arrays. -/
theorem carry (n : ℕ) (hn : n < cfg0.N) :
    (outsAt0 m c n hn).2.1 = kAug (iblk m c 2 ⟨n, hn⟩) (iblk m c 3 ⟨n, hn⟩) ∧ (outsAt0 m c n hn).2.2 = vAug (iblk m c 4 ⟨n, hn⟩) := by
  induction n with
  | zero =>
    rw [outsAt0_A m c ⟨0, hn⟩ rfl]
    dsimp only
    exact ⟨ka_eq _ _ _ _ _ _ _ _, va_eq _ _ _ _ _⟩
  | succ n ih =>
    by_cases h0 : (n + 1) % 8 = 0
    · rw [outsAt0_A m c ⟨n + 1, hn⟩ h0]
      dsimp only
      exact ⟨ka_eq _ _ _ _ _ _ _ _, va_eq _ _ _ _ _⟩
    · rw [outsAt0_B m c ⟨n + 1, hn⟩ h0]
      dsimp only
      have hn' : n < cfg0.N := Nat.lt_of_succ_lt hn
      obtain ⟨e0, e1⟩ := coords_pred ⟨n + 1, hn⟩ ⟨n, hn'⟩ h0 rfl
      have hb : bOf ⟨n + 1, hn⟩ = bOf ⟨n, hn'⟩ := e0
      have hh : hpOf ⟨n + 1, hn⟩ = hpOf ⟨n, hn'⟩ := e1
      have i2 : iblk m c 2 ⟨n + 1, hn⟩ = iblk m c 2 ⟨n, hn'⟩ := by
        funext i
        obtain ⟨j, x, rfl⟩ : ∃ (j : Fin 4096) (x : Fin 256), i = ix2 j x := ⟨i 0, i 1, by funext a; fin_cases a <;> rfl⟩
        rw [iblk2_at, iblk2_at]; simp only [hb, hh]
      have i3 : iblk m c 3 ⟨n + 1, hn⟩ = iblk m c 3 ⟨n, hn'⟩ := by
        funext i
        obtain ⟨j, x, rfl⟩ : ∃ (j : Fin 4096) (x : Fin 256), i = ix2 j x := ⟨i 0, i 1, by funext a; fin_cases a <;> rfl⟩
        rw [iblk3_at, iblk3_at]; simp only [hb, hh]
      have i4 : iblk m c 4 ⟨n + 1, hn⟩ = iblk m c 4 ⟨n, hn'⟩ := by
        funext i
        obtain ⟨j, x, rfl⟩ : ∃ (j : Fin 4096) (x : Fin 256), i = ix2 j x := ⟨i 0, i 1, by funext a; fin_cases a <;> rfl⟩
        rw [iblk4_at, iblk4_at]; simp only [hb, hh]
      rw [i2, i3, i4]
      exact ih hn'

/-- The block a point writes out. -/
theorem block_at (t : Fin cfg0.N)
    (hfin : ∀ g r j, mlogit (qiOf t).val (qAug (iblk m c 0 t) (iblk m c 1 t) g) (kAug (iblk m c 2 t) (iblk m c 3 t)) g r j ≠ ⊤) (g : Fin 2) (r : Fin 512) (l : Fin 128) :
    (outsAt0 m c t.val t.isLt).1 (ix2 r ⟨g.val * 128 + l.val, by omega⟩)
      = rowOut (qiOf t).val (qAug (iblk m c 0 t) (iblk m c 1 t) g) (kAug (iblk m c 2 t) (iblk m c 3 t)) (vAug (iblk m c 4 t)) g r l := by
  by_cases h0 : t.val % 8 = 0
  · rw [outsAt0_A m c t h0]
    dsimp only
    exact A_at _ _ _ _ _ _ _ _ _ _ _ _ _ _ _ _ _ _ _ _ _ _ _ _ _ _ _ _ _ _ hfin g r l
  · have hc := carry m c t.val t.isLt
    rw [outsAt0_B m c t h0] at hc ⊢
    dsimp only at hc ⊢
    have h1 : (outsAt0 m c (t.val - 1) (Nat.lt_of_le_of_lt (Nat.sub_le _ _) t.isLt)).2.1 = kAug (iblk m c 2 t) (iblk m c 3 t) := hc.1
    have h2 : (outsAt0 m c (t.val - 1) (Nat.lt_of_le_of_lt (Nat.sub_le _ _) t.isLt)).2.2 = vAug (iblk m c 4 t) := hc.2
    rw [h1, h2]
    exact B_at _ _ _ _ _ _ _ _ _ _ _ _ _ _ _ _ _ _ _ _ _ _ _ _ _ _ _ _ _ _ _ _ hfin g r l

end

end Cert.Fox

end
-- ==== Proof.Fox.Head.lean ====
/- The block a point writes out is the attention's. -/
module

public import proofs.«01_k».proof.Proof.Fox.Carry
public import proofs.«01_k».proof.Proof.Fox.Spec

@[expose] public section

set_option maxRecDepth 16384
set_option maxHeartbeats 2000000

noncomputable section

namespace Cert.Fox

open Idealize.ShloMosaic Idealize.ShloMosaic.TcCoe Cert.KernelIdeal Cert.KernelIdeal.Gen Cert.KernelIdeal.Facts

/-- A sum over a head's queries or keys and their lanes is the sum over the one and the sum over the others. -/
theorem sum_halves (f : Fin 256 → EReal) : ∑ y, f y = (∑ y : Fin 128, f ⟨y.val, by omega⟩) + ∑ y : Fin 128, f ⟨128 + y.val, by omega⟩ :=
  Fin.sum_univ_add (a := 128) (b := 128) f

/-- The lanes' products sum to the difference of the running sums. -/
theorem sum_lanes (d e : ℝ) :
    ∑ y : Fin 128, ((((if y.val = 0 then d else if y.val < 3 then 0 else if y.val < 6 then 1 else 0 : ℝ)) : EReal)
      * (((if y.val < 3 then 1 else if y.val = 3 then -e else 0 : ℝ)) : EReal)) = ((d - e : ℝ) : EReal) := by
  have h : ∀ y : Fin 128, ((((if y.val = 0 then d else if y.val < 3 then 0 else if y.val < 6 then 1 else 0 : ℝ)) : EReal)
      * (((if y.val < 3 then 1 else if y.val = 3 then -e else 0 : ℝ)) : EReal)) = (((if y = 0 then d else 0) + (if y = 3 then -e else 0) : ℝ) : EReal) := by
    intro y
    rw [← EReal.coe_mul]
    refine congrArg _ ?_
    have e0 : y = 0 ↔ y.val = 0 := Fin.ext_iff
    have e3 : y = 3 ↔ y.val = 3 := Fin.ext_iff
    simp only [e0, e3]
    split_ifs <;> first | omega | simp
  rw [Finset.sum_congr rfl fun y _ => h y, ← coe_sum, Finset.sum_add_distrib, Finset.sum_ite_eq', Finset.sum_ite_eq']
  simp [sub_eq_add_neg]

/-- A head's logit, from real queries, keys and running sums. -/
theorem logit_eq (x0 x1 : Vec Ideal S512x256 .bf16) (x2 x3 : Vec Ideal S4096x256 .bf16) (q k : SX.Idx → EReal) (lf : SF.Idx → EReal)
    (hq : Real' q) (hk : Real' k) (hl : Real' lf) (b : Fin 4) (h : Fin 8) (s : Fin 4096) (g : Fin 2) (r : Fin 512) (j : Fin 4096)
    (h0 : ∀ y : Fin 128, x0 (ix2 r ⟨g.val * 128 + y.val, by omega⟩) = q (ix3 b s (hd h y)) * scl)
    (h2 : ∀ y : Fin 128, x2 (ix2 j ⟨g.val * 128 + y.val, by omega⟩) = k (ix3 b j (hd h y)))
    (h1 : ∀ (y : Fin 128) (d : ℝ), pre (fun t => lf (ix3 b t h)) s = d →
      x1 (ix2 r ⟨g.val * 128 + y.val, by omega⟩) = (((if y.val = 0 then d else if y.val < 3 then 0 else if y.val < 6 then 1 else 0 : ℝ)) : EReal))
    (h3 : ∀ (y : Fin 128) (d : ℝ), pre (fun t => lf (ix3 b t h)) j = d →
      x3 (ix2 j ⟨g.val * 128 + y.val, by omega⟩) = (((if y.val < 3 then 1 else if y.val = 3 then -d else 0 : ℝ)) : EReal)) :
    logit (qAug x0 x1 g) (kAug x2 x3) g r j = lgt q k lf b h s j * (((Real.log 2)⁻¹ : ℝ) : EReal) := by
  obtain ⟨cc, hc⟩ := scl_real
  obtain ⟨ds, hds⟩ := pre_real (fun t => lf (ix3 b t h)) (fun t => hl _) s
  obtain ⟨dj, hdj⟩ := pre_real (fun t => lf (ix3 b t h)) (fun t => hl _) j
  unfold logit lgt
  refine congrArg (· * (((Real.log 2)⁻¹ : ℝ) : EReal)) ?_
  rw [sum_halves]
  have eh : (∑ y : Fin 128, qAug x0 x1 g (ix2 r ⟨128 + y.val, by omega⟩) * kAug x2 x3 (ix2 j ⟨g.val * 256 + (128 + y.val), by omega⟩)) = ((ds - dj : ℝ) : EReal) := by
    rw [← sum_lanes]
    refine Finset.sum_congr rfl fun y _ => ?_
    rw [qAug_hi, kAug_hi, h1 y ds hds, h3 y dj hdj]
  have el : (∑ y : Fin 128, qAug x0 x1 g (ix2 r ⟨y.val, by omega⟩) * kAug x2 x3 (ix2 j ⟨g.val * 256 + y.val, by omega⟩))
      = (∑ y : Fin 128, q (ix3 b s (hd h y)) * k (ix3 b j (hd h y))) * scl := by
    choose Q hQ using hq
    choose K hK using hk
    have : ∀ y : Fin 128, qAug x0 x1 g (ix2 r ⟨y.val, by omega⟩) * kAug x2 x3 (ix2 j ⟨g.val * 256 + y.val, by omega⟩)
        = ((Q (ix3 b s (hd h y)) * K (ix3 b j (hd h y)) * cc : ℝ) : EReal) := by
      intro y
      rw [qAug_lo, kAug_lo, h0, h2, hQ, hK, hc, ← EReal.coe_mul, ← EReal.coe_mul]
      refine congrArg _ ?_
      ring
    rw [Finset.sum_congr rfl fun y _ => this y, ← coe_sum, ← Finset.sum_mul, EReal.coe_mul, coe_sum, hc]
    simp only [hQ, hK, EReal.coe_mul]
  refine (congrArg₂ (· + ·) el eh).trans ?_
  obtain ⟨p, hp⟩ : ∃ p : ℝ, (∑ y : Fin 128, q (ix3 b s (hd h y)) * k (ix3 b j (hd h y))) * scl = p := by
    choose Q hQ using hq
    choose K hK using hk
    refine ⟨(∑ d : Fin 128, Q (ix3 b s (hd h d)) * K (ix3 b j (hd h d))) * cc, ?_⟩
    rw [hc, EReal.coe_mul, coe_sum]
    simp only [hQ, hK, EReal.coe_mul]
  rw [hp, hds, hdj, ← EReal.coe_add, ← EReal.coe_add, ← EReal.coe_sub]
  refine congrArg _ ?_
  ring

variable (m : (ℓ : Loc nD τ sig) → Buf (Elt Ideal) ℓ) (c : Dev nD) (t : Fin cfg0.N)

/-- The head of a grid point's pair. -/
def hOf (g : Fin 2) : Fin 8 := ⟨(hpOf t).val * 2 + g.val, by have := (hpOf t).isLt; omega⟩
/-- The position of a row of the point's query block. -/
def sOf (r : Fin 512) : Fin 4096 := ⟨(qiOf t).val * 512 + r.val, by have := (qiOf t).isLt; omega⟩

abbrev argq : SX.Idx → EReal := m ((c : Thread nD τ).loc main_arg0)
abbrev argk : SX.Idx → EReal := m ((c : Thread nD τ).loc main_arg1)
abbrev argv : SX.Idx → EReal := m ((c : Thread nD τ).loc main_arg2)
abbrev argf : SF.Idx → EReal := m ((c : Thread nD τ).loc main_arg3)

theorem ib0 (g : Fin 2) (r : Fin 512) (y : Fin 128) :
    iblk m c 0 t (ix2 r ⟨g.val * 128 + y.val, by omega⟩) = argq m c (ix3 (bOf t) (sOf t r) (hd (hOf t g) y)) * scl := by
  rw [iblk0_at, V_y]
  refine Eq.trans ?_ (y_q_at (argq m c) (argk m c) (argv m c) (bOf t) (sOf t r) (hd (hOf t g) y))
  refine congrArg _ (congrArg₂ ix2 (Fin.ext ?_) (Fin.ext ?_))
  · rfl
  · show (hpOf t).val * 256 + (g.val * 128 + y.val) = ((hpOf t).val * 2 + g.val) * 128 + y.val
    omega

theorem ib2 (g : Fin 2) (j : Fin 4096) (y : Fin 128) :
    iblk m c 2 t (ix2 j ⟨g.val * 128 + y.val, by omega⟩) = argk m c (ix3 (bOf t) j (hd (hOf t g) y)) := by
  rw [iblk2_at, V_y]
  refine Eq.trans ?_ (y_k_at (argq m c) (argk m c) (argv m c) (bOf t) j (hd (hOf t g) y))
  refine congrArg _ (congrArg₂ ix2 (Fin.ext ?_) (Fin.ext ?_))
  · rfl
  · show 1024 + ((hpOf t).val * 256 + (g.val * 128 + y.val)) = 1024 + (((hpOf t).val * 2 + g.val) * 128 + y.val)
    omega

theorem ib4 (g : Fin 2) (j : Fin 4096) (y : Fin 128) :
    iblk m c 4 t (ix2 j ⟨g.val * 128 + y.val, by omega⟩) = argv m c (ix3 (bOf t) j (hd (hOf t g) y)) := by
  rw [iblk4_at, V_y]
  refine Eq.trans ?_ (y_v_at (argq m c) (argk m c) (argv m c) (bOf t) j (hd (hOf t g) y))
  refine congrArg _ (congrArg₂ ix2 (Fin.ext ?_) (Fin.ext ?_))
  · rfl
  · show 2048 + ((hpOf t).val * 256 + (g.val * 128 + y.val)) = 2048 + (((hpOf t).val * 2 + g.val) * 128 + y.val)
    omega

theorem ib1 (g : Fin 2) (r : Fin 512) (y : Fin 128) (d : ℝ) (hd' : pre (fun u => argf m c (ix3 (bOf t) u (hOf t g))) (sOf t r) = d) :
    iblk m c 1 t (ix2 r ⟨g.val * 128 + y.val, by omega⟩) = (((if y.val = 0 then d else if y.val < 3 then 0 else if y.val < 6 then 1 else 0 : ℝ)) : EReal) := by
  rw [iblk1_at, V_aq]
  have hx : colK (cumK (argf m c)) (ix3 ⟨(bOf t).val * 4096 + (sOf t r).val, by have := (bOf t).isLt; have := (sOf t r).isLt; omega⟩ (hOf t g) y) = ((d : ℝ) : EReal) := by
    rw [colK_at, cumK_at, hd']
  refine Eq.trans ?_ ((aq_cast_at _ _ _ y).trans (aqK_at _ _ _ y d hx))
  refine congrArg _ (congrArg₂ ix2 (Fin.ext ?_) (Fin.ext ?_))
  · rfl
  · show (hpOf t).val * 256 + (g.val * 128 + y.val) = ((hpOf t).val * 2 + g.val) * 128 + y.val
    omega

theorem ib3 (g : Fin 2) (j : Fin 4096) (y : Fin 128) (d : ℝ) (hd' : pre (fun u => argf m c (ix3 (bOf t) u (hOf t g))) j = d) :
    iblk m c 3 t (ix2 j ⟨g.val * 128 + y.val, by omega⟩) = (((if y.val < 3 then 1 else if y.val = 3 then -d else 0 : ℝ)) : EReal) := by
  rw [iblk3_at, V_ak]
  have hx : colK (cumK (argf m c)) (ix3 ⟨(bOf t).val * 4096 + j.val, by have := (bOf t).isLt; have := j.isLt; omega⟩ (hOf t g) y) = ((d : ℝ) : EReal) := by
    rw [colK_at, cumK_at, hd']
  refine Eq.trans ?_ ((aq_cast_at _ _ _ y).trans (akK_at _ _ _ y d hx))
  refine congrArg _ (congrArg₂ ix2 (Fin.ext ?_) (Fin.ext ?_))
  · rfl
  · show (hpOf t).val * 256 + (g.val * 128 + y.val) = ((hpOf t).val * 2 + g.val) * 128 + y.val
    omega

variable (hq : Real' (argq m c)) (hk : Real' (argk m c)) (hl : Real' (argf m c))
include hq hk hl

theorem mlogit_eq (g : Fin 2) (r : Fin 512) : mlogit (qiOf t).val (qAug (iblk m c 0 t) (iblk m c 1 t) g) (kAug (iblk m c 2 t) (iblk m c 3 t)) g r
    = fun j => mlgt (argq m c) (argk m c) (argf m c) (bOf t) (hOf t g) (sOf t r) j * (((Real.log 2)⁻¹ : ℝ) : EReal) := by
  funext j
  unfold mlogit mlgt
  have hpos : 0 < (Real.log 2)⁻¹ := inv_pos.mpr (Real.log_pos (by norm_num))
  by_cases hj : j.val ≤ (qiOf t).val * 512 + r.val
  · rw [if_pos hj, if_pos (show j.val ≤ (sOf t r).val from hj)]
    exact logit_eq _ _ _ _ _ _ _ hq hk hl _ _ _ g r j (ib0 m c t g r) (ib2 m c t g j) (fun y d => ib1 m c t g r y d) (fun y d => ib3 m c t g j y d)
  · rw [if_neg hj, if_neg (show ¬ j.val ≤ (sOf t r).val from hj), EReal.bot_mul_coe_of_pos hpos]

/-- A block written out, at the head's row and column, is the attention's result there. -/
theorem block_att (g : Fin 2) (r : Fin 512) (l : Fin 128) :
    (outsAt0 m c t.val t.isLt).1 (ix2 r ⟨g.val * 128 + l.val, by omega⟩) = att (argq m c) (argk m c) (argv m c) (argf m c) (bOf t) (hOf t g) (sOf t r) l := by
  have hpos : 0 < (Real.log 2)⁻¹ := inv_pos.mpr (Real.log_pos (by norm_num))
  have hX : ∀ g r j, mlgt (argq m c) (argk m c) (argf m c) (bOf t) (hOf t g) (sOf t r) j ≠ ⊤ := by
    intro g r j
    unfold mlgt
    split
    · obtain ⟨x, hx⟩ := lgt_real _ _ _ hq hk hl (bOf t) (hOf t g) (sOf t r) j
      rw [hx]; exact EReal.coe_ne_top _
    · exact bot_ne_top
  rw [block_at m c t (fun g r j => ?_) g r l]
  · unfold rowOut
    rw [mlogit_eq m c t hq hk hl g r]
    have hv : val (vAug (iblk m c 4 t)) g ⟨l.val, by omega⟩ = fun j => argv m c (ix3 (bOf t) j (hd (hOf t g) l)) := by
      funext j
      exact (vAug_lo _ j g l).trans (ib4 m c t g j l)
    have ho : val (vAug (iblk m c 4 t)) g ⟨128 + l.val, by omega⟩ = fun _ => 1 := by
      funext j
      exact vAug_hi _ j g l
    rw [hv, ho]
    refine softmax_row _ _ _ _ hpos rfl (hX g r) (sOf t r) ?_ ?_ ?_
    · rw [mem_cols]
      refine ⟨Nat.zero_le _, ?_⟩
      show (qiOf t).val * 512 + r.val < _
      have := r.isLt; omega
    · unfold mlgt
      rw [if_pos le_rfl]
      obtain ⟨x, hx⟩ := lgt_real _ _ _ hq hk hl (bOf t) (hOf t g) (sOf t r) (sOf t r)
      rw [hx]; exact EReal.coe_ne_bot _
    · intro j hj
      unfold mlgt
      rw [if_neg]
      intro hle
      refine hj (mem_cols.mpr ⟨Nat.zero_le _, ?_⟩)
      have : j.val ≤ (qiOf t).val * 512 + r.val := hle
      have := r.isLt; omega
  · rw [mlogit_eq m c t hq hk hl g r]
    intro he
    have he' : mlgt (argq m c) (argk m c) (argf m c) (bOf t) (hOf t g) (sOf t r) j * (((Real.log 2)⁻¹ : ℝ) : EReal) = ⊤ := he
    revert he'
    unfold mlgt
    split
    · obtain ⟨x, hx⟩ := lgt_real _ _ _ hq hk hl (bOf t) (hOf t g) (sOf t r) j
      rw [hx, ← EReal.coe_mul]; exact EReal.coe_ne_top _
    · rw [EReal.bot_mul_coe_of_pos hpos]; exact bot_ne_top

end Cert.Fox

end
-- ==== Proof.Fox.Ref.lean ====
/- The reference computes the attention. -/
module

public import proofs.«01_k».proof.Proof.Gen.ReferenceIdeal.Read
public import proofs.«01_k».proof.Proof.Fox.Spec
public import Idealize.ShloMosaic.Lib.Pointwise

@[expose] public section

set_option maxRecDepth 16384
set_option maxHeartbeats 2000000

noncomputable section

namespace Cert.Fox.Ref

open Idealize.ShloMosaic Idealize.ShloMosaic.TcCoe Cert.ReferenceIdeal Cert.ReferenceIdeal.Gen Cert.ReferenceIdeal.Read

theorem bot_bits : Ideal.ofBits .f32 0xFF800000#32 = (⊥ : EReal) := by
  unfold Ideal.ofBits Ideal.ieee
  dsimp only
  rw [if_pos (by decide), if_pos (by decide), if_pos (by decide)]

variable (q k v : FVec Ideal S4x4096x1024 .f32) (lf : FVec Ideal S4x4096x8 .f32)

theorem v1_at (b : Fin 4) (h : Fin 8) (s : Fin 4096) (d : Fin 128) : val_main_v1 (F := Ideal) q (ix4 b h s d) = q (ix3 b s (hd h d)) := by
  rw [val_main_v1_apply, val_main_v0_apply]
  refine congrArg q (funext fun a => Fin.ext ?_)
  have := b.isLt; have := h.isLt; have := s.isLt; have := d.isLt
  fin_cases a
  · show (((b.val * 4096 + s.val) * 8 + h.val) * 128 + d.val) / 4194304 = b.val; omega
  · show (((b.val * 4096 + s.val) * 8 + h.val) * 128 + d.val) / 1024 % 4096 = s.val; omega
  · show (((b.val * 4096 + s.val) * 8 + h.val) * 128 + d.val) % 1024 = h.val * 128 + d.val; omega

theorem v3_at (b : Fin 4) (h : Fin 8) (s : Fin 4096) (d : Fin 128) : val_main_v3 (F := Ideal) k (ix4 b h s d) = k (ix3 b s (hd h d)) := v1_at k b h s d
theorem v5_at (b : Fin 4) (h : Fin 8) (s : Fin 4096) (d : Fin 128) : val_main_v5 (F := Ideal) v (ix4 b h s d) = v (ix3 b s (hd h d)) := v1_at v b h s d

theorem v7_at (b : Fin 4) (h : Fin 8) (s : Fin 4096) : val_main_v7 (F := Ideal) lf (ix3 b h s) = pre (fun t => lf (ix3 b t h)) s := by
  have hz : (val_main_call0_call0_v0 (F := Ideal)) (Shape.Idx.first h_S_) = (0 : EReal) := by
    rw [val_main_call0_call0_v0_apply, val_main_call0_call0_cst_apply]
    exact Ideal.ofBits_zero_f32
  rw [val_main_v7, host_window _ _ _ _ _ _ _ _ 0 hz, window_last]
  refine congrArg (fun X => pre X s) (funext fun t => ?_)
  rw [val_main_v6_apply]
  exact congrArg lf (funext fun a => by fin_cases a <;> rfl)

theorem v16_at (b : Fin 4) (h : Fin 8) (s j : Fin 4096) : val_main_v16 (F := Ideal) q k lf (ix4 b h s j) = lgt q k lf b h s j := by
  have e8 : val_main_v8 (F := Ideal) q k (ix4 b h s j) = ∑ d : Fin 128, q (ix3 b s (hd h d)) * k (ix3 b j (hd h d)) := by
    rw [val_main_v8_apply]
    refine Finset.sum_congr rfl fun d _ => ?_
    rw [← v1_at q b h s d, ← v3_at k b h j d]
    exact congrArg₂ (· * ·) (congrArg _ (funext fun a => by fin_cases a <;> rfl)) (congrArg _ (funext fun a => by fin_cases a <;> rfl))
  have e12 : val_main_v12 (F := Ideal) lf (ix4 b h s j) = pre (fun t => lf (ix3 b t h)) s := by
    rw [val_main_v12_apply, val_main_v11_apply, ← v7_at]
    exact congrArg _ (funext fun a => by fin_cases a <;> rfl)
  have e15 : val_main_v15 (F := Ideal) lf (ix4 b h s j) = pre (fun t => lf (ix3 b t h)) j := by
    rw [val_main_v15_apply, val_main_v14_apply, ← v7_at]
    exact congrArg _ (funext fun a => by fin_cases a <;> rfl)
  have e9 : val_main_v9 (F := Ideal) (ix4 b h s j) = scl := by
    rw [val_main_v9_apply, val_main_cst_apply]; rfl
  rw [val_main_v16_apply, val_main_v13_apply, val_main_v10_apply, e8, e12, e15, e9]
  rfl

theorem toInt_small (n : ℕ) (hn : n < 4096) : (BitVec.ofNat 32 n).toInt = n := by
  rw [BitVec.toInt_eq_toNat_of_lt] <;> rw [BitVec.toNat_ofNat, Nat.mod_eq_of_lt (by omega)] <;> omega

theorem v22_at (s j : Fin 4096) : val_main_v22 (F := Ideal) (ix2 s j) = if j.val ≤ s.val then 1#1 else 0#1 := by
  rw [val_main_v22_apply, val_main_v20_apply, val_main_v18_apply, val_main_v17_apply, val_main_v21_apply, val_main_v19_apply, val_main_v17_apply]
  show IntOp.cmpi .sle (BitVec.ofNat 32 j.val) (BitVec.ofNat 32 s.val) = _
  simp only [IntOp.cmpi, BitVec.sle, toInt_small j.val j.isLt, toInt_small s.val s.isLt]
  by_cases h : j.val ≤ s.val <;> simp [h]

theorem v23_at (b : Fin 4) (h : Fin 8) (s j : Fin 4096) : val_main_v23 (F := Ideal) q k lf (ix4 b h s j) = mlgt q k lf b h s j := by
  have e1 : val_main_call1_v1 (F := Ideal) (ix4 b h s j) = if j.val ≤ s.val then 1#1 else 0#1 := by
    rw [val_main_call1_v1_apply, ← v22_at]
    exact congrArg _ (funext fun a => by fin_cases a <;> rfl)
  have e2 : val_main_call1_v2 (F := Ideal) (ix4 b h s j) = (⊥ : EReal) := by
    rw [val_main_call1_v2_apply, val_main_call1_v0_apply, val_main_cst_0_apply]
    exact bot_bits
  rw [val_main_v23_apply, e1, e2, v16_at]
  unfold mlgt
  by_cases hj : j.val ≤ s.val
  · rw [if_pos hj, if_pos hj]; rfl
  · rw [if_neg hj, if_neg hj]; rfl

theorem v24_at (b : Fin 4) (h : Fin 8) (s : Fin 4096) : val_main_v24 (F := Ideal) q k lf (ix3 b h s) = Finset.univ.sup (mlgt q k lf b h s) := by
  have hi : (val_main_cst_1 (F := Ideal)) (Shape.Idx.first h_S_) = (⊥ : EReal) := by
    rw [val_main_cst_1_apply]; exact bot_bits
  unfold val_main_v24
  rw [Host.reduce_eq_fold_single _ _ _ reducesTo_S4x8x4096x4096_S4x8x4096_d3 (by decide) h_S_, hi]
  have e : ∀ j : Fin 4096, val_main_v23 (F := Ideal) q k lf ((by decide : S4x8x4096x4096.Reduces [3] S4x8x4096).lift (ix3 b h s) j) = mlgt q k lf b h s j := by
    intro j
    rw [← v23_at]
    exact congrArg _ (funext fun a => Fin.ext (by match a with | ⟨0, _⟩ => rfl | ⟨1, _⟩ => rfl | ⟨2, _⟩ => rfl | ⟨3, _⟩ => rfl))
  exact congrArg (fun X => Finset.univ.sup X) (funext e)

theorem v28_at (b : Fin 4) (h : Fin 8) (s j : Fin 4096) : val_main_v28 (F := Ideal) q k lf (ix4 b h s j) = Finset.univ.sup (mlgt q k lf b h s) := by
  have e25 : val_main_v25 (F := Ideal) (ix3 b h s) = (⊥ : EReal) := by
    rw [val_main_v25_apply, val_main_cst_2_apply]; exact bot_bits
  rw [val_main_v28_apply, val_main_v27_apply]
  have ei : idx_main_v27 (idx_main_v28 (ix4 b h s j)) = ix3 b h s := funext fun a => by fin_cases a <;> rfl
  rw [ei, val_main_v26_apply, e25, v24_at]
  exact bot_sup_eq _

theorem v30_at (b : Fin 4) (h : Fin 8) (s j : Fin 4096) :
    val_main_v30 (F := Ideal) q k lf (ix4 b h s j) = Ideal.exp (mlgt q k lf b h s j - Finset.univ.sup (mlgt q k lf b h s)) := by
  rw [val_main_v30_apply, val_main_v29_apply, v23_at, v28_at]
  rfl

theorem v34_at (b : Fin 4) (h : Fin 8) (s j : Fin 4096) :
    val_main_v34 (F := Ideal) q k lf (ix4 b h s j) = Ideal.div (Ideal.exp (mlgt q k lf b h s j - Finset.univ.sup (mlgt q k lf b h s)))
      (∑ i, Ideal.exp (mlgt q k lf b h s i - Finset.univ.sup (mlgt q k lf b h s))) := by
  have e33 : val_main_v33 (F := Ideal) q k lf (ix4 b h s j) = ∑ i, Ideal.exp (mlgt q k lf b h s i - Finset.univ.sup (mlgt q k lf b h s)) := by
    rw [val_main_v33_apply, val_main_v32_apply, val_main_v31_apply]
    have hz : (val_main_cst_3 (F := Ideal)) (Shape.Idx.first h_S_) = (0 : EReal) := by
      rw [val_main_cst_3_apply]; exact Ideal.ofBits_zero_f32
    rw [hz, zero_add]
    refine Finset.sum_congr rfl fun i _ => ?_
    rw [← v30_at]
    exact congrArg _ (funext fun a => by fin_cases a <;> rfl)
  rw [val_main_v34_apply, v30_at, e33]
  rfl

theorem v35_at (b : Fin 4) (h : Fin 8) (s : Fin 4096) (d : Fin 128) : val_main_v35 (F := Ideal) q k v lf (ix4 b h s d) = att q k v lf b h s d := by
  rw [val_main_v35_apply]
  unfold att
  refine Finset.sum_congr rfl fun j _ => ?_
  rw [← v34_at, ← v5_at v b h j d]
  exact congrArg₂ (· * ·) (congrArg _ (funext fun a => by fin_cases a <;> rfl)) (congrArg _ (funext fun a => by fin_cases a <;> rfl))

/-- The reference's result. -/
theorem res_at (b : Fin 4) (h : Fin 8) (s : Fin 4096) (d : Fin 128) :
    val_main_v38 (F := Ideal) q k v lf (ix2 ⟨b.val * 4096 + s.val, by omega⟩ (hd h d)) = att q k v lf b h s d := by
  rw [val_main_v38_apply, val_main_v37_apply, val_main_v36_apply, ← v35_at]
  refine congrArg (val_main_v35 (F := Ideal) q k v lf) (funext fun a => Fin.ext ?_)
  have := b.isLt; have := h.isLt; have := s.isLt; have := d.isLt
  fin_cases a
  · show ((b.val * 4096 + s.val) * 1024 + (h.val * 128 + d.val)) / 4194304 = b.val; omega
  · show ((b.val * 4096 + s.val) * 1024 + (h.val * 128 + d.val)) / 128 % 8 = h.val; omega
  · show ((b.val * 4096 + s.val) * 1024 + (h.val * 128 + d.val)) / 1024 % 4096 = s.val; omega
  · show ((b.val * 4096 + s.val) * 1024 + (h.val * 128 + d.val)) % 128 = d.val; omega

end Cert.Fox.Ref

end
-- ==== Proof.Fox.Final.lean ====
/- The kernel's result array is the reference's. -/
module

public import proofs.«01_k».proof.Proof.Fox.Head
public import proofs.«01_k».proof.Proof.Fox.Ref
public import proofs.«01_k».proof.Proof.Gen.KernelIdeal.Value

@[expose] public section

set_option maxRecDepth 16384
set_option maxHeartbeats 2000000

noncomputable section

namespace Cert.Fox

open Idealize.ShloMosaic Idealize.ShloMosaic.TcCoe Cert.KernelIdeal Cert.KernelIdeal.Gen

variable (m : (ℓ : Loc nD τ sig) → Buf (Elt Ideal) ℓ) (c : Dev nD)

/-- The array index of element `(r, x)` of the output block of a grid point. -/
theorem emb5 (t : Fin cfg0.grid.N) (r : Fin 512) (x : Fin 256) : (win0_5.blk t).view.emb (ix2 r x)
    = ix2 ⟨(bOf t).val * 4096 + ((qiOf t).val * 512 + r.val), by have := (bOf t).isLt; have := (qiOf t).isLt; omega⟩ ⟨(hpOf t).val * 256 + x.val, by have := (hpOf t).isLt; omega⟩ := by
  have h := idx5 t
  have h0 : win0_5.index t 0 = (bOf t).val * 8 + (qiOf t).val := congrFun h 0
  have h1 : win0_5.index t 1 = (hpOf t).val := congrFun h 1
  funext a
  apply Fin.ext
  fin_cases a
  · have e : (((win0_5.blk t).view.emb (ix2 r x) 0 : Fin _) : ℕ) = win0_5.index t 0 * 512 + r.val := ValueKit.view_emb_slice_whole_unit_val _ _ _ _ _ _
    show (((win0_5.blk t).view.emb (ix2 r x) 0 : Fin _) : ℕ) = (bOf t).val * 4096 + ((qiOf t).val * 512 + r.val)
    rw [e, h0]; omega
  · have e : (((win0_5.blk t).view.emb (ix2 r x) 1 : Fin _) : ℕ) = win0_5.index t 1 * 256 + x.val := ValueKit.view_emb_slice_whole_unit_val _ _ _ _ _ _
    show (((win0_5.blk t).view.emb (ix2 r x) 1 : Fin _) : ℕ) = (hpOf t).val * 256 + x.val
    rw [e, h1]

/-- The kernel's result array holds the reference's result. -/
theorem final (hq : Real' (argq m c)) (hk : Real' (argk m c)) (hl : Real' (argf m c)) :
    (dats (F := Ideal) m 0 c).arrAt 5 cfg0.N = Cert.ReferenceIdeal.Read.val_main_v38 (F := Ideal) (argq m c) (argk m c) (argv m c) (argf m c) := by
  refine (dats (F := Ideal) m 0 c).arrAt_eq_of_covers 5 _ (by decide +kernel) fun t hf y => ?_
  blk_simp
  rw [Gen.after0_5]
  have hy : ∃ (r : Fin 512) (x : Fin 256), y = ix2 r x := ⟨y 0, y 1, funext fun a => by fin_cases a <;> rfl⟩
  obtain ⟨r, x, rfl⟩ := hy
  have hx : ∃ (g : Fin 2) (l : Fin 128), x = ⟨g.val * 128 + l.val, by omega⟩ :=
    ⟨⟨x.val / 128, by omega⟩, ⟨x.val % 128, by omega⟩, Fin.ext (by show x.val = x.val / 128 * 128 + x.val % 128; omega)⟩
  obtain ⟨g, l, rfl⟩ := hx
  refine (block_att m c t hq hk hl g r l).trans ?_
  rw [emb5, ← Ref.res_at]
  refine congrArg _ (funext fun a => Fin.ext ?_)
  fin_cases a
  · rfl
  · show ((hpOf t).val * 2 + g.val) * 128 + l.val = (hpOf t).val * 256 + (g.val * 128 + l.val); omega

end Cert.Fox

end
-- ==== Proof.Proj.Cond.lean ====
module

public import proofs.«01_k».proof.Proof.Gen.ProjIdeal.Frame
public import proofs.«01_k».proof.Proof.Gen.ProjIdeal.Skeleton
public import proofs.«01_k».proof.Proof.Gen.ProjIdeal.Points
public import proofs.«01_k».proof.Proof.Gen.ProjIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Prj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid's point as a row block and a column block. -/
theorem coord1 (t : Fin cfg0.N) : (grid0.coords t 1).val = t.val % 10 := by
  have e : (grid0.coords t 1).val = t.val / 1 % 10 := Pipeline.Grid.coords_val t 1 (by decide) rfl
  rw [e, Nat.div_one]

/-- The first condition holds at column block 0 only. -/
theorem cond1 (t : Fin cfg0.N) : k0_cond1 (grid0.coords t) = 1#1 ↔ t.val % 10 = 0 := by
  have e1 := coord1 t
  simp only [k0_cond1, e1]
  word_cmp

/-- The second condition holds at the first two column blocks. -/
theorem cond2 (t : Fin cfg0.N) : k0_cond2 (grid0.coords t) = 1#1 ↔ t.val % 10 < 2 := by
  have e1 := coord1 t
  simp only [k0_cond2, e1]
  word_cmp

/-- The third condition holds at column blocks 2 to 5. -/
theorem cond3 (t : Fin cfg0.N) : k0_cond3 (grid0.coords t) = 1#1 ↔ 2 ≤ t.val % 10 ∧ t.val % 10 < 6 := by
  have e1 := coord1 t
  simp only [k0_cond3, e1]
  word_cmp

/-- The fourth condition holds from column block 6 on. -/
theorem cond4 (t : Fin cfg0.N) : k0_cond4 (grid0.coords t) = 1#1 ↔ 6 ≤ t.val % 10 := by
  have e1 := coord1 t
  simp only [k0_cond4, e1]
  word_cmp

end Cert.Prj

end
-- ==== Proof.Proj.RunA.lean ====
module

public import proofs.«01_k».proof.Proof.Proj.Cond
public import proofs.«01_k».proof.Proof.Gen.ProjIdeal.Skeleton
public import proofs.«01_k».proof.Proof.Gen.ProjIdeal.Points
public import proofs.«01_k».proof.Proof.Gen.ProjIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Prj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a run is large
set_option maxHeartbeats 2000000 in
/-- The body at column block 0: what it stores into the two output blocks and the normalised rows, and that it runs. -/
noncomputable def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole)
    (hc1 : k0_cond1 i = 1#1) (hc2 : k0_cond2 i = 1#1) (hc3 : ¬ k0_cond3 i = 1#1) (hc4 : ¬ k0_cond4 i = 1#1)
    (x0 : Vec F S1024x2048 .f32) (x1 : Vec F S1x2048 .f32) (x2 : Vec F S1x2048x1024 .bf16) (x3 : Vec F S1x2048x128 .bf16) (x4 : Vec F S1x1024 .f32) (x5 : Vec F S1x1024 .f32) (x6 : Vec F S1x128 .f32) :
    Σ' (L7 : List (View.Piece (Elt F) S1024x1024 .bf16)) (L8 : List (View.Piece (Elt F) S1024x128 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

end Cert.Prj

end
-- ==== Proof.Proj.RunB.lean ====
module

public import proofs.«01_k».proof.Proof.Proj.Cond
public import proofs.«01_k».proof.Proof.Gen.ProjIdeal.Skeleton
public import proofs.«01_k».proof.Proof.Gen.ProjIdeal.Points
public import proofs.«01_k».proof.Proof.Gen.ProjIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Prj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a run is large
set_option maxHeartbeats 2000000 in
/-- The body at column block 1, a block of normalised heads. -/
noncomputable def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole)
    (hc1 : ¬ k0_cond1 i = 1#1) (hc2 : k0_cond2 i = 1#1) (hc3 : ¬ k0_cond3 i = 1#1) (hc4 : ¬ k0_cond4 i = 1#1)
    (x0 : Vec F S1024x2048 .f32) (x1 : Vec F S1x2048 .f32) (x2 : Vec F S1x2048x1024 .bf16) (x3 : Vec F S1x2048x128 .bf16) (x4 : Vec F S1x1024 .f32) (x5 : Vec F S1x1024 .f32) (x6 : Vec F S1x128 .f32) (x8 : Vec F S1024x128 .f32) (x9 : Vec F S1024x2048 .bf16) :
    { L7 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare x8 ∗ owns (c : Thread nD τ) arg11 fullShare x9) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K } := by
  refine ⟨?_, fun E K => ?run⟩
  case run =>
    simp only [cc0_proj_eq_skeleton]; unfold cc0_proj_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.Prj

end
-- ==== Proof.Proj.RunC.lean ====
module

public import proofs.«01_k».proof.Proof.Proj.Cond
public import proofs.«01_k».proof.Proof.Gen.ProjIdeal.Skeleton
public import proofs.«01_k».proof.Proof.Gen.ProjIdeal.Points
public import proofs.«01_k».proof.Proof.Gen.ProjIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Prj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a run is large
set_option maxHeartbeats 2000000 in
/-- The body at a block that is only scaled. -/
noncomputable def runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole)
    (hc1 : ¬ k0_cond1 i = 1#1) (hc2 : ¬ k0_cond2 i = 1#1) (hc3 : k0_cond3 i = 1#1) (hc4 : ¬ k0_cond4 i = 1#1)
    (x0 : Vec F S1024x2048 .f32) (x1 : Vec F S1x2048 .f32) (x2 : Vec F S1x2048x1024 .bf16) (x3 : Vec F S1x2048x128 .bf16) (x4 : Vec F S1x1024 .f32) (x5 : Vec F S1x1024 .f32) (x6 : Vec F S1x128 .f32) (x8 : Vec F S1024x128 .f32) (x9 : Vec F S1024x2048 .bf16) :
    { L7 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare x8 ∗ owns (c : Thread nD τ) arg11 fullShare x9) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K } := by
  refine ⟨?_, fun E K => ?run⟩
  case run =>
    simp only [cc0_proj_eq_skeleton]; unfold cc0_proj_skel

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.Prj

end
-- ==== Proof.Proj.RunD.lean ====
module

public import proofs.«01_k».proof.Proof.Proj.Cond
public import proofs.«01_k».proof.Proof.Gen.ProjIdeal.Skeleton
public import proofs.«01_k».proof.Proof.Gen.ProjIdeal.Points
public import proofs.«01_k».proof.Proof.Gen.ProjIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Prj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a run is large
set_option maxHeartbeats 2000000 in
/-- The body at a block of gates. -/
noncomputable def runD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1024x2048 .bf16) (harg11 : arg11.IsWhole)
    (hc1 : ¬ k0_cond1 i = 1#1) (hc2 : ¬ k0_cond2 i = 1#1) (hc3 : ¬ k0_cond3 i = 1#1) (hc4 : k0_cond4 i = 1#1)
    (x0 : Vec F S1024x2048 .f32) (x1 : Vec F S1x2048 .f32) (x2 : Vec F S1x2048x1024 .bf16) (x3 : Vec F S1x2048x128 .bf16) (x4 : Vec F S1x1024 .f32) (x5 : Vec F S1x1024 .f32) (x6 : Vec F S1x128 .f32) (x8 : Vec F S1024x128 .f32) (x9 : Vec F S1024x2048 .bf16) :
    { L7 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare x8 ∗ owns (c : Thread nD τ) arg11 fullShare x9) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11) K } := by
  refine ⟨?_, fun E K => ?run⟩
  case run =>
    simp only [cc0_proj_eq_skeleton]; unfold cc0_proj_skel

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.Prj

end
-- ==== Proof.Proj.Body.lean ====
module

public import proofs.«01_k».proof.Proof.Proj.RunA
public import proofs.«01_k».proof.Proof.Proj.RunB
public import proofs.«01_k».proof.Proof.Proj.RunC
public import proofs.«01_k».proof.Proof.Proj.RunD
public import Idealize.ShloMosaic.Lib.Claim
public import proofs.«01_k».proof.Proof.Gen.ProjIdeal.Skeleton
public import proofs.«01_k».proof.Proof.Gen.ProjIdeal.Points
public import proofs.«01_k».proof.Proof.Gen.ProjIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Prj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a point -/

/-- The buffer of window 0 at a point, and that it is whole. -/
abbrev ms0 (t : Fin cfg0.N) : Memref sig .tc .vmem S1024x2048 .f32 := win0_0.stage (cfg0.slots t 0)
theorem hs0 (t : Fin cfg0.N) : (ms0 t).IsWhole := hstage0_0 ((cfg0.slots t 0).cast nbuf0_0)
/-- The buffer of window 1 at a point, and that it is whole. -/
abbrev ms1 (t : Fin cfg0.N) : Memref sig .tc .vmem S1x2048 .f32 := win0_1.stage (cfg0.slots t 1)
theorem hs1 (t : Fin cfg0.N) : (ms1 t).IsWhole := hstage0_1 ((cfg0.slots t 1).cast nbuf0_1)
/-- The buffer of window 2 at a point, and that it is whole. -/
abbrev ms2 (t : Fin cfg0.N) : Memref sig .tc .vmem S1x2048x1024 .bf16 := win0_2.stage (cfg0.slots t 2)
theorem hs2 (t : Fin cfg0.N) : (ms2 t).IsWhole := hstage0_2 ((cfg0.slots t 2).cast nbuf0_2)
/-- The buffer of window 3 at a point, and that it is whole. -/
abbrev ms3 (t : Fin cfg0.N) : Memref sig .tc .vmem S1x2048x128 .bf16 := win0_3.stage (cfg0.slots t 3)
theorem hs3 (t : Fin cfg0.N) : (ms3 t).IsWhole := hstage0_3 ((cfg0.slots t 3).cast nbuf0_3)
/-- The buffer of window 4 at a point, and that it is whole. -/
abbrev ms4 (t : Fin cfg0.N) : Memref sig .tc .vmem S1x1024 .f32 := win0_4.stage (cfg0.slots t 4)
theorem hs4 (t : Fin cfg0.N) : (ms4 t).IsWhole := hstage0_4 ((cfg0.slots t 4).cast nbuf0_4)
/-- The buffer of window 5 at a point, and that it is whole. -/
abbrev ms5 (t : Fin cfg0.N) : Memref sig .tc .vmem S1x1024 .f32 := win0_5.stage (cfg0.slots t 5)
theorem hs5 (t : Fin cfg0.N) : (ms5 t).IsWhole := hstage0_5 ((cfg0.slots t 5).cast nbuf0_5)
/-- The buffer of window 6 at a point, and that it is whole. -/
abbrev ms6 (t : Fin cfg0.N) : Memref sig .tc .vmem S1x128 .f32 := win0_6.stage (cfg0.slots t 6)
theorem hs6 (t : Fin cfg0.N) : (ms6 t).IsWhole := hstage0_6 ((cfg0.slots t 6).cast nbuf0_6)
/-- The buffer of window 7 at a point, and that it is whole. -/
abbrev ms7 (t : Fin cfg0.N) : Memref sig .tc .vmem S1024x1024 .bf16 := win0_7.stage (cfg0.slots t 7)
theorem hs7 (t : Fin cfg0.N) : (ms7 t).IsWhole := hstage0_7 ((cfg0.slots t 7).cast nbuf0_7)
/-- The buffer of window 8 at a point, and that it is whole. -/
abbrev ms8 (t : Fin cfg0.N) : Memref sig .tc .vmem S1024x128 .f32 := win0_8.stage (cfg0.slots t 8)
theorem hs8 (t : Fin cfg0.N) : (ms8 t).IsWhole := hstage0_8 ((cfg0.slots t 8).cast nbuf0_8)
/-- The buffer of the normalised rows. -/
abbrev scM : Memref sig .tc .vmem S1024x2048 .bf16 := Memref.whole cc0_scratch0
/-- Views through which the contents of the two output blocks are stated. -/
abbrev V7 : View sig .tc .vmem S1024x1024 .bf16 := (Memref.whole cc0_stg7_0 : Memref sig .tc .vmem S1024x1024 .bf16).view
abbrev V8 : View sig .tc .vmem S1024x128 .f32 := (Memref.whole cc0_stg8_0 : Memref sig .tc .vmem S1024x128 .f32).view

theorem phiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What a point stores -/

/-- The run of a first column block, at the point's own buffers and blocks. -/
def atA (c : Dev nD) (t : Fin cfg0.N) (h : t.val % 10 = 0) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _)
    ((cond1 t).mpr h) ((cond2 t).mpr (by omega)) (fun k => by have := (cond3 t).mp k; omega) (fun k => by have := (cond4 t).mp k; omega)
    (iblk m c 0 t) (iblk m c 1 t) (iblk m c 2 t) (iblk m c 3 t) (iblk m c 4 t) (iblk m c 5 t) (iblk m c 6 t)

/-- The run of the second column block, over what the first has left. -/
def atB (c : Dev nD) (t : Fin cfg0.N) (h : t.val % 10 = 1) (x8 : Vec F S1024x128 .f32) (x9 : Vec F S1024x2048 .bf16) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _)
    (fun k => by have := (cond1 t).mp k; omega) ((cond2 t).mpr (by omega)) (fun k => by have := (cond3 t).mp k; omega) (fun k => by have := (cond4 t).mp k; omega)
    (iblk m c 0 t) (iblk m c 1 t) (iblk m c 2 t) (iblk m c 3 t) (iblk m c 4 t) (iblk m c 5 t) (iblk m c 6 t) x8 x9

/-- The run of a block that is only scaled. -/
def atC (c : Dev nD) (t : Fin cfg0.N) (h : 2 ≤ t.val % 10 ∧ t.val % 10 < 6) (x8 : Vec F S1024x128 .f32) (x9 : Vec F S1024x2048 .bf16) :=
  runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _)
    (fun k => by have := (cond1 t).mp k; omega) (fun k => by have := (cond2 t).mp k; omega) ((cond3 t).mpr h) (fun k => by have := (cond4 t).mp k; omega)
    (iblk m c 0 t) (iblk m c 1 t) (iblk m c 2 t) (iblk m c 3 t) (iblk m c 4 t) (iblk m c 5 t) (iblk m c 6 t) x8 x9

/-- The run of a block of gates. -/
def atD (c : Dev nD) (t : Fin cfg0.N) (h : 6 ≤ t.val % 10) (x8 : Vec F S1024x128 .f32) (x9 : Vec F S1024x2048 .bf16) :=
  runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _)
    (fun k => by have := (cond1 t).mp k; omega) (fun k => by have := (cond2 t).mp k; omega) (fun k => by have := (cond3 t).mp k; omega) ((cond4 t).mpr h)
    (iblk m c 0 t) (iblk m c 1 t) (iblk m c 2 t) (iblk m c 3 t) (iblk m c 4 t) (iblk m c 5 t) (iblk m c 6 t) x8 x9

theorem coverA7 (c : Dev nD) (t : Fin cfg0.N) (h : t.val % 10 = 0) (y : S1024x1024.Idx) : ∃ pc ∈ (atA m c t h).1, y ∈ pc.1.set :=
  View.cover_of_tiledL (atA m c t h).1 S1024x128.size (by sl_kernel_rfl) y
theorem coverA8 (c : Dev nD) (t : Fin cfg0.N) (h : t.val % 10 = 0) (y : S1024x128.Idx) : ∃ pc ∈ (atA m c t h).2.1, y ∈ pc.1.set :=
  View.cover_of_tiledL (atA m c t h).2.1 S1024x128.size (by sl_kernel_rfl) y
theorem coverA9 (c : Dev nD) (t : Fin cfg0.N) (h : t.val % 10 = 0) (y : S1024x2048.Idx) : ∃ pc ∈ (atA m c t h).2.2.1, y ∈ pc.1.set :=
  View.cover_of_tiledL (atA m c t h).2.2.1 S256x2048.size (by sl_kernel_rfl) y
theorem coverB (c : Dev nD) (t : Fin cfg0.N) (h) (x8 : Vec F S1024x128 .f32) (x9 : Vec F S1024x2048 .bf16) (y : S1024x1024.Idx) :
    ∃ pc ∈ (atB m c t h x8 x9).1, y ∈ pc.1.set :=
  View.cover_of_tiledL (atB m c t h x8 x9).1 S1024x128.size (by sl_kernel_rfl) y
theorem coverC (c : Dev nD) (t : Fin cfg0.N) (h) (x8 : Vec F S1024x128 .f32) (x9 : Vec F S1024x2048 .bf16) (y : S1024x1024.Idx) :
    ∃ pc ∈ (atC m c t h x8 x9).1, y ∈ pc.1.set :=
  View.cover_of_tiledL (atC m c t h x8 x9).1 S1024x1024.size (by sl_kernel_rfl) y
theorem coverD (c : Dev nD) (t : Fin cfg0.N) (h) (x8 : Vec F S1024x128 .f32) (x9 : Vec F S1024x2048 .bf16) (y : S1024x1024.Idx) :
    ∃ pc ∈ (atD m c t h x8 x9).1, y ∈ pc.1.set :=
  View.cover_of_tiledL (atD m c t h x8 x9).1 S1024x1024.size (by sl_kernel_rfl) y

/-! ## What the buffers hold after a point -/

/-- The first point of a point's row block. -/
def rowT (t : Fin cfg0.N) : Fin cfg0.N := ⟨t.val / 10 * 10, by have := t.isLt; omega⟩
theorem rowT_mod (t : Fin cfg0.N) : (rowT t).val % 10 = 0 := Nat.mul_mod_left _ _
theorem rowT_self (t : Fin cfg0.N) (h : t.val % 10 = 0) : rowT t = t := Fin.ext (by show t.val / 10 * 10 = t.val; omega)
theorem rowT_pred (t : Fin cfg0.N) (h : ¬ t.val % 10 = 0) (hp : t.val - 1 < cfg0.N) : rowT ⟨t.val - 1, hp⟩ = rowT t :=
  Fin.ext (by show (t.val - 1) / 10 * 10 = t.val / 10 * 10; omega)

/-- The normalised rows that a first column block leaves. -/
def hAt (c : Dev nD) (t : Fin cfg0.N) (h : t.val % 10 = 0) : Vec F S1024x2048 .bf16 :=
  scM.view.read (Elt F) (scM.view.writes (Elt F) scM.view.junk (atA m c t h).2.2.1)
/-- The gate logarithms that a first column block leaves. -/
def lAt (c : Dev nD) (t : Fin cfg0.N) (h : t.val % 10 = 0) : Vec F S1024x128 .f32 :=
  V8.read (Elt F) (V8.writes (Elt F) V8.junk (atA m c t h).2.1)
/-- The normalised rows of a point's row block: they stay until the next one. -/
def hRow (c : Dev nD) (t : Fin cfg0.N) : Vec F S1024x2048 .bf16 := hAt m c (rowT t) (rowT_mod t)
/-- The gate logarithms of a point's row block: they stay until the next one. -/
def lRow (c : Dev nD) (t : Fin cfg0.N) : Vec F S1024x128 .f32 := lAt m c (rowT t) (rowT_mod t)

theorem hAt_congr (c : Dev nD) {t u : Fin cfg0.N} (e : t = u) (h : t.val % 10 = 0) (h' : u.val % 10 = 0) : hAt m c t h = hAt m c u h' := by
  subst e; rfl
theorem lAt_congr (c : Dev nD) {t u : Fin cfg0.N} (e : t = u) (h : t.val % 10 = 0) (h' : u.val % 10 = 0) : lAt m c t h = lAt m c u h' := by
  subst e; rfl
theorem hRow_self (c : Dev nD) (t : Fin cfg0.N) (h : t.val % 10 = 0) : hRow m c t = hAt m c t h := hAt_congr m c (rowT_self t h) _ _
theorem lRow_self (c : Dev nD) (t : Fin cfg0.N) (h : t.val % 10 = 0) : lRow m c t = lAt m c t h := lAt_congr m c (rowT_self t h) _ _
theorem hRow_pred (c : Dev nD) (t : Fin cfg0.N) (h : ¬ t.val % 10 = 0) (hp : t.val - 1 < cfg0.N) : hRow m c ⟨t.val - 1, hp⟩ = hRow m c t :=
  hAt_congr m c (rowT_pred t h hp) _ _
theorem lRow_pred (c : Dev nD) (t : Fin cfg0.N) (h : ¬ t.val % 10 = 0) (hp : t.val - 1 < cfg0.N) : lRow m c ⟨t.val - 1, hp⟩ = lRow m c t :=
  lAt_congr m c (rowT_pred t h hp) _ _

/-- The block of the projection that a point leaves. -/
def yAt (c : Dev nD) (t : Fin cfg0.N) : Vec F S1024x1024 .bf16 :=
  if h0 : t.val % 10 = 0 then V7.read (Elt F) (V7.writes (Elt F) V7.junk (atA m c t h0).1)
  else if h1 : t.val % 10 = 1 then V7.read (Elt F) (V7.writes (Elt F) V7.junk (atB m c t h1 (lRow m c t) (hRow m c t)).1)
  else if h2 : t.val % 10 < 6 then V7.read (Elt F) (V7.writes (Elt F) V7.junk (atC m c t (by omega) (lRow m c t) (hRow m c t)).1)
  else V7.read (Elt F) (V7.writes (Elt F) V7.junk (atD m c t (by omega) (lRow m c t) (hRow m c t)).1)

theorem yAt_A (c : Dev nD) (t : Fin cfg0.N) (h : t.val % 10 = 0) :
    yAt m c t = V7.read (Elt F) (V7.writes (Elt F) V7.junk (atA m c t h).1) := by unfold yAt; rw [dif_pos h]
theorem yAt_B (c : Dev nD) (t : Fin cfg0.N) (h : t.val % 10 = 1) :
    yAt m c t = V7.read (Elt F) (V7.writes (Elt F) V7.junk (atB m c t h (lRow m c t) (hRow m c t)).1) := by
  unfold yAt; rw [dif_neg (by omega), dif_pos h]
theorem yAt_C (c : Dev nD) (t : Fin cfg0.N) (h : 2 ≤ t.val % 10 ∧ t.val % 10 < 6) :
    yAt m c t = V7.read (Elt F) (V7.writes (Elt F) V7.junk (atC m c t h (lRow m c t) (hRow m c t)).1) := by
  unfold yAt; rw [dif_neg (by omega), dif_neg (by omega), dif_pos h.2]
theorem yAt_D (c : Dev nD) (t : Fin cfg0.N) (h : 6 ≤ t.val % 10) :
    yAt m c t = V7.read (Elt F) (V7.writes (Elt F) V7.junk (atD m c t h (lRow m c t) (hRow m c t)).1) := by
  unfold yAt; rw [dif_neg (by omega), dif_neg (by omega), dif_neg (by omega)]

/-! ## The pipeline's data -/

/-- Before the first point the rows' buffer holds anything; after a point it holds the rows of the point's row block. -/
def Phi (c : Dev nD) : (n : ℕ) → n ≤ cfg0.N → sProp 𝕄
  | 0, _ => Pipeline.ΦA spec0 c
  | n + 1, hn => iprop(iprop(owns (c : Thread nD τ) scM fullShare (hRow m c ⟨n, hn⟩)) ∗ (∃ r, prngReg c r))

/-- Arrays as the region finds them; after a point each input's buffer at its block, the outputs' at what the point leaves. -/
def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => lRow m c t
  Φ t := Phi m c t.val (Nat.le_of_lt_succ t.isLt)
  q _ := fullShare
  owed _ := 0

theorem pA (c : Dev nD) (w : Fin cfg0.W) : (pdat m 0 c).A w = V m c (Pipeline.arrRef spec0 w) := by dsimp only [pdat]
theorem pafter0 (c : Dev nD) (t : Fin cfg0.N) : (pdat m 0 c).after 0 t = iblk m c 0 t := by dsimp only [pdat]
theorem pafter1 (c : Dev nD) (t : Fin cfg0.N) : (pdat m 0 c).after 1 t = iblk m c 1 t := by dsimp only [pdat]
theorem pafter2 (c : Dev nD) (t : Fin cfg0.N) : (pdat m 0 c).after 2 t = iblk m c 2 t := by dsimp only [pdat]
theorem pafter3 (c : Dev nD) (t : Fin cfg0.N) : (pdat m 0 c).after 3 t = iblk m c 3 t := by dsimp only [pdat]
theorem pafter4 (c : Dev nD) (t : Fin cfg0.N) : (pdat m 0 c).after 4 t = iblk m c 4 t := by dsimp only [pdat]
theorem pafter5 (c : Dev nD) (t : Fin cfg0.N) : (pdat m 0 c).after 5 t = iblk m c 5 t := by dsimp only [pdat]
theorem pafter6 (c : Dev nD) (t : Fin cfg0.N) : (pdat m 0 c).after 6 t = iblk m c 6 t := by dsimp only [pdat]
theorem pafter7 (c : Dev nD) (t : Fin cfg0.N) : (pdat m 0 c).after 7 t = yAt m c t := by dsimp only [pdat]
theorem pafter8 (c : Dev nD) (t : Fin cfg0.N) : (pdat m 0 c).after 8 t = lRow m c t := by dsimp only [pdat]
theorem pbefore0 (c : Dev nD) (t : Fin cfg0.N) (d) : (pdat m 0 c).before 0 t d = iblk m c 0 t :=
  before0_0_of m (pdat m 0 c) (pA m c 0) (pafter0 m c) t d
theorem pbefore1 (c : Dev nD) (t : Fin cfg0.N) (d) : (pdat m 0 c).before 1 t d = iblk m c 1 t :=
  before0_1_of m (pdat m 0 c) (pA m c 1) (pafter1 m c) t d
theorem pbefore2 (c : Dev nD) (t : Fin cfg0.N) (d) : (pdat m 0 c).before 2 t d = iblk m c 2 t :=
  before0_2_of m (pdat m 0 c) (pA m c 2) (pafter2 m c) t d
theorem pbefore3 (c : Dev nD) (t : Fin cfg0.N) (d) : (pdat m 0 c).before 3 t d = iblk m c 3 t :=
  before0_3_of m (pdat m 0 c) (pA m c 3) (pafter3 m c) t d
theorem pbefore4 (c : Dev nD) (t : Fin cfg0.N) (d) : (pdat m 0 c).before 4 t d = iblk m c 4 t :=
  before0_4_of m (pdat m 0 c) (pA m c 4) (pafter4 m c) t d
theorem pbefore5 (c : Dev nD) (t : Fin cfg0.N) (d) : (pdat m 0 c).before 5 t d = iblk m c 5 t :=
  before0_5_of m (pdat m 0 c) (pA m c 5) (pafter5 m c) t d
theorem pbefore6 (c : Dev nD) (t : Fin cfg0.N) (d) : (pdat m 0 c).before 6 t d = iblk m c 6 t :=
  before0_6_of m (pdat m 0 c) (pA m c 6) (pafter6 m c) t d

theorem Phi_castSucc (c : Dev nD) (t : Fin cfg0.N) : (pdat m 0 c).Φ t.castSucc = Phi m c t.val (Nat.le_of_lt t.isLt) := by
  dsimp only [pdat]; exact Pipeline.Dat.Φ_castSucc (Phi m c) t

theorem Phi_pos (c : Dev nD) (n : ℕ) (h : n ≤ cfg0.N) (hz : n ≠ 0) :
    Phi m c n h = iprop(iprop(owns (c : Thread nD τ) scM fullShare (hRow m c ⟨n - 1, by omega⟩)) ∗ (∃ r, prngReg c r)) := by
  cases n with
  | zero => exact absurd rfl hz
  | succ n => rfl

/-- At any time the rows' buffer holds something. -/
theorem Phi_any (c : Dev nD) (n : ℕ) (h : n ≤ cfg0.N) : Phi m c n h ⊢ Pipeline.ΦA spec0 c := by
  cases n with
  | zero => exact Idealize.SL.BI.Entails.refl _
  | succ n =>
    rw [Phi_pos m c _ h (Nat.succ_ne_zero n), phiA_eq]
    iintro ⟨HS, Hg⟩
    isplitl [HS]
    · iexists _; iexact HS
    iexact Hg

/-- At a point that is not the first of its row block the rows' buffer holds the row block's rows. -/
theorem Phi_row (c : Dev nD) (t : Fin cfg0.N) (h : ¬ t.val % 10 = 0) :
    (pdat m 0 c).Φ t.castSucc = iprop(iprop(owns (c : Thread nD τ) scM fullShare (hRow m c t)) ∗ (∃ r, prngReg c r)) := by
  rw [Phi_castSucc, Phi_pos m c _ _ (by omega), hRow_pred m c t h]

/-! ## The second output's block, kept from point to point -/

theorem idle8 (t : Fin cfg0.N) : cfg0.idle 8 (cfg0.grid.coords t) = !(k0_cond1 (grid0.coords t) == 1#1) := rfl
theorem idle8_first (t : Fin cfg0.N) (h : t.val % 10 = 0) : cfg0.idle 8 (cfg0.grid.coords t) = false := by
  rw [idle8, (cond1 t).mpr h]; rfl
theorem idle8_later (t : Fin cfg0.N) (h : ¬ t.val % 10 = 0) : cfg0.idle 8 (cfg0.grid.coords t) = true := by
  rw [idle8, Bool.not_eq_true', beq_eq_false_iff_ne]; exact fun k => h ((cond1 t).mp k)
theorem idle7 (t : Fin cfg0.N) : cfg0.idle 7 (cfg0.grid.coords t) = false := by
  show (!(k0_cond2 (grid0.coords t) == 1#1) && !(k0_cond3 (grid0.coords t) == 1#1) && !(k0_cond4 (grid0.coords t) == 1#1)) = false
  by_cases h2 : t.val % 10 < 2
  · rw [(cond2 t).mpr h2]; rfl
  by_cases h3 : t.val % 10 < 6
  · rw [(cond3 t).mpr ⟨by omega, h3⟩]; simp
  · rw [(cond4 t).mpr (by omega)]; simp

/-- After the first point of a row block the second output's buffer is found at the row block's gate logarithms. -/
theorem pbefore8 (c : Dev nD) (n : ℕ) : ∀ (t : Fin cfg0.N) (_ : t.val = n) (_ : ¬ t.val % 10 = 0) (d), (pdat m 0 c).before 8 t d = lRow m c t := by
  induction n with
  | zero => intro t ht h; omega
  | succ n ih =>
    intro t ht h d
    have hp : t.val - 1 < cfg0.N := Nat.lt_of_le_of_lt (Nat.sub_le _ _) t.isLt
    rw [Dat.before_of_pos _ 8 t (by omega) ((cfg0.win 8).fetch_out rfl t) d,
      if_neg (fun k => by have := (flush0_8 _).mp k; dsimp only at this; omega)]
    unfold Dat.left
    by_cases h1 : (t.val - 1) % 10 = 0
    · rw [idle8_first ⟨t.val - 1, hp⟩ h1]
      dsimp only
      unfold Dat.kept
      rw [Pipeline.fill_of_clip_none 8 _ (fun _ => rfl) d ((pdat m 0 c).after 8 _), Window.fill_cut, pafter8, lRow_pred m c t h]
    · rw [idle8_later ⟨t.val - 1, hp⟩ h1]
      dsimp only
      rw [ih ⟨t.val - 1, hp⟩ (by dsimp only; omega) h1, lRow_pred m c t h]

/-- The second output's buffer at the row block's gate logarithms is what the pipeline asks for, idle or not. -/
theorem leaves8 (c : Dev nD) (t : Fin cfg0.N) :
    owns (c : Thread nD τ) (ms8 t) fullShare (lRow m c t) ⊢ (pdat m 0 c).leavesExact 8 t := by
  by_cases h : t.val % 10 = 0
  · unfold Dat.leavesExact
    rw [idle8_first t h]
    dsimp only
    rw [pafter8]
    try exact Idealize.SL.BI.Entails.refl _
  · cases hf : (cfg0.win 8).flush t
    · rw [Dat.leavesExact_idle _ 8 t (idle8_later t h) hf]
      iintro H
      iexists (lRow m c t)
      rw [pbefore8 m c _ t rfl h]
      iexact H
    · unfold Dat.leavesExact
      rw [idle8_later t h, hf]
      dsimp only
      rw [pafter8]
      try exact Idealize.SL.BI.Entails.refl _

/-- The first output's buffer at the point's block is what the pipeline asks for. -/
theorem leaves7 (c : Dev nD) (t : Fin cfg0.N) :
    owns (c : Thread nD τ) (ms7 t) fullShare (yAt m c t) ⊢ (pdat m 0 c).leavesExact 7 t := by
  unfold Dat.leavesExact
  rw [idle7 t]
  dsimp only
  rw [pafter7]
  try exact Idealize.SL.BI.Entails.refl _

/-! ## The body at any point -/

/-- What the body is called with at a point, -/
def bodyPre (c : Dev nD) (t : Fin cfg0.N) : sProp 𝕄 :=
  iprop((pdat m 0 c).Φ t.castSucc ∗ (pdat m 0 c).owesAt () t.castSucc
    ∗ (∃ d, owns (c : Thread nD τ) (ms0 t) fullShare ((pdat m 0 c).before 0 t d))
    ∗ (∃ d, owns (c : Thread nD τ) (ms1 t) fullShare ((pdat m 0 c).before 1 t d))
    ∗ (∃ d, owns (c : Thread nD τ) (ms2 t) fullShare ((pdat m 0 c).before 2 t d))
    ∗ (∃ d, owns (c : Thread nD τ) (ms3 t) fullShare ((pdat m 0 c).before 3 t d))
    ∗ (∃ d, owns (c : Thread nD τ) (ms4 t) fullShare ((pdat m 0 c).before 4 t d))
    ∗ (∃ d, owns (c : Thread nD τ) (ms5 t) fullShare ((pdat m 0 c).before 5 t d))
    ∗ (∃ d, owns (c : Thread nD τ) (ms6 t) fullShare ((pdat m 0 c).before 6 t d))
    ∗ (∃ d, owns (c : Thread nD τ) (ms7 t) fullShare ((pdat m 0 c).before 7 t d))
    ∗ (∃ d, owns (c : Thread nD τ) (ms8 t) fullShare ((pdat m 0 c).before 8 t d)))

/-- and what it returns. -/
def bodyPost (c : Dev nD) (t : Fin cfg0.N) : sProp 𝕄 :=
  iprop((pdat m 0 c).Φ t.succ ∗ (pdat m 0 c).owesAt () t.succ
    ∗ owns (c : Thread nD τ) (ms0 t) fullShare ((pdat m 0 c).after 0 t)
    ∗ owns (c : Thread nD τ) (ms1 t) fullShare ((pdat m 0 c).after 1 t)
    ∗ owns (c : Thread nD τ) (ms2 t) fullShare ((pdat m 0 c).after 2 t)
    ∗ owns (c : Thread nD τ) (ms3 t) fullShare ((pdat m 0 c).after 3 t)
    ∗ owns (c : Thread nD τ) (ms4 t) fullShare ((pdat m 0 c).after 4 t)
    ∗ owns (c : Thread nD τ) (ms5 t) fullShare ((pdat m 0 c).after 5 t)
    ∗ owns (c : Thread nD τ) (ms6 t) fullShare ((pdat m 0 c).after 6 t)
    ∗ (pdat m 0 c).leavesExact 7 t
    ∗ (pdat m 0 c).leavesExact 8 t)

set_option maxHeartbeats 3200000 in
/-- The body runs at every point, by its column block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [pbefore0, pbefore1, pbefore2, pbefore3, pbefore4, pbefore5, pbefore6]
  rw [show (pdat m 0 c).owesAt () t.succ = (pdat m 0 c).owesAt () t.castSucc from rfl,
    pafter0, pafter1, pafter2, pafter3, pafter4, pafter5, pafter6]
  rw [show (pdat m 0 c).Φ t.succ = iprop(iprop(owns (c : Thread nD τ) scM fullShare (hRow m c t)) ∗ (∃ r, prngReg c r)) from rfl]
  by_cases h0 : t.val % 10 = 0
  · refine (BIClass.sep_mono (show (pdat m 0 c).Φ t.castSucc ⊢ Pipeline.ΦA spec0 c by rw [Phi_castSucc]; exact Phi_any m c _ _) (Idealize.SL.BI.Entails.refl _)).trans ?_
    rw [phiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atA m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, ⟨%es, HS⟩⟩
    isplitl [HS Hg]
    · isplitl [HS]
      · unfold owns; iexists _; isplitr
        swap; · iexact HS
        ipureintro; rw [hRow_self m c t h0]; exact View.read_writes_of_cover _ _ _ _ _ (coverA9 m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leaves7 m c t)
      unfold owns; iexists _; isplitr
      swap; · iexact H7
      ipureintro; rw [yAt_A m c t h0]; exact View.read_writes_of_cover _ _ _ _ _ (coverA7 m c t h0)
    iapply (leaves8 m c t)
    unfold owns; iexists _; isplitr
    swap; · iexact H8
    ipureintro; rw [lRow_self m c t h0]; exact View.read_writes_of_cover _ _ _ _ _ (coverA8 m c t h0)
  · rw [Phi_row m c t h0]
    simp only [pbefore8 m c _ t rfl h0]
    -- a later block stores the first output alone
    have later : ∀ (L7 : List (View.Piece (Elt F) S1024x1024 .bf16)) (e7 : _), (∀ y : S1024x1024.Idx, ∃ pc ∈ L7, y ∈ pc.1.set) →
        yAt m c t = V7.read (Elt F) (V7.writes (Elt F) V7.junk L7) →
        ((ms7 t).view.loc (c : Thread nD τ) ↦[(ms7 t).view.set]{fullShare} (ms7 t).view.writes (Elt F) e7 L7 : sProp 𝕄)
          ⊢ (pdat m 0 c).leavesExact 7 t := by
      intro L7 e7 hcov hy
      iintro H7
      iapply (leaves7 m c t)
      unfold owns; iexists _; isplitr
      swap; · iexact H7
      ipureintro; rw [hy]; exact View.read_writes_of_cover _ _ _ _ _ hcov
    by_cases h1 : t.val % 10 = 1
    · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((atB m c t h1 (lRow m c t) (hRow m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, ⟨%e7, H7⟩, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (later _ e7 (coverB m c t h1 _ _) (yAt_B m c t h1)); iexact H7
      iapply (leaves8 m c t); iexact H8
    by_cases h2 : t.val % 10 < 6
    · have h3 : 2 ≤ t.val % 10 ∧ t.val % 10 < 6 := by omega
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((atC m c t h3 (lRow m c t) (hRow m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, ⟨%e7, H7⟩, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (later _ e7 (coverC m c t h3 _ _) (yAt_C m c t h3)); iexact H7
      iapply (leaves8 m c t); iexact H8
    · have h3 : 6 ≤ t.val % 10 := by omega
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((atD m c t h3 (lRow m c t) (hRow m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, ⟨%e7, H7⟩, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (later _ e7 (coverD m c t h3 _ _) (yAt_D m c t h3)); iexact H7
      iapply (leaves8 m c t); iexact H8

/-- The body table's row at a point is the body on the point's buffers. -/
theorem row_eq (t : Fin cfg0.N) : defs₀ (F := F) .tc cfg0.body (cfg0.bodyArgs t (cfg0.slots t)) = bodyAt0 t := by
  unfold defs₀; rw [Defs.onTc_tc]

/-- What the pipeline asks of the body. -/
theorem obligation (c : Dev nD) : BodyObligation (pdat (F := F) m 0 c) (defs₀ (F := F)) Variants.none () Set.univ := fun t => by
  rw [bigSep_W0, bigSep_W0, row_eq]
  exact triple_restated (sound_body m c t) rfl .rfl fun _ => .rfl

theorem hin (c : Dev nD) : Pipeline.ΦA spec0 c ⊢ (pdat m 0 c).Φ 0 := Idealize.SL.BI.Entails.refl _
theorem hout (c : Dev nD) : (pdat m 0 c).Φ (Fin.last cfg0.N) ⊢ Pipeline.ΦA spec0 c :=
  Phi_any m c (Fin.last cfg0.N).val (Nat.le_of_lt_succ (Fin.last cfg0.N).isLt)

set_option backward.isDefEq.respectTransparency.types false in
/-- The launch: the program runs to its end, its arrays as the pipeline's data say and every semaphore at zero. -/
theorem run_quiescent : θ_run defs (onTc (τ := τ) (main (F := F))) (s₀ m ρ) (fun r => (Pipeline.FramePost cfgs (pdat m) 0 (V m)) r ∧ r.2.sem = fun _ => 0) :=
  Pipeline.θ_run_frame_track (Q' := _) cfgs (pdat m) (0 : Fin 1) launch0 defs₀ Variants.none m ρ main
    (hbody := fun c => (obligation m c).loose) (hshare := fun c => (pdat m 0 c).share_full fun _ => rfl)
    (howed := fun _ _ => rfl) (V := V m) (hmain := hmain m Variants.none) (hA := pA m) (hin := hin m) (hout := hout m)

/-- The run without the semaphores. -/
theorem run_main : θ_run defs (onTc (τ := τ) (main (F := F))) (s₀ m ρ) (Pipeline.FramePost cfgs (pdat m) 0 (V m)) :=
  (θ_run defs _ _).mono (fun _ h => h.1) (run_quiescent m ρ)

/-- The frame of the projection call: its arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (pdat m) (pA m) (run_main m ρ)) ((θ_run defs _ _).mono (fun _ h => h.2) (run_quiescent m ρ))

end Cert.Prj

end
-- ==== Proof.Proj.Words.lean ====
/- The projection: what the body leaves at a grid point, from what it finds. -/
module

public import proofs.«01_k».proof.Proof.Proj.Body
public import Idealize.ShloMosaic.Lib.Pointwise
public import Idealize.ShloMosaic.Lib.Pipeline.ValueKit
public import Idealize.ShloMosaic.Lib.Pipeline.ReadBack
public import Idealize.ShloMosaic.Lib.Writes
public import Idealize.ShloMosaic.Lib.WritesUnit

@[expose] public section

set_option maxRecDepth 16384

noncomputable section

namespace Cert.Prj

open Idealize.ShloMosaic Idealize.ShloMosaic.TcCoe Cert.ProjIdeal Cert.ProjIdeal.Gen

theorem hz2 : (![0, 0] : Fin 2 → ℕ) = fun _ => 0 := funext fun a => by fin_cases a <;> rfl
theorem hz3 : (![0, 0, 0] : Fin 3 → ℕ) = fun _ => 0 := funext fun a => by fin_cases a <;> rfl

/-- Rows 0 to 255 of a block. -/
abbrev R0 : Rect S1024x2048 := Rect.unit (s := S1024x2048) ![0, 0] S256x2048.size inb_S1024x2048_S256x2048_0_0
/-- Rows 256 to 511 of a block. -/
abbrev R256 : Rect S1024x2048 := Rect.unit (s := S1024x2048) ![256, 0] S256x2048.size inb_S1024x2048_S256x2048_256_0
/-- Rows 512 to 767 of a block. -/
abbrev R512 : Rect S1024x2048 := Rect.unit (s := S1024x2048) ![512, 0] S256x2048.size inb_S1024x2048_S256x2048_512_0
/-- Rows 768 to 1023 of a block. -/
abbrev R768 : Rect S1024x2048 := Rect.unit (s := S1024x2048) ![768, 0] S256x2048.size inb_S1024x2048_S256x2048_768_0

/-- Columns 0 to 127 of a block. -/
abbrev C0 : Rect S1024x1024 := Rect.unit (s := S1024x1024) ![0, 0] S1024x128.size inb_S1024x1024_S1024x128_0_0
abbrev G0 : Rect S1x1024 := Rect.unit (s := S1x1024) ![0, 0] S1x128.size inb_S1x1024_S1x128_0_0
/-- Columns 128 to 255 of a block. -/
abbrev C128 : Rect S1024x1024 := Rect.unit (s := S1024x1024) ![0, 128] S1024x128.size inb_S1024x1024_S1024x128_0_128
abbrev G128 : Rect S1x1024 := Rect.unit (s := S1x1024) ![0, 128] S1x128.size inb_S1x1024_S1x128_0_128
/-- Columns 256 to 383 of a block. -/
abbrev C256 : Rect S1024x1024 := Rect.unit (s := S1024x1024) ![0, 256] S1024x128.size inb_S1024x1024_S1024x128_0_256
abbrev G256 : Rect S1x1024 := Rect.unit (s := S1x1024) ![0, 256] S1x128.size inb_S1x1024_S1x128_0_256
/-- Columns 384 to 511 of a block. -/
abbrev C384 : Rect S1024x1024 := Rect.unit (s := S1024x1024) ![0, 384] S1024x128.size inb_S1024x1024_S1024x128_0_384
abbrev G384 : Rect S1x1024 := Rect.unit (s := S1x1024) ![0, 384] S1x128.size inb_S1x1024_S1x128_0_384
/-- Columns 512 to 639 of a block. -/
abbrev C512 : Rect S1024x1024 := Rect.unit (s := S1024x1024) ![0, 512] S1024x128.size inb_S1024x1024_S1024x128_0_512
abbrev G512 : Rect S1x1024 := Rect.unit (s := S1x1024) ![0, 512] S1x128.size inb_S1x1024_S1x128_0_512
/-- Columns 640 to 767 of a block. -/
abbrev C640 : Rect S1024x1024 := Rect.unit (s := S1024x1024) ![0, 640] S1024x128.size inb_S1024x1024_S1024x128_0_640
abbrev G640 : Rect S1x1024 := Rect.unit (s := S1x1024) ![0, 640] S1x128.size inb_S1x1024_S1x128_0_640
/-- Columns 768 to 895 of a block. -/
abbrev C768 : Rect S1024x1024 := Rect.unit (s := S1024x1024) ![0, 768] S1024x128.size inb_S1024x1024_S1024x128_0_768
abbrev G768 : Rect S1x1024 := Rect.unit (s := S1x1024) ![0, 768] S1x128.size inb_S1x1024_S1x128_0_768
/-- Columns 896 to 1023 of a block. -/
abbrev C896 : Rect S1024x1024 := Rect.unit (s := S1024x1024) ![0, 896] S1024x128.size inb_S1024x1024_S1024x128_0_896
abbrev G896 : Rect S1x1024 := Rect.unit (s := S1x1024) ![0, 896] S1x128.size inb_S1x1024_S1x128_0_896

/-- The normalised rows that a first column block stores: four pieces of 256 rows. -/
def nrm (x0 : Vec Ideal S1024x2048 .f32) (x1 : Vec Ideal S1x2048 .f32) : Vec Ideal S1024x2048 .bf16 :=
  View.canon [⟨R768, k0_pay9 (View.ld x0 R768) x1⟩,
    ⟨R512, k0_pay8 (View.ld x0 R512) x1⟩,
    ⟨R256, k0_pay7 (View.ld x0 R256) x1⟩,
    ⟨R0, k0_pay6 (View.ld x0 R0) x1⟩]

/-- A block of eight heads, each divided by the root of its mean square and scaled. -/
def heads (acc : FVec Ideal S1024x1024 .f32) (cv : Vec Ideal S1x1024 .f32) : Vec Ideal S1024x1024 .bf16 :=
  View.canon [⟨C896, k0_pay3 (k0_pay21 acc) (k0_pay22 acc) (View.ld cv G896)⟩,
    ⟨C768, k0_pay20 acc (View.ld cv G768)⟩,
    ⟨C640, k0_pay19 acc (View.ld cv G640)⟩,
    ⟨C512, k0_pay18 (k0_pay17 acc (View.ld cv G512))⟩,
    ⟨C384, k0_pay16 acc (View.ld cv G384)⟩,
    ⟨C256, k0_pay15 (k0_pay12 acc) (k0_pay13 acc) (k0_pay14 (F := Ideal)) (View.ld cv G256)⟩,
    ⟨C128, k0_pay11 acc (View.ld cv G128)⟩,
    ⟨C0, k0_pay10 acc (View.ld cv G0)⟩]

variable (m : (ℓ : Loc nD τ sig) → Buf (Elt Ideal) ℓ) (c : Dev nD)

/-- The scratch after a first column block. -/
theorem hAt_eq (t : Fin cfg0.N) (h : t.val % 10 = 0) : hAt m c t h = nrm (iblk m c 0 t) (iblk m c 1 t) := by
  unfold hAt
  rw [View.read_writes_eq_canon _ _ _ (coverA9 m c t h)]
  unfold atA runA
  dsimp only
  sl_unfold_words
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (Memref.isWhole_whole _ : (scM).IsWhole).read_unread, View.ld_unit_zero (S := S1024x2048) hz2, View.ld_unit_zero (S := S1x2048) hz2, View.ld_unit_zero (S := S1x2048x1024) hz3, View.ld_unit_zero (S := S1x2048x128) hz3, View.ld_unit_zero (S := S1x1024) hz2, View.ld_unit_zero (S := S1x128) hz2]
  rfl

/-- The gate logarithms after a first column block. -/
theorem lAt_eq (t : Fin cfg0.N) (h : t.val % 10 = 0) :
    lAt m c t h = k0_pay1 (F := Ideal) (nrm (iblk m c 0 t) (iblk m c 1 t)) (iblk m c 3 t) (iblk m c 6 t) := by
  unfold lAt
  rw [View.read_writes_eq_canon _ _ _ (coverA8 m c t h)]
  unfold atA runA
  dsimp only
  sl_unfold_words
  rw [View.canon_unit_zero hz2]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (Memref.isWhole_whole _ : (scM).IsWhole).read_unread, View.ld_unit_zero (S := S1024x2048) hz2, View.ld_unit_zero (S := S1x2048) hz2, View.ld_unit_zero (S := S1x2048x1024) hz3, View.ld_unit_zero (S := S1x2048x128) hz3, View.ld_unit_zero (S := S1x1024) hz2, View.ld_unit_zero (S := S1x128) hz2]
  unfold View.readCov
  rw [View.readAt_eq_ld, View.read_writes_junk_eq_canon, View.ld_unit_zero (S := S1024x2048) hz2]
  rfl

/-- The first column block. -/
theorem yA_eq (t : Fin cfg0.N) (h : t.val % 10 = 0) :
    yAt m c t = heads (k0_pay2 (F := Ideal) (nrm (iblk m c 0 t) (iblk m c 1 t)) (iblk m c 2 t)) (iblk m c 4 t) := by
  rw [yAt_A m c t h, View.read_writes_eq_canon _ _ _ (coverA7 m c t h)]
  unfold atA runA
  dsimp only
  sl_unfold_words
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (Memref.isWhole_whole _ : (scM).IsWhole).read_unread, View.ld_unit_zero (S := S1024x2048) hz2, View.ld_unit_zero (S := S1x2048) hz2, View.ld_unit_zero (S := S1x2048x1024) hz3, View.ld_unit_zero (S := S1x2048x128) hz3, View.ld_unit_zero (S := S1x1024) hz2, View.ld_unit_zero (S := S1x128) hz2]
  unfold View.readCov
  rw [View.readAt_eq_ld, View.read_writes_junk_eq_canon, View.ld_unit_zero (S := S1024x2048) hz2]
  rfl

/-- The second column block. -/
theorem yB_eq (t : Fin cfg0.N) (h : t.val % 10 = 1) :
    yAt m c t = heads (k0_pay2 (F := Ideal) (hRow m c t) (iblk m c 2 t)) (iblk m c 4 t) := by
  rw [yAt_B m c t h, View.read_writes_eq_canon _ _ _ (coverB m c t h _ _)]
  unfold atB runB
  dsimp only
  sl_unfold_words
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (Memref.isWhole_whole _ : (scM).IsWhole).read_unread, View.ld_unit_zero (S := S1024x2048) hz2, View.ld_unit_zero (S := S1x2048) hz2, View.ld_unit_zero (S := S1x2048x1024) hz3, View.ld_unit_zero (S := S1x2048x128) hz3, View.ld_unit_zero (S := S1x1024) hz2, View.ld_unit_zero (S := S1x128) hz2]
  rfl

/-- A column block that is only scaled. -/
theorem yC_eq (t : Fin cfg0.N) (h : 2 ≤ t.val % 10 ∧ t.val % 10 < 6) :
    yAt m c t = k0_pay4 (F := Ideal) (hRow m c t) (iblk m c 2 t) (iblk m c 4 t) := by
  rw [yAt_C m c t h, View.read_writes_eq_canon _ _ _ (coverC m c t h _ _)]
  unfold atC runC
  dsimp only
  sl_unfold_words
  rw [View.canon_unit_zero hz2]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (Memref.isWhole_whole _ : (scM).IsWhole).read_unread, View.ld_unit_zero (S := S1024x2048) hz2, View.ld_unit_zero (S := S1x2048) hz2, View.ld_unit_zero (S := S1x2048x1024) hz3, View.ld_unit_zero (S := S1x2048x128) hz3, View.ld_unit_zero (S := S1x1024) hz2, View.ld_unit_zero (S := S1x128) hz2]

/-- A column block of gates. -/
theorem yD_eq (t : Fin cfg0.N) (h : 6 ≤ t.val % 10) :
    yAt m c t = k0_pay5 (F := Ideal) (hRow m c t) (iblk m c 2 t) (iblk m c 5 t) := by
  rw [yAt_D m c t h, View.read_writes_eq_canon _ _ _ (coverD m c t h _ _)]
  unfold atD runD
  dsimp only
  sl_unfold_words
  rw [View.canon_unit_zero hz2]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (Memref.isWhole_whole _ : (scM).IsWhole).read_unread, View.ld_unit_zero (S := S1024x2048) hz2, View.ld_unit_zero (S := S1x2048) hz2, View.ld_unit_zero (S := S1x2048x1024) hz3, View.ld_unit_zero (S := S1x2048x128) hz3, View.ld_unit_zero (S := S1x1024) hz2, View.ld_unit_zero (S := S1x128) hz2]

/-- The scratch during a block of rows. -/
theorem hRow_eq (t : Fin cfg0.N) : hRow m c t = nrm (iblk m c 0 (rowT t)) (iblk m c 1 (rowT t)) := hAt_eq m c _ _

/-- The gate logarithms during a block of rows. -/
theorem lRow_eq (t : Fin cfg0.N) :
    lRow m c t = k0_pay1 (F := Ideal) (nrm (iblk m c 0 (rowT t)) (iblk m c 1 (rowT t))) (iblk m c 3 (rowT t)) (iblk m c 6 (rowT t)) := lAt_eq m c _ _

end Cert.Prj

end
-- ==== Proof.Proj.Ref.lean ====
/- The projection: the reference at an index. -/
module

public import proofs.«01_k».proof.Proof.Gen.ProjRefIdeal.Read
public import Idealize.ShloMosaic.Lib.Pointwise
public import Idealize.ShloMosaic.Lib.Pipeline.ValueKit

@[expose] public section

set_option maxRecDepth 16384

noncomputable section

namespace Cert.Prj

open Idealize.ShloMosaic Idealize.ShloMosaic.TcCoe Cert.ProjRefIdeal Cert.ProjRefIdeal.Gen Cert.ProjRefIdeal.Read

/-- A flat row splits into its batch entry and its position. -/
abbrev bat (R : Fin 16384) : Fin 4 := ⟨R.val / 4096, by omega⟩
abbrev pos (R : Fin 16384) : Fin 4096 := ⟨R.val % 4096, by omega⟩

/-- A column of eight heads splits into the head and the place in the head. -/
abbrev hdOf (l : Fin 1024) : Fin 8 := ⟨l.val / 128, by omega⟩
abbrev lnOf (l : Fin 1024) : Fin 128 := ⟨l.val % 128, by omega⟩
abbrev colOf (h : Fin 8) (k : Fin 128) : Fin 1024 := ⟨h.val * 128 + k.val, by omega⟩

/-- A row divided by the root of its mean square, times the gain. -/
def nx (a g : Fin 2048 → EReal) (k : Fin 2048) : EReal :=
  a k * Ideal.rsqrt (Ideal.div (∑ j : Fin 2048, a j * a j) (Ideal.ofBits .f32 0x45000000#32) + Ideal.ofBits .f32 0x358637BD#32) * g k

/-- A head divided by the root of its mean square. -/
def hd (a : Fin 128 → EReal) (k : Fin 128) : EReal :=
  a k * Ideal.rsqrt (Ideal.div (∑ j : Fin 128, a j * a j) (Ideal.ofBits .f32 0x43000000#32) + Ideal.ofBits .f32 0x358637BD#32)

/-- The logistic of a sum. -/
def lgs (z : EReal) : EReal := Ideal.div (Ideal.ofBits .f32 0x3F800000#32) (Ideal.ofBits .f32 0x3F800000#32 + Ideal.exp (-z))

/-- The normalised row of a batch entry and a position. -/
abbrev nrw (X : FVec Ideal S4x4096x2048 .f32) (g : FVec Ideal S2048 .f32) (b : Fin 4) (s : Fin 4096) : Fin 2048 → EReal :=
  nx (fun j => X (ix3 b s j)) (fun j => g (ix1 j))

/-- A normalised row times one column of the weights. -/
def prj (X : FVec Ideal S4x4096x2048 .f32) (g : FVec Ideal S2048 .f32) (W : FVec Ideal S2048x6152 .f32) (b : Fin 4) (s : Fin 4096) (j : Fin 6152) : EReal :=
  ∑ k : Fin 2048, nrw X g b s k * W (ix2 k j)

theorem ref_n (X : FVec Ideal S4x4096x2048 .f32) (g : FVec Ideal S2048 .f32) (b : Fin 4) (s : Fin 4096) (k : Fin 2048) :
    val_main_v12 (F := Ideal) X g (ix3 b s k) = nrw X g b s k := by
  have hg : val_main_v11 (F := Ideal) g (ix3 b s k) = g (ix1 k) := by
    rw [val_main_v11_apply, val_main_v10_apply]
    exact congrArg g (funext fun a => by fin_cases a; rfl)
  have hs : (∑ j : Fin 2048, val_main_v0 (F := Ideal) X (idx_main_v1 (idx_main_v2 (idx_main_v8 (ix3 b s k))) j)) = ∑ j : Fin 2048, (X (ix3 b s j) * X (ix3 b s j) : EReal) := by
    refine Finset.sum_congr rfl fun j _ => ?_
    have e : idx_main_v1 (idx_main_v2 (idx_main_v8 (ix3 b s k))) j = ix3 b s j := funext fun a => by fin_cases a <;> rfl
    rw [e]; rfl
  rw [val_main_v12_apply, val_main_v9_apply, val_main_v8_apply, val_main_v7_apply, val_main_v6_apply, val_main_v5_apply, val_main_cst_1_apply, val_main_v4_apply, val_main_v3_apply, val_main_cst_0_apply, val_main_v2_apply, val_main_v1_apply, val_main_cst_apply, hg, hs]
  pointwise
  rfl

theorem ref_p (X : FVec Ideal S4x4096x2048 .f32) (g : FVec Ideal S2048 .f32) (W : FVec Ideal S2048x6152 .f32) (b : Fin 4) (s : Fin 4096) (j : Fin 6152) :
    val_main_v13 (F := Ideal) X g W (ix3 b s j) = prj X g W b s j := by
  rw [val_main_v13_apply]
  refine Finset.sum_congr rfl fun k _ => congrArg₂ (· * ·) ?_ ?_
  · rw [← ref_n]; exact congrArg _ (funext fun a => by fin_cases a <;> rfl)
  · exact congrArg W (funext fun a => by fin_cases a <;> rfl)

theorem ref_14 (X : FVec Ideal S4x4096x2048 .f32) (g : FVec Ideal S2048 .f32) (W : FVec Ideal S2048x6152 .f32) (b : Fin 4) (s : Fin 4096) (l : Fin 1024) :
    val_main_v14 (F := Ideal) X g W (ix3 b s l) = prj X g W b s ⟨l.val, by omega⟩ := by
  rw [val_main_v14_apply, ← ref_p]
  exact congrArg _ (funext fun a => by fin_cases a <;> rfl)

theorem ref_15 (X : FVec Ideal S4x4096x2048 .f32) (g : FVec Ideal S2048 .f32) (W : FVec Ideal S2048x6152 .f32) (b : Fin 4) (s : Fin 4096) (l : Fin 1024) :
    val_main_v15 (F := Ideal) X g W (ix3 b s l) = prj X g W b s ⟨1024 + l.val, by omega⟩ := by
  rw [val_main_v15_apply, ← ref_p]
  exact congrArg _ (funext fun a => by fin_cases a <;> rfl)

theorem ref_16 (X : FVec Ideal S4x4096x2048 .f32) (g : FVec Ideal S2048 .f32) (W : FVec Ideal S2048x6152 .f32) (b : Fin 4) (s : Fin 4096) (l : Fin 1024) :
    val_main_v16 (F := Ideal) X g W (ix3 b s l) = prj X g W b s ⟨2048 + l.val, by omega⟩ := by
  rw [val_main_v16_apply, ← ref_p]
  exact congrArg _ (funext fun a => by fin_cases a <;> rfl)

theorem ref_17 (X : FVec Ideal S4x4096x2048 .f32) (g : FVec Ideal S2048 .f32) (W : FVec Ideal S2048x6152 .f32) (b : Fin 4) (s : Fin 4096) (l : Fin 8) :
    val_main_v17 (F := Ideal) X g W (ix3 b s l) = prj X g W b s ⟨3072 + l.val, by omega⟩ := by
  rw [val_main_v17_apply, ← ref_p]
  exact congrArg _ (funext fun a => by fin_cases a <;> rfl)

theorem ref_18 (X : FVec Ideal S4x4096x2048 .f32) (g : FVec Ideal S2048 .f32) (W : FVec Ideal S2048x6152 .f32) (b : Fin 4) (s : Fin 4096) (l : Fin 1024) :
    val_main_v18 (F := Ideal) X g W (ix3 b s l) = prj X g W b s ⟨3080 + l.val, by omega⟩ := by
  rw [val_main_v18_apply, ← ref_p]
  exact congrArg _ (funext fun a => by fin_cases a <;> rfl)

theorem ref_19 (X : FVec Ideal S4x4096x2048 .f32) (g : FVec Ideal S2048 .f32) (W : FVec Ideal S2048x6152 .f32) (b : Fin 4) (s : Fin 4096) (l : Fin 1024) :
    val_main_v19 (F := Ideal) X g W (ix3 b s l) = prj X g W b s ⟨4104 + l.val, by omega⟩ := by
  rw [val_main_v19_apply, ← ref_p]
  exact congrArg _ (funext fun a => by fin_cases a <;> rfl)

theorem ref_20 (X : FVec Ideal S4x4096x2048 .f32) (g : FVec Ideal S2048 .f32) (W : FVec Ideal S2048x6152 .f32) (b : Fin 4) (s : Fin 4096) (l : Fin 1024) :
    val_main_v20 (F := Ideal) X g W (ix3 b s l) = prj X g W b s ⟨5128 + l.val, by omega⟩ := by
  rw [val_main_v20_apply, ← ref_p]
  exact congrArg _ (funext fun a => by fin_cases a <;> rfl)

theorem ref_q4 (X : FVec Ideal S4x4096x2048 .f32) (g : FVec Ideal S2048 .f32) (W : FVec Ideal S2048x6152 .f32) (b : Fin 4) (s : Fin 4096) (h : Fin 8) (k : Fin 128) :
    val_main_v31 (F := Ideal) X g W (ix4 b s h k) = prj X g W b s ⟨(colOf h k).val, by have := (colOf h k).isLt; omega⟩ := by
  rw [val_main_v31_apply, ← ref_14 X g W b s (colOf h k)]
  refine congrArg _ (funext fun a => ?_)
  fin_cases a <;> apply Fin.ext
  · show (((b.val * 4096 + s.val) * 8 + h.val) * 128 + k.val) / 4194304 = b.val; omega
  · show (((b.val * 4096 + s.val) * 8 + h.val) * 128 + k.val) / 1024 % 4096 = s.val; omega
  · show (((b.val * 4096 + s.val) * 8 + h.val) * 128 + k.val) % 1024 = h.val * 128 + k.val; omega

theorem ref_q5 (X : FVec Ideal S4x4096x2048 .f32) (g : FVec Ideal S2048 .f32) (W : FVec Ideal S2048x6152 .f32) (q : FVec Ideal S8x128 .f32) (b : Fin 4) (s : Fin 4096) (h : Fin 8) (k : Fin 128) :
    val_main_v44 (F := Ideal) X g W q (ix4 b s h k)
      = hd (fun k => prj X g W b s ⟨(colOf h k).val, by have := (colOf h k).isLt; omega⟩) k * q (ix2 h k) := by
  have hg : val_main_v43 (F := Ideal) q (ix4 b s h k) = q (ix2 h k) := by
    rw [val_main_v43_apply, val_main_v42_apply]
    exact congrArg q (funext fun a => by fin_cases a <;> rfl)
  have hs : (∑ j : Fin 128, val_main_v32 (F := Ideal) X g W (idx_main_v33 (idx_main_v34 (idx_main_v40 (ix4 b s h k))) j))
      = ∑ j : Fin 128, (prj X g W b s ⟨(colOf h j).val, by have := (colOf h j).isLt; omega⟩ * prj X g W b s ⟨(colOf h j).val, by have := (colOf h j).isLt; omega⟩ : EReal) := by
    refine Finset.sum_congr rfl fun j _ => ?_
    have e : idx_main_v33 (idx_main_v34 (idx_main_v40 (ix4 b s h k))) j = ix4 b s h j := funext fun a => by fin_cases a <;> rfl
    rw [e, val_main_v32_apply, ref_q4]; rfl
  rw [val_main_v44_apply, val_main_v41_apply, val_main_v40_apply, val_main_v39_apply, val_main_v38_apply, val_main_v37_apply, val_main_cst_6_apply, val_main_v36_apply, val_main_v35_apply, val_main_cst_5_apply, val_main_v34_apply, val_main_v33_apply, val_main_cst_4_apply, hg, hs, ref_q4]
  unfold hd
  pointwise

/-- The heads of the reference's first part at an index. -/
theorem ref_q (X : FVec Ideal S4x4096x2048 .f32) (g : FVec Ideal S2048 .f32) (W : FVec Ideal S2048x6152 .f32) (q : FVec Ideal S8x128 .f32) (b : Fin 4) (s : Fin 4096) (l : Fin 1024) :
    val_main_v45 (F := Ideal) X g W q (ix3 b s l)
      = hd (fun k => prj X g W b s ⟨(colOf (hdOf l) k).val, by have := (colOf (hdOf l) k).isLt; omega⟩) (lnOf l) * q (ix2 (hdOf l) (lnOf l)) := by
  have e : idx_main_v45 (ix3 b s l) = ix4 b s (hdOf l) (lnOf l) := by
    funext a
    fin_cases a <;> apply Fin.ext
    · show ((b.val * 4096 + s.val) * 1024 + l.val) / 4194304 = b.val; omega
    · show ((b.val * 4096 + s.val) * 1024 + l.val) / 1024 % 4096 = s.val; omega
    · show ((b.val * 4096 + s.val) * 1024 + l.val) / 128 % 8 = l.val / 128; omega
    · show ((b.val * 4096 + s.val) * 1024 + l.val) % 128 = l.val % 128; omega
  rw [val_main_v45_apply, e, ref_q5]

theorem ref_k4 (X : FVec Ideal S4x4096x2048 .f32) (g : FVec Ideal S2048 .f32) (W : FVec Ideal S2048x6152 .f32) (b : Fin 4) (s : Fin 4096) (h : Fin 8) (k : Fin 128) :
    val_main_v48 (F := Ideal) X g W (ix4 b s h k) = prj X g W b s ⟨1024 + (colOf h k).val, by have := (colOf h k).isLt; omega⟩ := by
  rw [val_main_v48_apply, ← ref_15 X g W b s (colOf h k)]
  refine congrArg _ (funext fun a => ?_)
  fin_cases a <;> apply Fin.ext
  · show (((b.val * 4096 + s.val) * 8 + h.val) * 128 + k.val) / 4194304 = b.val; omega
  · show (((b.val * 4096 + s.val) * 8 + h.val) * 128 + k.val) / 1024 % 4096 = s.val; omega
  · show (((b.val * 4096 + s.val) * 8 + h.val) * 128 + k.val) % 1024 = h.val * 128 + k.val; omega

theorem ref_k5 (X : FVec Ideal S4x4096x2048 .f32) (g : FVec Ideal S2048 .f32) (W : FVec Ideal S2048x6152 .f32) (q : FVec Ideal S8x128 .f32) (b : Fin 4) (s : Fin 4096) (h : Fin 8) (k : Fin 128) :
    val_main_v61 (F := Ideal) X g W q (ix4 b s h k)
      = hd (fun k => prj X g W b s ⟨1024 + (colOf h k).val, by have := (colOf h k).isLt; omega⟩) k * q (ix2 h k) := by
  have hg : val_main_v60 (F := Ideal) q (ix4 b s h k) = q (ix2 h k) := by
    rw [val_main_v60_apply, val_main_v59_apply]
    exact congrArg q (funext fun a => by fin_cases a <;> rfl)
  have hs : (∑ j : Fin 128, val_main_v49 (F := Ideal) X g W (idx_main_v50 (idx_main_v51 (idx_main_v57 (ix4 b s h k))) j))
      = ∑ j : Fin 128, (prj X g W b s ⟨1024 + (colOf h j).val, by have := (colOf h j).isLt; omega⟩ * prj X g W b s ⟨1024 + (colOf h j).val, by have := (colOf h j).isLt; omega⟩ : EReal) := by
    refine Finset.sum_congr rfl fun j _ => ?_
    have e : idx_main_v50 (idx_main_v51 (idx_main_v57 (ix4 b s h k))) j = ix4 b s h j := funext fun a => by fin_cases a <;> rfl
    rw [e, val_main_v49_apply, ref_k4]; rfl
  rw [val_main_v61_apply, val_main_v58_apply, val_main_v57_apply, val_main_v56_apply, val_main_v55_apply, val_main_v54_apply, val_main_cst_10_apply, val_main_v53_apply, val_main_v52_apply, val_main_cst_9_apply, val_main_v51_apply, val_main_v50_apply, val_main_cst_8_apply, hg, hs, ref_k4]
  unfold hd
  pointwise

/-- The heads of the reference's second part at an index. -/
theorem ref_k (X : FVec Ideal S4x4096x2048 .f32) (g : FVec Ideal S2048 .f32) (W : FVec Ideal S2048x6152 .f32) (q : FVec Ideal S8x128 .f32) (b : Fin 4) (s : Fin 4096) (l : Fin 1024) :
    val_main_v62 (F := Ideal) X g W q (ix3 b s l)
      = hd (fun k => prj X g W b s ⟨1024 + (colOf (hdOf l) k).val, by have := (colOf (hdOf l) k).isLt; omega⟩) (lnOf l) * q (ix2 (hdOf l) (lnOf l)) := by
  have e : idx_main_v62 (ix3 b s l) = ix4 b s (hdOf l) (lnOf l) := by
    funext a
    fin_cases a <;> apply Fin.ext
    · show ((b.val * 4096 + s.val) * 1024 + l.val) / 4194304 = b.val; omega
    · show ((b.val * 4096 + s.val) * 1024 + l.val) / 1024 % 4096 = s.val; omega
    · show ((b.val * 4096 + s.val) * 1024 + l.val) / 128 % 8 = l.val / 128; omega
    · show ((b.val * 4096 + s.val) * 1024 + l.val) % 128 = l.val % 128; omega
  rw [val_main_v62_apply, e, ref_k5]

/-- The gates of the reference at an index. -/
theorem ref_gate (X : FVec Ideal S4x4096x2048 .f32) (g : FVec Ideal S2048 .f32) (U : FVec Ideal S2048x4096 .f32) (u : FVec Ideal S4096 .f32) (b : Fin 4) (s : Fin 4096) (f : Fin 4096) :
    val_main_v30 (F := Ideal) X g U u (ix3 b s f) = lgs ((∑ k : Fin 2048, nrw X g b s k * U (ix2 k f)) + u (ix1 f)) := by
  have hu : val_main_v23 (F := Ideal) u (ix3 b s f) = u (ix1 f) := by
    rw [val_main_v23_apply, val_main_v22_apply]
    exact congrArg u (funext fun a => by fin_cases a; rfl)
  have hp : val_main_v21 (F := Ideal) X g U (ix3 b s f) = ∑ k : Fin 2048, nrw X g b s k * U (ix2 k f) := by
    rw [val_main_v21_apply]
    refine Finset.sum_congr rfl fun k _ => congrArg₂ (· * ·) ?_ ?_
    · rw [← ref_n]; exact congrArg _ (funext fun a => by fin_cases a <;> rfl)
    · exact congrArg U (funext fun a => by fin_cases a <;> rfl)
  rw [val_main_v30_apply, val_main_v29_apply, val_main_cst_3_apply, val_main_v28_apply, val_main_v27_apply, val_main_cst_2_apply, val_main_v26_apply, val_main_v25_apply, val_main_v24_apply, hu, hp]
  rfl

theorem cat7_0 (A0 : S4x4096x1024.Idx → EReal) (A1 : S4x4096x1024.Idx → EReal) (A2 : S4x4096x1024.Idx → EReal) (A3 : S4x4096x1024.Idx → EReal) (A4 : S4x4096x1024.Idx → EReal) (A5 : S4x4096x1024.Idx → EReal) (A6 : S4x4096x4096.Idx → EReal) (b : Fin 4) (s : Fin 4096) (l : Fin 1024) :
    concatenate S4x4096x10240 2 [⟨S4x4096x1024, A0⟩, ⟨S4x4096x1024, A1⟩, ⟨S4x4096x1024, A2⟩, ⟨S4x4096x1024, A3⟩, ⟨S4x4096x1024, A4⟩, ⟨S4x4096x1024, A5⟩, ⟨S4x4096x4096, A6⟩] concatenates_S4x4096x1024_S4x4096x1024_S4x4096x1024_S4x4096x1024_S4x4096x1024_S4x4096x1024_S4x4096x4096_S4x4096x10240_d2 (ix3 b s ⟨l.val, by omega⟩) = A0 (ix3 b s l) := by
  have hl := l.isLt
  pointwise

theorem cat7_1 (A0 : S4x4096x1024.Idx → EReal) (A1 : S4x4096x1024.Idx → EReal) (A2 : S4x4096x1024.Idx → EReal) (A3 : S4x4096x1024.Idx → EReal) (A4 : S4x4096x1024.Idx → EReal) (A5 : S4x4096x1024.Idx → EReal) (A6 : S4x4096x4096.Idx → EReal) (b : Fin 4) (s : Fin 4096) (l : Fin 1024) :
    concatenate S4x4096x10240 2 [⟨S4x4096x1024, A0⟩, ⟨S4x4096x1024, A1⟩, ⟨S4x4096x1024, A2⟩, ⟨S4x4096x1024, A3⟩, ⟨S4x4096x1024, A4⟩, ⟨S4x4096x1024, A5⟩, ⟨S4x4096x4096, A6⟩] concatenates_S4x4096x1024_S4x4096x1024_S4x4096x1024_S4x4096x1024_S4x4096x1024_S4x4096x1024_S4x4096x4096_S4x4096x10240_d2 (ix3 b s ⟨1024 + l.val, by omega⟩) = A1 (ix3 b s l) := by
  have hl := l.isLt
  pointwise

theorem cat7_2 (A0 : S4x4096x1024.Idx → EReal) (A1 : S4x4096x1024.Idx → EReal) (A2 : S4x4096x1024.Idx → EReal) (A3 : S4x4096x1024.Idx → EReal) (A4 : S4x4096x1024.Idx → EReal) (A5 : S4x4096x1024.Idx → EReal) (A6 : S4x4096x4096.Idx → EReal) (b : Fin 4) (s : Fin 4096) (l : Fin 1024) :
    concatenate S4x4096x10240 2 [⟨S4x4096x1024, A0⟩, ⟨S4x4096x1024, A1⟩, ⟨S4x4096x1024, A2⟩, ⟨S4x4096x1024, A3⟩, ⟨S4x4096x1024, A4⟩, ⟨S4x4096x1024, A5⟩, ⟨S4x4096x4096, A6⟩] concatenates_S4x4096x1024_S4x4096x1024_S4x4096x1024_S4x4096x1024_S4x4096x1024_S4x4096x1024_S4x4096x4096_S4x4096x10240_d2 (ix3 b s ⟨2048 + l.val, by omega⟩) = A2 (ix3 b s l) := by
  have hl := l.isLt
  pointwise
  rw [dif_neg (by omega), dif_neg (by omega), dif_pos (by omega)]
  exact congrArg A2 (congrArg _ (Fin.ext (by show 2048 + l.val - 1024 - 1024 = l.val; omega)))

theorem cat7_3 (A0 : S4x4096x1024.Idx → EReal) (A1 : S4x4096x1024.Idx → EReal) (A2 : S4x4096x1024.Idx → EReal) (A3 : S4x4096x1024.Idx → EReal) (A4 : S4x4096x1024.Idx → EReal) (A5 : S4x4096x1024.Idx → EReal) (A6 : S4x4096x4096.Idx → EReal) (b : Fin 4) (s : Fin 4096) (l : Fin 1024) :
    concatenate S4x4096x10240 2 [⟨S4x4096x1024, A0⟩, ⟨S4x4096x1024, A1⟩, ⟨S4x4096x1024, A2⟩, ⟨S4x4096x1024, A3⟩, ⟨S4x4096x1024, A4⟩, ⟨S4x4096x1024, A5⟩, ⟨S4x4096x4096, A6⟩] concatenates_S4x4096x1024_S4x4096x1024_S4x4096x1024_S4x4096x1024_S4x4096x1024_S4x4096x1024_S4x4096x4096_S4x4096x10240_d2 (ix3 b s ⟨3072 + l.val, by omega⟩) = A3 (ix3 b s l) := by
  have hl := l.isLt
  pointwise
  rw [dif_neg (by omega), dif_neg (by omega), dif_neg (by omega), dif_pos (by omega)]
  exact congrArg A3 (congrArg _ (Fin.ext (by show 3072 + l.val - 1024 - 1024 - 1024 = l.val; omega)))

theorem cat7_4 (A0 : S4x4096x1024.Idx → EReal) (A1 : S4x4096x1024.Idx → EReal) (A2 : S4x4096x1024.Idx → EReal) (A3 : S4x4096x1024.Idx → EReal) (A4 : S4x4096x1024.Idx → EReal) (A5 : S4x4096x1024.Idx → EReal) (A6 : S4x4096x4096.Idx → EReal) (b : Fin 4) (s : Fin 4096) (l : Fin 1024) :
    concatenate S4x4096x10240 2 [⟨S4x4096x1024, A0⟩, ⟨S4x4096x1024, A1⟩, ⟨S4x4096x1024, A2⟩, ⟨S4x4096x1024, A3⟩, ⟨S4x4096x1024, A4⟩, ⟨S4x4096x1024, A5⟩, ⟨S4x4096x4096, A6⟩] concatenates_S4x4096x1024_S4x4096x1024_S4x4096x1024_S4x4096x1024_S4x4096x1024_S4x4096x1024_S4x4096x4096_S4x4096x10240_d2 (ix3 b s ⟨4096 + l.val, by omega⟩) = A4 (ix3 b s l) := by
  have hl := l.isLt
  pointwise
  rw [dif_neg (by omega), dif_neg (by omega), dif_neg (by omega), dif_neg (by omega), dif_pos (by omega)]
  exact congrArg A4 (congrArg _ (Fin.ext (by show 4096 + l.val - 1024 - 1024 - 1024 - 1024 = l.val; omega)))

theorem cat7_5 (A0 : S4x4096x1024.Idx → EReal) (A1 : S4x4096x1024.Idx → EReal) (A2 : S4x4096x1024.Idx → EReal) (A3 : S4x4096x1024.Idx → EReal) (A4 : S4x4096x1024.Idx → EReal) (A5 : S4x4096x1024.Idx → EReal) (A6 : S4x4096x4096.Idx → EReal) (b : Fin 4) (s : Fin 4096) (l : Fin 1024) :
    concatenate S4x4096x10240 2 [⟨S4x4096x1024, A0⟩, ⟨S4x4096x1024, A1⟩, ⟨S4x4096x1024, A2⟩, ⟨S4x4096x1024, A3⟩, ⟨S4x4096x1024, A4⟩, ⟨S4x4096x1024, A5⟩, ⟨S4x4096x4096, A6⟩] concatenates_S4x4096x1024_S4x4096x1024_S4x4096x1024_S4x4096x1024_S4x4096x1024_S4x4096x1024_S4x4096x4096_S4x4096x10240_d2 (ix3 b s ⟨5120 + l.val, by omega⟩) = A5 (ix3 b s l) := by
  have hl := l.isLt
  pointwise
  rw [dif_neg (by omega), dif_neg (by omega), dif_neg (by omega), dif_neg (by omega), dif_neg (by omega), dif_pos (by omega)]
  exact congrArg A5 (congrArg _ (Fin.ext (by show 5120 + l.val - 1024 - 1024 - 1024 - 1024 - 1024 = l.val; omega)))

theorem cat7_6 (A0 : S4x4096x1024.Idx → EReal) (A1 : S4x4096x1024.Idx → EReal) (A2 : S4x4096x1024.Idx → EReal) (A3 : S4x4096x1024.Idx → EReal) (A4 : S4x4096x1024.Idx → EReal) (A5 : S4x4096x1024.Idx → EReal) (A6 : S4x4096x4096.Idx → EReal) (b : Fin 4) (s : Fin 4096) (l : Fin 4096) :
    concatenate S4x4096x10240 2 [⟨S4x4096x1024, A0⟩, ⟨S4x4096x1024, A1⟩, ⟨S4x4096x1024, A2⟩, ⟨S4x4096x1024, A3⟩, ⟨S4x4096x1024, A4⟩, ⟨S4x4096x1024, A5⟩, ⟨S4x4096x4096, A6⟩] concatenates_S4x4096x1024_S4x4096x1024_S4x4096x1024_S4x4096x1024_S4x4096x1024_S4x4096x1024_S4x4096x4096_S4x4096x10240_d2 (ix3 b s ⟨6144 + l.val, by omega⟩) = A6 (ix3 b s l) := by
  have hl := l.isLt
  pointwise
  rw [dif_neg (by omega), dif_neg (by omega), dif_neg (by omega), dif_neg (by omega), dif_neg (by omega), dif_neg (by omega)]
  exact congrArg A6 (congrArg _ (Fin.ext (by show 6144 + l.val - 1024 - 1024 - 1024 - 1024 - 1024 - 1024 = l.val; omega)))

theorem ref_flat (X : FVec Ideal S4x4096x2048 .f32) (g : FVec Ideal S2048 .f32) (W : FVec Ideal S2048x6152 .f32) (q w : FVec Ideal S8x128 .f32) (U : FVec Ideal S2048x4096 .f32) (u : FVec Ideal S4096 .f32) (R : Fin 16384) (J : Fin 10240) :
    val_main_v72 (F := Ideal) X g W q w U u (ix2 R J) = val_main_v65 (F := Ideal) X g W q w U u (ix3 (bat R) (pos R) J) := by
  have e : idx_main_v71 (ix2 R J) = ix3 (bat R) (pos R) J := by
    funext a
    fin_cases a <;> apply Fin.ext
    · show (R.val * 10240 + J.val) / 41943040 = R.val / 4096; omega
    · show (R.val * 10240 + J.val) / 10240 % 4096 = R.val % 4096; omega
    · show (R.val * 10240 + J.val) % 10240 = J.val; omega
  rw [val_main_v72_apply, val_main_v71_apply, e]
  rfl

/-- Part 1 of 7 of the reference's projection. -/
theorem ref_y0 (X : FVec Ideal S4x4096x2048 .f32) (g : FVec Ideal S2048 .f32) (W : FVec Ideal S2048x6152 .f32) (q w : FVec Ideal S8x128 .f32) (U : FVec Ideal S2048x4096 .f32) (u : FVec Ideal S4096 .f32) (R : Fin 16384) (l : Fin 1024) :
    val_main_v72 (F := Ideal) X g W q w U u (ix2 R ⟨l.val, by omega⟩) = hd (fun k => prj X g W (bat R) (pos R) ⟨(colOf (hdOf l) k).val, by have := (colOf (hdOf l) k).isLt; omega⟩) (lnOf l) * q (ix2 (hdOf l) (lnOf l)) * Ideal.ofBits .f32 0x3DB504F3#32 := by
  rw [ref_flat]
  unfold val_main_v65
  refine (cat7_0 _ _ _ _ _ _ _ (bat R) (pos R) l).trans ?_
  rw [val_main_v47_apply, val_main_v46_apply, val_main_cst_7_apply, ref_q]; rfl

/-- Part 2 of 7 of the reference's projection. -/
theorem ref_y1 (X : FVec Ideal S4x4096x2048 .f32) (g : FVec Ideal S2048 .f32) (W : FVec Ideal S2048x6152 .f32) (q w : FVec Ideal S8x128 .f32) (U : FVec Ideal S2048x4096 .f32) (u : FVec Ideal S4096 .f32) (R : Fin 16384) (l : Fin 1024) :
    val_main_v72 (F := Ideal) X g W q w U u (ix2 R ⟨1024 + l.val, by omega⟩) = hd (fun k => prj X g W (bat R) (pos R) ⟨1024 + (colOf (hdOf l) k).val, by have := (colOf (hdOf l) k).isLt; omega⟩) (lnOf l) * w (ix2 (hdOf l) (lnOf l)) := by
  rw [ref_flat]
  unfold val_main_v65
  refine (cat7_1 _ _ _ _ _ _ _ (bat R) (pos R) l).trans ?_
  exact ref_k X g W w _ _ l

/-- Part 3 of 7 of the reference's projection. -/
theorem ref_y2 (X : FVec Ideal S4x4096x2048 .f32) (g : FVec Ideal S2048 .f32) (W : FVec Ideal S2048x6152 .f32) (q w : FVec Ideal S8x128 .f32) (U : FVec Ideal S2048x4096 .f32) (u : FVec Ideal S4096 .f32) (R : Fin 16384) (l : Fin 1024) :
    val_main_v72 (F := Ideal) X g W q w U u (ix2 R ⟨2048 + l.val, by omega⟩) = prj X g W (bat R) (pos R) ⟨2048 + l.val, by omega⟩ := by
  rw [ref_flat]
  unfold val_main_v65
  refine (cat7_2 _ _ _ _ _ _ _ (bat R) (pos R) l).trans ?_
  exact ref_16 X g W _ _ l

/-- Part 4 of 7 of the reference's projection. -/
theorem ref_y3 (X : FVec Ideal S4x4096x2048 .f32) (g : FVec Ideal S2048 .f32) (W : FVec Ideal S2048x6152 .f32) (q w : FVec Ideal S8x128 .f32) (U : FVec Ideal S2048x4096 .f32) (u : FVec Ideal S4096 .f32) (R : Fin 16384) (l : Fin 1024) :
    val_main_v72 (F := Ideal) X g W q w U u (ix2 R ⟨3072 + l.val, by omega⟩) = prj X g W (bat R) (pos R) ⟨3080 + l.val, by omega⟩ * Ideal.ofBits .f32 0x3DB504F3#32 := by
  rw [ref_flat]
  unfold val_main_v65
  refine (cat7_3 _ _ _ _ _ _ _ (bat R) (pos R) l).trans ?_
  rw [val_main_v64_apply, val_main_v63_apply, val_main_cst_11_apply, ref_18]; rfl

/-- Part 5 of 7 of the reference's projection. -/
theorem ref_y4 (X : FVec Ideal S4x4096x2048 .f32) (g : FVec Ideal S2048 .f32) (W : FVec Ideal S2048x6152 .f32) (q w : FVec Ideal S8x128 .f32) (U : FVec Ideal S2048x4096 .f32) (u : FVec Ideal S4096 .f32) (R : Fin 16384) (l : Fin 1024) :
    val_main_v72 (F := Ideal) X g W q w U u (ix2 R ⟨4096 + l.val, by omega⟩) = prj X g W (bat R) (pos R) ⟨4104 + l.val, by omega⟩ := by
  rw [ref_flat]
  unfold val_main_v65
  refine (cat7_4 _ _ _ _ _ _ _ (bat R) (pos R) l).trans ?_
  exact ref_19 X g W _ _ l

/-- Part 6 of 7 of the reference's projection. -/
theorem ref_y5 (X : FVec Ideal S4x4096x2048 .f32) (g : FVec Ideal S2048 .f32) (W : FVec Ideal S2048x6152 .f32) (q w : FVec Ideal S8x128 .f32) (U : FVec Ideal S2048x4096 .f32) (u : FVec Ideal S4096 .f32) (R : Fin 16384) (l : Fin 1024) :
    val_main_v72 (F := Ideal) X g W q w U u (ix2 R ⟨5120 + l.val, by omega⟩) = prj X g W (bat R) (pos R) ⟨5128 + l.val, by omega⟩ := by
  rw [ref_flat]
  unfold val_main_v65
  refine (cat7_5 _ _ _ _ _ _ _ (bat R) (pos R) l).trans ?_
  exact ref_20 X g W _ _ l

/-- Part 7 of 7 of the reference's projection. -/
theorem ref_y6 (X : FVec Ideal S4x4096x2048 .f32) (g : FVec Ideal S2048 .f32) (W : FVec Ideal S2048x6152 .f32) (q w : FVec Ideal S8x128 .f32) (U : FVec Ideal S2048x4096 .f32) (u : FVec Ideal S4096 .f32) (R : Fin 16384) (l : Fin 4096) :
    val_main_v72 (F := Ideal) X g W q w U u (ix2 R ⟨6144 + l.val, by omega⟩) = lgs ((∑ k : Fin 2048, nrw X g (bat R) (pos R) k * U (ix2 k l)) + u (ix1 l)) := by
  rw [ref_flat]
  unfold val_main_v65
  refine (cat7_6 _ _ _ _ _ _ _ (bat R) (pos R) l).trans ?_
  exact ref_gate X g U u _ _ l

end Cert.Prj

end
-- ==== Proof.Proj.Log.lean ====
/- The projection: the gate logarithms. -/
module

public import proofs.«01_k».proof.Proof.Proj.Ref
public import Idealize.ShloMosaic.Lib.KernelVsHost

@[expose] public section

set_option maxRecDepth 16384

noncomputable section

namespace Cert.Prj

open Idealize.ShloMosaic Idealize.ShloMosaic.TcCoe Cert.ProjRefIdeal Cert.ProjRefIdeal.Gen Cert.ProjRefIdeal.Read

/-- The logarithm of the logistic, in the form that never overflows. -/
def lsg (z : EReal) : EReal := min z 0 - Ideal.log (1 + Ideal.exp (-(max z (-z))))

theorem exp_nonneg (x : EReal) : 0 ≤ Ideal.exp x := by
  induction x using EReal.rec with
  | bot => exact le_refl _
  | top => exact le_top
  | coe r => exact EReal.coe_nonneg.mpr (Real.exp_pos r).le

theorem log_ge (x : EReal) (h : 1 ≤ x) : 0 ≤ Ideal.log x := by
  induction x using EReal.rec with
  | bot => exact absurd h (by decide)
  | top => exact le_top
  | coe r =>
    have h1 : (1 : ℝ) ≤ r := by exact_mod_cast h
    show 0 ≤ (if r ≤ 0 then ⊥ else (Real.log r : EReal))
    rw [if_neg (by linarith)]
    exact EReal.coe_nonneg.mpr (Real.log_nonneg h1)

theorem neg_max_zero (z : EReal) : -(max (-z) 0) = min z 0 := by
  rcases le_total z 0 with h | h
  · rw [min_eq_left h, max_eq_left (by rwa [EReal.le_neg, neg_zero]), neg_neg]
  · rw [min_eq_right h, max_eq_right (by rwa [EReal.neg_le, neg_zero]), neg_zero]

/-- The reference's form of the logarithm of the logistic. -/
theorem lsg_eq (z : EReal) : -(max (-z) 0 + Ideal.log (1 + Ideal.exp (-(max (-z - 0) (-(-z - 0)))))) = lsg z := by
  have hl : 0 ≤ Ideal.log (1 + Ideal.exp (-(max (-z - 0) (-(-z - 0))))) :=
    log_ge _ (le_add_of_nonneg_right (exp_nonneg _))
  have hm : (0 : EReal) ≤ max (-z) 0 := le_max_right _ _
  rw [EReal.neg_add (Or.inl (fun e => absurd (e ▸ hm) (by decide))) (Or.inr (fun e => absurd (e ▸ hl) (by decide)))]
  unfold lsg
  rw [neg_max_zero, sub_zero, neg_neg, max_comm]

theorem ref_z (X : FVec Ideal S4x4096x2048 .f32) (g : FVec Ideal S2048 .f32) (W : FVec Ideal S2048x6152 .f32) (p : FVec Ideal S8 .f32) (b : Fin 4) (s : Fin 4096) (J : Fin 128) :
    val_main_v69 (F := Ideal) X g W p (ix3 b s J)
      = if h : J.val < 8 then prj X g W b s ⟨3072 + J.val, by omega⟩ + p (ix1 ⟨J.val, h⟩) else 0 := by
  unfold val_main_v69
  by_cases h : J.val < 8
  · rw [dif_pos h]
    have hp : val_main_v67 (F := Ideal) p (ix3 b s ⟨J.val, h⟩) = p (ix1 ⟨J.val, h⟩) := by
      rw [val_main_v67_apply, val_main_v66_apply]
      exact congrArg p (funext fun a => by fin_cases a; rfl)
    refine (pad_apply_of_inside (s := S4x4096x8) ![0, 0, 0] ![0, 0, 120] ![0, 0, 0] _ _ _ _ (ix3 b s J) (ix3 b s ⟨J.val, h⟩) (fun a => ?_)).trans ?_
    · fin_cases a
      · show b.val = 0 + b.val * 1; omega
      · show s.val = 0 + s.val * 1; omega
      · show J.val = 0 + J.val * 1; omega
    · rw [val_main_v68_apply, hp, ref_17]; rfl
  · rw [dif_neg h]
    refine (pad_apply_of_not_inside (s := S4x4096x8) ![0, 0, 0] ![0, 0, 120] ![0, 0, 0] _ _ _ _ (ix3 b s J) (2 : Fin 3) (fun hh => h ?_)).trans ?_
    · have h2 : (J.val - 0) / (0 + 1) < 8 := hh.2.2
      omega
    · rw [val_main_call0_v0_apply, val_main_c_apply]
      show (((0#32 : BitVec 32).toInt : ℝ) : EReal) = 0
      simp

/-- The gate logarithms of the reference at an index. -/
theorem ref_log (X : FVec Ideal S4x4096x2048 .f32) (g : FVec Ideal S2048 .f32) (W : FVec Ideal S2048x6152 .f32) (p : FVec Ideal S8 .f32) (R : Fin 16384) (J : Fin 128) :
    val_main_v73 (F := Ideal) X g W p (ix2 R J)
      = lsg (if h : J.val < 8 then prj X g W (bat R) (pos R) ⟨3072 + J.val, by omega⟩ + p (ix1 ⟨J.val, h⟩) else 0) := by
  have e : idx_main_v73 (ix2 R J) = ix3 (bat R) (pos R) J := by
    funext a
    fin_cases a <;> apply Fin.ext
    · show (R.val * 128 + J.val) / 524288 = R.val / 4096; omega
    · show (R.val * 128 + J.val) / 128 % 4096 = R.val % 4096; omega
    · show (R.val * 128 + J.val) % 128 = J.val; omega
  rw [val_main_v73_apply, e, ← ref_z, ← lsg_eq]
  have hc : val_main_call1_call0_v4 (F := Ideal) X g W p (ix3 (bat R) (pos R) J) = 0#1 := by
    rw [val_main_call1_call0_v4_apply]
    show Ideal.cmp .une _ _ = 0#1
    simp [Ideal.cmp]
  rw [val_main_v70_apply, val_main_call1_v1_apply, hc, val_main_call1_call0_v11_apply, val_main_call1_call0_v10_apply, val_main_call1_call0_v9_apply, val_main_call1_call0_v8_apply, val_main_call1_call0_v7_apply, val_main_call1_call0_v3_apply, val_main_call1_call0_v2_apply, val_main_call1_call0_v1_apply, val_main_call1_call0_v0_apply, val_main_call1_call0_cst_apply, val_main_call1_v0_apply]
  generalize val_main_v69 (F := Ideal) X g W p (ix3 (bat R) (pos R) J) = z
  pointwise
  rfl

end Cert.Prj

end
-- ==== Proof.Proj.Pay.lean ====
/- The projection: what the body stores, at an index. -/
module

public import proofs.«01_k».proof.Proof.Proj.Words
public import proofs.«01_k».proof.Proof.Proj.Log
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Writes
public import Idealize.ShloMosaic.Lib.WritesUnit

@[expose] public section

set_option maxRecDepth 16384

noncomputable section

namespace Cert.Prj

open Idealize.ShloMosaic Idealize.ShloMosaic.TcCoe Cert.ProjIdeal Cert.ProjIdeal.Gen

theorem pay6_at (x : FVec Ideal S256x2048 .f32) (g : FVec Ideal S1x2048 .f32) (r : Fin 256) (k : Fin 2048) :
    k0_pay6 (F := Ideal) x g (ix2 r k) = nx (fun j => x (ix2 r j)) (fun j => g (ix2 0 j)) k := by
  unfold nx
  pointwise [k0_pay6]

theorem R0_emb (r : Fin 256) (k : Fin 2048) : (ix2 (⟨r.val, by omega⟩ : Fin 1024) k : S1024x2048.Idx) = R0.emb (ix2 r k) :=
  funext fun a => by fin_cases a <;> apply Fin.ext <;> simp

theorem R0_take (p : S256x2048.Idx → Elt Ideal .bf16) (L : List (View.Piece (Elt Ideal) S1024x2048 .bf16)) (r : Fin 256) (k : Fin 2048) :
    View.canon ((⟨R0, p⟩ : View.Piece (Elt Ideal) S1024x2048 .bf16) :: L) (ix2 (⟨r.val, by omega⟩ : Fin 1024) k) = p (ix2 r k) := by
  refine (congrArg (View.canon ((⟨R0, p⟩ : View.Piece (Elt Ideal) S1024x2048 .bf16) :: L)) (R0_emb r k)).trans ?_
  exact View.canon_cons_emb R0 p L (ix2 r k)

theorem R0_skip (p : S256x2048.Idx → Elt Ideal .bf16) (L : List (View.Piece (Elt Ideal) S1024x2048 .bf16)) (R : Fin 1024) (h : R.val < 0) (k : Fin 2048) :
    View.canon ((⟨R0, p⟩ : View.Piece (Elt Ideal) S1024x2048 .bf16) :: L) (ix2 R k) = View.canon L (ix2 R k) := by
  refine View.canon_cons_of_not_mem (⟨R0, p⟩ : View.Piece (Elt Ideal) S1024x2048 .bf16) L ?_
  show (ix2 R k : S1024x2048.Idx) ∉ (Rect.unit (s := S1024x2048) ![0, 0] S256x2048.size inb_S1024x2048_S256x2048_0_0).set
  rw [Rect.mem_set_unit]
  intro hh
  have h1 : 0 ≤ R.val := (hh 0).1
  omega

theorem pay7_at (x : FVec Ideal S256x2048 .f32) (g : FVec Ideal S1x2048 .f32) (r : Fin 256) (k : Fin 2048) :
    k0_pay7 (F := Ideal) x g (ix2 r k) = nx (fun j => x (ix2 r j)) (fun j => g (ix2 0 j)) k := by
  unfold nx
  pointwise [k0_pay7]

theorem R256_emb (r : Fin 256) (k : Fin 2048) : (ix2 (⟨256 + r.val, by omega⟩ : Fin 1024) k : S1024x2048.Idx) = R256.emb (ix2 r k) :=
  funext fun a => by fin_cases a <;> apply Fin.ext <;> simp

theorem R256_take (p : S256x2048.Idx → Elt Ideal .bf16) (L : List (View.Piece (Elt Ideal) S1024x2048 .bf16)) (r : Fin 256) (k : Fin 2048) :
    View.canon ((⟨R256, p⟩ : View.Piece (Elt Ideal) S1024x2048 .bf16) :: L) (ix2 (⟨256 + r.val, by omega⟩ : Fin 1024) k) = p (ix2 r k) := by
  refine (congrArg (View.canon ((⟨R256, p⟩ : View.Piece (Elt Ideal) S1024x2048 .bf16) :: L)) (R256_emb r k)).trans ?_
  exact View.canon_cons_emb R256 p L (ix2 r k)

theorem R256_skip (p : S256x2048.Idx → Elt Ideal .bf16) (L : List (View.Piece (Elt Ideal) S1024x2048 .bf16)) (R : Fin 1024) (h : R.val < 256) (k : Fin 2048) :
    View.canon ((⟨R256, p⟩ : View.Piece (Elt Ideal) S1024x2048 .bf16) :: L) (ix2 R k) = View.canon L (ix2 R k) := by
  refine View.canon_cons_of_not_mem (⟨R256, p⟩ : View.Piece (Elt Ideal) S1024x2048 .bf16) L ?_
  show (ix2 R k : S1024x2048.Idx) ∉ (Rect.unit (s := S1024x2048) ![256, 0] S256x2048.size inb_S1024x2048_S256x2048_256_0).set
  rw [Rect.mem_set_unit]
  intro hh
  have h1 : 256 ≤ R.val := (hh 0).1
  omega

theorem pay8_at (x : FVec Ideal S256x2048 .f32) (g : FVec Ideal S1x2048 .f32) (r : Fin 256) (k : Fin 2048) :
    k0_pay8 (F := Ideal) x g (ix2 r k) = nx (fun j => x (ix2 r j)) (fun j => g (ix2 0 j)) k := by
  unfold nx
  pointwise [k0_pay8]

theorem R512_emb (r : Fin 256) (k : Fin 2048) : (ix2 (⟨512 + r.val, by omega⟩ : Fin 1024) k : S1024x2048.Idx) = R512.emb (ix2 r k) :=
  funext fun a => by fin_cases a <;> apply Fin.ext <;> simp

theorem R512_take (p : S256x2048.Idx → Elt Ideal .bf16) (L : List (View.Piece (Elt Ideal) S1024x2048 .bf16)) (r : Fin 256) (k : Fin 2048) :
    View.canon ((⟨R512, p⟩ : View.Piece (Elt Ideal) S1024x2048 .bf16) :: L) (ix2 (⟨512 + r.val, by omega⟩ : Fin 1024) k) = p (ix2 r k) := by
  refine (congrArg (View.canon ((⟨R512, p⟩ : View.Piece (Elt Ideal) S1024x2048 .bf16) :: L)) (R512_emb r k)).trans ?_
  exact View.canon_cons_emb R512 p L (ix2 r k)

theorem R512_skip (p : S256x2048.Idx → Elt Ideal .bf16) (L : List (View.Piece (Elt Ideal) S1024x2048 .bf16)) (R : Fin 1024) (h : R.val < 512) (k : Fin 2048) :
    View.canon ((⟨R512, p⟩ : View.Piece (Elt Ideal) S1024x2048 .bf16) :: L) (ix2 R k) = View.canon L (ix2 R k) := by
  refine View.canon_cons_of_not_mem (⟨R512, p⟩ : View.Piece (Elt Ideal) S1024x2048 .bf16) L ?_
  show (ix2 R k : S1024x2048.Idx) ∉ (Rect.unit (s := S1024x2048) ![512, 0] S256x2048.size inb_S1024x2048_S256x2048_512_0).set
  rw [Rect.mem_set_unit]
  intro hh
  have h1 : 512 ≤ R.val := (hh 0).1
  omega

theorem pay9_at (x : FVec Ideal S256x2048 .f32) (g : FVec Ideal S1x2048 .f32) (r : Fin 256) (k : Fin 2048) :
    k0_pay9 (F := Ideal) x g (ix2 r k) = nx (fun j => x (ix2 r j)) (fun j => g (ix2 0 j)) k := by
  unfold nx
  pointwise [k0_pay9]

theorem R768_emb (r : Fin 256) (k : Fin 2048) : (ix2 (⟨768 + r.val, by omega⟩ : Fin 1024) k : S1024x2048.Idx) = R768.emb (ix2 r k) :=
  funext fun a => by fin_cases a <;> apply Fin.ext <;> simp

theorem R768_take (p : S256x2048.Idx → Elt Ideal .bf16) (L : List (View.Piece (Elt Ideal) S1024x2048 .bf16)) (r : Fin 256) (k : Fin 2048) :
    View.canon ((⟨R768, p⟩ : View.Piece (Elt Ideal) S1024x2048 .bf16) :: L) (ix2 (⟨768 + r.val, by omega⟩ : Fin 1024) k) = p (ix2 r k) := by
  refine (congrArg (View.canon ((⟨R768, p⟩ : View.Piece (Elt Ideal) S1024x2048 .bf16) :: L)) (R768_emb r k)).trans ?_
  exact View.canon_cons_emb R768 p L (ix2 r k)

theorem R768_skip (p : S256x2048.Idx → Elt Ideal .bf16) (L : List (View.Piece (Elt Ideal) S1024x2048 .bf16)) (R : Fin 1024) (h : R.val < 768) (k : Fin 2048) :
    View.canon ((⟨R768, p⟩ : View.Piece (Elt Ideal) S1024x2048 .bf16) :: L) (ix2 R k) = View.canon L (ix2 R k) := by
  refine View.canon_cons_of_not_mem (⟨R768, p⟩ : View.Piece (Elt Ideal) S1024x2048 .bf16) L ?_
  show (ix2 R k : S1024x2048.Idx) ∉ (Rect.unit (s := S1024x2048) ![768, 0] S256x2048.size inb_S1024x2048_S256x2048_768_0).set
  rw [Rect.mem_set_unit]
  intro hh
  have h1 : 768 ≤ R.val := (hh 0).1
  omega

/-- The normalised rows at an index. -/
theorem nrm_at (x0 : FVec Ideal S1024x2048 .f32) (x1 : FVec Ideal S1x2048 .f32) (R : Fin 1024) (k : Fin 2048) :
    nrm x0 x1 (ix2 R k) = nx (fun j => x0 (ix2 R j)) (fun j => x1 (ix2 0 j)) k := by
  unfold nrm
  have hR : R.val < 256 ∨ (256 ≤ R.val ∧ R.val < 512) ∨ (512 ≤ R.val ∧ R.val < 768) ∨ (768 ≤ R.val ∧ R.val < 1024) := by omega
  rcases hR with h | h | h | h
  · obtain ⟨r, rfl⟩ : ∃ r : Fin 256, R = ⟨r.val, by clear h; omega⟩ := ⟨⟨R.val - 0, by omega⟩, Fin.ext (by show R.val = R.val - 0; omega)⟩
    refine (R768_skip _ _ _ (by show r.val < 768; omega) k).trans ?_
    refine (R512_skip _ _ _ (by show r.val < 512; omega) k).trans ?_
    refine (R256_skip _ _ _ (by show r.val < 256; omega) k).trans ?_
    refine (R0_take _ _ r k).trans ?_
    refine (pay6_at _ x1 r k).trans ?_
    exact congrArg (fun a => nx a _ k) (funext fun j => congrArg x0 (R0_emb r j).symm)
  · obtain ⟨r, rfl⟩ : ∃ r : Fin 256, R = ⟨256 + r.val, by clear h; omega⟩ := ⟨⟨R.val - 256, by omega⟩, Fin.ext (by show R.val = 256 + (R.val - 256); omega)⟩
    refine (R768_skip _ _ _ (by show 256 + r.val < 768; omega) k).trans ?_
    refine (R512_skip _ _ _ (by show 256 + r.val < 512; omega) k).trans ?_
    refine (R256_take _ _ r k).trans ?_
    refine (pay7_at _ x1 r k).trans ?_
    exact congrArg (fun a => nx a _ k) (funext fun j => congrArg x0 (R256_emb r j).symm)
  · obtain ⟨r, rfl⟩ : ∃ r : Fin 256, R = ⟨512 + r.val, by clear h; omega⟩ := ⟨⟨R.val - 512, by omega⟩, Fin.ext (by show R.val = 512 + (R.val - 512); omega)⟩
    refine (R768_skip _ _ _ (by show 512 + r.val < 768; omega) k).trans ?_
    refine (R512_take _ _ r k).trans ?_
    refine (pay8_at _ x1 r k).trans ?_
    exact congrArg (fun a => nx a _ k) (funext fun j => congrArg x0 (R512_emb r j).symm)
  · obtain ⟨r, rfl⟩ : ∃ r : Fin 256, R = ⟨768 + r.val, by clear h; omega⟩ := ⟨⟨R.val - 768, by omega⟩, Fin.ext (by show R.val = 768 + (R.val - 768); omega)⟩
    refine (R768_take _ _ r k).trans ?_
    refine (pay9_at _ x1 r k).trans ?_
    exact congrArg (fun a => nx a _ k) (funext fun j => congrArg x0 (R768_emb r j).symm)

/-- The head at column 0, at an index. -/
theorem head0_at (acc : FVec Ideal S1024x1024 .f32) (g : FVec Ideal S1x128 .f32) (r : Fin 1024) (k : Fin 128) :
    (k0_pay10 acc g : FVec Ideal S1024x128 .bf16) (ix2 r k) = hd (fun j => acc (ix2 r ⟨j.val, by omega⟩)) k * g (ix2 0 k) := by
  unfold hd
  pointwise [k0_pay10]

theorem C0_emb (r : Fin 1024) (k : Fin 128) : (ix2 r (⟨k.val, by omega⟩ : Fin 1024) : S1024x1024.Idx) = C0.emb (ix2 r k) :=
  funext fun a => by fin_cases a <;> apply Fin.ext <;> simp

theorem G0_emb (k : Fin 128) : (ix2 0 (⟨k.val, by omega⟩ : Fin 1024) : S1x1024.Idx) = G0.emb (ix2 0 k) :=
  funext fun a => by fin_cases a <;> apply Fin.ext <;> simp

theorem C0_take (p : S1024x128.Idx → Elt Ideal .bf16) (L : List (View.Piece (Elt Ideal) S1024x1024 .bf16)) (r : Fin 1024) (k : Fin 128) :
    View.canon ((⟨C0, p⟩ : View.Piece (Elt Ideal) S1024x1024 .bf16) :: L) (ix2 r (⟨k.val, by omega⟩ : Fin 1024)) = p (ix2 r k) := by
  refine (congrArg (View.canon ((⟨C0, p⟩ : View.Piece (Elt Ideal) S1024x1024 .bf16) :: L)) (C0_emb r k)).trans ?_
  exact View.canon_cons_emb C0 p L (ix2 r k)

theorem C0_skip (p : S1024x128.Idx → Elt Ideal .bf16) (L : List (View.Piece (Elt Ideal) S1024x1024 .bf16)) (r l : Fin 1024) (h : l.val < 0) :
    View.canon ((⟨C0, p⟩ : View.Piece (Elt Ideal) S1024x1024 .bf16) :: L) (ix2 r l) = View.canon L (ix2 r l) := by
  refine View.canon_cons_of_not_mem (⟨C0, p⟩ : View.Piece (Elt Ideal) S1024x1024 .bf16) L ?_
  show (ix2 r l : S1024x1024.Idx) ∉ (Rect.unit (s := S1024x1024) ![0, 0] S1024x128.size inb_S1024x1024_S1024x128_0_0).set
  rw [Rect.mem_set_unit]
  intro hh
  have h1 : 0 ≤ l.val := (hh 1).1
  omega

/-- The head at column 128, at an index. -/
theorem head128_at (acc : FVec Ideal S1024x1024 .f32) (g : FVec Ideal S1x128 .f32) (r : Fin 1024) (k : Fin 128) :
    (k0_pay11 acc g : FVec Ideal S1024x128 .bf16) (ix2 r k) = hd (fun j => acc (ix2 r ⟨128 + j.val, by omega⟩)) k * g (ix2 0 k) := by
  unfold hd
  pointwise [k0_pay11]

theorem C128_emb (r : Fin 1024) (k : Fin 128) : (ix2 r (⟨128 + k.val, by omega⟩ : Fin 1024) : S1024x1024.Idx) = C128.emb (ix2 r k) :=
  funext fun a => by fin_cases a <;> apply Fin.ext <;> simp

theorem G128_emb (k : Fin 128) : (ix2 0 (⟨128 + k.val, by omega⟩ : Fin 1024) : S1x1024.Idx) = G128.emb (ix2 0 k) :=
  funext fun a => by fin_cases a <;> apply Fin.ext <;> simp

theorem C128_take (p : S1024x128.Idx → Elt Ideal .bf16) (L : List (View.Piece (Elt Ideal) S1024x1024 .bf16)) (r : Fin 1024) (k : Fin 128) :
    View.canon ((⟨C128, p⟩ : View.Piece (Elt Ideal) S1024x1024 .bf16) :: L) (ix2 r (⟨128 + k.val, by omega⟩ : Fin 1024)) = p (ix2 r k) := by
  refine (congrArg (View.canon ((⟨C128, p⟩ : View.Piece (Elt Ideal) S1024x1024 .bf16) :: L)) (C128_emb r k)).trans ?_
  exact View.canon_cons_emb C128 p L (ix2 r k)

theorem C128_skip (p : S1024x128.Idx → Elt Ideal .bf16) (L : List (View.Piece (Elt Ideal) S1024x1024 .bf16)) (r l : Fin 1024) (h : l.val < 128) :
    View.canon ((⟨C128, p⟩ : View.Piece (Elt Ideal) S1024x1024 .bf16) :: L) (ix2 r l) = View.canon L (ix2 r l) := by
  refine View.canon_cons_of_not_mem (⟨C128, p⟩ : View.Piece (Elt Ideal) S1024x1024 .bf16) L ?_
  show (ix2 r l : S1024x1024.Idx) ∉ (Rect.unit (s := S1024x1024) ![0, 128] S1024x128.size inb_S1024x1024_S1024x128_0_128).set
  rw [Rect.mem_set_unit]
  intro hh
  have h1 : 128 ≤ l.val := (hh 1).1
  omega

/-- The head at column 256, at an index. -/
theorem head256_at (acc : FVec Ideal S1024x1024 .f32) (g : FVec Ideal S1x128 .f32) (r : Fin 1024) (k : Fin 128) :
    (k0_pay15 (k0_pay12 acc) (k0_pay13 acc) (k0_pay14 (F := Ideal)) g : FVec Ideal S1024x128 .bf16) (ix2 r k) = hd (fun j => acc (ix2 r ⟨256 + j.val, by omega⟩)) k * g (ix2 0 k) := by
  unfold hd
  pointwise [k0_pay15, k0_pay12, k0_pay13, k0_pay14]

theorem C256_emb (r : Fin 1024) (k : Fin 128) : (ix2 r (⟨256 + k.val, by omega⟩ : Fin 1024) : S1024x1024.Idx) = C256.emb (ix2 r k) :=
  funext fun a => by fin_cases a <;> apply Fin.ext <;> simp

theorem G256_emb (k : Fin 128) : (ix2 0 (⟨256 + k.val, by omega⟩ : Fin 1024) : S1x1024.Idx) = G256.emb (ix2 0 k) :=
  funext fun a => by fin_cases a <;> apply Fin.ext <;> simp

theorem C256_take (p : S1024x128.Idx → Elt Ideal .bf16) (L : List (View.Piece (Elt Ideal) S1024x1024 .bf16)) (r : Fin 1024) (k : Fin 128) :
    View.canon ((⟨C256, p⟩ : View.Piece (Elt Ideal) S1024x1024 .bf16) :: L) (ix2 r (⟨256 + k.val, by omega⟩ : Fin 1024)) = p (ix2 r k) := by
  refine (congrArg (View.canon ((⟨C256, p⟩ : View.Piece (Elt Ideal) S1024x1024 .bf16) :: L)) (C256_emb r k)).trans ?_
  exact View.canon_cons_emb C256 p L (ix2 r k)

theorem C256_skip (p : S1024x128.Idx → Elt Ideal .bf16) (L : List (View.Piece (Elt Ideal) S1024x1024 .bf16)) (r l : Fin 1024) (h : l.val < 256) :
    View.canon ((⟨C256, p⟩ : View.Piece (Elt Ideal) S1024x1024 .bf16) :: L) (ix2 r l) = View.canon L (ix2 r l) := by
  refine View.canon_cons_of_not_mem (⟨C256, p⟩ : View.Piece (Elt Ideal) S1024x1024 .bf16) L ?_
  show (ix2 r l : S1024x1024.Idx) ∉ (Rect.unit (s := S1024x1024) ![0, 256] S1024x128.size inb_S1024x1024_S1024x128_0_256).set
  rw [Rect.mem_set_unit]
  intro hh
  have h1 : 256 ≤ l.val := (hh 1).1
  omega

/-- The head at column 384, at an index. -/
theorem head384_at (acc : FVec Ideal S1024x1024 .f32) (g : FVec Ideal S1x128 .f32) (r : Fin 1024) (k : Fin 128) :
    (k0_pay16 acc g : FVec Ideal S1024x128 .bf16) (ix2 r k) = hd (fun j => acc (ix2 r ⟨384 + j.val, by omega⟩)) k * g (ix2 0 k) := by
  unfold hd
  pointwise [k0_pay16]

theorem C384_emb (r : Fin 1024) (k : Fin 128) : (ix2 r (⟨384 + k.val, by omega⟩ : Fin 1024) : S1024x1024.Idx) = C384.emb (ix2 r k) :=
  funext fun a => by fin_cases a <;> apply Fin.ext <;> simp

theorem G384_emb (k : Fin 128) : (ix2 0 (⟨384 + k.val, by omega⟩ : Fin 1024) : S1x1024.Idx) = G384.emb (ix2 0 k) :=
  funext fun a => by fin_cases a <;> apply Fin.ext <;> simp

theorem C384_take (p : S1024x128.Idx → Elt Ideal .bf16) (L : List (View.Piece (Elt Ideal) S1024x1024 .bf16)) (r : Fin 1024) (k : Fin 128) :
    View.canon ((⟨C384, p⟩ : View.Piece (Elt Ideal) S1024x1024 .bf16) :: L) (ix2 r (⟨384 + k.val, by omega⟩ : Fin 1024)) = p (ix2 r k) := by
  refine (congrArg (View.canon ((⟨C384, p⟩ : View.Piece (Elt Ideal) S1024x1024 .bf16) :: L)) (C384_emb r k)).trans ?_
  exact View.canon_cons_emb C384 p L (ix2 r k)

theorem C384_skip (p : S1024x128.Idx → Elt Ideal .bf16) (L : List (View.Piece (Elt Ideal) S1024x1024 .bf16)) (r l : Fin 1024) (h : l.val < 384) :
    View.canon ((⟨C384, p⟩ : View.Piece (Elt Ideal) S1024x1024 .bf16) :: L) (ix2 r l) = View.canon L (ix2 r l) := by
  refine View.canon_cons_of_not_mem (⟨C384, p⟩ : View.Piece (Elt Ideal) S1024x1024 .bf16) L ?_
  show (ix2 r l : S1024x1024.Idx) ∉ (Rect.unit (s := S1024x1024) ![0, 384] S1024x128.size inb_S1024x1024_S1024x128_0_384).set
  rw [Rect.mem_set_unit]
  intro hh
  have h1 : 384 ≤ l.val := (hh 1).1
  omega

/-- The head at column 512, at an index. -/
theorem head512_at (acc : FVec Ideal S1024x1024 .f32) (g : FVec Ideal S1x128 .f32) (r : Fin 1024) (k : Fin 128) :
    (k0_pay18 (k0_pay17 acc g) : FVec Ideal S1024x128 .bf16) (ix2 r k) = hd (fun j => acc (ix2 r ⟨512 + j.val, by omega⟩)) k * g (ix2 0 k) := by
  unfold hd
  pointwise [k0_pay18, k0_pay17]

theorem C512_emb (r : Fin 1024) (k : Fin 128) : (ix2 r (⟨512 + k.val, by omega⟩ : Fin 1024) : S1024x1024.Idx) = C512.emb (ix2 r k) :=
  funext fun a => by fin_cases a <;> apply Fin.ext <;> simp

theorem G512_emb (k : Fin 128) : (ix2 0 (⟨512 + k.val, by omega⟩ : Fin 1024) : S1x1024.Idx) = G512.emb (ix2 0 k) :=
  funext fun a => by fin_cases a <;> apply Fin.ext <;> simp

theorem C512_take (p : S1024x128.Idx → Elt Ideal .bf16) (L : List (View.Piece (Elt Ideal) S1024x1024 .bf16)) (r : Fin 1024) (k : Fin 128) :
    View.canon ((⟨C512, p⟩ : View.Piece (Elt Ideal) S1024x1024 .bf16) :: L) (ix2 r (⟨512 + k.val, by omega⟩ : Fin 1024)) = p (ix2 r k) := by
  refine (congrArg (View.canon ((⟨C512, p⟩ : View.Piece (Elt Ideal) S1024x1024 .bf16) :: L)) (C512_emb r k)).trans ?_
  exact View.canon_cons_emb C512 p L (ix2 r k)

theorem C512_skip (p : S1024x128.Idx → Elt Ideal .bf16) (L : List (View.Piece (Elt Ideal) S1024x1024 .bf16)) (r l : Fin 1024) (h : l.val < 512) :
    View.canon ((⟨C512, p⟩ : View.Piece (Elt Ideal) S1024x1024 .bf16) :: L) (ix2 r l) = View.canon L (ix2 r l) := by
  refine View.canon_cons_of_not_mem (⟨C512, p⟩ : View.Piece (Elt Ideal) S1024x1024 .bf16) L ?_
  show (ix2 r l : S1024x1024.Idx) ∉ (Rect.unit (s := S1024x1024) ![0, 512] S1024x128.size inb_S1024x1024_S1024x128_0_512).set
  rw [Rect.mem_set_unit]
  intro hh
  have h1 : 512 ≤ l.val := (hh 1).1
  omega

/-- The head at column 640, at an index. -/
theorem head640_at (acc : FVec Ideal S1024x1024 .f32) (g : FVec Ideal S1x128 .f32) (r : Fin 1024) (k : Fin 128) :
    (k0_pay19 acc g : FVec Ideal S1024x128 .bf16) (ix2 r k) = hd (fun j => acc (ix2 r ⟨640 + j.val, by omega⟩)) k * g (ix2 0 k) := by
  unfold hd
  pointwise [k0_pay19]

theorem C640_emb (r : Fin 1024) (k : Fin 128) : (ix2 r (⟨640 + k.val, by omega⟩ : Fin 1024) : S1024x1024.Idx) = C640.emb (ix2 r k) :=
  funext fun a => by fin_cases a <;> apply Fin.ext <;> simp

theorem G640_emb (k : Fin 128) : (ix2 0 (⟨640 + k.val, by omega⟩ : Fin 1024) : S1x1024.Idx) = G640.emb (ix2 0 k) :=
  funext fun a => by fin_cases a <;> apply Fin.ext <;> simp

theorem C640_take (p : S1024x128.Idx → Elt Ideal .bf16) (L : List (View.Piece (Elt Ideal) S1024x1024 .bf16)) (r : Fin 1024) (k : Fin 128) :
    View.canon ((⟨C640, p⟩ : View.Piece (Elt Ideal) S1024x1024 .bf16) :: L) (ix2 r (⟨640 + k.val, by omega⟩ : Fin 1024)) = p (ix2 r k) := by
  refine (congrArg (View.canon ((⟨C640, p⟩ : View.Piece (Elt Ideal) S1024x1024 .bf16) :: L)) (C640_emb r k)).trans ?_
  exact View.canon_cons_emb C640 p L (ix2 r k)

theorem C640_skip (p : S1024x128.Idx → Elt Ideal .bf16) (L : List (View.Piece (Elt Ideal) S1024x1024 .bf16)) (r l : Fin 1024) (h : l.val < 640) :
    View.canon ((⟨C640, p⟩ : View.Piece (Elt Ideal) S1024x1024 .bf16) :: L) (ix2 r l) = View.canon L (ix2 r l) := by
  refine View.canon_cons_of_not_mem (⟨C640, p⟩ : View.Piece (Elt Ideal) S1024x1024 .bf16) L ?_
  show (ix2 r l : S1024x1024.Idx) ∉ (Rect.unit (s := S1024x1024) ![0, 640] S1024x128.size inb_S1024x1024_S1024x128_0_640).set
  rw [Rect.mem_set_unit]
  intro hh
  have h1 : 640 ≤ l.val := (hh 1).1
  omega

/-- The head at column 768, at an index. -/
theorem head768_at (acc : FVec Ideal S1024x1024 .f32) (g : FVec Ideal S1x128 .f32) (r : Fin 1024) (k : Fin 128) :
    (k0_pay20 acc g : FVec Ideal S1024x128 .bf16) (ix2 r k) = hd (fun j => acc (ix2 r ⟨768 + j.val, by omega⟩)) k * g (ix2 0 k) := by
  unfold hd
  pointwise [k0_pay20]

theorem C768_emb (r : Fin 1024) (k : Fin 128) : (ix2 r (⟨768 + k.val, by omega⟩ : Fin 1024) : S1024x1024.Idx) = C768.emb (ix2 r k) :=
  funext fun a => by fin_cases a <;> apply Fin.ext <;> simp

theorem G768_emb (k : Fin 128) : (ix2 0 (⟨768 + k.val, by omega⟩ : Fin 1024) : S1x1024.Idx) = G768.emb (ix2 0 k) :=
  funext fun a => by fin_cases a <;> apply Fin.ext <;> simp

theorem C768_take (p : S1024x128.Idx → Elt Ideal .bf16) (L : List (View.Piece (Elt Ideal) S1024x1024 .bf16)) (r : Fin 1024) (k : Fin 128) :
    View.canon ((⟨C768, p⟩ : View.Piece (Elt Ideal) S1024x1024 .bf16) :: L) (ix2 r (⟨768 + k.val, by omega⟩ : Fin 1024)) = p (ix2 r k) := by
  refine (congrArg (View.canon ((⟨C768, p⟩ : View.Piece (Elt Ideal) S1024x1024 .bf16) :: L)) (C768_emb r k)).trans ?_
  exact View.canon_cons_emb C768 p L (ix2 r k)

theorem C768_skip (p : S1024x128.Idx → Elt Ideal .bf16) (L : List (View.Piece (Elt Ideal) S1024x1024 .bf16)) (r l : Fin 1024) (h : l.val < 768) :
    View.canon ((⟨C768, p⟩ : View.Piece (Elt Ideal) S1024x1024 .bf16) :: L) (ix2 r l) = View.canon L (ix2 r l) := by
  refine View.canon_cons_of_not_mem (⟨C768, p⟩ : View.Piece (Elt Ideal) S1024x1024 .bf16) L ?_
  show (ix2 r l : S1024x1024.Idx) ∉ (Rect.unit (s := S1024x1024) ![0, 768] S1024x128.size inb_S1024x1024_S1024x128_0_768).set
  rw [Rect.mem_set_unit]
  intro hh
  have h1 : 768 ≤ l.val := (hh 1).1
  omega

/-- The head at column 896, at an index. -/
theorem head896_at (acc : FVec Ideal S1024x1024 .f32) (g : FVec Ideal S1x128 .f32) (r : Fin 1024) (k : Fin 128) :
    (k0_pay3 (k0_pay21 acc) (k0_pay22 acc) g : FVec Ideal S1024x128 .bf16) (ix2 r k) = hd (fun j => acc (ix2 r ⟨896 + j.val, by omega⟩)) k * g (ix2 0 k) := by
  unfold hd
  pointwise [k0_pay3, k0_pay21, k0_pay22]

theorem C896_emb (r : Fin 1024) (k : Fin 128) : (ix2 r (⟨896 + k.val, by omega⟩ : Fin 1024) : S1024x1024.Idx) = C896.emb (ix2 r k) :=
  funext fun a => by fin_cases a <;> apply Fin.ext <;> simp

theorem G896_emb (k : Fin 128) : (ix2 0 (⟨896 + k.val, by omega⟩ : Fin 1024) : S1x1024.Idx) = G896.emb (ix2 0 k) :=
  funext fun a => by fin_cases a <;> apply Fin.ext <;> simp

theorem C896_take (p : S1024x128.Idx → Elt Ideal .bf16) (L : List (View.Piece (Elt Ideal) S1024x1024 .bf16)) (r : Fin 1024) (k : Fin 128) :
    View.canon ((⟨C896, p⟩ : View.Piece (Elt Ideal) S1024x1024 .bf16) :: L) (ix2 r (⟨896 + k.val, by omega⟩ : Fin 1024)) = p (ix2 r k) := by
  refine (congrArg (View.canon ((⟨C896, p⟩ : View.Piece (Elt Ideal) S1024x1024 .bf16) :: L)) (C896_emb r k)).trans ?_
  exact View.canon_cons_emb C896 p L (ix2 r k)

theorem C896_skip (p : S1024x128.Idx → Elt Ideal .bf16) (L : List (View.Piece (Elt Ideal) S1024x1024 .bf16)) (r l : Fin 1024) (h : l.val < 896) :
    View.canon ((⟨C896, p⟩ : View.Piece (Elt Ideal) S1024x1024 .bf16) :: L) (ix2 r l) = View.canon L (ix2 r l) := by
  refine View.canon_cons_of_not_mem (⟨C896, p⟩ : View.Piece (Elt Ideal) S1024x1024 .bf16) L ?_
  show (ix2 r l : S1024x1024.Idx) ∉ (Rect.unit (s := S1024x1024) ![0, 896] S1024x128.size inb_S1024x1024_S1024x128_0_896).set
  rw [Rect.mem_set_unit]
  intro hh
  have h1 : 896 ≤ l.val := (hh 1).1
  omega

/-- A block of eight heads at an index: the head normalised, times its scale. -/
theorem heads_at (acc : FVec Ideal S1024x1024 .f32) (cv : FVec Ideal S1x1024 .f32) (r l : Fin 1024) :
    heads acc cv (ix2 r l) = hd (fun k => acc (ix2 r (colOf (hdOf l) k))) (lnOf l) * cv (ix2 0 l) := by
  unfold heads
  have hl : (0 ≤ l.val ∧ l.val < 128) ∨ (128 ≤ l.val ∧ l.val < 256) ∨ (256 ≤ l.val ∧ l.val < 384) ∨ (384 ≤ l.val ∧ l.val < 512) ∨ (512 ≤ l.val ∧ l.val < 640) ∨ (640 ≤ l.val ∧ l.val < 768) ∨ (768 ≤ l.val ∧ l.val < 896) ∨ (896 ≤ l.val ∧ l.val < 1024) := by omega
  rcases hl with h | h | h | h | h | h | h | h
  · obtain ⟨k, rfl⟩ : ∃ k : Fin 128, l = ⟨k.val, by clear h; omega⟩ := ⟨⟨l.val - 0, by omega⟩, Fin.ext (by show l.val = l.val - 0; omega)⟩
    have e1 : hdOf ⟨k.val, by omega⟩ = 0 := Fin.ext (by show (k.val) / 128 = 0; omega)
    have e2 : lnOf ⟨k.val, by omega⟩ = k := Fin.ext (by show (k.val) % 128 = k.val; omega)
    refine (C896_skip _ _ r _ (by show k.val < 896; omega)).trans ?_
    refine (C768_skip _ _ r _ (by show k.val < 768; omega)).trans ?_
    refine (C640_skip _ _ r _ (by show k.val < 640; omega)).trans ?_
    refine (C512_skip _ _ r _ (by show k.val < 512; omega)).trans ?_
    refine (C384_skip _ _ r _ (by show k.val < 384; omega)).trans ?_
    refine (C256_skip _ _ r _ (by show k.val < 256; omega)).trans ?_
    refine (C128_skip _ _ r _ (by show k.val < 128; omega)).trans ?_
    refine (C0_take _ _ r k).trans ?_
    refine (head0_at acc _ r k).trans ?_
    rw [e1, e2]
    refine congrArg₂ (· * ·) (congrArg (fun a => hd a k) (funext fun j => congrArg (fun i => acc (ix2 r i)) (Fin.ext ?_))) (congrArg cv (G0_emb k).symm)
    show j.val = 0 * 128 + j.val
    omega
  · obtain ⟨k, rfl⟩ : ∃ k : Fin 128, l = ⟨128 + k.val, by clear h; omega⟩ := ⟨⟨l.val - 128, by omega⟩, Fin.ext (by show l.val = 128 + (l.val - 128); omega)⟩
    have e1 : hdOf ⟨128 + k.val, by omega⟩ = 1 := Fin.ext (by show (128 + k.val) / 128 = 1; omega)
    have e2 : lnOf ⟨128 + k.val, by omega⟩ = k := Fin.ext (by show (128 + k.val) % 128 = k.val; omega)
    refine (C896_skip _ _ r _ (by show 128 + k.val < 896; omega)).trans ?_
    refine (C768_skip _ _ r _ (by show 128 + k.val < 768; omega)).trans ?_
    refine (C640_skip _ _ r _ (by show 128 + k.val < 640; omega)).trans ?_
    refine (C512_skip _ _ r _ (by show 128 + k.val < 512; omega)).trans ?_
    refine (C384_skip _ _ r _ (by show 128 + k.val < 384; omega)).trans ?_
    refine (C256_skip _ _ r _ (by show 128 + k.val < 256; omega)).trans ?_
    refine (C128_take _ _ r k).trans ?_
    refine (head128_at acc _ r k).trans ?_
    rw [e1, e2]
    refine congrArg₂ (· * ·) (congrArg (fun a => hd a k) (funext fun j => congrArg (fun i => acc (ix2 r i)) (Fin.ext ?_))) (congrArg cv (G128_emb k).symm)
    show 128 + j.val = 1 * 128 + j.val
    omega
  · obtain ⟨k, rfl⟩ : ∃ k : Fin 128, l = ⟨256 + k.val, by clear h; omega⟩ := ⟨⟨l.val - 256, by omega⟩, Fin.ext (by show l.val = 256 + (l.val - 256); omega)⟩
    have e1 : hdOf ⟨256 + k.val, by omega⟩ = 2 := Fin.ext (by show (256 + k.val) / 128 = 2; omega)
    have e2 : lnOf ⟨256 + k.val, by omega⟩ = k := Fin.ext (by show (256 + k.val) % 128 = k.val; omega)
    refine (C896_skip _ _ r _ (by show 256 + k.val < 896; omega)).trans ?_
    refine (C768_skip _ _ r _ (by show 256 + k.val < 768; omega)).trans ?_
    refine (C640_skip _ _ r _ (by show 256 + k.val < 640; omega)).trans ?_
    refine (C512_skip _ _ r _ (by show 256 + k.val < 512; omega)).trans ?_
    refine (C384_skip _ _ r _ (by show 256 + k.val < 384; omega)).trans ?_
    refine (C256_take _ _ r k).trans ?_
    refine (head256_at acc _ r k).trans ?_
    rw [e1, e2]
    refine congrArg₂ (· * ·) (congrArg (fun a => hd a k) (funext fun j => congrArg (fun i => acc (ix2 r i)) (Fin.ext ?_))) (congrArg cv (G256_emb k).symm)
    show 256 + j.val = 2 * 128 + j.val
    omega
  · obtain ⟨k, rfl⟩ : ∃ k : Fin 128, l = ⟨384 + k.val, by clear h; omega⟩ := ⟨⟨l.val - 384, by omega⟩, Fin.ext (by show l.val = 384 + (l.val - 384); omega)⟩
    have e1 : hdOf ⟨384 + k.val, by omega⟩ = 3 := Fin.ext (by show (384 + k.val) / 128 = 3; omega)
    have e2 : lnOf ⟨384 + k.val, by omega⟩ = k := Fin.ext (by show (384 + k.val) % 128 = k.val; omega)
    refine (C896_skip _ _ r _ (by show 384 + k.val < 896; omega)).trans ?_
    refine (C768_skip _ _ r _ (by show 384 + k.val < 768; omega)).trans ?_
    refine (C640_skip _ _ r _ (by show 384 + k.val < 640; omega)).trans ?_
    refine (C512_skip _ _ r _ (by show 384 + k.val < 512; omega)).trans ?_
    refine (C384_take _ _ r k).trans ?_
    refine (head384_at acc _ r k).trans ?_
    rw [e1, e2]
    refine congrArg₂ (· * ·) (congrArg (fun a => hd a k) (funext fun j => congrArg (fun i => acc (ix2 r i)) (Fin.ext ?_))) (congrArg cv (G384_emb k).symm)
    show 384 + j.val = 3 * 128 + j.val
    omega
  · obtain ⟨k, rfl⟩ : ∃ k : Fin 128, l = ⟨512 + k.val, by clear h; omega⟩ := ⟨⟨l.val - 512, by omega⟩, Fin.ext (by show l.val = 512 + (l.val - 512); omega)⟩
    have e1 : hdOf ⟨512 + k.val, by omega⟩ = 4 := Fin.ext (by show (512 + k.val) / 128 = 4; omega)
    have e2 : lnOf ⟨512 + k.val, by omega⟩ = k := Fin.ext (by show (512 + k.val) % 128 = k.val; omega)
    refine (C896_skip _ _ r _ (by show 512 + k.val < 896; omega)).trans ?_
    refine (C768_skip _ _ r _ (by show 512 + k.val < 768; omega)).trans ?_
    refine (C640_skip _ _ r _ (by show 512 + k.val < 640; omega)).trans ?_
    refine (C512_take _ _ r k).trans ?_
    refine (head512_at acc _ r k).trans ?_
    rw [e1, e2]
    refine congrArg₂ (· * ·) (congrArg (fun a => hd a k) (funext fun j => congrArg (fun i => acc (ix2 r i)) (Fin.ext ?_))) (congrArg cv (G512_emb k).symm)
    show 512 + j.val = 4 * 128 + j.val
    omega
  · obtain ⟨k, rfl⟩ : ∃ k : Fin 128, l = ⟨640 + k.val, by clear h; omega⟩ := ⟨⟨l.val - 640, by omega⟩, Fin.ext (by show l.val = 640 + (l.val - 640); omega)⟩
    have e1 : hdOf ⟨640 + k.val, by omega⟩ = 5 := Fin.ext (by show (640 + k.val) / 128 = 5; omega)
    have e2 : lnOf ⟨640 + k.val, by omega⟩ = k := Fin.ext (by show (640 + k.val) % 128 = k.val; omega)
    refine (C896_skip _ _ r _ (by show 640 + k.val < 896; omega)).trans ?_
    refine (C768_skip _ _ r _ (by show 640 + k.val < 768; omega)).trans ?_
    refine (C640_take _ _ r k).trans ?_
    refine (head640_at acc _ r k).trans ?_
    rw [e1, e2]
    refine congrArg₂ (· * ·) (congrArg (fun a => hd a k) (funext fun j => congrArg (fun i => acc (ix2 r i)) (Fin.ext ?_))) (congrArg cv (G640_emb k).symm)
    show 640 + j.val = 5 * 128 + j.val
    omega
  · obtain ⟨k, rfl⟩ : ∃ k : Fin 128, l = ⟨768 + k.val, by clear h; omega⟩ := ⟨⟨l.val - 768, by omega⟩, Fin.ext (by show l.val = 768 + (l.val - 768); omega)⟩
    have e1 : hdOf ⟨768 + k.val, by omega⟩ = 6 := Fin.ext (by show (768 + k.val) / 128 = 6; omega)
    have e2 : lnOf ⟨768 + k.val, by omega⟩ = k := Fin.ext (by show (768 + k.val) % 128 = k.val; omega)
    refine (C896_skip _ _ r _ (by show 768 + k.val < 896; omega)).trans ?_
    refine (C768_take _ _ r k).trans ?_
    refine (head768_at acc _ r k).trans ?_
    rw [e1, e2]
    refine congrArg₂ (· * ·) (congrArg (fun a => hd a k) (funext fun j => congrArg (fun i => acc (ix2 r i)) (Fin.ext ?_))) (congrArg cv (G768_emb k).symm)
    show 768 + j.val = 6 * 128 + j.val
    omega
  · obtain ⟨k, rfl⟩ : ∃ k : Fin 128, l = ⟨896 + k.val, by clear h; omega⟩ := ⟨⟨l.val - 896, by omega⟩, Fin.ext (by show l.val = 896 + (l.val - 896); omega)⟩
    have e1 : hdOf ⟨896 + k.val, by omega⟩ = 7 := Fin.ext (by show (896 + k.val) / 128 = 7; omega)
    have e2 : lnOf ⟨896 + k.val, by omega⟩ = k := Fin.ext (by show (896 + k.val) % 128 = k.val; omega)
    refine (C896_take _ _ r k).trans ?_
    refine (head896_at acc _ r k).trans ?_
    rw [e1, e2]
    refine congrArg₂ (· * ·) (congrArg (fun a => hd a k) (funext fun j => congrArg (fun i => acc (ix2 r i)) (Fin.ext ?_))) (congrArg cv (G896_emb k).symm)
    show 896 + j.val = 7 * 128 + j.val
    omega

/-- The product of the rows with a block of weights, at an index. -/
theorem pay2_at (h : FVec Ideal S1024x2048 .bf16) (w : FVec Ideal S1x2048x1024 .bf16) (r l : Fin 1024) :
    k0_pay2 (F := Ideal) h w (ix2 r l) = ∑ k : Fin 2048, h (ix2 r k) * w (ix3 0 k l) := by
  pointwise [k0_pay2]

/-- A block that is only scaled, at an index. -/
theorem pay4_at (h : FVec Ideal S1024x2048 .bf16) (w : FVec Ideal S1x2048x1024 .bf16) (cv : FVec Ideal S1x1024 .f32) (r l : Fin 1024) :
    k0_pay4 (F := Ideal) h w cv (ix2 r l) = (∑ k : Fin 2048, h (ix2 r k) * w (ix3 0 k l)) * cv (ix2 0 l) := by
  pointwise [k0_pay4, k0_pay2]

/-- A block of gates, at an index. -/
theorem pay5_at (h : FVec Ideal S1024x2048 .bf16) (w : FVec Ideal S1x2048x1024 .bf16) (bv : FVec Ideal S1x1024 .f32) (r l : Fin 1024) :
    k0_pay5 (F := Ideal) h w bv (ix2 r l) = lgs ((∑ k : Fin 2048, h (ix2 r k) * w (ix3 0 k l)) + bv (ix2 0 l)) := by
  unfold lgs
  pointwise [k0_pay5, k0_pay2]
  simp only [zero_sub]

/-- The gate logarithms, at an index. -/
theorem pay1_at (h : FVec Ideal S1024x2048 .bf16) (w : FVec Ideal S1x2048x128 .bf16) (bv : FVec Ideal S1x128 .f32) (r : Fin 1024) (J : Fin 128) :
    k0_pay1 (F := Ideal) h w bv (ix2 r J) = lsg ((∑ k : Fin 2048, h (ix2 r k) * w (ix3 0 k J)) + bv (ix2 0 J)) := by
  unfold lsg
  pointwise [k0_pay1]
  simp only [zero_sub, Ideal.ofBits_one_f32]
  rfl

end Cert.Prj

end
-- ==== Proof.Proj.Host.lean ====
/- The projection: what the host prepares, and the blocks the windows stage. -/
module

public import proofs.«01_k».proof.Proof.Proj.Pay
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Prj

open Idealize.ShloMosaic Idealize.ShloMosaic.TcCoe Cert.ProjIdeal Cert.ProjIdeal.Gen

/-- The constant the host multiplies by. -/
abbrev scl : EReal := Ideal.ofBits .f32 0x3DB504F3#32

/-- The weights without the gate logits' columns, the gates' weights behind them. -/
def hostW (W : FVec Ideal S2048x6152 .f32) (U : FVec Ideal S2048x4096 .f32) : FVec Ideal S1x2048x10240 .bf16 :=
  broadcastInDim S1x2048x10240 ![1, 2] bcast_S2048x10240_S1x2048x10240_1_2 (truncf (F := Ideal) .bf16
    (concatenate S2048x10240 1 [⟨S2048x3072, extractStridedSlice S2048x3072 ![0, 0] W slices_S2048x6152_S2048x3072_0_0⟩,
      ⟨S2048x3072, extractStridedSlice S2048x3072 ![0, 3080] W slices_S2048x6152_S2048x3072_0_3080⟩, ⟨S2048x4096, U⟩]
      concatenates_S2048x3072_S2048x3072_S2048x4096_S2048x10240_d1 : FVec Ideal S2048x10240 .f32) bitsLt_bf16_f32)

/-- The gate logits' columns of the weights, padded with zeros. -/
def hostF (W : FVec Ideal S2048x6152 .f32) : FVec Ideal S1x2048x128 .bf16 :=
  broadcastInDim S1x2048x128 ![1, 2] bcast_S2048x128_S1x2048x128_1_2 (truncf (F := Ideal) .bf16
    (concatenate S2048x128 1 [⟨S2048x8, extractStridedSlice S2048x8 ![0, 3072] W slices_S2048x6152_S2048x8_0_3072⟩,
      ⟨S2048x120, broadcastInDim S2048x120 ![] bcast_S_S2048x120 (constant (F := Ideal) S_ .f32 0x00000000#32)⟩]
      concatenates_S2048x8_S2048x120_S2048x128_d1 : FVec Ideal S2048x128 .f32) bitsLt_bf16_f32)

/-- The gate logits' bias, padded with zeros. -/
def hostP (p : FVec Ideal S8 .f32) : FVec Ideal S1x128 .f32 :=
  shapeCast S1x128 (concatenate S128 0 [⟨S8, p⟩, ⟨S120, broadcastInDim S120 ![] bcast_S_S120 (constant (F := Ideal) S_ .f32 0x00000000#32)⟩]
    concatenates_S8_S120_S128_d0 : FVec Ideal S128 .f32) shapeCasts_S128_S1x128

/-- The scale of every column. -/
def hostC (q w : FVec Ideal S8x128 .f32) : FVec Ideal S1x10240 .f32 :=
  shapeCast S1x10240 (concatenate S10240 0 [⟨S1024, mulf (F := Ideal) (shapeCast S1024 q shapeCasts_S8x128_S1024) (broadcastInDim S1024 ![] bcast_S_S1024 (constant (F := Ideal) S_ .f32 0x3DB504F3#32))⟩,
    ⟨S1024, shapeCast S1024 w shapeCasts_S8x128_S1024⟩,
    ⟨S1024, broadcastInDim S1024 ![] bcast_S_S1024 (constant (F := Ideal) S_ .f32 0x3F800000#32)⟩,
    ⟨S1024, broadcastInDim S1024 ![] bcast_S_S1024 (constant (F := Ideal) S_ .f32 0x3DB504F3#32)⟩,
    ⟨S2048, broadcastInDim S2048 ![] bcast_S_S2048 (constant (F := Ideal) S_ .f32 0x3F800000#32)⟩,
    ⟨S4096, broadcastInDim S4096 ![] bcast_S_S4096 (constant (F := Ideal) S_ .f32 0x3F800000#32)⟩]
    concatenates_S1024_S1024_S1024_S1024_S2048_S4096_S10240_d0 : FVec Ideal S10240 .f32) shapeCasts_S10240_S1x10240

/-- The bias of every column. -/
def hostB (u : FVec Ideal S4096 .f32) : FVec Ideal S1x10240 .f32 :=
  shapeCast S1x10240 (concatenate S10240 0 [⟨S6144, broadcastInDim S6144 ![] bcast_S_S6144 (constant (F := Ideal) S_ .f32 0x00000000#32)⟩, ⟨S4096, u⟩]
    concatenates_S6144_S4096_S10240_d0 : FVec Ideal S10240 .f32) shapeCasts_S10240_S1x10240

theorem hostW_lo (W : FVec Ideal S2048x6152 .f32) (U : FVec Ideal S2048x4096 .f32) (k : Fin 2048) (j : Fin 3072) :
    hostW W U (ix3 0 k ⟨j.val, by omega⟩) = W (ix2 k ⟨j.val, by omega⟩) := by
  unfold hostW
  pointwise

theorem hostW_mid (W : FVec Ideal S2048x6152 .f32) (U : FVec Ideal S2048x4096 .f32) (k : Fin 2048) (j : Fin 3072) :
    hostW W U (ix3 0 k ⟨3072 + j.val, by omega⟩) = W (ix2 k ⟨3080 + j.val, by omega⟩) := by
  have hj := j.isLt
  unfold hostW
  pointwise

theorem hostW_hi (W : FVec Ideal S2048x6152 .f32) (U : FVec Ideal S2048x4096 .f32) (k : Fin 2048) (f : Fin 4096) :
    hostW W U (ix3 0 k ⟨6144 + f.val, by omega⟩) = U (ix2 k f) := by
  have hf := f.isLt
  unfold hostW
  pointwise
  rw [dif_neg (by omega), dif_neg (by omega)]
  exact congrArg U (congrArg _ (Fin.ext (by show 6144 + f.val - 3072 - 3072 = f.val; omega)))

theorem hostF_at (W : FVec Ideal S2048x6152 .f32) (k : Fin 2048) (J : Fin 128) :
    hostF W (ix3 0 k J) = if h : J.val < 8 then W (ix2 k ⟨3072 + J.val, by omega⟩) else 0 := by
  unfold hostF
  pointwise

theorem hostP_at (p : FVec Ideal S8 .f32) (J : Fin 128) :
    hostP p (ix2 0 J) = if h : J.val < 8 then p (ix1 ⟨J.val, h⟩) else 0 := by
  unfold hostP
  pointwise

theorem gain_at (q : FVec Ideal S8x128 .f32) (l : Fin 1024) : shapeCast S1024 q shapeCasts_S8x128_S1024 (ix1 l) = q (ix2 (hdOf l) (lnOf l)) := by
  refine shapeCast_apply q _ (ix1 l) (ix2 (hdOf l) (lnOf l)) ?_
  rewrite [Shape.rowMajor_val_two, Shape.rowMajor_val_one]
  show l.val / 128 * 128 + l.val % 128 = l.val
  omega

theorem cat6_0 (A0 : S1024.Idx → EReal) (A1 : S1024.Idx → EReal) (A2 : S1024.Idx → EReal) (A3 : S1024.Idx → EReal) (A4 : S2048.Idx → EReal) (A5 : S4096.Idx → EReal) (l : Fin 1024) :
    concatenate S10240 0 [⟨S1024, A0⟩, ⟨S1024, A1⟩, ⟨S1024, A2⟩, ⟨S1024, A3⟩, ⟨S2048, A4⟩, ⟨S4096, A5⟩] concatenates_S1024_S1024_S1024_S1024_S2048_S4096_S10240_d0 (ix1 ⟨l.val, by omega⟩) = A0 (ix1 l) := by
  have hl := l.isLt
  pointwise

theorem cat6_1 (A0 : S1024.Idx → EReal) (A1 : S1024.Idx → EReal) (A2 : S1024.Idx → EReal) (A3 : S1024.Idx → EReal) (A4 : S2048.Idx → EReal) (A5 : S4096.Idx → EReal) (l : Fin 1024) :
    concatenate S10240 0 [⟨S1024, A0⟩, ⟨S1024, A1⟩, ⟨S1024, A2⟩, ⟨S1024, A3⟩, ⟨S2048, A4⟩, ⟨S4096, A5⟩] concatenates_S1024_S1024_S1024_S1024_S2048_S4096_S10240_d0 (ix1 ⟨1024 + l.val, by omega⟩) = A1 (ix1 l) := by
  have hl := l.isLt
  pointwise

theorem cat6_2 (A0 : S1024.Idx → EReal) (A1 : S1024.Idx → EReal) (A2 : S1024.Idx → EReal) (A3 : S1024.Idx → EReal) (A4 : S2048.Idx → EReal) (A5 : S4096.Idx → EReal) (l : Fin 1024) :
    concatenate S10240 0 [⟨S1024, A0⟩, ⟨S1024, A1⟩, ⟨S1024, A2⟩, ⟨S1024, A3⟩, ⟨S2048, A4⟩, ⟨S4096, A5⟩] concatenates_S1024_S1024_S1024_S1024_S2048_S4096_S10240_d0 (ix1 ⟨2048 + l.val, by omega⟩) = A2 (ix1 l) := by
  have hl := l.isLt
  pointwise
  rw [dif_neg (by omega), dif_neg (by omega), dif_pos (by omega)]
  exact congrArg A2 (congrArg _ (Fin.ext (by show 2048 + l.val - 1024 - 1024 = l.val; omega)))

theorem cat6_3 (A0 : S1024.Idx → EReal) (A1 : S1024.Idx → EReal) (A2 : S1024.Idx → EReal) (A3 : S1024.Idx → EReal) (A4 : S2048.Idx → EReal) (A5 : S4096.Idx → EReal) (l : Fin 1024) :
    concatenate S10240 0 [⟨S1024, A0⟩, ⟨S1024, A1⟩, ⟨S1024, A2⟩, ⟨S1024, A3⟩, ⟨S2048, A4⟩, ⟨S4096, A5⟩] concatenates_S1024_S1024_S1024_S1024_S2048_S4096_S10240_d0 (ix1 ⟨3072 + l.val, by omega⟩) = A3 (ix1 l) := by
  have hl := l.isLt
  pointwise
  rw [dif_neg (by omega), dif_neg (by omega), dif_neg (by omega), dif_pos (by omega)]
  exact congrArg A3 (congrArg _ (Fin.ext (by show 3072 + l.val - 1024 - 1024 - 1024 = l.val; omega)))

theorem cat6_4 (A0 : S1024.Idx → EReal) (A1 : S1024.Idx → EReal) (A2 : S1024.Idx → EReal) (A3 : S1024.Idx → EReal) (A4 : S2048.Idx → EReal) (A5 : S4096.Idx → EReal) (l : Fin 2048) :
    concatenate S10240 0 [⟨S1024, A0⟩, ⟨S1024, A1⟩, ⟨S1024, A2⟩, ⟨S1024, A3⟩, ⟨S2048, A4⟩, ⟨S4096, A5⟩] concatenates_S1024_S1024_S1024_S1024_S2048_S4096_S10240_d0 (ix1 ⟨4096 + l.val, by omega⟩) = A4 (ix1 l) := by
  have hl := l.isLt
  pointwise
  rw [dif_neg (by omega), dif_neg (by omega), dif_neg (by omega), dif_neg (by omega), dif_pos (by omega)]
  exact congrArg A4 (congrArg _ (Fin.ext (by show 4096 + l.val - 1024 - 1024 - 1024 - 1024 = l.val; omega)))

theorem row_at (C : FVec Ideal S10240 .f32) (J : Fin 10240) : shapeCast S1x10240 C shapeCasts_S10240_S1x10240 (ix2 0 J) = C (ix1 J) := by
  pointwise

theorem hostC_0 (q w : FVec Ideal S8x128 .f32) (l : Fin 1024) : hostC q w (ix2 0 ⟨l.val, by omega⟩) = q (ix2 (hdOf l) (lnOf l)) * scl := by
  unfold hostC
  refine (row_at _ _).trans ((cat6_0 _ _ _ _ _ _ l).trans ?_)
  exact congrArg₂ (· * ·) (gain_at q l) (by pointwise)

theorem hostC_1 (q w : FVec Ideal S8x128 .f32) (l : Fin 1024) : hostC q w (ix2 0 ⟨1024 + l.val, by omega⟩) = w (ix2 (hdOf l) (lnOf l)) := by
  unfold hostC
  refine (row_at _ _).trans ((cat6_1 _ _ _ _ _ _ l).trans ?_)
  exact gain_at w l

theorem hostC_2 (q w : FVec Ideal S8x128 .f32) (l : Fin 1024) : hostC q w (ix2 0 ⟨2048 + l.val, by omega⟩) = 1 := by
  unfold hostC
  refine (row_at _ _).trans ((cat6_2 _ _ _ _ _ _ l).trans ?_)
  pointwise

theorem hostC_3 (q w : FVec Ideal S8x128 .f32) (l : Fin 1024) : hostC q w (ix2 0 ⟨3072 + l.val, by omega⟩) = scl := by
  unfold hostC
  refine (row_at _ _).trans ((cat6_3 _ _ _ _ _ _ l).trans ?_)
  pointwise

theorem hostC_4 (q w : FVec Ideal S8x128 .f32) (l : Fin 2048) : hostC q w (ix2 0 ⟨4096 + l.val, by omega⟩) = 1 := by
  unfold hostC
  refine (row_at _ _).trans ((cat6_4 _ _ _ _ _ _ l).trans ?_)
  pointwise

theorem hostB_hi (u : FVec Ideal S4096 .f32) (f : Fin 4096) : hostB u (ix2 0 ⟨6144 + f.val, by omega⟩) = u (ix1 f) := by
  unfold hostB
  refine (row_at _ _).trans ?_
  pointwise

theorem flat_at (X : FVec Ideal S4x4096x2048 .f32) (R : Fin 16384) (x : Fin 2048) :
    shapeCast S16384x2048 X shapeCasts_S4x4096x2048_S16384x2048 (ix2 R x) = X (ix3 (bat R) (pos R) x) := by
  refine shapeCast_apply X _ (ix2 R x) (ix3 (bat R) (pos R) x) ?_
  rewrite [Shape.rowMajor_val_three, Shape.rowMajor_val_two]
  show (R.val / 4096 * 4096 + R.val % 4096) * 2048 + x.val = R.val * 2048 + x.val
  omega

variable (m : (ℓ : Loc nD τ sig) → Buf (Elt Ideal) ℓ) (c : Dev nD)

abbrev argX : FVec Ideal S4x4096x2048 .f32 := m ((c : Thread nD τ).loc main_arg0)
abbrev argG : FVec Ideal S2048 .f32 := m ((c : Thread nD τ).loc main_arg1)
abbrev argW : FVec Ideal S2048x6152 .f32 := m ((c : Thread nD τ).loc main_arg2)
abbrev argQ : FVec Ideal S8x128 .f32 := m ((c : Thread nD τ).loc main_arg3)
abbrev argK : FVec Ideal S8x128 .f32 := m ((c : Thread nD τ).loc main_arg4)
abbrev argP : FVec Ideal S8 .f32 := m ((c : Thread nD τ).loc main_arg5)
abbrev argU : FVec Ideal S2048x4096 .f32 := m ((c : Thread nD τ).loc main_arg6)
abbrev argB : FVec Ideal S4096 .f32 := m ((c : Thread nD τ).loc main_arg7)

theorem V_x : V m c main_v26 = shapeCast S16384x2048 (argX m c) shapeCasts_S4x4096x2048_S16384x2048 := by
  unfold V
  simp only [hostOps0, List.flatten_cons, List.flatten_nil, List.cons_append, List.nil_append, List.append_nil]
  after_results
  rfl

theorem V_g : V m c main_v27 = shapeCast S1x2048 (argG m c) shapeCasts_S2048_S1x2048 := by
  unfold V
  simp only [hostOps0, List.flatten_cons, List.flatten_nil, List.cons_append, List.nil_append, List.append_nil]
  after_results
  rfl

theorem V_w : V m c main_v4 = hostW (argW m c) (argU m c) := by
  unfold V
  simp only [hostOps0, List.flatten_cons, List.flatten_nil, List.cons_append, List.nil_append, List.append_nil]
  after_results
  rfl

theorem V_f : V m c main_v9 = hostF (argW m c) := by
  unfold V
  simp only [hostOps0, List.flatten_cons, List.flatten_nil, List.cons_append, List.nil_append, List.append_nil]
  after_results
  rfl

theorem V_c : V m c main_v22 = hostC (argQ m c) (argK m c) := by
  unfold V
  simp only [hostOps0, List.flatten_cons, List.flatten_nil, List.cons_append, List.nil_append, List.append_nil]
  after_results
  rfl

theorem V_b : V m c main_v25 = hostB (argB m c) := by
  unfold V
  simp only [hostOps0, List.flatten_cons, List.flatten_nil, List.cons_append, List.nil_append, List.append_nil]
  after_results
  rfl

theorem V_p : V m c main_v12 = hostP (argP m c) := by
  unfold V
  simp only [hostOps0, List.flatten_cons, List.flatten_nil, List.cons_append, List.nil_append, List.append_nil]
  after_results
  rfl

/-- The block of rows and the block of columns of a grid point. -/
def iOf (t : Fin grid0.N) : Fin 16 := ⟨t.val / 10, by have h : t.val < 160 := t.isLt; omega⟩
def jOf (t : Fin grid0.N) : Fin 10 := ⟨t.val % 10, by omega⟩

theorem idx0 : ∀ t : Fin grid0.N, win0_0.index t = ![(iOf t).val, 0] := by decide +kernel
theorem idx1 : ∀ t : Fin grid0.N, win0_1.index t = ![0, 0] := by decide +kernel
theorem idx2 : ∀ t : Fin grid0.N, win0_2.index t = ![0, 0, (jOf t).val] := by decide +kernel
theorem idx3 : ∀ t : Fin grid0.N, win0_3.index t = ![0, 0, 0] := by decide +kernel
theorem idx4 : ∀ t : Fin grid0.N, win0_4.index t = ![0, (jOf t).val] := by decide +kernel
theorem idx5 : ∀ t : Fin grid0.N, win0_5.index t = ![0, (jOf t).val] := by decide +kernel
theorem idx6 : ∀ t : Fin grid0.N, win0_6.index t = ![0, 0] := by decide +kernel
theorem idx7 : ∀ t : Fin grid0.N, win0_7.index t = ![(iOf t).val, (jOf t).val] := by decide +kernel
theorem idx8 : ∀ t : Fin grid0.N, win0_8.index t = ![(iOf t).val, 0] := by decide +kernel

/-- The flat row of an element of a block of rows, and the column of an element of a block of columns. -/
abbrev row (i : Fin 16) (r : Fin 1024) : Fin 16384 := ⟨i.val * 1024 + r.val, by omega⟩
abbrev col (j : Fin 10) (l : Fin 1024) : Fin 10240 := ⟨j.val * 1024 + l.val, by omega⟩

theorem emb0 (t : Fin grid0.N) (r : Fin 1024) (x : Fin 2048) : (win0_0.blk t).view.emb (ix2 r x) = ix2 (row (iOf t) r) x := by
  have h := idx0 t
  funext d; apply Fin.ext
  fin_cases d
  · refine (ValueKit.view_emb_slice_whole_unit_val _ _ _ _ _ _).trans ?_
    show win0_0.index t 0 * 1024 + r.val = _
    rw [h]; rfl
  · refine (ValueKit.view_emb_slice_whole_unit_val _ _ _ _ _ _).trans ?_
    show win0_0.index t 1 * 2048 + x.val = _
    rw [h]; show 0 * 2048 + x.val = x.val; omega

theorem emb1 (t : Fin grid0.N) (r : Fin 1) (x : Fin 2048) : (win0_1.blk t).view.emb (ix2 r x) = ix2 r x := by
  have h := idx1 t
  funext d; apply Fin.ext
  fin_cases d
  · refine (ValueKit.view_emb_slice_whole_unit_val _ _ _ _ _ _).trans ?_
    show win0_1.index t 0 * 1 + r.val = _
    rw [h]; show 0 * 1 + r.val = r.val; omega
  · refine (ValueKit.view_emb_slice_whole_unit_val _ _ _ _ _ _).trans ?_
    show win0_1.index t 1 * 2048 + x.val = _
    rw [h]; show 0 * 2048 + x.val = x.val; omega

theorem emb2 (t : Fin grid0.N) (a : Fin 1) (r : Fin 2048) (x : Fin 1024) : (win0_2.blk t).view.emb (ix3 a r x) = ix3 a r (col (jOf t) x) := by
  have h := idx2 t
  funext d; apply Fin.ext
  fin_cases d
  · refine (ValueKit.view_emb_slice_whole_unit_val _ _ _ _ _ _).trans ?_
    show win0_2.index t 0 * 1 + a.val = _
    rw [h]; show 0 * 1 + a.val = a.val; omega
  · refine (ValueKit.view_emb_slice_whole_unit_val _ _ _ _ _ _).trans ?_
    show win0_2.index t 1 * 2048 + r.val = _
    rw [h]; show 0 * 2048 + r.val = r.val; omega
  · refine (ValueKit.view_emb_slice_whole_unit_val _ _ _ _ _ _).trans ?_
    show win0_2.index t 2 * 1024 + x.val = _
    rw [h]; rfl

theorem emb3 (t : Fin grid0.N) (a : Fin 1) (r : Fin 2048) (x : Fin 128) : (win0_3.blk t).view.emb (ix3 a r x) = ix3 a r x := by
  have h := idx3 t
  funext d; apply Fin.ext
  fin_cases d
  · refine (ValueKit.view_emb_slice_whole_unit_val _ _ _ _ _ _).trans ?_
    show win0_3.index t 0 * 1 + a.val = _
    rw [h]; show 0 * 1 + a.val = a.val; omega
  · refine (ValueKit.view_emb_slice_whole_unit_val _ _ _ _ _ _).trans ?_
    show win0_3.index t 1 * 2048 + r.val = _
    rw [h]; show 0 * 2048 + r.val = r.val; omega
  · refine (ValueKit.view_emb_slice_whole_unit_val _ _ _ _ _ _).trans ?_
    show win0_3.index t 2 * 128 + x.val = _
    rw [h]; show 0 * 128 + x.val = x.val; omega

theorem emb4 (t : Fin grid0.N) (r : Fin 1) (x : Fin 1024) : (win0_4.blk t).view.emb (ix2 r x) = ix2 r (col (jOf t) x) := by
  have h := idx4 t
  funext d; apply Fin.ext
  fin_cases d
  · refine (ValueKit.view_emb_slice_whole_unit_val _ _ _ _ _ _).trans ?_
    show win0_4.index t 0 * 1 + r.val = _
    rw [h]; show 0 * 1 + r.val = r.val; omega
  · refine (ValueKit.view_emb_slice_whole_unit_val _ _ _ _ _ _).trans ?_
    show win0_4.index t 1 * 1024 + x.val = _
    rw [h]; rfl

theorem emb5 (t : Fin grid0.N) (r : Fin 1) (x : Fin 1024) : (win0_5.blk t).view.emb (ix2 r x) = ix2 r (col (jOf t) x) := by
  have h := idx5 t
  funext d; apply Fin.ext
  fin_cases d
  · refine (ValueKit.view_emb_slice_whole_unit_val _ _ _ _ _ _).trans ?_
    show win0_5.index t 0 * 1 + r.val = _
    rw [h]; show 0 * 1 + r.val = r.val; omega
  · refine (ValueKit.view_emb_slice_whole_unit_val _ _ _ _ _ _).trans ?_
    show win0_5.index t 1 * 1024 + x.val = _
    rw [h]; rfl

theorem emb6 (t : Fin grid0.N) (r : Fin 1) (x : Fin 128) : (win0_6.blk t).view.emb (ix2 r x) = ix2 r x := by
  have h := idx6 t
  funext d; apply Fin.ext
  fin_cases d
  · refine (ValueKit.view_emb_slice_whole_unit_val _ _ _ _ _ _).trans ?_
    show win0_6.index t 0 * 1 + r.val = _
    rw [h]; show 0 * 1 + r.val = r.val; omega
  · refine (ValueKit.view_emb_slice_whole_unit_val _ _ _ _ _ _).trans ?_
    show win0_6.index t 1 * 128 + x.val = _
    rw [h]; show 0 * 128 + x.val = x.val; omega

theorem emb7 (t : Fin grid0.N) (r : Fin 1024) (x : Fin 1024) : (win0_7.blk t).view.emb (ix2 r x) = ix2 (row (iOf t) r) (col (jOf t) x) := by
  have h := idx7 t
  funext d; apply Fin.ext
  fin_cases d
  · refine (ValueKit.view_emb_slice_whole_unit_val _ _ _ _ _ _).trans ?_
    show win0_7.index t 0 * 1024 + r.val = _
    rw [h]; rfl
  · refine (ValueKit.view_emb_slice_whole_unit_val _ _ _ _ _ _).trans ?_
    show win0_7.index t 1 * 1024 + x.val = _
    rw [h]; rfl

theorem emb8 (t : Fin grid0.N) (r : Fin 1024) (x : Fin 128) : (win0_8.blk t).view.emb (ix2 r x) = ix2 (row (iOf t) r) x := by
  have h := idx8 t
  funext d; apply Fin.ext
  fin_cases d
  · refine (ValueKit.view_emb_slice_whole_unit_val _ _ _ _ _ _).trans ?_
    show win0_8.index t 0 * 1024 + r.val = _
    rw [h]; rfl
  · refine (ValueKit.view_emb_slice_whole_unit_val _ _ _ _ _ _).trans ?_
    show win0_8.index t 1 * 128 + x.val = _
    rw [h]; show 0 * 128 + x.val = x.val; omega

theorem iblk0_at (t : Fin cfg0.N) (r : Fin 1024) (x : Fin 2048) : iblk m c 0 t (ix2 r x) = argX m c (ix3 (bat (row (iOf t) r)) (pos (row (iOf t) r)) x) := by
  show V m c main_v26 ((win0_0.blk t).view.emb (ix2 r x)) = _
  rw [emb0, V_x]
  exact flat_at (argX m c) (row (iOf t) r) x

theorem iblk1_at (t : Fin cfg0.N) (r : Fin 1) (x : Fin 2048) : iblk m c 1 t (ix2 r x) = argG m c (ix1 x) := by
  show V m c main_v27 ((win0_1.blk t).view.emb (ix2 r x)) = _
  rw [emb1, V_g]
  pointwise

theorem iblk2_at (t : Fin cfg0.N) (k : Fin 2048) (l : Fin 1024) : iblk m c 2 t (ix3 0 k l) = hostW (argW m c) (argU m c) (ix3 0 k (col (jOf t) l)) := by
  show V m c main_v4 ((win0_2.blk t).view.emb (ix3 0 k l)) = _
  rw [emb2, V_w]

theorem iblk3_at (t : Fin cfg0.N) (k : Fin 2048) (l : Fin 128) : iblk m c 3 t (ix3 0 k l) = hostF (argW m c) (ix3 0 k l) := by
  show V m c main_v9 ((win0_3.blk t).view.emb (ix3 0 k l)) = _
  rw [emb3, V_f]

theorem iblk4_at (t : Fin cfg0.N) (l : Fin 1024) : iblk m c 4 t (ix2 0 l) = hostC (argQ m c) (argK m c) (ix2 0 (col (jOf t) l)) := by
  show V m c main_v22 ((win0_4.blk t).view.emb (ix2 0 l)) = _
  rw [emb4, V_c]

theorem iblk5_at (t : Fin cfg0.N) (l : Fin 1024) : iblk m c 5 t (ix2 0 l) = hostB (argB m c) (ix2 0 (col (jOf t) l)) := by
  show V m c main_v25 ((win0_5.blk t).view.emb (ix2 0 l)) = _
  rw [emb5, V_b]

theorem iblk6_at (t : Fin cfg0.N) (l : Fin 128) : iblk m c 6 t (ix2 0 l) = hostP (argP m c) (ix2 0 l) := by
  show V m c main_v12 ((win0_6.blk t).view.emb (ix2 0 l)) = _
  rw [emb6, V_p]

end Cert.Prj

end
-- ==== Proof.Proj.Final.lean ====
/- The projection: the kernel's two result arrays hold the reference's results. -/
module

public import proofs.«01_k».proof.Proof.Proj.Host
public import proofs.«01_k».proof.Proof.Proj.Log

@[expose] public section

set_option maxRecDepth 16384

noncomputable section

namespace Cert.Prj

open Idealize.ShloMosaic Idealize.ShloMosaic.TcCoe Cert.ProjIdeal Cert.ProjIdeal.Gen

variable (m : (ℓ : Loc nD τ sig) → Buf (Elt Ideal) ℓ) (c : Dev nD)

theorem iOf_rowT (t : Fin cfg0.N) : iOf (rowT t) = iOf t := Fin.ext (by show t.val / 10 * 10 / 10 = t.val / 10; omega)

/-- The normalised rows of the first point are the reference's. -/
theorem nrm_row (t : Fin cfg0.N) (r : Fin 1024) (k : Fin 2048) :
    nrm (iblk m c 0 t) (iblk m c 1 t) (ix2 r k) = nrw (argX m c) (argG m c) (bat (row (iOf t) r)) (pos (row (iOf t) r)) k :=
  (nrm_at _ _ r k).trans (congrArg₂ (fun a g => nx a g k) (funext fun j => iblk0_at m c t r j) (funext fun j => iblk1_at m c t 0 j))

/-- The rows the scratch keeps are the reference's normalised rows. -/
theorem hRow_at (t : Fin cfg0.N) (r : Fin 1024) (k : Fin 2048) :
    hRow m c t (ix2 r k) = nrw (argX m c) (argG m c) (bat (row (iOf t) r)) (pos (row (iOf t) r)) k := by
  rw [hRow_eq, nrm_row, iOf_rowT]

/-- A product of a normalised row with a column of the weights. -/
theorem acc_at (t : Fin cfg0.N) (h : FVec Ideal S1024x2048 .bf16) (r l : Fin 1024) (j : Fin 6152)
    (hh : ∀ k, h (ix2 r k) = nrw (argX m c) (argG m c) (bat (row (iOf t) r)) (pos (row (iOf t) r)) k)
    (hw : ∀ k, hostW (argW m c) (argU m c) (ix3 0 k (col (jOf t) l)) = argW m c (ix2 k j)) :
    ∑ k : Fin 2048, h (ix2 r k) * (iblk m c 2 t : FVec Ideal S1x2048x1024 .bf16) (ix3 0 k l)
      = prj (argX m c) (argG m c) (argW m c) (bat (row (iOf t) r)) (pos (row (iOf t) r)) j :=
  Finset.sum_congr rfl fun k _ => congrArg₂ (· * ·) (hh k) ((iblk2_at m c t k l).trans (hw k))

/-- The reference's first result over the arguments. -/
abbrev specY : FVec Ideal S16384x10240 .bf16 :=
  Cert.ProjRefIdeal.Read.val_main_v72 (F := Ideal) (argX m c) (argG m c) (argW m c) (argQ m c) (argK m c) (argU m c) (argB m c)

/-- The reference's second result over the arguments. -/
abbrev specL : FVec Ideal S16384x128 .f32 :=
  Cert.ProjRefIdeal.Read.val_main_v73 (F := Ideal) (argX m c) (argG m c) (argW m c) (argP m c)

theorem col_eq (t : Fin cfg0.N) (i : Fin 10) (h : t.val % 10 = i.val) : jOf t = i := Fin.ext h

theorem w_lo (i : Fin 10) (hi : i.val < 3) (k : Fin 2048) (l : Fin 1024) :
    hostW (argW m c) (argU m c) (ix3 0 k (col i l)) = argW m c (ix2 k ⟨i.val * 1024 + l.val, by omega⟩) :=
  hostW_lo (argW m c) (argU m c) k ⟨i.val * 1024 + l.val, by omega⟩

theorem w_mid (i : Fin 10) (hi : 3 ≤ i.val) (hi' : i.val < 6) (k : Fin 2048) (l : Fin 1024) :
    hostW (argW m c) (argU m c) (ix3 0 k (col i l)) = argW m c (ix2 k ⟨i.val * 1024 + 8 + l.val, by omega⟩) := by
  refine Eq.trans ?_ ((hostW_mid (argW m c) (argU m c) k ⟨i.val * 1024 + l.val - 3072, by omega⟩).trans ?_)
  · exact congrArg (fun J => hostW (argW m c) (argU m c) (ix3 0 k J)) (Fin.ext (by show i.val * 1024 + l.val = 3072 + (i.val * 1024 + l.val - 3072); omega))
  · exact congrArg (fun J => argW m c (ix2 k J)) (Fin.ext (by show 3080 + (i.val * 1024 + l.val - 3072) = i.val * 1024 + 8 + l.val; omega))

/-- Block 0 of the columns: the heads' normalised products. -/
theorem y_0 (t : Fin cfg0.N) (h : t.val % 10 = 0) (r l : Fin 1024) : yAt m c t (ix2 r l) = specY m c (ix2 (row (iOf t) r) (col (jOf t) l)) := by
  have e : ∀ l : Fin 1024, col (jOf t) l = ⟨l.val, by omega⟩ := fun l => Fin.ext (by show t.val % 10 * 1024 + l.val = l.val; omega)
  rw [e l]
  refine Eq.trans ?_ (Cert.Prj.ref_y0 (argX m c) (argG m c) (argW m c) (argQ m c) (argK m c) (argU m c) (argB m c) (row (iOf t) r) l).symm
  rw [yA_eq m c t h]
  refine (heads_at _ _ r l).trans ?_
  rw [iblk4_at, e l, hostC_0]
  rw [← mul_assoc]
  refine congrArg₂ (· * ·) (congrArg₂ (· * ·) (congrArg (fun f => hd f (lnOf l)) (funext fun k => (pay2_at _ _ r _).trans (acc_at m c t _ r _ _ (nrm_row m c t r) fun k' => ?_))) rfl) rfl
  rw [col_eq t 0 h]
  refine (w_lo m c 0 (by decide) k' _).trans (congrArg (fun J => argW m c (ix2 k' J)) (Fin.ext ?_))
  show 0 * 1024 + (colOf (hdOf l) k).val = (colOf (hdOf l) k).val
  omega

/-- Block 1 of the columns: the heads' normalised products. -/
theorem y_1 (t : Fin cfg0.N) (h : t.val % 10 = 1) (r l : Fin 1024) : yAt m c t (ix2 r l) = specY m c (ix2 (row (iOf t) r) (col (jOf t) l)) := by
  have e : ∀ l : Fin 1024, col (jOf t) l = ⟨1024 + l.val, by omega⟩ := fun l => Fin.ext (by show t.val % 10 * 1024 + l.val = 1024 + l.val; omega)
  rw [e l]
  refine Eq.trans ?_ (Cert.Prj.ref_y1 (argX m c) (argG m c) (argW m c) (argQ m c) (argK m c) (argU m c) (argB m c) (row (iOf t) r) l).symm
  rw [yB_eq m c t h]
  refine (heads_at _ _ r l).trans ?_
  rw [iblk4_at, e l, hostC_1]
  refine congrArg₂ (· * ·) (congrArg (fun f => hd f (lnOf l)) (funext fun k => (pay2_at _ _ r _).trans (acc_at m c t _ r _ _ (hRow_at m c t r) fun k' => ?_))) rfl
  rw [col_eq t 1 h]
  refine (w_lo m c 1 (by decide) k' _).trans (congrArg (fun J => argW m c (ix2 k' J)) (Fin.ext ?_))
  show 1 * 1024 + (colOf (hdOf l) k).val = 1024 + (colOf (hdOf l) k).val
  omega

/-- Block 2 of the columns: the products. -/
theorem y_2 (t : Fin cfg0.N) (h : t.val % 10 = 2) (r l : Fin 1024) : yAt m c t (ix2 r l) = specY m c (ix2 (row (iOf t) r) (col (jOf t) l)) := by
  have e : col (jOf t) l = ⟨2048 + l.val, by omega⟩ := Fin.ext (by show t.val % 10 * 1024 + l.val = 2048 + l.val; omega)
  have hc : (iblk m c 4 t : FVec Ideal S1x1024 .f32) (ix2 0 l) = (1 : EReal) := by
    rw [iblk4_at, e]
    exact hostC_2 (argQ m c) (argK m c) l
  rw [e]
  refine Eq.trans ?_ (Cert.Prj.ref_y2 (argX m c) (argG m c) (argW m c) (argQ m c) (argK m c) (argU m c) (argB m c) (row (iOf t) r) l).symm
  rw [yC_eq m c t (by omega)]
  refine (pay4_at _ _ _ r l).trans ?_
  rw [hc, mul_one]
  refine acc_at m c t _ r l _ (hRow_at m c t r) fun k' => ?_
  rw [col_eq t 2 h]
  refine (w_lo m c 2 (by decide) k' _).trans (congrArg (fun J => argW m c (ix2 k' J)) (Fin.ext ?_))
  show 2 * 1024 + l.val = 2048 + l.val
  omega

/-- Block 3 of the columns: the products, times the scale. -/
theorem y_3 (t : Fin cfg0.N) (h : t.val % 10 = 3) (r l : Fin 1024) : yAt m c t (ix2 r l) = specY m c (ix2 (row (iOf t) r) (col (jOf t) l)) := by
  have e : col (jOf t) l = ⟨3072 + l.val, by omega⟩ := Fin.ext (by show t.val % 10 * 1024 + l.val = 3072 + l.val; omega)
  have hc : (iblk m c 4 t : FVec Ideal S1x1024 .f32) (ix2 0 l) = scl := by
    rw [iblk4_at, e]
    exact hostC_3 (argQ m c) (argK m c) l
  rw [e]
  refine Eq.trans ?_ (Cert.Prj.ref_y3 (argX m c) (argG m c) (argW m c) (argQ m c) (argK m c) (argU m c) (argB m c) (row (iOf t) r) l).symm
  rw [yC_eq m c t (by omega)]
  refine (pay4_at _ _ _ r l).trans ?_
  rw [hc]
  refine congrArg (· * scl) (acc_at m c t _ r l _ (hRow_at m c t r) fun k' => ?_)
  rw [col_eq t 3 h]
  refine (w_mid m c 3 (by decide) (by decide) k' _).trans (congrArg (fun J => argW m c (ix2 k' J)) (Fin.ext ?_))
  show 3 * 1024 + 8 + l.val = 3080 + l.val
  omega

/-- Block 4 of the columns: the products. -/
theorem y_4 (t : Fin cfg0.N) (h : t.val % 10 = 4) (r l : Fin 1024) : yAt m c t (ix2 r l) = specY m c (ix2 (row (iOf t) r) (col (jOf t) l)) := by
  have e : col (jOf t) l = ⟨4096 + l.val, by omega⟩ := Fin.ext (by show t.val % 10 * 1024 + l.val = 4096 + l.val; omega)
  have hc : (iblk m c 4 t : FVec Ideal S1x1024 .f32) (ix2 0 l) = (1 : EReal) := by
    rw [iblk4_at, e]
    exact hostC_4 (argQ m c) (argK m c) ⟨l.val, by omega⟩
  rw [e]
  refine Eq.trans ?_ (Cert.Prj.ref_y4 (argX m c) (argG m c) (argW m c) (argQ m c) (argK m c) (argU m c) (argB m c) (row (iOf t) r) l).symm
  rw [yC_eq m c t (by omega)]
  refine (pay4_at _ _ _ r l).trans ?_
  rw [hc, mul_one]
  refine acc_at m c t _ r l _ (hRow_at m c t r) fun k' => ?_
  rw [col_eq t 4 h]
  refine (w_mid m c 4 (by decide) (by decide) k' _).trans (congrArg (fun J => argW m c (ix2 k' J)) (Fin.ext ?_))
  show 4 * 1024 + 8 + l.val = 4104 + l.val
  omega

/-- Block 5 of the columns: the products. -/
theorem y_5 (t : Fin cfg0.N) (h : t.val % 10 = 5) (r l : Fin 1024) : yAt m c t (ix2 r l) = specY m c (ix2 (row (iOf t) r) (col (jOf t) l)) := by
  have e : col (jOf t) l = ⟨5120 + l.val, by omega⟩ := Fin.ext (by show t.val % 10 * 1024 + l.val = 5120 + l.val; omega)
  have hc : (iblk m c 4 t : FVec Ideal S1x1024 .f32) (ix2 0 l) = (1 : EReal) := by
    rw [iblk4_at, e]
    exact (congrArg (fun J => hostC (argQ m c) (argK m c) (ix2 0 J)) (Fin.ext (by show 5120 + l.val = 4096 + (1024 + l.val); omega))).trans (hostC_4 (argQ m c) (argK m c) ⟨1024 + l.val, by omega⟩)
  rw [e]
  refine Eq.trans ?_ (Cert.Prj.ref_y5 (argX m c) (argG m c) (argW m c) (argQ m c) (argK m c) (argU m c) (argB m c) (row (iOf t) r) l).symm
  rw [yC_eq m c t (by omega)]
  refine (pay4_at _ _ _ r l).trans ?_
  rw [hc, mul_one]
  refine acc_at m c t _ r l _ (hRow_at m c t r) fun k' => ?_
  rw [col_eq t 5 h]
  refine (w_mid m c 5 (by decide) (by decide) k' _).trans (congrArg (fun J => argW m c (ix2 k' J)) (Fin.ext ?_))
  show 5 * 1024 + 8 + l.val = 5128 + l.val
  omega

/-- The last blocks of the columns: the gates. -/
theorem y_6 (t : Fin cfg0.N) (h : 6 ≤ t.val % 10) (r l : Fin 1024) : yAt m c t (ix2 r l) = specY m c (ix2 (row (iOf t) r) (col (jOf t) l)) := by
  obtain ⟨f, hf⟩ : ∃ f : Fin 4096, t.val % 10 * 1024 + l.val = 6144 + f.val := ⟨⟨t.val % 10 * 1024 + l.val - 6144, by omega⟩, by show _ = 6144 + (t.val % 10 * 1024 + l.val - 6144); omega⟩
  have e : col (jOf t) l = ⟨6144 + f.val, by omega⟩ := Fin.ext hf
  have hw : ∀ k : Fin 2048, (iblk m c 2 t : FVec Ideal S1x2048x1024 .bf16) (ix3 0 k l) = argU m c (ix2 k f) := fun k => by
    rw [iblk2_at, e]
    exact hostW_hi (argW m c) (argU m c) k f
  have hb : (iblk m c 5 t : FVec Ideal S1x1024 .f32) (ix2 0 l) = argB m c (ix1 f) := by
    rw [iblk5_at, e]
    exact hostB_hi (argB m c) f
  rw [e]
  refine Eq.trans ?_ (Cert.Prj.ref_y6 (argX m c) (argG m c) (argW m c) (argQ m c) (argK m c) (argU m c) (argB m c) (row (iOf t) r) f).symm
  rw [yD_eq m c t h]
  refine (pay5_at _ _ _ r l).trans ?_
  rw [hb]
  exact congrArg (fun z => lgs (z + argB m c (ix1 f))) (Finset.sum_congr rfl fun k _ => congrArg₂ (· * ·) (hRow_at m c t r k) (hw k))

/-- Every point's block of the first result is the reference's. -/
theorem y_at (t : Fin cfg0.N) (r l : Fin 1024) : yAt m c t (ix2 r l) = specY m c (ix2 (row (iOf t) r) (col (jOf t) l)) := by
  by_cases h : 6 ≤ t.val % 10
  · exact y_6 m c t h r l
  · obtain h | h | h | h | h | h : t.val % 10 = 0 ∨ t.val % 10 = 1 ∨ t.val % 10 = 2 ∨ t.val % 10 = 3 ∨ t.val % 10 = 4 ∨ t.val % 10 = 5 := by omega
    · exact y_0 m c t h r l
    · exact y_1 m c t h r l
    · exact y_2 m c t h r l
    · exact y_3 m c t h r l
    · exact y_4 m c t h r l
    · exact y_5 m c t h r l

/-- The rows' log-forget gates are the reference's. -/
theorem l_at (t : Fin cfg0.N) (r : Fin 1024) (J : Fin 128) : lRow m c t (ix2 r J) = specL m c (ix2 (row (iOf t) r) J) := by
  refine Eq.trans ?_ (Cert.Prj.ref_log (argX m c) (argG m c) (argW m c) (argP m c) (row (iOf t) r) J).symm
  rw [lRow_eq]
  refine (pay1_at _ _ _ r J).trans (congrArg lsg ?_)
  rw [iblk6_at, hostP_at]
  have hs : ∀ k : Fin 2048, nrm (iblk m c 0 (rowT t)) (iblk m c 1 (rowT t)) (ix2 r k) * (iblk m c 3 (rowT t) : FVec Ideal S1x2048x128 .bf16) (ix3 0 k J)
      = nrw (argX m c) (argG m c) (bat (row (iOf t) r)) (pos (row (iOf t) r)) k * (if h : J.val < 8 then argW m c (ix2 k ⟨3072 + J.val, by omega⟩) else 0) := fun k => by
    rw [nrm_row, iOf_rowT, iblk3_at, hostF_at]
  rw [Finset.sum_congr rfl fun k _ => hs k]
  by_cases h : J.val < 8
  · simp only [dif_pos h]
    rfl
  · simp only [dif_neg h, mul_zero, Finset.sum_const_zero, add_zero]

/-- The kernel's first result array holds the reference's first result. -/
theorem final_y : (pdat (F := Ideal) m 0 c).arrAt 7 cfg0.N = specY m c := by
  refine (pdat (F := Ideal) m 0 c).arrAt_eq_of_covers 7 _ (by decide +kernel) fun t hf y => ?_
  blk_simp
  rw [pafter7]
  have hy : ∃ (r : Fin 1024) (x : Fin 1024), y = ix2 r x := ⟨y 0, y 1, funext fun a => by fin_cases a <;> rfl⟩
  obtain ⟨r, x, rfl⟩ := hy
  rw [emb7]
  exact y_at m c t r x

/-- The kernel's second result array holds the reference's second result. -/
theorem final_log : (pdat (F := Ideal) m 0 c).arrAt 8 cfg0.N = specL m c := by
  refine (pdat (F := Ideal) m 0 c).arrAt_eq_of_covers 8 _ (by decide +kernel) fun t hf y => ?_
  blk_simp
  rw [pafter8]
  have hy : ∃ (r : Fin 1024) (x : Fin 128), y = ix2 r x := ⟨y 0, y 1, funext fun a => by fin_cases a <;> rfl⟩
  obtain ⟨r, x, rfl⟩ := hy
  rw [emb8]
  exact l_at m c t r x

/-- The run ends with the two result arrays named and the arguments unchanged. -/
theorem run_results (ρ : Dev nD → PrngReg) : θ_run defs (onTc (τ := τ) (main (F := Ideal))) ⟨m, fun _ => 0, ρ⟩ fun r => ∀ c : Dev nD,
      r.2.mem ((c : Thread nD τ).loc main_v28_0) = (pdat m 0 c).arrAt 7 cfg0.N
      ∧ r.2.mem ((c : Thread nD τ).loc main_v28_1) = (pdat m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Prj

end
-- ==== Proof.Proj.Same.lean ====
/- The projection: the compiled program and the idealized one have the same text, so the frame of the one is the frame of the other. -/
module

public import proofs.«01_k».proof.Defs
public import proofs.«01_k».proof.Proof.Gen.Proj
public import proofs.«01_k».proof.Proof.Proj.Body

@[expose] public section

set_option maxRecDepth 16384
set_option maxHeartbeats 4000000

noncomputable section

namespace Cert.Prj

open Idealize.ShloMosaic Idealize.ShloMosaic.TcCoe

/-- The two programs' body tables are one. -/
theorem same_body : @Cert.Proj.defs₀ Bits _ _ = @Cert.ProjIdeal.defs₀ Bits _ _ := by
  unfold Cert.Proj.defs₀ Cert.ProjIdeal.defs₀
  refine congrArg Defs.onTc ?_
  funext l a
  match l with
  | 0 =>
    obtain ⟨t, s⟩ := a
    rfl

/-- The two programs' tables, with the call's pipeline, are one. -/
theorem same_defs : Cert.Proj.defs (F := Bits) = Cert.ProjIdeal.defs (F := Bits) :=
  congrArg (Pipeline.defs Cert.ProjIdeal.pcfgs) same_body

/-- The two programs' main functions are one. -/
theorem same_main : Cert.Proj.main (F := Bits) = Cert.ProjIdeal.main (F := Bits) := rfl

/-- The projection call, as compiled, runs to its end, keeps its arguments and leaves every semaphore at zero. -/
theorem frame_compiled : Cert.quiescent_Proj := by
  intro m g _
  have h := Cert.Prj.frame (F := Bits) m g
  rw [← same_defs, ← same_main] at h
  exact h

end Cert.Prj

end
-- ==== Proof.Ffn.Words.lean ====
/- The feed-forward block: what the body leaves at a grid point, from what it finds. -/
module

public import proofs.«01_k».proof.Proof.Gen.FfnIdeal.Value
public import Idealize.ShloMosaic.Lib.Pointwise
public import Idealize.ShloMosaic.Lib.Pipeline.ValueKit
public import Idealize.ShloMosaic.Lib.Pipeline.ReadBack
public import Idealize.ShloMosaic.Lib.Writes
public import Idealize.ShloMosaic.Lib.WritesUnit

@[expose] public section

set_option maxRecDepth 16384

noncomputable section

namespace Cert.Ffw

open Idealize.ShloMosaic Idealize.ShloMosaic.TcCoe Cert.FfnIdeal Cert.FfnIdeal.Gen

theorem hz : (![0, 0] : Fin 2 → ℕ) = fun _ => 0 := funext fun a => by fin_cases a <;> rfl

/-- At a point that is not the first of its rows, the output block gains the point's product. -/
theorem out_B (c : Dev nD) (i : grid0.Coords) (a2 : Memref sig .tc .vmem S512x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S512x2048 .f32) (h7 : a7.IsWhole) (a8 : Memref sig .tc .vmem S512x2048 .bf16) (h8 : a8.IsWhole) (hc : ¬cond0_0 i) (x0 : Vec Ideal S512x2048 .f32) (x1 : Vec Ideal S1x2048 .f32) (x2 x3 : Vec Ideal S2048x512 .bf16) (x4 : Vec Ideal S512x2048 .bf16) (xo : Vec Ideal S512x2048 .f32) (xs0 : Vec Ideal S512x2048 .bf16) :
    out0_B_5 c i a2 h2 a3 h3 a4 h4 a5 h5 a6 h6 a7 h7 a8 h8 hc x0 x1 x2 x3 x4 xo xs0 = k0_pay2 (F := Ideal) xo xs0 x2 x3 x4 := by
  unfold out0_B_5
  rw [View.read_writes_eq_canon _ _ _ (cover0_B_5 c i a2 h2 a3 h3 a4 h4 a5 h5 a6 h6 a7 h7 a8 h8 hc x0 x1 x2 x3 x4 xo xs0)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S512x2048) hz, View.ld_unit_zero (S := S1x2048) hz, View.ld_unit_zero (S := S2048x512) hz]

/-- The normalised rows the first point of the rows stores: its two halves. -/
def nrm (x0 : Vec Ideal S512x2048 .f32) (x1 : Vec Ideal S1x2048 .f32) : Vec Ideal S512x2048 .bf16 :=
  View.canon [⟨Rect.unit (s := S512x2048) ![256, 0] S256x2048.size inb_S512x2048_S256x2048_256_0, k0_pay4 (View.ld x0 (Rect.unit (s := S512x2048) ![256, 0] S256x2048.size inb_S512x2048_S256x2048_256_0)) x1⟩,
    ⟨Rect.unit (s := S512x2048) ![0, 0] S256x2048.size inb_S512x2048_S256x2048_0_0, k0_pay3 (View.ld x0 (Rect.unit (s := S512x2048) ![0, 0] S256x2048.size inb_S512x2048_S256x2048_0_0)) x1⟩]

/-- At the first point of its rows, the scratch takes the normalised rows. -/
theorem sout_A (c : Dev nD) (i : grid0.Coords) (a2 : Memref sig .tc .vmem S512x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S512x2048 .f32) (h7 : a7.IsWhole) (a8 : Memref sig .tc .vmem S512x2048 .bf16) (h8 : a8.IsWhole) (hc : cond0_0 i) (x0 : Vec Ideal S512x2048 .f32) (x1 : Vec Ideal S1x2048 .f32) (x2 x3 : Vec Ideal S2048x512 .bf16) (x4 : Vec Ideal S512x2048 .bf16) :
    sout0_A_0 c i a2 h2 a3 h3 a4 h4 a5 h5 a6 h6 a7 h7 a8 h8 hc x0 x1 x2 x3 x4 = nrm x0 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  simp only [View.readAt_eq_ld, h2.read_unread, h3.read_unread, h4.read_unread, h5.read_unread, h6.read_unread, h7.read_unread, h8.read_unread, View.ld_unit_zero (S := S512x2048) hz, View.ld_unit_zero (S := S1x2048) hz, View.ld_unit_zero (S := S2048x512) hz]
  rfl

/-- At the first point of its rows, the output block is the rows themselves and the point's product. -/
theorem out_A (c : Dev nD) (i : grid0.Coords) (a2 : Memref sig .tc .vmem S512x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S512x2048 .f32) (h7 : a7.IsWhole) (a8 : Memref sig .tc .vmem S512x2048 .bf16) (h8 : a8.IsWhole) (hc : cond0_0 i) (x0 : Vec Ideal S512x2048 .f32) (x1 : Vec Ideal S1x2048 .f32) (x2 x3 : Vec Ideal S2048x512 .bf16) (x4 : Vec Ideal S512x2048 .bf16) :
    out0_A_5 c i a2 h2 a3 h3 a4 h4 a5 h5 a6 h6 a7 h7 a8 h8 hc x0 x1 x2 x3 x4 = k0_pay2 (F := Ideal) x0 (nrm x0 x1) x2 x3 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S512x2048) hz]
  simp only [View.readAt_eq_ld, h2.read_unread, h3.read_unread, h4.read_unread, h5.read_unread, h6.read_unread, h7.read_unread, h8.read_unread, View.ld_unit_zero (S := S512x2048) hz, View.ld_unit_zero (S := S1x2048) hz, View.ld_unit_zero (S := S2048x512) hz]
  rw [View.readCov_unit_zero (S := S512x2048) _ hz]
  unfold View.readCov
  rw [View.readAt_eq_ld, View.read_writes_junk_eq_canon, View.ld_unit_zero (S := S512x2048) hz]
  have h : k0_pay1 (F := Ideal) x0 = x0 := by unfold k0_pay1; exact shapeCast_self _ _
  rw [h]
  rfl

end Cert.Ffw

end
-- ==== Proof.Ffn.Final.lean ====
/- The feed-forward block: the kernel's result array is the reference's. -/
module

public import proofs.«01_k».proof.Proof.Gen.FfnIdeal.Value
public import proofs.«01_k».proof.Proof.Gen.FfnRefIdeal.Read
public import proofs.«01_k».proof.Proof.Ffn.Words
public import Idealize.ShloMosaic.Lib.Pointwise
public import Idealize.ShloMosaic.Lib.Pipeline.ValueKit
public import Idealize.ShloMosaic.Lib.Pipeline.ReadBack
public import Idealize.ShloMosaic.Lib.Writes
public import Idealize.ShloMosaic.Lib.WritesUnit

@[expose] public section

set_option maxRecDepth 16384

noncomputable section

namespace Cert.Ffw

open Idealize.ShloMosaic Idealize.ShloMosaic.TcCoe Cert.FfnIdeal Cert.FfnIdeal.Gen

/-- A flat row splits into its batch entry and its position. -/
abbrev bat (R : Fin 16384) : Fin 4 := ⟨R.val / 4096, by omega⟩
abbrev pos (R : Fin 16384) : Fin 4096 := ⟨R.val % 4096, by omega⟩

/-- The batch entries laid one under the other, at an index. -/
theorem flat_at (X : FVec Ideal S4x4096x2048 .f32) (R : Fin 16384) (x : Fin 2048) :
    shapeCast S16384x2048 X shapeCasts_S4x4096x2048_S16384x2048 (ix2 R x) = X (ix3 (bat R) (pos R) x) := by
  refine shapeCast_apply X _ (ix2 R x) (ix3 (bat R) (pos R) x) ?_
  rewrite [Shape.rowMajor_val_three, Shape.rowMajor_val_two]
  show (R.val / 4096 * 4096 + R.val % 4096) * 2048 + x.val = R.val * 2048 + x.val
  omega

/-- A row divided by the root of its mean square, times the gain. -/
def nx (a g : Fin 2048 → EReal) (k : Fin 2048) : EReal :=
  a k * Ideal.rsqrt (Ideal.div (∑ j : Fin 2048, a j * a j) (Ideal.ofBits .f32 0x45000000#32) + Ideal.ofBits .f32 0x358637BD#32) * g k

/-- The gated unit: `p` times its logistic, times `q`. -/
def act (p q : EReal) : EReal :=
  p * Ideal.div (Ideal.ofBits .f32 0x3F800000#32) (Ideal.ofBits .f32 0x3F800000#32 + Ideal.exp (-p)) * q

/-- One hidden unit of a normalised row. -/
def hid (n : Fin 2048 → EReal) (w v : Fin 2048 → EReal) : EReal := act (∑ k : Fin 2048, n k * w k) (∑ k : Fin 2048, n k * v k)

/-- The normalised row `R`. -/
abbrev nrow (X : FVec Ideal S4x4096x2048 .f32) (g : FVec Ideal S2048 .f32) (R : Fin 16384) : Fin 2048 → EReal :=
  nx (fun j => X (ix3 (bat R) (pos R) j)) (fun j => g (ix1 j))

/-- Hidden unit `f` of row `R`, times its weight to column `x`. -/
def term (X : FVec Ideal S4x4096x2048 .f32) (g : FVec Ideal S2048 .f32) (W1 W3 : FVec Ideal S2048x5632 .f32) (W2 : FVec Ideal S5632x2048 .f32) (R : Fin 16384) (x : Fin 2048) (f : Fin 5632) : EReal :=
  hid (nrow X g R) (fun k => W1 (ix2 k f)) (fun k => W3 (ix2 k f)) * W2 (ix2 f x)

/-- What the call computes at row `R`, column `x`. -/
def spec (X : FVec Ideal S4x4096x2048 .f32) (g : FVec Ideal S2048 .f32) (W1 W3 : FVec Ideal S2048x5632 .f32) (W2 : FVec Ideal S5632x2048 .f32) (R : Fin 16384) (x : Fin 2048) : EReal :=
  X (ix3 (bat R) (pos R) x) + ∑ f : Fin 5632, term X g W1 W3 W2 R x f

section Ref
open Cert.FfnRefIdeal.Read

theorem ref_n (X : FVec Ideal S4x4096x2048 .f32) (g : FVec Ideal S2048 .f32) (b : Fin 4) (s : Fin 4096) (k : Fin 2048) :
    val_main_v12 (F := Ideal) X g (ix3 b s k) = nx (fun j => X (ix3 b s j)) (fun j => g (ix1 j)) k := by
  have hg : val_main_v11 (F := Ideal) g (ix3 b s k) = g (ix1 k) := by
    rw [val_main_v11_apply, val_main_v10_apply]
    exact congrArg g (funext fun a => by fin_cases a; rfl)
  have hs : (∑ j : Fin 2048, val_main_v0 (F := Ideal) X (idx_main_v1 (idx_main_v2 (idx_main_v8 (ix3 b s k))) j)) = ∑ j : Fin 2048, (X (ix3 b s j) * X (ix3 b s j) : EReal) := by
    refine Finset.sum_congr rfl fun j _ => ?_
    have e : idx_main_v1 (idx_main_v2 (idx_main_v8 (ix3 b s k))) j = ix3 b s j := funext fun a => by fin_cases a <;> rfl
    rw [e]; rfl
  rw [val_main_v12_apply, val_main_v9_apply, val_main_v8_apply, val_main_v7_apply, val_main_v6_apply, val_main_v5_apply, val_main_cst_1_apply, val_main_v4_apply, val_main_v3_apply, val_main_cst_0_apply, val_main_v2_apply, val_main_v1_apply, val_main_cst_apply, hg, hs]
  pointwise
  rfl

theorem ref_h (X : FVec Ideal S4x4096x2048 .f32) (g : FVec Ideal S2048 .f32) (W1 W3 : FVec Ideal S2048x5632 .f32) (b : Fin 4) (s : Fin 4096) (f : Fin 5632) :
    val_main_v16 (F := Ideal) X g W1 W3 (ix3 b s f) = hid (nx (fun j => X (ix3 b s j)) (fun j => g (ix1 j))) (fun k => W1 (ix2 k f)) (fun k => W3 (ix2 k f)) := by
  have h1 : val_main_v13 (F := Ideal) X g W1 (ix3 b s f) = ∑ k : Fin 2048, nx (fun j => X (ix3 b s j)) (fun j => g (ix1 j)) k * W1 (ix2 k f) := by
    rw [val_main_v13_apply]
    refine Finset.sum_congr rfl fun k _ => congrArg₂ (· * ·) ?_ ?_
    · rw [← ref_n]; exact congrArg _ (funext fun a => by fin_cases a <;> rfl)
    · exact congrArg W1 (funext fun a => by fin_cases a <;> rfl)
  have h3 : val_main_v15 (F := Ideal) X g W3 (ix3 b s f) = ∑ k : Fin 2048, nx (fun j => X (ix3 b s j)) (fun j => g (ix1 j)) k * W3 (ix2 k f) := by
    rw [val_main_v15_apply]
    refine Finset.sum_congr rfl fun k _ => congrArg₂ (· * ·) ?_ ?_
    · rw [← ref_n]; exact congrArg _ (funext fun a => by fin_cases a <;> rfl)
    · exact congrArg W3 (funext fun a => by fin_cases a <;> rfl)
  rw [val_main_v16_apply, val_main_v14_apply, val_main_call0_v5_apply, val_main_call0_v4_apply, val_main_call0_v3_apply, val_main_call0_v2_apply, val_main_call0_cst_apply, val_main_call0_cst_0_apply, val_main_call0_v1_apply, val_main_call0_v0_apply, h1, h3]
  rfl

/-- The reference at an index. -/
theorem ref_at (X : FVec Ideal S4x4096x2048 .f32) (g : FVec Ideal S2048 .f32) (W1 W3 : FVec Ideal S2048x5632 .f32) (W2 : FVec Ideal S5632x2048 .f32) (R : Fin 16384) (x : Fin 2048) :
    val_main_v19 (F := Ideal) X g W1 W3 W2 (ix2 R x) = spec X g W1 W3 W2 R x := by
  refine (flat_at (val_main_v18 (F := Ideal) X g W1 W3 W2) R x).trans ?_
  rw [val_main_v18_apply, val_main_v17_apply]
  refine congrArg₂ (· + ·) rfl (Finset.sum_congr rfl fun f _ => congrArg₂ (· * ·) ?_ ?_)
  · rw [← ref_h]; exact congrArg _ (funext fun a => by fin_cases a <;> rfl)
  · exact congrArg W2 (funext fun a => by fin_cases a <;> rfl)

end Ref

/-- A sum over the hidden units is the sum over the blocks of hidden units. -/
theorem sum_blocks (f : Fin 5632 → EReal) : ∑ e : Fin 11, ∑ l : Fin 512, f ⟨e.val * 512 + l.val, by omega⟩ = ∑ j : Fin 5632, f j := by
  rw [← Fintype.sum_prod_type']
  refine Fintype.sum_equiv (finProdFinEquiv (m := 11) (n := 512)) _ _ fun p => congrArg f (Fin.ext ?_)
  show p.1.val * 512 + p.2.val = p.2.val + 512 * p.1.val
  omega

variable (m : (ℓ : Loc nD τ sig) → Buf (Elt Ideal) ℓ) (c : Dev nD)

abbrev argX : FVec Ideal S4x4096x2048 .f32 := m ((c : Thread nD τ).loc main_arg0)
abbrev argG : FVec Ideal S2048 .f32 := m ((c : Thread nD τ).loc main_arg1)
abbrev argW1 : FVec Ideal S2048x5632 .f32 := m ((c : Thread nD τ).loc main_arg2)
abbrev argW3 : FVec Ideal S2048x5632 .f32 := m ((c : Thread nD τ).loc main_arg3)
abbrev argW2 : FVec Ideal S5632x2048 .f32 := m ((c : Thread nD τ).loc main_arg4)

theorem V_x : V m c main_v0 = shapeCast S16384x2048 (argX m c) shapeCasts_S4x4096x2048_S16384x2048 := by
  unfold V
  simp only [hostOps0, List.flatten_cons, List.flatten_nil, List.cons_append, List.nil_append, List.append_nil]
  after_results
  rfl

theorem V_g : V m c main_v1 = shapeCast S1x2048 (argG m c) shapeCasts_S2048_S1x2048 := by
  unfold V
  simp only [hostOps0, List.flatten_cons, List.flatten_nil, List.cons_append, List.nil_append, List.append_nil]
  after_results
  rfl

theorem V_w1 : V m c main_v2 = truncf (F := Ideal) .bf16 (argW1 m c) bitsLt_bf16_f32 := by
  unfold V
  simp only [hostOps0, List.flatten_cons, List.flatten_nil, List.cons_append, List.nil_append, List.append_nil]
  after_results

theorem V_w3 : V m c main_v3 = truncf (F := Ideal) .bf16 (argW3 m c) bitsLt_bf16_f32 := by
  unfold V
  simp only [hostOps0, List.flatten_cons, List.flatten_nil, List.cons_append, List.nil_append, List.append_nil]
  after_results

theorem V_w2 : V m c main_v4 = truncf (F := Ideal) .bf16 (argW2 m c) bitsLt_bf16_f32 := by
  unfold V
  simp only [hostOps0, List.flatten_cons, List.flatten_nil, List.cons_append, List.nil_append, List.append_nil]
  after_results

/-- The block of rows and the block of hidden units of a grid point. -/
def iOf (t : Fin grid0.N) : Fin 32 := ⟨t.val / 11, by have h : t.val < 352 := t.isLt; omega⟩
def eOf (t : Fin grid0.N) : Fin 11 := ⟨t.val % 11, by omega⟩

theorem idx0 : ∀ t : Fin grid0.N, win0_0.index t = ![(iOf t).val, 0] := by decide +kernel
theorem idx1 : ∀ t : Fin grid0.N, win0_1.index t = ![0, 0] := by decide +kernel
theorem idx2 : ∀ t : Fin grid0.N, win0_2.index t = ![0, (eOf t).val] := by decide +kernel
theorem idx3 : ∀ t : Fin grid0.N, win0_3.index t = ![0, (eOf t).val] := by decide +kernel
theorem idx4 : ∀ t : Fin grid0.N, win0_4.index t = ![(eOf t).val, 0] := by decide +kernel
theorem idx5 : ∀ t : Fin grid0.N, win0_5.index t = ![(iOf t).val, 0] := by decide +kernel

/-- The flat row of an element of a block of rows, and the hidden unit of an element of a block of them. -/
abbrev row (i : Fin 32) (r : Fin 512) : Fin 16384 := ⟨i.val * 512 + r.val, by omega⟩
abbrev unit (e : Fin 11) (l : Fin 512) : Fin 5632 := ⟨e.val * 512 + l.val, by omega⟩

theorem emb0 (t : Fin grid0.N) (r : Fin 512) (x : Fin 2048) : (win0_0.blk t).view.emb (ix2 r x) = ix2 (row (iOf t) r) x := by
  have h := idx0 t
  funext a; apply Fin.ext
  fin_cases a
  · refine (ValueKit.view_emb_slice_whole_unit_val _ _ _ _ _ _).trans ?_
    show win0_0.index t 0 * 512 + r.val = _
    rw [h]; rfl
  · refine (ValueKit.view_emb_slice_whole_unit_val _ _ _ _ _ _).trans ?_
    show win0_0.index t 1 * 2048 + x.val = _
    rw [h]; show 0 * 2048 + x.val = x.val; omega

theorem emb1 (t : Fin grid0.N) (r : Fin 1) (x : Fin 2048) : (win0_1.blk t).view.emb (ix2 r x) = ix2 r x := by
  have h := idx1 t
  funext a; apply Fin.ext
  fin_cases a
  · refine (ValueKit.view_emb_slice_whole_unit_val _ _ _ _ _ _).trans ?_
    show win0_1.index t 0 * 1 + r.val = _
    rw [h]; show 0 * 1 + r.val = r.val; omega
  · refine (ValueKit.view_emb_slice_whole_unit_val _ _ _ _ _ _).trans ?_
    show win0_1.index t 1 * 2048 + x.val = _
    rw [h]; show 0 * 2048 + x.val = x.val; omega

theorem emb2 (t : Fin grid0.N) (r : Fin 2048) (x : Fin 512) : (win0_2.blk t).view.emb (ix2 r x) = ix2 r (unit (eOf t) x) := by
  have h := idx2 t
  funext a; apply Fin.ext
  fin_cases a
  · refine (ValueKit.view_emb_slice_whole_unit_val _ _ _ _ _ _).trans ?_
    show win0_2.index t 0 * 2048 + r.val = _
    rw [h]; show 0 * 2048 + r.val = r.val; omega
  · refine (ValueKit.view_emb_slice_whole_unit_val _ _ _ _ _ _).trans ?_
    show win0_2.index t 1 * 512 + x.val = _
    rw [h]; rfl

theorem emb3 (t : Fin grid0.N) (r : Fin 2048) (x : Fin 512) : (win0_3.blk t).view.emb (ix2 r x) = ix2 r (unit (eOf t) x) := by
  have h := idx3 t
  funext a; apply Fin.ext
  fin_cases a
  · refine (ValueKit.view_emb_slice_whole_unit_val _ _ _ _ _ _).trans ?_
    show win0_3.index t 0 * 2048 + r.val = _
    rw [h]; show 0 * 2048 + r.val = r.val; omega
  · refine (ValueKit.view_emb_slice_whole_unit_val _ _ _ _ _ _).trans ?_
    show win0_3.index t 1 * 512 + x.val = _
    rw [h]; rfl

theorem emb4 (t : Fin grid0.N) (r : Fin 512) (x : Fin 2048) : (win0_4.blk t).view.emb (ix2 r x) = ix2 (unit (eOf t) r) x := by
  have h := idx4 t
  funext a; apply Fin.ext
  fin_cases a
  · refine (ValueKit.view_emb_slice_whole_unit_val _ _ _ _ _ _).trans ?_
    show win0_4.index t 0 * 512 + r.val = _
    rw [h]; rfl
  · refine (ValueKit.view_emb_slice_whole_unit_val _ _ _ _ _ _).trans ?_
    show win0_4.index t 1 * 2048 + x.val = _
    rw [h]; show 0 * 2048 + x.val = x.val; omega

theorem emb5 (t : Fin grid0.N) (r : Fin 512) (x : Fin 2048) : (win0_5.blk t).view.emb (ix2 r x) = ix2 (row (iOf t) r) x := by
  have h := idx5 t
  funext a; apply Fin.ext
  fin_cases a
  · refine (ValueKit.view_emb_slice_whole_unit_val _ _ _ _ _ _).trans ?_
    show win0_5.index t 0 * 512 + r.val = _
    rw [h]; rfl
  · refine (ValueKit.view_emb_slice_whole_unit_val _ _ _ _ _ _).trans ?_
    show win0_5.index t 1 * 2048 + x.val = _
    rw [h]; show 0 * 2048 + x.val = x.val; omega

theorem iblk0_at (t : Fin cfg0.N) (r : Fin 512) (x : Fin 2048) : iblk m c 0 t (ix2 r x) = argX m c (ix3 (bat (row (iOf t) r)) (pos (row (iOf t) r)) x) := by
  show V m c main_v0 ((win0_0.blk t).view.emb (ix2 r x)) = _
  rw [emb0, V_x]
  exact flat_at (argX m c) (row (iOf t) r) x

theorem iblk1_at (t : Fin cfg0.N) (r : Fin 1) (x : Fin 2048) : iblk m c 1 t (ix2 r x) = argG m c (ix1 x) := by
  show V m c main_v1 ((win0_1.blk t).view.emb (ix2 r x)) = _
  rw [emb1, V_g]
  pointwise

theorem iblk2_at (t : Fin cfg0.N) (r : Fin 2048) (x : Fin 512) : iblk m c 2 t (ix2 r x) = argW1 m c (ix2 r (unit (eOf t) x)) := by
  show V m c main_v2 ((win0_2.blk t).view.emb (ix2 r x)) = _
  rw [emb2, V_w1]
  rfl

theorem iblk3_at (t : Fin cfg0.N) (r : Fin 2048) (x : Fin 512) : iblk m c 3 t (ix2 r x) = argW3 m c (ix2 r (unit (eOf t) x)) := by
  show V m c main_v3 ((win0_3.blk t).view.emb (ix2 r x)) = _
  rw [emb3, V_w3]
  rfl

theorem iblk4_at (t : Fin cfg0.N) (r : Fin 512) (x : Fin 2048) : iblk m c 4 t (ix2 r x) = argW2 m c (ix2 (unit (eOf t) r) x) := by
  show V m c main_v4 ((win0_4.blk t).view.emb (ix2 r x)) = _
  rw [emb4, V_w2]
  rfl

/-- The first half's stored rows at an index. -/
theorem pay3_at (x : FVec Ideal S256x2048 .f32) (g : FVec Ideal S1x2048 .f32) (r : Fin 256) (k : Fin 2048) :
    k0_pay3 (F := Ideal) x g (ix2 r k) = nx (fun j => x (ix2 r j)) (fun j => g (ix2 0 j)) k := by
  unfold nx
  pointwise [k0_pay3]

/-- The second half's stored rows at an index. -/
theorem pay4_at (x : FVec Ideal S256x2048 .f32) (g : FVec Ideal S1x2048 .f32) (r : Fin 256) (k : Fin 2048) :
    k0_pay4 (F := Ideal) x g (ix2 r k) = nx (fun j => x (ix2 r j)) (fun j => g (ix2 0 j)) k := by
  unfold nx
  pointwise [k0_pay4]

theorem lo_emb (r : Fin 512) (h : r.val < 256) (k : Fin 2048) : (ix2 r k : S512x2048.Idx)
    = (Rect.unit (s := S512x2048) ![0, 0] S256x2048.size inb_S512x2048_S256x2048_0_0).emb (ix2 (⟨r.val, h⟩ : Fin 256) k) :=
  funext fun a => by fin_cases a <;> apply Fin.ext <;> simp

theorem hi_emb (r : Fin 512) (h : ¬r.val < 256) (k : Fin 2048) : (ix2 r k : S512x2048.Idx)
    = (Rect.unit (s := S512x2048) ![256, 0] S256x2048.size inb_S512x2048_S256x2048_256_0).emb (ix2 (⟨r.val - 256, by omega⟩ : Fin 256) k) :=
  funext fun a => by fin_cases a <;> apply Fin.ext <;> simp <;> omega

theorem lo_not (r : Fin 512) (h : r.val < 256) (k : Fin 2048) :
    (ix2 r k : S512x2048.Idx) ∉ (Rect.unit (s := S512x2048) ![256, 0] S256x2048.size inb_S512x2048_S256x2048_256_0).set := by
  rw [Rect.mem_set_unit]
  intro hh
  have h1 : 256 ≤ r.val := (hh 0).1
  omega

theorem two_lo (p q : S256x2048.Idx → Elt Ideal .bf16) (r : Fin 512) (h : r.val < 256) (k : Fin 2048) :
    View.canon [(⟨Rect.unit (s := S512x2048) ![256, 0] S256x2048.size inb_S512x2048_S256x2048_256_0, q⟩ : View.Piece (Elt Ideal) S512x2048 .bf16), ⟨Rect.unit (s := S512x2048) ![0, 0] S256x2048.size inb_S512x2048_S256x2048_0_0, p⟩] (ix2 r k) = p (ix2 ⟨r.val, h⟩ k) := by
  refine (View.canon_cons_of_not_mem (⟨Rect.unit (s := S512x2048) ![256, 0] S256x2048.size inb_S512x2048_S256x2048_256_0, q⟩ : View.Piece (Elt Ideal) S512x2048 .bf16) [(⟨Rect.unit (s := S512x2048) ![0, 0] S256x2048.size inb_S512x2048_S256x2048_0_0, p⟩ : View.Piece (Elt Ideal) S512x2048 .bf16)] (lo_not r h k)).trans ?_
  refine (congrArg (View.canon [(⟨Rect.unit (s := S512x2048) ![0, 0] S256x2048.size inb_S512x2048_S256x2048_0_0, p⟩ : View.Piece (Elt Ideal) S512x2048 .bf16)]) (lo_emb r h k)).trans ?_
  exact View.canon_cons_emb (Rect.unit (s := S512x2048) ![0, 0] S256x2048.size inb_S512x2048_S256x2048_0_0) p [] (ix2 (⟨r.val, h⟩ : Fin 256) k)

theorem two_hi (p q : S256x2048.Idx → Elt Ideal .bf16) (r : Fin 512) (h : ¬r.val < 256) (k : Fin 2048) :
    View.canon [(⟨Rect.unit (s := S512x2048) ![256, 0] S256x2048.size inb_S512x2048_S256x2048_256_0, q⟩ : View.Piece (Elt Ideal) S512x2048 .bf16), ⟨Rect.unit (s := S512x2048) ![0, 0] S256x2048.size inb_S512x2048_S256x2048_0_0, p⟩] (ix2 r k) = q (ix2 ⟨r.val - 256, by omega⟩ k) := by
  refine (congrArg (View.canon [(⟨Rect.unit (s := S512x2048) ![256, 0] S256x2048.size inb_S512x2048_S256x2048_256_0, q⟩ : View.Piece (Elt Ideal) S512x2048 .bf16), (⟨Rect.unit (s := S512x2048) ![0, 0] S256x2048.size inb_S512x2048_S256x2048_0_0, p⟩ : View.Piece (Elt Ideal) S512x2048 .bf16)]) (hi_emb r h k)).trans ?_
  exact View.canon_cons_emb (Rect.unit (s := S512x2048) ![256, 0] S256x2048.size inb_S512x2048_S256x2048_256_0) q _ (ix2 (⟨r.val - 256, by omega⟩ : Fin 256) k)

/-- The normalised rows at an index. -/
theorem nrm_at (x0 : FVec Ideal S512x2048 .f32) (x1 : FVec Ideal S1x2048 .f32) (r : Fin 512) (k : Fin 2048) :
    nrm x0 x1 (ix2 r k) = nx (fun j => x0 (ix2 r j)) (fun j => x1 (ix2 0 j)) k := by
  unfold nrm
  by_cases h : r.val < 256
  · refine (two_lo _ _ r h k).trans ?_
    refine (pay3_at _ x1 ⟨r.val, h⟩ k).trans ?_
    exact congrArg (fun a => nx a _ k) (funext fun j => congrArg x0 (lo_emb r h j).symm)
  · refine (two_hi _ _ r h k).trans ?_
    refine (pay4_at _ x1 ⟨r.val - 256, by omega⟩ k).trans ?_
    exact congrArg (fun a => nx a _ k) (funext fun j => congrArg x0 (hi_emb r h j).symm)

/-- The product of a point added to the output block, at an index. -/
theorem pay2_at (a : FVec Ideal S512x2048 .f32) (n : FVec Ideal S512x2048 .bf16) (w v : FVec Ideal S2048x512 .bf16) (u : FVec Ideal S512x2048 .bf16) (r : Fin 512) (x : Fin 2048) :
    k0_pay2 (F := Ideal) a n w v u (ix2 r x) = a (ix2 r x) + ∑ l : Fin 512, hid (fun k => n (ix2 r k)) (fun k => w (ix2 k l)) (fun k => v (ix2 k l)) * u (ix2 l x) := by
  unfold hid act
  pointwise [k0_pay2]
  simp only [zero_sub]

/-- The product of block `e` of the hidden units, for row `R` and column `x`. -/
def part (R : Fin 16384) (x : Fin 2048) (e : ℕ) : EReal :=
  if h : e < 11 then ∑ l : Fin 512, term (argX m c) (argG m c) (argW1 m c) (argW3 m c) (argW2 m c) R x (unit ⟨e, h⟩ l) else 0

/-- The product a grid point adds. -/
theorem step_at (t : Fin cfg0.N) (a : FVec Ideal S512x2048 .f32) (n : FVec Ideal S512x2048 .bf16) (r : Fin 512) (x : Fin 2048)
    (hn : ∀ k : Fin 2048, n (ix2 r k) = nrow (argX m c) (argG m c) (row (iOf t) r) k) :
    k0_pay2 (F := Ideal) a n (iblk m c 2 t) (iblk m c 3 t) (iblk m c 4 t) (ix2 r x) = a (ix2 r x) + part m c (row (iOf t) r) x (t.val % 11) := by
  refine (pay2_at a n _ _ _ r x).trans (congrArg₂ (· + ·) rfl ?_)
  unfold part
  rw [dif_pos (by omega)]
  refine Finset.sum_congr rfl fun l _ => ?_
  unfold term
  refine congrArg₂ (· * ·) ?_ (iblk4_at m c t l x)
  refine congrArg₂ (fun p q => act p q) (Finset.sum_congr rfl fun k _ => congrArg₂ (· * ·) (hn k) (iblk2_at m c t k l)) (Finset.sum_congr rfl fun k _ => congrArg₂ (· * ·) (hn k) (iblk3_at m c t k l))

theorem after_A1 (t : Fin cfg0.N) (h0 : t.val % 11 = 0) : (outsAt0 m c t.val t.isLt).1
    = k0_pay2 (F := Ideal) (iblk m c 0 t) (nrm (iblk m c 0 t) (iblk m c 1 t)) (iblk m c 2 t) (iblk m c 3 t) (iblk m c 4 t) := by
  rw [outsAt0_A m c t h0]; dsimp only; rw [out_A]

theorem after_A2 (t : Fin cfg0.N) (h0 : t.val % 11 = 0) : (outsAt0 m c t.val t.isLt).2 = nrm (iblk m c 0 t) (iblk m c 1 t) := by
  rw [outsAt0_A m c t h0]; dsimp only; rw [sout_A]

theorem after_B1 (t : Fin cfg0.N) (h0 : ¬t.val % 11 = 0) (hp : t.val - 1 < cfg0.N) : (outsAt0 m c t.val t.isLt).1
    = k0_pay2 (F := Ideal) (outsAt0 m c (t.val - 1) hp).1 (outsAt0 m c (t.val - 1) hp).2 (iblk m c 2 t) (iblk m c 3 t) (iblk m c 4 t) := by
  rw [outsAt0_B m c t h0]; dsimp only; rw [out_B]

theorem after_B2 (t : Fin cfg0.N) (h0 : ¬t.val % 11 = 0) (hp : t.val - 1 < cfg0.N) : (outsAt0 m c t.val t.isLt).2
    = (outsAt0 m c (t.val - 1) hp).2 := by
  rw [outsAt0_B m c t h0]; rfl

/-- After a grid point: the scratch holds the normalised rows, the output block the rows and the products so far. -/
theorem state (n : ℕ) : ∀ (t : Fin cfg0.N) (hn : t.val = n) (r : Fin 512),
    (∀ k : Fin 2048, (outsAt0 m c t.val t.isLt).2 (ix2 r k) = nrow (argX m c) (argG m c) (row (iOf t) r) k)
    ∧ ∀ x : Fin 2048, (outsAt0 m c t.val t.isLt).1 (ix2 r x) = argX m c (ix3 (bat (row (iOf t) r)) (pos (row (iOf t) r)) x)
        + ∑ e ∈ Finset.range (t.val % 11 + 1), part m c (row (iOf t) r) x e := by
  induction n using Nat.strong_induction_on with
  | _ n ih =>
    intro t hn r
    by_cases h0 : t.val % 11 = 0
    · have hs : ∀ k : Fin 2048, nrm (iblk m c 0 t) (iblk m c 1 t) (ix2 r k) = nrow (argX m c) (argG m c) (row (iOf t) r) k := fun k =>
        (nrm_at _ _ r k).trans (congrArg₂ (fun a g => nx a g k) (funext fun j => iblk0_at m c t r j) (funext fun j => iblk1_at m c t 0 j))
      rw [after_A1 m c t h0, after_A2 m c t h0]
      refine ⟨hs, fun x => ?_⟩
      refine (step_at m c t _ _ r x hs).trans (congrArg₂ (· + ·) (iblk0_at m c t r x) ?_)
      rw [h0]
      exact (Finset.sum_range_one _).symm
    · have hp : t.val - 1 < cfg0.N := Nat.lt_of_le_of_lt (Nat.sub_le _ _) t.isLt
      have hi : iOf ⟨t.val - 1, hp⟩ = iOf t := Fin.ext (by show (t.val - 1) / 11 = t.val / 11; omega)
      obtain ⟨ih2, ih1⟩ := ih (t.val - 1) (by omega) ⟨t.val - 1, hp⟩ rfl r
      rw [hi] at ih2 ih1
      rw [after_B1 m c t h0 hp, after_B2 m c t h0 hp]
      refine ⟨ih2, fun x => ?_⟩
      refine (step_at m c t _ _ r x ih2).trans ?_
      refine (congrArg₂ (· + ·) (ih1 x) rfl).trans ?_
      have e : (t.val - 1) % 11 + 1 = t.val % 11 := by omega
      show argX m c _ + ∑ e ∈ Finset.range ((t.val - 1) % 11 + 1), _ + _ = _
      rw [add_assoc, e, Finset.sum_range_succ]

/-- The output block is written back after the last block of hidden units. -/
theorem last : ∀ t : Fin cfg0.N, (cfg0.win 5).flush t = true → t.val % 11 = 10 :=
  (by decide +kernel : ∀ t : Fin grid0.N, win0_5.flush t = true → t.val % 11 = 10)

/-- The kernel's result array holds the reference's result. -/
theorem final : (dats (F := Ideal) m 0 c).arrAt 5 cfg0.N
    = Cert.FfnRefIdeal.Read.val_main_v19 (F := Ideal) (argX m c) (argG m c) (argW1 m c) (argW3 m c) (argW2 m c) := by
  refine (dats (F := Ideal) m 0 c).arrAt_eq_of_covers 5 _ (by decide +kernel) fun t hf y => ?_
  blk_simp
  rw [Gen.after0_5]
  have hy : ∃ (r : Fin 512) (x : Fin 2048), y = ix2 r x := ⟨y 0, y 1, funext fun a => by fin_cases a <;> rfl⟩
  obtain ⟨r, x, rfl⟩ := hy
  rw [emb5, ref_at]
  refine ((state m c t.val t rfl r).2 x).trans ?_
  unfold spec
  refine congrArg₂ (· + ·) rfl ?_
  rw [last t hf, ← sum_blocks, Finset.sum_range]
  refine Finset.sum_congr rfl fun e _ => ?_
  unfold part
  rw [dif_pos e.isLt]

end Cert.Ffw

end
-- ==== Proof.Merge.Final.lean ====
/- The gated sum of the two projected branches: the kernel's result array is the reference's. -/
module

public import proofs.«01_k».proof.Proof.Gen.MergeIdeal.Value
public import proofs.«01_k».proof.Proof.Gen.MergeRefIdeal.Read
public import Idealize.ShloMosaic.Lib.Pointwise
public import Idealize.ShloMosaic.Lib.Pipeline.ValueKit
public import Idealize.ShloMosaic.Lib.Pipeline.ReadBack
public import Idealize.ShloMosaic.Lib.Writes
public import Idealize.ShloMosaic.Lib.WritesUnit

@[expose] public section

set_option maxRecDepth 16384

noncomputable section

namespace Cert.Mrg

open Idealize.ShloMosaic Idealize.ShloMosaic.TcCoe Cert.MergeIdeal Cert.MergeIdeal.Gen

/-- A flat row splits into its batch entry and its position. -/
abbrev bat (R : Fin 16384) : Fin 4 := ⟨R.val / 4096, by omega⟩
abbrev pos (R : Fin 16384) : Fin 4096 := ⟨R.val % 4096, by omega⟩

/-- The batch entries laid one under the other, at an index. -/
theorem flat_at (X : FVec Ideal S4x4096x2048 .f32) (R : Fin 16384) (x : Fin 2048) :
    shapeCast S16384x2048 X shapeCasts_S4x4096x2048_S16384x2048 (ix2 R x) = X (ix3 (bat R) (pos R) x) := by
  refine shapeCast_apply X _ (ix2 R x) (ix3 (bat R) (pos R) x) ?_
  rewrite [Shape.rowMajor_val_three, Shape.rowMajor_val_two]
  show (R.val / 4096 * 4096 + R.val % 4096) * 2048 + x.val = R.val * 2048 + x.val
  omega

/-- The batch entries laid one under the other, at an index. -/
theorem flat1_at (X : FVec Ideal S4x4096x1024 .f32) (R : Fin 16384) (x : Fin 1024) :
    shapeCast S16384x1024 X shapeCasts_S4x4096x1024_S16384x1024 (ix2 R x) = X (ix3 (bat R) (pos R) x) := by
  refine shapeCast_apply X _ (ix2 R x) (ix3 (bat R) (pos R) x) ?_
  rewrite [Shape.rowMajor_val_three, Shape.rowMajor_val_two]
  show (R.val / 4096 * 4096 + R.val % 4096) * 1024 + x.val = R.val * 1024 + x.val
  omega

/-- What the call computes at row `R`, column `x`. -/
def spec (O1 O2 : FVec Ideal S4x4096x1024 .f32) (W1 W2 : FVec Ideal S1024x2048 .f32) (G1 G2 : FVec Ideal S4x4096x2048 .f32) (R : Fin 16384) (x : Fin 2048) : EReal :=
  G1 (ix3 (bat R) (pos R) x) * (∑ k : Fin 1024, O1 (ix3 (bat R) (pos R) k) * W1 (ix2 k x))
    + G2 (ix3 (bat R) (pos R) x) * (∑ k : Fin 1024, O2 (ix3 (bat R) (pos R) k) * W2 (ix2 k x))

/-- The reference at an index. -/
theorem ref_at (O1 O2 : FVec Ideal S4x4096x1024 .f32) (W1 W2 : FVec Ideal S1024x2048 .f32) (G1 G2 : FVec Ideal S4x4096x2048 .f32) (R : Fin 16384) (x : Fin 2048) :
    Cert.MergeRefIdeal.Read.val_main_v6 (F := Ideal) O1 O2 W1 W2 G1 G2 (ix2 R x) = spec O1 O2 W1 W2 G1 G2 R x := by
  refine (flat_at (Cert.MergeRefIdeal.Read.val_main_v4 (F := Ideal) O1 O2 W1 W2 G1 G2) R x).trans ?_
  rw [Cert.MergeRefIdeal.Read.val_main_v4_apply, Cert.MergeRefIdeal.Read.val_main_v1_apply, Cert.MergeRefIdeal.Read.val_main_v3_apply,
    Cert.MergeRefIdeal.Read.val_main_v0_apply, Cert.MergeRefIdeal.Read.val_main_v2_apply]
  refine congrArg₂ (· + ·) (congrArg₂ (· * ·) rfl (Finset.sum_congr rfl fun k _ => congrArg₂ (· * ·) ?_ ?_)) (congrArg₂ (· * ·) rfl (Finset.sum_congr rfl fun k _ => congrArg₂ (· * ·) ?_ ?_))
  · exact congrArg O1 (funext fun a => by fin_cases a <;> rfl)
  · exact congrArg W1 (funext fun a => by fin_cases a <;> rfl)
  · exact congrArg O2 (funext fun a => by fin_cases a <;> rfl)
  · exact congrArg W2 (funext fun a => by fin_cases a <;> rfl)

/-- The gates behind the other columns of the projection's result. -/
def yG (G1 G2 : FVec Ideal S4x4096x2048 .f32) : FVec Ideal S16384x10240 .f32 :=
  concatenate S16384x10240 1 [⟨S16384x6144, broadcastInDim S16384x6144 ![] bcast_S_S16384x6144 (constant S_ .f32 0x00000000#32)⟩,
    ⟨S16384x2048, shapeCast S16384x2048 G1 shapeCasts_S4x4096x2048_S16384x2048⟩,
    ⟨S16384x2048, shapeCast S16384x2048 G2 shapeCasts_S4x4096x2048_S16384x2048⟩]
    concatenates_S16384x6144_S16384x2048_S16384x2048_S16384x10240_d1

theorem y1_at (G1 G2 : FVec Ideal S4x4096x2048 .f32) (R : Fin 16384) (x : Fin 2048) :
    truncf (F := Ideal) .bf16 (yG G1 G2) bitsLt_bf16_f32 (ix2 R ⟨6144 + x.val, by omega⟩) = (G1 (ix3 (bat R) (pos R) x) : EReal) := by
  refine Eq.trans ?_ (flat_at G1 R x)
  unfold yG
  generalize shapeCast S16384x2048 G1 shapeCasts_S4x4096x2048_S16384x2048 = A
  generalize shapeCast S16384x2048 G2 shapeCasts_S4x4096x2048_S16384x2048 = B
  pointwise

theorem y2_at (G1 G2 : FVec Ideal S4x4096x2048 .f32) (R : Fin 16384) (x : Fin 2048) :
    truncf (F := Ideal) .bf16 (yG G1 G2) bitsLt_bf16_f32 (ix2 R ⟨8192 + x.val, by omega⟩) = (G2 (ix3 (bat R) (pos R) x) : EReal) := by
  refine Eq.trans ?_ (flat_at G2 R x)
  unfold yG
  generalize shapeCast S16384x2048 G1 shapeCasts_S4x4096x2048_S16384x2048 = A
  generalize shapeCast S16384x2048 G2 shapeCasts_S4x4096x2048_S16384x2048 = B
  pointwise
  have := x.isLt
  rw [dif_neg (by omega), dif_neg (by omega)]
  exact congrArg B (congrArg _ (Fin.ext (by show 8192 + x.val - 6144 - 2048 = x.val; omega)))

variable (m : (ℓ : Loc nD τ sig) → Buf (Elt Ideal) ℓ) (c : Dev nD)

abbrev argO1 : FVec Ideal S4x4096x1024 .f32 := m ((c : Thread nD τ).loc main_arg0)
abbrev argO2 : FVec Ideal S4x4096x1024 .f32 := m ((c : Thread nD τ).loc main_arg1)
abbrev argW1 : FVec Ideal S1024x2048 .f32 := m ((c : Thread nD τ).loc main_arg2)
abbrev argW2 : FVec Ideal S1024x2048 .f32 := m ((c : Thread nD τ).loc main_arg3)
abbrev argG1 : FVec Ideal S4x4096x2048 .f32 := m ((c : Thread nD τ).loc main_arg4)
abbrev argG2 : FVec Ideal S4x4096x2048 .f32 := m ((c : Thread nD τ).loc main_arg5)

theorem V_o1 : V m c main_v6 = truncf (F := Ideal) .bf16 (shapeCast S16384x1024 (argO1 m c) shapeCasts_S4x4096x1024_S16384x1024) bitsLt_bf16_f32 := by
  unfold V
  simp only [hostOps0, List.flatten_cons, List.flatten_nil, List.cons_append, List.nil_append, List.append_nil]
  after_results
  rfl

theorem V_o2 : V m c main_v8 = truncf (F := Ideal) .bf16 (shapeCast S16384x1024 (argO2 m c) shapeCasts_S4x4096x1024_S16384x1024) bitsLt_bf16_f32 := by
  unfold V
  simp only [hostOps0, List.flatten_cons, List.flatten_nil, List.cons_append, List.nil_append, List.append_nil]
  after_results
  rfl

theorem V_w1 : V m c main_v9 = truncf (F := Ideal) .bf16 (argW1 m c) bitsLt_bf16_f32 := by
  unfold V
  simp only [hostOps0, List.flatten_cons, List.flatten_nil, List.cons_append, List.nil_append, List.append_nil]
  after_results

theorem V_w2 : V m c main_v10 = truncf (F := Ideal) .bf16 (argW2 m c) bitsLt_bf16_f32 := by
  unfold V
  simp only [hostOps0, List.flatten_cons, List.flatten_nil, List.cons_append, List.nil_append, List.append_nil]
  after_results

theorem V_y : V m c main_v4 = truncf (F := Ideal) .bf16 (yG (argG1 m c) (argG2 m c)) bitsLt_bf16_f32 := by
  unfold V
  simp only [hostOps0, List.flatten_cons, List.flatten_nil, List.cons_append, List.nil_append, List.append_nil]
  after_results
  rfl

/-- The block of rows and the block of columns of a grid point. -/
def iOf (t : Fin grid0.N) : Fin 16 := ⟨t.val / 2, by have h : t.val < 32 := t.isLt; omega⟩
def jOf (t : Fin grid0.N) : Fin 2 := ⟨t.val % 2, by omega⟩

theorem idx0 : ∀ t : Fin grid0.N, win0_0.index t = ![(iOf t).val, 0] := by decide +kernel
theorem idx1 : ∀ t : Fin grid0.N, win0_1.index t = ![(iOf t).val, 0] := by decide +kernel
theorem idx2 : ∀ t : Fin grid0.N, win0_2.index t = ![0, (jOf t).val] := by decide +kernel
theorem idx3 : ∀ t : Fin grid0.N, win0_3.index t = ![0, (jOf t).val] := by decide +kernel
theorem idx4 : ∀ t : Fin grid0.N, win0_4.index t = ![(iOf t).val, 6 + (jOf t).val] := by decide +kernel
theorem idx5 : ∀ t : Fin grid0.N, win0_5.index t = ![(iOf t).val, 8 + (jOf t).val] := by decide +kernel
theorem idx6 : ∀ t : Fin grid0.N, win0_6.index t = ![(iOf t).val, (jOf t).val] := by decide +kernel

/-- The flat row and the column of an element of a point's block. -/
abbrev row (t : Fin grid0.N) (r : Fin 1024) : Fin 16384 := ⟨(iOf t).val * 1024 + r.val, by have := (iOf t).isLt; omega⟩
abbrev col (t : Fin grid0.N) (x : Fin 1024) : Fin 2048 := ⟨(jOf t).val * 1024 + x.val, by have := (jOf t).isLt; omega⟩

theorem emb0 (t : Fin grid0.N) (r : Fin 1024) (x : Fin 1024) : (win0_0.blk t).view.emb (ix2 r x) = ix2 (row t r) x := by
  have h := idx0 t
  funext a; apply Fin.ext
  fin_cases a
  · refine (ValueKit.view_emb_slice_whole_unit_val _ _ _ _ _ _).trans ?_
    show win0_0.index t 0 * 1024 + r.val = _
    rw [h]; rfl
  · refine (ValueKit.view_emb_slice_whole_unit_val _ _ _ _ _ _).trans ?_
    show win0_0.index t 1 * 1024 + x.val = _
    rw [h]; show 0 * 1024 + x.val = x.val; omega

theorem emb1 (t : Fin grid0.N) (r : Fin 1024) (x : Fin 1024) : (win0_1.blk t).view.emb (ix2 r x) = ix2 (row t r) x := by
  have h := idx1 t
  funext a; apply Fin.ext
  fin_cases a
  · refine (ValueKit.view_emb_slice_whole_unit_val _ _ _ _ _ _).trans ?_
    show win0_1.index t 0 * 1024 + r.val = _
    rw [h]; rfl
  · refine (ValueKit.view_emb_slice_whole_unit_val _ _ _ _ _ _).trans ?_
    show win0_1.index t 1 * 1024 + x.val = _
    rw [h]; show 0 * 1024 + x.val = x.val; omega

theorem emb2 (t : Fin grid0.N) (r : Fin 1024) (x : Fin 1024) : (win0_2.blk t).view.emb (ix2 r x) = ix2 r (col t x) := by
  have h := idx2 t
  funext a; apply Fin.ext
  fin_cases a
  · refine (ValueKit.view_emb_slice_whole_unit_val _ _ _ _ _ _).trans ?_
    show win0_2.index t 0 * 1024 + r.val = _
    rw [h]; show 0 * 1024 + r.val = r.val; omega
  · refine (ValueKit.view_emb_slice_whole_unit_val _ _ _ _ _ _).trans ?_
    show win0_2.index t 1 * 1024 + x.val = _
    rw [h]; rfl

theorem emb3 (t : Fin grid0.N) (r : Fin 1024) (x : Fin 1024) : (win0_3.blk t).view.emb (ix2 r x) = ix2 r (col t x) := by
  have h := idx3 t
  funext a; apply Fin.ext
  fin_cases a
  · refine (ValueKit.view_emb_slice_whole_unit_val _ _ _ _ _ _).trans ?_
    show win0_3.index t 0 * 1024 + r.val = _
    rw [h]; show 0 * 1024 + r.val = r.val; omega
  · refine (ValueKit.view_emb_slice_whole_unit_val _ _ _ _ _ _).trans ?_
    show win0_3.index t 1 * 1024 + x.val = _
    rw [h]; rfl

theorem emb4 (t : Fin grid0.N) (r : Fin 1024) (x : Fin 1024) : (win0_4.blk t).view.emb (ix2 r x) = ix2 (row t r) (⟨6144 + (col t x).val, by have := (col t x).isLt; omega⟩ : Fin 10240) := by
  have h := idx4 t
  funext a; apply Fin.ext
  fin_cases a
  · refine (ValueKit.view_emb_slice_whole_unit_val _ _ _ _ _ _).trans ?_
    show win0_4.index t 0 * 1024 + r.val = _
    rw [h]; rfl
  · refine (ValueKit.view_emb_slice_whole_unit_val _ _ _ _ _ _).trans ?_
    show win0_4.index t 1 * 1024 + x.val = _
    rw [h]; show (6 + (jOf t).val) * 1024 + x.val = 6144 + ((jOf t).val * 1024 + x.val); omega

theorem emb5 (t : Fin grid0.N) (r : Fin 1024) (x : Fin 1024) : (win0_5.blk t).view.emb (ix2 r x) = ix2 (row t r) (⟨8192 + (col t x).val, by have := (col t x).isLt; omega⟩ : Fin 10240) := by
  have h := idx5 t
  funext a; apply Fin.ext
  fin_cases a
  · refine (ValueKit.view_emb_slice_whole_unit_val _ _ _ _ _ _).trans ?_
    show win0_5.index t 0 * 1024 + r.val = _
    rw [h]; rfl
  · refine (ValueKit.view_emb_slice_whole_unit_val _ _ _ _ _ _).trans ?_
    show win0_5.index t 1 * 1024 + x.val = _
    rw [h]; show (8 + (jOf t).val) * 1024 + x.val = 8192 + ((jOf t).val * 1024 + x.val); omega

theorem emb6 (t : Fin grid0.N) (r : Fin 1024) (x : Fin 1024) : (win0_6.blk t).view.emb (ix2 r x) = ix2 (row t r) (col t x) := by
  have h := idx6 t
  funext a; apply Fin.ext
  fin_cases a
  · refine (ValueKit.view_emb_slice_whole_unit_val _ _ _ _ _ _).trans ?_
    show win0_6.index t 0 * 1024 + r.val = _
    rw [h]; rfl
  · refine (ValueKit.view_emb_slice_whole_unit_val _ _ _ _ _ _).trans ?_
    show win0_6.index t 1 * 1024 + x.val = _
    rw [h]; rfl

theorem iblk0_at (t : Fin cfg0.N) (r x : Fin 1024) : iblk m c 0 t (ix2 r x) = argO1 m c (ix3 (bat (row t r)) (pos (row t r)) x) := by
  show V m c main_v6 ((win0_0.blk t).view.emb (ix2 r x)) = _
  rw [emb0, V_o1]
  exact flat1_at (argO1 m c) (row t r) x

theorem iblk1_at (t : Fin cfg0.N) (r x : Fin 1024) : iblk m c 1 t (ix2 r x) = argO2 m c (ix3 (bat (row t r)) (pos (row t r)) x) := by
  show V m c main_v8 ((win0_1.blk t).view.emb (ix2 r x)) = _
  rw [emb1, V_o2]
  exact flat1_at (argO2 m c) (row t r) x

theorem iblk2_at (t : Fin cfg0.N) (r x : Fin 1024) : iblk m c 2 t (ix2 r x) = argW1 m c (ix2 r (col t x)) := by
  show V m c main_v9 ((win0_2.blk t).view.emb (ix2 r x)) = _
  rw [emb2, V_w1]
  rfl

theorem iblk3_at (t : Fin cfg0.N) (r x : Fin 1024) : iblk m c 3 t (ix2 r x) = argW2 m c (ix2 r (col t x)) := by
  show V m c main_v10 ((win0_3.blk t).view.emb (ix2 r x)) = _
  rw [emb3, V_w2]
  rfl

theorem iblk4_at (t : Fin cfg0.N) (r x : Fin 1024) : iblk m c 4 t (ix2 r x) = argG1 m c (ix3 (bat (row t r)) (pos (row t r)) (col t x)) := by
  show V m c main_v4 ((win0_4.blk t).view.emb (ix2 r x)) = _
  rw [emb4, V_y]
  exact y1_at (argG1 m c) (argG2 m c) (row t r) (col t x)

theorem iblk5_at (t : Fin cfg0.N) (r x : Fin 1024) : iblk m c 5 t (ix2 r x) = argG2 m c (ix3 (bat (row t r)) (pos (row t r)) (col t x)) := by
  show V m c main_v4 ((win0_5.blk t).view.emb (ix2 r x)) = _
  rw [emb5, V_y]
  exact y2_at (argG1 m c) (argG2 m c) (row t r) (col t x)

/-- The stored block at an index, from the loaded blocks. -/
theorem pay_at (o1 w1 o2 w2 g1 g2 : FVec Ideal S1024x1024 .bf16) (r j : Fin 1024) :
    k0_pay1 (F := Ideal) o1 w1 o2 w2 g1 g2 (ix2 r j) = (g1 (ix2 r j) * (∑ k : Fin 1024, o1 (ix2 r k) * w1 (ix2 k j)) + g2 (ix2 r j) * (∑ k : Fin 1024, o2 (ix2 r k) * w2 (ix2 k j)) : EReal) := by
  pointwise [k0_pay1]

/-- What a grid point leaves in the output block. -/
theorem out_at (t : Fin cfg0.N) (r x : Fin 1024) :
    out0_6 (iblk m c 0 t) (iblk m c 1 t) (iblk m c 2 t) (iblk m c 3 t) (iblk m c 4 t) (iblk m c 5 t) (ix2 r x)
      = spec (argO1 m c) (argO2 m c) (argW1 m c) (argW2 m c) (argG1 m c) (argG2 m c) (row t r) (col t x) := by
  have hz : (![0, 0] : Fin 2 → ℕ) = fun _ => 0 := funext fun a => by fin_cases a <;> rfl
  unfold out0_6 r0_0
  rw [View.canon_unit_zero hz]
  simp only [View.ld_unit_zero (S := S1024x1024) hz]
  refine (pay_at _ _ _ _ _ _ r x).trans ?_
  exact congrArg₂ (· + ·) (congrArg₂ (· * ·) (iblk4_at m c t r x) (Finset.sum_congr rfl fun k _ => congrArg₂ (· * ·) (iblk0_at m c t r k) (iblk2_at m c t k x)))
    (congrArg₂ (· * ·) (iblk5_at m c t r x) (Finset.sum_congr rfl fun k _ => congrArg₂ (· * ·) (iblk1_at m c t r k) (iblk3_at m c t k x)))

/-- The kernel's result array holds the reference's result. -/
theorem final : (dats (F := Ideal) m 0 c).arrAt 6 cfg0.N
    = Cert.MergeRefIdeal.Read.val_main_v6 (F := Ideal) (argO1 m c) (argO2 m c) (argW1 m c) (argW2 m c) (argG1 m c) (argG2 m c) := by
  refine (dats (F := Ideal) m 0 c).arrAt_eq_of_covers 6 _ (by decide +kernel) fun t hf y => ?_
  blk_simp
  rw [Gen.after0_6]
  have hy : ∃ (r x : Fin 1024), y = ix2 r x := ⟨y 0, y 1, funext fun a => by fin_cases a <;> rfl⟩
  obtain ⟨r, x, rfl⟩ := hy
  rw [emb6, ref_at]
  exact out_at m c t r x

end Cert.Mrg

end
-- ==== Proof.OutProj.Final.lean ====
/- The output projection: the kernel's result array is the reference's. -/
module

public import proofs.«01_k».proof.Proof.Gen.OutProjIdeal.Value
public import proofs.«01_k».proof.Proof.Gen.OutProjRefIdeal.Read
public import Idealize.ShloMosaic.Lib.Pointwise
public import Idealize.ShloMosaic.Lib.Pipeline.ValueKit
public import Idealize.ShloMosaic.Lib.Pipeline.ReadBack
public import Idealize.ShloMosaic.Lib.Writes
public import Idealize.ShloMosaic.Lib.WritesUnit

@[expose] public section

set_option maxRecDepth 16384

noncomputable section

namespace Cert.OutP

open Idealize.ShloMosaic Idealize.ShloMosaic.TcCoe Cert.OutProjIdeal Cert.OutProjIdeal.Gen

/-- A flat row splits into its batch entry and its position. -/
abbrev bat (R : Fin 16384) : Fin 4 := ⟨R.val / 4096, by omega⟩
abbrev pos (R : Fin 16384) : Fin 4096 := ⟨R.val % 4096, by omega⟩

/-- The batch entries laid one under the other, at an index. -/
theorem flat_at (X : FVec Ideal S4x4096x2048 .f32) (R : Fin 16384) (x : Fin 2048) :
    shapeCast S16384x2048 X shapeCasts_S4x4096x2048_S16384x2048 (ix2 R x) = X (ix3 (bat R) (pos R) x) := by
  refine shapeCast_apply X _ (ix2 R x) (ix3 (bat R) (pos R) x) ?_
  rewrite [Shape.rowMajor_val_three, Shape.rowMajor_val_two]
  show (R.val / 4096 * 4096 + R.val % 4096) * 2048 + x.val = R.val * 2048 + x.val
  omega

/-- What the projection computes at row `R`, column `x`. -/
def spec (X M : FVec Ideal S4x4096x2048 .f32) (W : FVec Ideal S2048x2048 .f32) (R : Fin 16384) (x : Fin 2048) : EReal :=
  X (ix3 (bat R) (pos R) x) + ∑ k : Fin 2048, M (ix3 (bat R) (pos R) k) * W (ix2 k x)

/-- The reference at an index. -/
theorem ref_at (X M : FVec Ideal S4x4096x2048 .f32) (W : FVec Ideal S2048x2048 .f32) (R : Fin 16384) (x : Fin 2048) :
    Cert.OutProjRefIdeal.Read.val_main_v2 (F := Ideal) X M W (ix2 R x) = spec X M W R x := by
  refine (flat_at _ R x).trans ?_
  rw [Cert.OutProjRefIdeal.Read.val_main_v1_apply, Cert.OutProjRefIdeal.Read.val_main_v0_apply]
  refine congrArg₂ (· + ·) rfl (Finset.sum_congr rfl fun k _ => congrArg₂ (· * ·) ?_ ?_)
  · exact congrArg M (funext fun a => by fin_cases a <;> rfl)
  · exact congrArg W (funext fun a => by fin_cases a <;> rfl)

variable (m : (ℓ : Loc nD τ sig) → Buf (Elt Ideal) ℓ) (c : Dev nD)

abbrev argX : FVec Ideal S4x4096x2048 .f32 := m ((c : Thread nD τ).loc main_arg0)
abbrev argM : FVec Ideal S4x4096x2048 .f32 := m ((c : Thread nD τ).loc main_arg1)
abbrev argW : FVec Ideal S2048x2048 .f32 := m ((c : Thread nD τ).loc main_arg2)

theorem V_m : V m c main_v1 = truncf (F := Ideal) .bf16 (shapeCast S16384x2048 (argM m c) shapeCasts_S4x4096x2048_S16384x2048) bitsLt_bf16_f32 := by
  unfold V
  simp only [hostOps0, List.flatten_cons, List.flatten_nil, List.cons_append, List.nil_append, List.append_nil]
  after_results
  rfl

theorem V_w : V m c main_v2 = truncf (F := Ideal) .bf16 (argW m c) bitsLt_bf16_f32 := by
  unfold V
  simp only [hostOps0, List.flatten_cons, List.flatten_nil, List.cons_append, List.nil_append, List.append_nil]
  after_results

theorem V_x : V m c main_v3 = shapeCast S16384x2048 (argX m c) shapeCasts_S4x4096x2048_S16384x2048 := by
  unfold V
  simp only [hostOps0, List.flatten_cons, List.flatten_nil, List.cons_append, List.nil_append, List.append_nil]
  after_results
  rfl

/-- The block of rows and the block of columns of a grid point. -/
def iOf (t : Fin grid0.N) : Fin 16 := ⟨t.val / 2, by have h : t.val < 32 := t.isLt; omega⟩
def jOf (t : Fin grid0.N) : Fin 2 := ⟨t.val % 2, by omega⟩

theorem idx0 : ∀ t : Fin grid0.N, win0_0.index t = ![(iOf t).val, 0] := by decide +kernel
theorem idx1 : ∀ t : Fin grid0.N, win0_1.index t = ![0, (jOf t).val] := by decide +kernel
theorem idx2 : ∀ t : Fin grid0.N, win0_2.index t = ![(iOf t).val, (jOf t).val] := by decide +kernel
theorem idx3 : ∀ t : Fin grid0.N, win0_3.index t = ![(iOf t).val, (jOf t).val] := by decide +kernel

/-- The flat row and the column of an element of a point's block. -/
abbrev row (t : Fin grid0.N) (r : Fin 1024) : Fin 16384 := ⟨(iOf t).val * 1024 + r.val, by have := (iOf t).isLt; omega⟩
abbrev col (t : Fin grid0.N) (x : Fin 1024) : Fin 2048 := ⟨(jOf t).val * 1024 + x.val, by have := (jOf t).isLt; omega⟩

theorem emb0 (t : Fin grid0.N) (r : Fin 1024) (x : Fin 2048) : (win0_0.blk t).view.emb (ix2 r x) = ix2 (row t r) x := by
  have h := idx0 t
  funext a; apply Fin.ext
  fin_cases a
  · refine (ValueKit.view_emb_slice_whole_unit_val _ _ _ _ _ _).trans ?_
    show win0_0.index t 0 * 1024 + r.val = _
    rw [h]; rfl
  · refine (ValueKit.view_emb_slice_whole_unit_val _ _ _ _ _ _).trans ?_
    show win0_0.index t 1 * 2048 + x.val = _
    rw [h]; show 0 * 2048 + x.val = x.val; omega

theorem emb1 (t : Fin grid0.N) (r : Fin 2048) (x : Fin 1024) : (win0_1.blk t).view.emb (ix2 r x) = ix2 r (col t x) := by
  have h := idx1 t
  funext a; apply Fin.ext
  fin_cases a
  · refine (ValueKit.view_emb_slice_whole_unit_val _ _ _ _ _ _).trans ?_
    show win0_1.index t 0 * 2048 + r.val = _
    rw [h]; show 0 * 2048 + r.val = r.val; omega
  · refine (ValueKit.view_emb_slice_whole_unit_val _ _ _ _ _ _).trans ?_
    show win0_1.index t 1 * 1024 + x.val = _
    rw [h]; rfl

theorem emb2 (t : Fin grid0.N) (r x : Fin 1024) : (win0_2.blk t).view.emb (ix2 r x) = ix2 (row t r) (col t x) := by
  have h := idx2 t
  funext a; apply Fin.ext
  fin_cases a
  · refine (ValueKit.view_emb_slice_whole_unit_val _ _ _ _ _ _).trans ?_
    show win0_2.index t 0 * 1024 + r.val = _
    rw [h]; rfl
  · refine (ValueKit.view_emb_slice_whole_unit_val _ _ _ _ _ _).trans ?_
    show win0_2.index t 1 * 1024 + x.val = _
    rw [h]; rfl

theorem emb3 (t : Fin grid0.N) (r x : Fin 1024) : (win0_3.blk t).view.emb (ix2 r x) = ix2 (row t r) (col t x) := by
  have h := idx3 t
  funext a; apply Fin.ext
  fin_cases a
  · refine (ValueKit.view_emb_slice_whole_unit_val _ _ _ _ _ _).trans ?_
    show win0_3.index t 0 * 1024 + r.val = _
    rw [h]; rfl
  · refine (ValueKit.view_emb_slice_whole_unit_val _ _ _ _ _ _).trans ?_
    show win0_3.index t 1 * 1024 + x.val = _
    rw [h]; rfl

theorem iblk0_at (t : Fin cfg0.N) (r : Fin 1024) (x : Fin 2048) : iblk m c 0 t (ix2 r x) = argM m c (ix3 (bat (row t r)) (pos (row t r)) x) := by
  show V m c main_v1 ((win0_0.blk t).view.emb (ix2 r x)) = _
  rw [emb0, V_m]
  exact flat_at (argM m c) (row t r) x

theorem iblk1_at (t : Fin cfg0.N) (r : Fin 2048) (x : Fin 1024) : iblk m c 1 t (ix2 r x) = argW m c (ix2 r (col t x)) := by
  show V m c main_v2 ((win0_1.blk t).view.emb (ix2 r x)) = _
  rw [emb1, V_w]
  rfl

theorem iblk2_at (t : Fin cfg0.N) (r x : Fin 1024) : iblk m c 2 t (ix2 r x) = argX m c (ix3 (bat (row t r)) (pos (row t r)) (col t x)) := by
  show V m c main_v3 ((win0_2.blk t).view.emb (ix2 r x)) = _
  rw [emb2, V_x]
  exact flat_at (argX m c) (row t r) (col t x)

/-- The stored block at an index, from the loaded blocks. -/
theorem pay_at (x : FVec Ideal S1024x1024 .f32) (a : FVec Ideal S1024x2048 .bf16) (w : FVec Ideal S2048x1024 .bf16) (r j : Fin 1024) :
    k0_pay1 (F := Ideal) x a w (ix2 r j) = x (ix2 r j) + ∑ k : Fin 2048, a (ix2 r k) * w (ix2 k j) := by
  pointwise [k0_pay1]

/-- What a grid point leaves in the output block. -/
theorem out_at (t : Fin cfg0.N) (r x : Fin 1024) :
    out0_3 (iblk m c 0 t) (iblk m c 1 t) (iblk m c 2 t) (ix2 r x) = spec (argX m c) (argM m c) (argW m c) (row t r) (col t x) := by
  have hz : (![0, 0] : Fin 2 → ℕ) = fun _ => 0 := funext fun a => by fin_cases a <;> rfl
  unfold out0_3 r0_0 r0_1 r0_2
  rw [View.canon_unit_zero hz, View.ld_unit_zero (S := S1024x1024) hz, View.ld_unit_zero (S := S1024x2048) hz, View.ld_unit_zero (S := S2048x1024) hz]
  refine (pay_at _ _ _ r x).trans ?_
  exact congrArg₂ (· + ·) (iblk2_at m c t r x) (Finset.sum_congr rfl fun k _ => congrArg₂ (· * ·) (iblk0_at m c t r k) (iblk1_at m c t k x))

/-- The kernel's result array holds the reference's result. -/
theorem final : (dats (F := Ideal) m 0 c).arrAt 3 cfg0.N
    = Cert.OutProjRefIdeal.Read.val_main_v2 (F := Ideal) (argX m c) (argM m c) (argW m c) := by
  refine (dats (F := Ideal) m 0 c).arrAt_eq_of_covers 3 _ (by decide +kernel) fun t hf y => ?_
  blk_simp
  rw [Gen.after0_3]
  have hy : ∃ (r x : Fin 1024), y = ix2 r x := ⟨y 0, y 1, funext fun a => by fin_cases a <;> rfl⟩
  obtain ⟨r, x, rfl⟩ := hy
  rw [emb3, ref_at]
  exact out_at m c t r x

end Cert.OutP

end
-- ==== Proof.Combine.Final.lean ====
/- The experts' outputs weighted and added to the residual: the kernel's result array is the reference's. -/
module

public import proofs.«01_k».proof.Proof.Gen.CombineIdeal.Value
public import proofs.«01_k».proof.Proof.Gen.CombineRefIdeal.Read
public import Idealize.ShloMosaic.Lib.Pointwise
public import Idealize.ShloMosaic.Lib.Pipeline.ValueKit
public import Idealize.ShloMosaic.Lib.Pipeline.ReadBack
public import Idealize.ShloMosaic.Lib.Writes
public import Idealize.ShloMosaic.Lib.WritesUnit

@[expose] public section

set_option maxRecDepth 16384

noncomputable section

namespace Cert.Cmb

open Idealize.ShloMosaic Idealize.ShloMosaic.TcCoe Cert.CombineIdeal Cert.CombineIdeal.Gen

/-- A flat row splits into its batch entry and its position. -/
abbrev bat (R : Fin 16384) : Fin 4 := ⟨R.val / 4096, by omega⟩
abbrev pos (R : Fin 16384) : Fin 4096 := ⟨R.val % 4096, by omega⟩

/-- The batch entries laid one under the other, at an index. -/
theorem flat_at (X : FVec Ideal S4x4096x2048 .f32) (R : Fin 16384) (x : Fin 2048) :
    shapeCast S16384x2048 X shapeCasts_S4x4096x2048_S16384x2048 (ix2 R x) = X (ix3 (bat R) (pos R) x) := by
  refine shapeCast_apply X _ (ix2 R x) (ix3 (bat R) (pos R) x) ?_
  rewrite [Shape.rowMajor_val_three, Shape.rowMajor_val_two]
  show (R.val / 4096 * 4096 + R.val % 4096) * 2048 + x.val = R.val * 2048 + x.val
  omega

/-- The batch entries laid one under the other, at an index. -/
theorem flat2_at (X : FVec Ideal S4x4096x2 .f32) (R : Fin 16384) (x : Fin 2) :
    shapeCast S16384x2 X shapeCasts_S4x4096x2_S16384x2 (ix2 R x) = X (ix3 (bat R) (pos R) x) := by
  refine shapeCast_apply X _ (ix2 R x) (ix3 (bat R) (pos R) x) ?_
  rewrite [Shape.rowMajor_val_three, Shape.rowMajor_val_two]
  show (R.val / 4096 * 4096 + R.val % 4096) * 2 + x.val = R.val * 2 + x.val
  omega

/-- What the call computes at row `R`, column `x`. -/
def spec (X Y1 Y2 : FVec Ideal S4x4096x2048 .f32) (P : FVec Ideal S4x4096x2 .f32) (R : Fin 16384) (x : Fin 2048) : EReal :=
  X (ix3 (bat R) (pos R) x) + Y1 (ix3 (bat R) (pos R) x) * P (ix3 (bat R) (pos R) 0) + Y2 (ix3 (bat R) (pos R) x) * P (ix3 (bat R) (pos R) 1)

/-- The reference at an index. -/
theorem ref_at (X Y1 Y2 : FVec Ideal S4x4096x2048 .f32) (P : FVec Ideal S4x4096x2 .f32) (R : Fin 16384) (x : Fin 2048) :
    Cert.CombineRefIdeal.Read.val_main_v8 (F := Ideal) X Y1 Y2 P (ix2 R x) = spec X Y1 Y2 P R x := by
  refine (flat_at _ R x).trans ?_
  rw [Cert.CombineRefIdeal.Read.val_main_v7_apply, Cert.CombineRefIdeal.Read.val_main_v6_apply, Cert.CombineRefIdeal.Read.val_main_v5_apply,
    Cert.CombineRefIdeal.Read.val_main_v4_apply, Cert.CombineRefIdeal.Read.val_main_v3_apply, Cert.CombineRefIdeal.Read.val_main_v2_apply,
    Cert.CombineRefIdeal.Read.val_main_v1_apply, Cert.CombineRefIdeal.Read.val_main_v0_apply]
  unfold spec
  rw [add_assoc]
  refine congrArg₂ (· + ·) rfl (congrArg₂ (· + ·) (congrArg₂ (· * ·) rfl ?_) (congrArg₂ (· * ·) rfl ?_))
  · exact congrArg P (funext fun a => by fin_cases a <;> rfl)
  · exact congrArg P (funext fun a => by fin_cases a <;> rfl)

/-- The routing weights in two of the columns of the table the kernel reads. -/
def tabP (P : FVec Ideal S4x4096x2 .f32) : FVec Ideal S16384x128 .f32 :=
  concatenate S16384x128 1 [⟨S16384x2, broadcastInDim S16384x2 ![] bcast_S_S16384x2 (constant S_ .f32 0x00000000#32)⟩,
    ⟨S16384x2, shapeCast S16384x2 P shapeCasts_S4x4096x2_S16384x2⟩,
    ⟨S16384x124, broadcastInDim S16384x124 ![] bcast_S_S16384x124 (constant S_ .f32 0x00000000#32)⟩]
    concatenates_S16384x2_S16384x2_S16384x124_S16384x128_d1

/-- The two experts' outputs, one under the other. -/
def tabY (Y1 Y2 : FVec Ideal S4x4096x2048 .f32) : FVec Ideal S32768x2048 .f32 :=
  concatenate S32768x2048 0 [⟨S16384x2048, shapeCast S16384x2048 Y1 shapeCasts_S4x4096x2048_S16384x2048⟩,
    ⟨S16384x2048, shapeCast S16384x2048 Y2 shapeCasts_S4x4096x2048_S16384x2048⟩]
    concatenates_S16384x2048_S16384x2048_S32768x2048_d0

theorem p0_at (P : FVec Ideal S4x4096x2 .f32) (R : Fin 16384) : tabP P (ix2 R 2) = P (ix3 (bat R) (pos R) 0) := by
  refine Eq.trans ?_ (flat2_at P R 0)
  unfold tabP
  generalize shapeCast S16384x2 P shapeCasts_S4x4096x2_S16384x2 = A
  pointwise

theorem p1_at (P : FVec Ideal S4x4096x2 .f32) (R : Fin 16384) : tabP P (ix2 R 3) = P (ix3 (bat R) (pos R) 1) := by
  refine Eq.trans ?_ (flat2_at P R 1)
  unfold tabP
  generalize shapeCast S16384x2 P shapeCasts_S4x4096x2_S16384x2 = A
  pointwise

theorem ya_at (Y1 Y2 : FVec Ideal S4x4096x2048 .f32) (R : Fin 16384) (x : Fin 2048) :
    tabY Y1 Y2 (ix2 ⟨R.val, by omega⟩ x) = Y1 (ix3 (bat R) (pos R) x) := by
  refine Eq.trans ?_ (flat_at Y1 R x)
  unfold tabY
  generalize shapeCast S16384x2048 Y1 shapeCasts_S4x4096x2048_S16384x2048 = A
  generalize shapeCast S16384x2048 Y2 shapeCasts_S4x4096x2048_S16384x2048 = B
  pointwise

theorem yb_at (Y1 Y2 : FVec Ideal S4x4096x2048 .f32) (R : Fin 16384) (x : Fin 2048) :
    tabY Y1 Y2 (ix2 ⟨16384 + R.val, by omega⟩ x) = Y2 (ix3 (bat R) (pos R) x) := by
  refine Eq.trans ?_ (flat_at Y2 R x)
  unfold tabY
  generalize shapeCast S16384x2048 Y1 shapeCasts_S4x4096x2048_S16384x2048 = A
  generalize shapeCast S16384x2048 Y2 shapeCasts_S4x4096x2048_S16384x2048 = B
  pointwise

variable (m : (ℓ : Loc nD τ sig) → Buf (Elt Ideal) ℓ) (c : Dev nD)

abbrev argX : FVec Ideal S4x4096x2048 .f32 := m ((c : Thread nD τ).loc main_arg0)
abbrev argY1 : FVec Ideal S4x4096x2048 .f32 := m ((c : Thread nD τ).loc main_arg1)
abbrev argY2 : FVec Ideal S4x4096x2048 .f32 := m ((c : Thread nD τ).loc main_arg2)
abbrev argP : FVec Ideal S4x4096x2 .f32 := m ((c : Thread nD τ).loc main_arg3)

theorem V_x : V m c main_v7 = shapeCast S16384x2048 (argX m c) shapeCasts_S4x4096x2048_S16384x2048 := by
  unfold V
  simp only [hostOps0, List.flatten_cons, List.flatten_nil, List.cons_append, List.nil_append, List.append_nil]
  after_results
  rfl

theorem V_p : V m c main_v3 = tabP (argP m c) := by
  unfold V
  simp only [hostOps0, List.flatten_cons, List.flatten_nil, List.cons_append, List.nil_append, List.append_nil]
  after_results
  rfl

theorem V_y : V m c main_v6 = tabY (argY1 m c) (argY2 m c) := by
  unfold V
  simp only [hostOps0, List.flatten_cons, List.flatten_nil, List.cons_append, List.nil_append, List.append_nil]
  after_results
  rfl

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![32 + t.val, 0] := by decide +kernel
theorem idx4 : ∀ t : Fin grid0.N, win0_4.index t = ![t.val, 0] := by decide +kernel

/-- The flat row of an element of a point's block. -/
abbrev row (t : Fin grid0.N) (r : Fin 512) : Fin 16384 := ⟨t.val * 512 + r.val, by have h : t.val < 32 := t.isLt; omega⟩

theorem emb0 (t : Fin grid0.N) (r : Fin 512) (x : Fin 2048) : (win0_0.blk t).view.emb (ix2 r x) = ix2 (row t r) x := by
  have h := idx0 t
  funext a; apply Fin.ext
  fin_cases a
  · refine (ValueKit.view_emb_slice_whole_unit_val _ _ _ _ _ _).trans ?_
    show win0_0.index t 0 * 512 + r.val = _
    rw [h]; rfl
  · refine (ValueKit.view_emb_slice_whole_unit_val _ _ _ _ _ _).trans ?_
    show win0_0.index t 1 * 2048 + x.val = _
    rw [h]; show 0 * 2048 + x.val = x.val; omega

theorem emb1 (t : Fin grid0.N) (r : Fin 512) (x : Fin 128) : (win0_1.blk t).view.emb (ix2 r x) = ix2 (row t r) x := by
  have h := idx1 t
  funext a; apply Fin.ext
  fin_cases a
  · refine (ValueKit.view_emb_slice_whole_unit_val _ _ _ _ _ _).trans ?_
    show win0_1.index t 0 * 512 + r.val = _
    rw [h]; rfl
  · refine (ValueKit.view_emb_slice_whole_unit_val _ _ _ _ _ _).trans ?_
    show win0_1.index t 1 * 128 + x.val = _
    rw [h]; show 0 * 128 + x.val = x.val; omega

theorem emb2 (t : Fin grid0.N) (r : Fin 512) (x : Fin 2048) : (win0_2.blk t).view.emb (ix2 r x) = ix2 (⟨(row t r).val, by have := (row t r).isLt; omega⟩ : Fin 32768) x := by
  have h := idx2 t
  funext a; apply Fin.ext
  fin_cases a
  · refine (ValueKit.view_emb_slice_whole_unit_val _ _ _ _ _ _).trans ?_
    show win0_2.index t 0 * 512 + r.val = _
    rw [h]; rfl
  · refine (ValueKit.view_emb_slice_whole_unit_val _ _ _ _ _ _).trans ?_
    show win0_2.index t 1 * 2048 + x.val = _
    rw [h]; show 0 * 2048 + x.val = x.val; omega

theorem emb3 (t : Fin grid0.N) (r : Fin 512) (x : Fin 2048) : (win0_3.blk t).view.emb (ix2 r x) = ix2 (⟨16384 + (row t r).val, by have := (row t r).isLt; omega⟩ : Fin 32768) x := by
  have h := idx3 t
  funext a; apply Fin.ext
  fin_cases a
  · refine (ValueKit.view_emb_slice_whole_unit_val _ _ _ _ _ _).trans ?_
    show win0_3.index t 0 * 512 + r.val = _
    rw [h]; show (32 + t.val) * 512 + r.val = 16384 + (t.val * 512 + r.val); omega
  · refine (ValueKit.view_emb_slice_whole_unit_val _ _ _ _ _ _).trans ?_
    show win0_3.index t 1 * 2048 + x.val = _
    rw [h]; show 0 * 2048 + x.val = x.val; omega

theorem emb4 (t : Fin grid0.N) (r : Fin 512) (x : Fin 2048) : (win0_4.blk t).view.emb (ix2 r x) = ix2 (row t r) x := by
  have h := idx4 t
  funext a; apply Fin.ext
  fin_cases a
  · refine (ValueKit.view_emb_slice_whole_unit_val _ _ _ _ _ _).trans ?_
    show win0_4.index t 0 * 512 + r.val = _
    rw [h]; rfl
  · refine (ValueKit.view_emb_slice_whole_unit_val _ _ _ _ _ _).trans ?_
    show win0_4.index t 1 * 2048 + x.val = _
    rw [h]; show 0 * 2048 + x.val = x.val; omega

theorem iblk0_at (t : Fin cfg0.N) (r : Fin 512) (x : Fin 2048) : iblk m c 0 t (ix2 r x) = argX m c (ix3 (bat (row t r)) (pos (row t r)) x) := by
  show V m c main_v7 ((win0_0.blk t).view.emb (ix2 r x)) = _
  rw [emb0, V_x]
  exact flat_at (argX m c) (row t r) x

theorem iblk1a_at (t : Fin cfg0.N) (r : Fin 512)  : iblk m c 1 t (ix2 r (2 : Fin 128)) = argP m c (ix3 (bat (row t r)) (pos (row t r)) 0) := by
  show V m c main_v3 ((win0_1.blk t).view.emb (ix2 r (2 : Fin 128))) = _
  rw [emb1, V_p]
  exact p0_at (argP m c) (row t r)

theorem iblk1b_at (t : Fin cfg0.N) (r : Fin 512)  : iblk m c 1 t (ix2 r (3 : Fin 128)) = argP m c (ix3 (bat (row t r)) (pos (row t r)) 1) := by
  show V m c main_v3 ((win0_1.blk t).view.emb (ix2 r (3 : Fin 128))) = _
  rw [emb1, V_p]
  exact p1_at (argP m c) (row t r)

theorem iblk2_at (t : Fin cfg0.N) (r : Fin 512) (x : Fin 2048) : iblk m c 2 t (ix2 r x) = argY1 m c (ix3 (bat (row t r)) (pos (row t r)) x) := by
  show V m c main_v6 ((win0_2.blk t).view.emb (ix2 r x)) = _
  rw [emb2, V_y]
  exact ya_at (argY1 m c) (argY2 m c) (row t r) x

theorem iblk3_at (t : Fin cfg0.N) (r : Fin 512) (x : Fin 2048) : iblk m c 3 t (ix2 r x) = argY2 m c (ix3 (bat (row t r)) (pos (row t r)) x) := by
  show V m c main_v6 ((win0_3.blk t).view.emb (ix2 r x)) = _
  rw [emb3, V_y]
  exact yb_at (argY1 m c) (argY2 m c) (row t r) x

/-- The stored block at an index, from the loaded blocks. -/
theorem pay_at (x y1 y2 : FVec Ideal S512x2048 .f32) (p q : FVec Ideal S512x1 .f32) (r : Fin 512) (j : Fin 2048) :
    k0_pay1 (F := Ideal) x y1 p y2 q (ix2 r j) = (x (ix2 r j) + y1 (ix2 r j) * p (ix2 r 0) + y2 (ix2 r j) * q (ix2 r 0) : EReal) := by
  pointwise [k0_pay1]

/-- What a grid point leaves in the output block. -/
theorem out_at (t : Fin cfg0.N) (r : Fin 512) (x : Fin 2048) :
    out0_4 (iblk m c 0 t) (iblk m c 1 t) (iblk m c 2 t) (iblk m c 3 t) (ix2 r x)
      = spec (argX m c) (argY1 m c) (argY2 m c) (argP m c) (row t r) x := by
  have hz : (![0, 0] : Fin 2 → ℕ) = fun _ => 0 := funext fun a => by fin_cases a <;> rfl
  unfold out0_4 r0_0
  rw [View.canon_unit_zero hz]
  simp only [View.ld_unit_zero (S := S512x2048) hz]
  refine (pay_at _ _ _ _ _ r x).trans ?_
  refine congrArg₂ (· + ·) (congrArg₂ (· + ·) (iblk0_at m c t r x) (congrArg₂ (· * ·) (iblk2_at m c t r x) ?_)) (congrArg₂ (· * ·) (iblk3_at m c t r x) ?_)
  · refine Eq.trans ?_ (iblk1a_at m c t r)
    exact congrArg (iblk m c 1 t) (funext fun a => by fin_cases a <;> apply Fin.ext <;> simp [r0_1])
  · refine Eq.trans ?_ (iblk1b_at m c t r)
    exact congrArg (iblk m c 1 t) (funext fun a => by fin_cases a <;> apply Fin.ext <;> simp [r0_2])

/-- The kernel's result array holds the reference's result. -/
theorem final : (dats (F := Ideal) m 0 c).arrAt 4 cfg0.N
    = Cert.CombineRefIdeal.Read.val_main_v8 (F := Ideal) (argX m c) (argY1 m c) (argY2 m c) (argP m c) := by
  refine (dats (F := Ideal) m 0 c).arrAt_eq_of_covers 4 _ (by decide +kernel) fun t hf y => ?_
  blk_simp
  rw [Gen.after0_4]
  have hy : ∃ (r : Fin 512) (x : Fin 2048), y = ix2 r x := ⟨y 0, y 1, funext fun a => by fin_cases a <;> rfl⟩
  obtain ⟨r, x, rfl⟩ := hy
  rw [emb4, ref_at]
  exact out_at m c t r x

end Cert.Cmb

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_finite
public import proofs.«01_k».proof.Proof.Gen.Pre_router_finite
public import proofs.«01_k».proof.Proof.Router.Final
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineIdeal.Value
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.ProjRefIdeal.Run
public import proofs.«01_k».proof.Proof.Gen.ProjRefIdeal.Read
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal.Frame
public import proofs.«01_k».proof.Proof.Gen.Proj.Frame
public import proofs.«01_k».proof.Proof.Gen.ProjRefIdeal
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.Gen.RouterRefIdeal.Read
public import proofs.«01_k».proof.Proof.Fox.Pre
public import proofs.«01_k».proof.Proof.Fox.Final
public import proofs.«01_k».proof.Proof.Proj.Final
public import proofs.«01_k».proof.Proof.Proj.Same
public import proofs.«01_k».proof.Proof.Ffn.Final
public import proofs.«01_k».proof.Proof.Merge.Final
public import proofs.«01_k».proof.Proof.OutProj.Final
public import proofs.«01_k».proof.Proof.Combine.Final
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs to its end, keeps its arguments, and has no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The two named constants' statements. -/
theorem preserves : Cert.preserves_Kernel_KernelIdeal :=
  ⟨IdealRules.named_const.statement Cert.KernelIdeal.κ "mask" .f32 0xF149F2CA#32 _ rfl,
   IdealRules.named_const.statement Cert.KernelIdeal.κ "log2e" .f32 0x3FB8AA3B#32 _ rfl⟩

/-- The kernel and the reference end with one result from the same finite arguments. -/
theorem algebraic : Cert.algebraic_KernelIdeal_ReferenceIdeal_pre_inputs_finite := by
  intro m g m' g' hpre hargs
  refine ⟨fun c => (Cert.KernelIdeal.Gen.dats (F := Ideal) m 0 c).arrAt 5 Cert.KernelIdeal.cfg0.N, Cert.KernelIdeal.Value.run_blocks (F := Ideal) m g, ?_⟩
  refine (θ_run Cert.ReferenceIdeal.defs _ _).mono (fun r h c => ⟨?_, (h c).2⟩) (Cert.ReferenceIdeal.Value.run (F := Ideal) m' g')
  obtain ⟨e0, e1, e2, e3⟩ := hargs c
  obtain ⟨hq, hk, hl⟩ := Cert.Fox.Pre.reals _ _ _ _ (hpre c)
  rw [(h c).1, Cert.ReferenceIdeal.Read.val_main_v38_eq, e0, e1, e2, e3]
  exact (Cert.Fox.final m c hq hk hl).symm

/-- The reference of the feed-forward block runs to its end, keeps its arguments, and has no semaphore. -/
theorem frame_refFfn (m : (ℓ : Loc Cert.FfnRefIdeal.nD Cert.FfnRefIdeal.τ Cert.FfnRefIdeal.sig) → Buf (Elt Ideal) ℓ) (g : Dev Cert.FfnRefIdeal.nD → PrngReg) :
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0) :=
  (θ_run Cert.FfnRefIdeal.defs _ _).mono (fun r h => ⟨fun c => (h c).2, sem_eq_zero_of_no_sems (by decide) r.2⟩)
    (Cert.FfnRefIdeal.Value.run (F := Ideal) m g)

/-- The call of the feed-forward block and its reference end with one result from the same arguments. -/
theorem algebraicFfn : Cert.algebraic_FfnIdeal_FfnRefIdeal := by
  intro m g m' g' _ hargs
  refine ⟨fun c => (Cert.FfnIdeal.Gen.dats (F := Ideal) m 0 c).arrAt 5 Cert.FfnIdeal.cfg0.N, Cert.FfnIdeal.Value.run_blocks (F := Ideal) m g, ?_⟩
  refine (θ_run Cert.FfnRefIdeal.defs _ _).mono (fun r h c => ⟨?_, (h c).2⟩) (Cert.FfnRefIdeal.Value.run (F := Ideal) m' g')
  obtain ⟨e0, e1, e2, e3, e4⟩ := hargs c
  rw [(h c).1, Cert.FfnRefIdeal.Read.val_main_v19_eq, e0, e1, e2, e3, e4]
  exact (Cert.Ffw.final m c).symm

/-- The reference of the gated sum of the two branches runs to its end, keeps its arguments, and has no semaphore. -/
theorem frame_refMerge (m : (ℓ : Loc Cert.MergeRefIdeal.nD Cert.MergeRefIdeal.τ Cert.MergeRefIdeal.sig) → Buf (Elt Ideal) ℓ) (g : Dev Cert.MergeRefIdeal.nD → PrngReg) :
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0) :=
  (θ_run Cert.MergeRefIdeal.defs _ _).mono (fun r h => ⟨fun c => (h c).2, sem_eq_zero_of_no_sems (by decide) r.2⟩)
    (Cert.MergeRefIdeal.Value.run (F := Ideal) m g)

/-- The call of the gated sum of the two branches and its reference end with one result from the same arguments. -/
theorem algebraicMerge : Cert.algebraic_MergeIdeal_MergeRefIdeal := by
  intro m g m' g' _ hargs
  refine ⟨fun c => (Cert.MergeIdeal.Gen.dats (F := Ideal) m 0 c).arrAt 6 Cert.MergeIdeal.cfg0.N, Cert.MergeIdeal.Value.run_blocks (F := Ideal) m g, ?_⟩
  refine (θ_run Cert.MergeRefIdeal.defs _ _).mono (fun r h c => ⟨?_, (h c).2⟩) (Cert.MergeRefIdeal.Value.run (F := Ideal) m' g')
  obtain ⟨e0, e1, e2, e3, e4, e5⟩ := hargs c
  rw [(h c).1, Cert.MergeRefIdeal.Read.val_main_v6_eq, e0, e1, e2, e3, e4, e5]
  exact (Cert.Mrg.final m c).symm

/-- The reference of the output projection runs to its end, keeps its arguments, and has no semaphore. -/
theorem frame_refOutProj (m : (ℓ : Loc Cert.OutProjRefIdeal.nD Cert.OutProjRefIdeal.τ Cert.OutProjRefIdeal.sig) → Buf (Elt Ideal) ℓ) (g : Dev Cert.OutProjRefIdeal.nD → PrngReg) :
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0) :=
  (θ_run Cert.OutProjRefIdeal.defs _ _).mono (fun r h => ⟨fun c => (h c).2, sem_eq_zero_of_no_sems (by decide) r.2⟩)
    (Cert.OutProjRefIdeal.Value.run (F := Ideal) m g)

/-- The call of the output projection and its reference end with one result from the same arguments. -/
theorem algebraicOutProj : Cert.algebraic_OutProjIdeal_OutProjRefIdeal := by
  intro m g m' g' _ hargs
  refine ⟨fun c => (Cert.OutProjIdeal.Gen.dats (F := Ideal) m 0 c).arrAt 3 Cert.OutProjIdeal.cfg0.N, Cert.OutProjIdeal.Value.run_blocks (F := Ideal) m g, ?_⟩
  refine (θ_run Cert.OutProjRefIdeal.defs _ _).mono (fun r h c => ⟨?_, (h c).2⟩) (Cert.OutProjRefIdeal.Value.run (F := Ideal) m' g')
  obtain ⟨e0, e1, e2⟩ := hargs c
  rw [(h c).1, Cert.OutProjRefIdeal.Read.val_main_v2_eq, e0, e1, e2]
  exact (Cert.OutP.final m c).symm

/-- The reference of the weighted sum of the experts' outputs runs to its end, keeps its arguments, and has no semaphore. -/
theorem frame_refCombine (m : (ℓ : Loc Cert.CombineRefIdeal.nD Cert.CombineRefIdeal.τ Cert.CombineRefIdeal.sig) → Buf (Elt Ideal) ℓ) (g : Dev Cert.CombineRefIdeal.nD → PrngReg) :
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0) :=
  (θ_run Cert.CombineRefIdeal.defs _ _).mono (fun r h => ⟨fun c => (h c).2, sem_eq_zero_of_no_sems (by decide) r.2⟩)
    (Cert.CombineRefIdeal.Value.run (F := Ideal) m g)

/-- The call of the weighted sum of the experts' outputs and its reference end with one result from the same arguments. -/
theorem algebraicCombine : Cert.algebraic_CombineIdeal_CombineRefIdeal := by
  intro m g m' g' _ hargs
  refine ⟨fun c => (Cert.CombineIdeal.Gen.dats (F := Ideal) m 0 c).arrAt 4 Cert.CombineIdeal.cfg0.N, Cert.CombineIdeal.Value.run_blocks (F := Ideal) m g, ?_⟩
  refine (θ_run Cert.CombineRefIdeal.defs _ _).mono (fun r h c => ⟨?_, (h c).2⟩) (Cert.CombineRefIdeal.Value.run (F := Ideal) m' g')
  obtain ⟨e0, e1, e2, e3⟩ := hargs c
  rw [(h c).1, Cert.CombineRefIdeal.Read.val_main_v8_eq, e0, e1, e2, e3]
  exact (Cert.Cmb.final m c).symm

/-- The reference of the projection runs to its end, keeps its arguments, and has no semaphore. -/
theorem frame_refProj (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0) :=
  (θ_run Cert.ProjRefIdeal.defs _ _).mono (fun r h => ⟨fun c => (h c).2.2, sem_eq_zero_of_no_sems (by decide) r.2⟩)
    (Cert.ProjRefIdeal.Value.run (F := Ideal) m g)

/-- The call of the projection and its reference end with the same two results from the same arguments. -/
theorem algebraicProj : Cert.algebraic_ProjIdeal_ProjRefIdeal := by
  intro m g m' g' _ hargs
  refine ⟨fun c => (Cert.Prj.pdat (F := Ideal) m 0 c).arrAt 7 Cert.ProjIdeal.cfg0.N, fun c => (Cert.Prj.pdat (F := Ideal) m 0 c).arrAt 8 Cert.ProjIdeal.cfg0.N, Cert.Prj.run_results m g, ?_⟩
  refine (θ_run Cert.ProjRefIdeal.defs _ _).mono (fun r h c => ⟨?_, ?_, (h c).2.2⟩) (Cert.ProjRefIdeal.Value.run (F := Ideal) m' g')
  · obtain ⟨e0, e1, e2, e3, e4, e5, e6, e7⟩ := hargs c
    rw [(h c).1, Cert.ProjRefIdeal.Read.val_main_v72_eq, e0, e1, e2, e3, e4, e6, e7]
    exact (Cert.Prj.final_y m c).symm
  · obtain ⟨e0, e1, e2, e3, e4, e5, e6, e7⟩ := hargs c
    rw [(h c).2.1, Cert.ProjRefIdeal.Read.val_main_v73_eq, e0, e1, e2, e5]
    exact (Cert.Prj.final_log m c).symm

/-- The reference of the router runs to its end, keeps its arguments, and has no semaphore. -/
theorem frame_refRouter (m : (ℓ : Loc Cert.RouterRefIdeal.nD Cert.RouterRefIdeal.τ Cert.RouterRefIdeal.sig) → Buf (Elt Ideal) ℓ) (g : Dev Cert.RouterRefIdeal.nD → PrngReg) :
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0) :=
  (θ_run Cert.RouterRefIdeal.defs _ _).mono (fun r h => ⟨fun c => (h c).2, sem_eq_zero_of_no_sems (by decide) r.2⟩)
    (Cert.RouterRefIdeal.Value.run (F := Ideal) m g)

/-- The named mask of the router is minus infinity. -/
theorem preservesRouter : Cert.preserves_Router_RouterIdeal :=
  IdealRules.named_const.statement Cert.RouterIdeal.κ "mask" .f32 0xF149F2CA#32 _ rfl

/-- The call of the router and its reference end with one table from the same arguments, where the gains and the weights are finite. -/
theorem algebraicRouter : Cert.algebraic_RouterIdeal_RouterRefIdeal_pre_router_finite := by
  intro m g m' g' hpre hargs
  refine ⟨fun c => (Cert.RouterIdeal.Gen.dats (F := Ideal) m 0 c).arrAt 4 Cert.RouterIdeal.cfg0.N, Cert.RouterIdeal.Value.run_blocks (F := Ideal) m g, ?_⟩
  refine (θ_run Cert.RouterRefIdeal.defs _ _).mono (fun r h c => ⟨?_, (h c).2⟩) (Cert.RouterRefIdeal.Value.run (F := Ideal) m' g')
  obtain ⟨e0, e1, e2⟩ := hargs c
  obtain ⟨hg, hW⟩ := Cert.Rtr.reals _ _ _ (hpre c)
  rw [(h c).1, Cert.RouterRefIdeal.Read.val_main_v28_eq, e0, e1, e2]
  exact (Cert.Rtr.final m c hg hW).symm

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.Combine.Gen.facts, Cert.CombineIdeal.Gen.facts, Cert.CombineRefIdeal.Gen.facts, Cert.Proj.Gen.facts, Cert.ProjIdeal.Gen.facts, Cert.ProjRefIdeal.Gen.facts, Cert.Router.Gen.facts, Cert.RouterIdeal.Gen.facts, Cert.RouterRefIdeal.Gen.facts, Cert.Pre_inputs_finite.Gen.facts, Cert.Pre_router_finite.Gen.facts,
  fun m g _ => Cert.Kernel.Gen.frame (F := Bits) m g,
  fun m g _ => Cert.KernelIdeal.Gen.frame (F := Ideal) m g,
  fun m g _ => Cert.KernelIdeal.Gen.frame (F := Ideal) m g,
  fun m g _ => frame_reference m g,
  fun m g _ => frame_reference m g,
  fun m g _ => Cert.Ffn.Gen.frame (F := Bits) m g,
  fun m g _ => Cert.FfnIdeal.Gen.frame (F := Ideal) m g,
  fun m g _ => frame_refFfn m g,
  fun m g _ => Cert.Merge.Gen.frame (F := Bits) m g,
  fun m g _ => Cert.MergeIdeal.Gen.frame (F := Ideal) m g,
  fun m g _ => frame_refMerge m g,
  fun m g _ => Cert.OutProj.Gen.frame (F := Bits) m g,
  fun m g _ => Cert.OutProjIdeal.Gen.frame (F := Ideal) m g,
  fun m g _ => frame_refOutProj m g,
  fun m g _ => Cert.Combine.Gen.frame (F := Bits) m g,
  fun m g _ => Cert.CombineIdeal.Gen.frame (F := Ideal) m g,
  fun m g _ => frame_refCombine m g,
  Cert.Prj.frame_compiled,
  fun m g _ => Cert.Prj.frame (F := Ideal) m g,
  fun m g _ => frame_refProj m g,
  fun m g _ => Cert.Router.Gen.frame (F := Bits) m g,
  fun m g _ => Cert.RouterIdeal.Gen.frame (F := Ideal) m g,
  fun m g _ => Cert.RouterIdeal.Gen.frame (F := Ideal) m g,
  fun m g _ => frame_refRouter m g,
  fun m g _ => frame_refRouter m g,
  preserves,
  algebraic,
  trivial,
  algebraicFfn,
  trivial,
  algebraicMerge,
  trivial,
  algebraicOutProj,
  trivial,
  algebraicCombine,
  trivial,
  algebraicProj,
  preservesRouter,
  algebraicRouter⟩

end Cert.Proof

end
